-- ==== Defs.lean ====
def Pre_Kernel [hPre_nodes : Cert.Pre_nodes.Facts] (m : (ℓ : Loc Cert.Kernel.nD Cert.Kernel.τ Cert.Kernel.sig) → Buf (Elt Bits) ℓ) : Prop :=
  ∀ c : Dev Cert.Kernel.nD,
    (Cert.Pre_nodes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_nodes : Cert.Pre_nodes.Facts] (m : (ℓ : Loc Cert.KernelIdeal.nD Cert.KernelIdeal.τ Cert.KernelIdeal.sig) → Buf (Elt Ideal) ℓ) : Prop :=
  ∀ c : Dev Cert.KernelIdeal.nD,
    (Cert.Pre_nodes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_unclamped [hPre_unclamped : Cert.Pre_unclamped.Facts] (m : (ℓ : Loc Cert.KernelIdeal.nD Cert.KernelIdeal.τ Cert.KernelIdeal.sig) → Buf (Elt Ideal) ℓ) : Prop :=
  ∀ c : Dev Cert.KernelIdeal.nD,
    (Cert.Pre_unclamped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unclamped [hPre_unclamped : Cert.Pre_unclamped.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unclamped.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_finite_edges [hPre_finite_edges : Cert.Pre_finite_edges.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_finite_edges.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7)) (m ((c.tc : Thread Cert.ProjectIdeal.nD Cert.ProjectIdeal.τ).loc Cert.ProjectIdeal.main_arg8))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_finite_edges [hPre_finite_edges : Cert.Pre_finite_edges.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_finite_edges.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3)) (m ((c.tc : Thread Cert.ProjectReferenceIdeal.nD Cert.ProjectReferenceIdeal.τ).loc Cert.ProjectReferenceIdeal.main_arg4)) (m ((c.tc : Thread Cert.ProjectReferenceIdeal.nD Cert.ProjectReferenceIdeal.τ).loc Cert.ProjectReferenceIdeal.main_arg5)) (m ((c.tc : Thread Cert.ProjectReferenceIdeal.nD Cert.ProjectReferenceIdeal.τ).loc Cert.ProjectReferenceIdeal.main_arg6)) (m ((c.tc : Thread Cert.ProjectReferenceIdeal.nD Cert.ProjectReferenceIdeal.τ).loc Cert.ProjectReferenceIdeal.main_arg7)) (m ((c.tc : Thread Cert.ProjectReferenceIdeal.nD Cert.ProjectReferenceIdeal.τ).loc Cert.ProjectReferenceIdeal.main_arg8))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleIdeal_unclamped_loops [hPre_unclamped_loops : Cert.Pre_unclamped_loops.Facts] (m : (ℓ : Loc Cert.MiddleIdeal.nD Cert.MiddleIdeal.τ Cert.MiddleIdeal.sig) → Buf (Elt Ideal) ℓ) : Prop :=
  ∀ c : Dev Cert.MiddleIdeal.nD,
    (Cert.Pre_unclamped_loops.fn (F := Ideal) (m ((c.tc : Thread Cert.MiddleIdeal.nD Cert.MiddleIdeal.τ).loc Cert.MiddleIdeal.main_arg0)) (m ((c.tc : Thread Cert.MiddleIdeal.nD Cert.MiddleIdeal.τ).loc Cert.MiddleIdeal.main_arg1)) (m ((c.tc : Thread Cert.MiddleIdeal.nD Cert.MiddleIdeal.τ).loc Cert.MiddleIdeal.main_arg2)) (m ((c.tc : Thread Cert.MiddleIdeal.nD Cert.MiddleIdeal.τ).loc Cert.MiddleIdeal.main_arg3)) (m ((c.tc : Thread Cert.MiddleIdeal.nD Cert.MiddleIdeal.τ).loc Cert.MiddleIdeal.main_arg4)) (m ((c.tc : Thread Cert.MiddleIdeal.nD Cert.MiddleIdeal.τ).loc Cert.MiddleIdeal.main_arg5)) (m ((c.tc : Thread Cert.MiddleIdeal.nD Cert.MiddleIdeal.τ).loc Cert.MiddleIdeal.main_arg6)) (m ((c.tc : Thread Cert.MiddleIdeal.nD Cert.MiddleIdeal.τ).loc Cert.MiddleIdeal.main_arg7)) (m ((c.tc : Thread Cert.MiddleIdeal.nD Cert.MiddleIdeal.τ).loc Cert.MiddleIdeal.main_arg8)) (m ((c.tc : Thread Cert.MiddleIdeal.nD Cert.MiddleIdeal.τ).loc Cert.MiddleIdeal.main_arg9)) (m ((c.tc : Thread Cert.MiddleIdeal.nD Cert.MiddleIdeal.τ).loc Cert.MiddleIdeal.main_arg10)) (m ((c.tc : Thread Cert.MiddleIdeal.nD Cert.MiddleIdeal.τ).loc Cert.MiddleIdeal.main_arg11)) (m ((c.tc : Thread Cert.MiddleIdeal.nD Cert.MiddleIdeal.τ).loc Cert.MiddleIdeal.main_arg12)) (m ((c.tc : Thread Cert.MiddleIdeal.nD Cert.MiddleIdeal.τ).loc Cert.MiddleIdeal.main_arg13))) = (fun _ => 1#1)

def Pre_MiddleReferenceIdeal (m : (ℓ : Loc Cert.MiddleReferenceIdeal.nD Cert.MiddleReferenceIdeal.τ Cert.MiddleReferenceIdeal.sig) → Buf (Elt Ideal) ℓ) : Prop :=
  True

def Pre_MiddleReferenceIdeal_unclamped_loops [hPre_unclamped_loops : Cert.Pre_unclamped_loops.Facts] (m : (ℓ : Loc Cert.MiddleReferenceIdeal.nD Cert.MiddleReferenceIdeal.τ Cert.MiddleReferenceIdeal.sig) → Buf (Elt Ideal) ℓ) : Prop :=
  ∀ c : Dev Cert.MiddleReferenceIdeal.nD,
    (Cert.Pre_unclamped_loops.fn (F := Ideal) (m ((c.tc : Thread Cert.MiddleReferenceIdeal.nD Cert.MiddleReferenceIdeal.τ).loc Cert.MiddleReferenceIdeal.main_arg0)) (m ((c.tc : Thread Cert.MiddleReferenceIdeal.nD Cert.MiddleReferenceIdeal.τ).loc Cert.MiddleReferenceIdeal.main_arg1)) (m ((c.tc : Thread Cert.MiddleReferenceIdeal.nD Cert.MiddleReferenceIdeal.τ).loc Cert.MiddleReferenceIdeal.main_arg2)) (m ((c.tc : Thread Cert.MiddleReferenceIdeal.nD Cert.MiddleReferenceIdeal.τ).loc Cert.MiddleReferenceIdeal.main_arg3)) (m ((c.tc : Thread Cert.MiddleReferenceIdeal.nD Cert.MiddleReferenceIdeal.τ).loc Cert.MiddleReferenceIdeal.main_arg4)) (m ((c.tc : Thread Cert.MiddleReferenceIdeal.nD Cert.MiddleReferenceIdeal.τ).loc Cert.MiddleReferenceIdeal.main_arg5)) (m ((c.tc : Thread Cert.MiddleReferenceIdeal.nD Cert.MiddleReferenceIdeal.τ).loc Cert.MiddleReferenceIdeal.main_arg6)) (m ((c.tc : Thread Cert.MiddleReferenceIdeal.nD Cert.MiddleReferenceIdeal.τ).loc Cert.MiddleReferenceIdeal.main_arg7)) (m ((c.tc : Thread Cert.MiddleReferenceIdeal.nD Cert.MiddleReferenceIdeal.τ).loc Cert.MiddleReferenceIdeal.main_arg8)) (m ((c.tc : Thread Cert.MiddleReferenceIdeal.nD Cert.MiddleReferenceIdeal.τ).loc Cert.MiddleReferenceIdeal.main_arg9)) (m ((c.tc : Thread Cert.MiddleReferenceIdeal.nD Cert.MiddleReferenceIdeal.τ).loc Cert.MiddleReferenceIdeal.main_arg10)) (m ((c.tc : Thread Cert.MiddleReferenceIdeal.nD Cert.MiddleReferenceIdeal.τ).loc Cert.MiddleReferenceIdeal.main_arg11)) (m ((c.tc : Thread Cert.MiddleReferenceIdeal.nD Cert.MiddleReferenceIdeal.τ).loc Cert.MiddleReferenceIdeal.main_arg12)) (m ((c.tc : Thread Cert.MiddleReferenceIdeal.nD Cert.MiddleReferenceIdeal.τ).loc Cert.MiddleReferenceIdeal.main_arg13))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishReferenceIdeal (m : (ℓ : Loc Cert.FinishReferenceIdeal.nD Cert.FinishReferenceIdeal.τ Cert.FinishReferenceIdeal.sig) → Buf (Elt Ideal) ℓ) : Prop :=
  True

def quiescent_Kernel [hKernel : Cert.Kernel.Facts] [hPre_nodes : Cert.Pre_nodes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_nodes : Cert.Pre_nodes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_unclamped [hKernelIdeal : Cert.KernelIdeal.Facts] [hPre_unclamped : Cert.Pre_unclamped.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclamped m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_unclamped [hReferenceIdeal : Cert.ReferenceIdeal.Facts] [hPre_unclamped : Cert.Pre_unclamped.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unclamped m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7)
      ∧ r.2.mem ((c.tc : Thread Cert.Project.nD Cert.Project.τ).loc Cert.Project.main_arg8) = m ((c.tc : Thread Cert.Project.nD Cert.Project.τ).loc Cert.Project.main_arg8))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8))
      ∧ r.2.sem = fun _ => 0)

def quiescent_ProjectIdeal_pre_finite_edges [hProjectIdeal : Cert.ProjectIdeal.Facts] [hPre_finite_edges : Cert.Pre_finite_edges.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_finite_edges m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
      ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8))
      ∧ r.2.sem = fun _ => 0)

def quiescent_ProjectReferenceIdeal_pre_finite_edges [hProjectReferenceIdeal : Cert.ProjectReferenceIdeal.Facts] [hPre_finite_edges : Cert.Pre_finite_edges.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_finite_edges m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7)
      ∧ r.2.mem ((c.tc : Thread Cert.ProjectReferenceIdeal.nD Cert.ProjectReferenceIdeal.τ).loc Cert.ProjectReferenceIdeal.main_arg8) = m ((c.tc : Thread Cert.ProjectReferenceIdeal.nD Cert.ProjectReferenceIdeal.τ).loc Cert.ProjectReferenceIdeal.main_arg8))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5)
      ∧ r.2.mem ((c.tc : Thread Cert.Middle.nD Cert.Middle.τ).loc Cert.Middle.main_arg6) = m ((c.tc : Thread Cert.Middle.nD Cert.Middle.τ).loc Cert.Middle.main_arg6)
      ∧ r.2.mem ((c.tc : Thread Cert.Middle.nD Cert.Middle.τ).loc Cert.Middle.main_arg7) = m ((c.tc : Thread Cert.Middle.nD Cert.Middle.τ).loc Cert.Middle.main_arg7)
      ∧ r.2.mem ((c.tc : Thread Cert.Middle.nD Cert.Middle.τ).loc Cert.Middle.main_arg8) = m ((c.tc : Thread Cert.Middle.nD Cert.Middle.τ).loc Cert.Middle.main_arg8)
      ∧ r.2.mem ((c.tc : Thread Cert.Middle.nD Cert.Middle.τ).loc Cert.Middle.main_arg9) = m ((c.tc : Thread Cert.Middle.nD Cert.Middle.τ).loc Cert.Middle.main_arg9)
      ∧ r.2.mem ((c.tc : Thread Cert.Middle.nD Cert.Middle.τ).loc Cert.Middle.main_arg10) = m ((c.tc : Thread Cert.Middle.nD Cert.Middle.τ).loc Cert.Middle.main_arg10)
      ∧ r.2.mem ((c.tc : Thread Cert.Middle.nD Cert.Middle.τ).loc Cert.Middle.main_arg11) = m ((c.tc : Thread Cert.Middle.nD Cert.Middle.τ).loc Cert.Middle.main_arg11)
      ∧ r.2.mem ((c.tc : Thread Cert.Middle.nD Cert.Middle.τ).loc Cert.Middle.main_arg12) = m ((c.tc : Thread Cert.Middle.nD Cert.Middle.τ).loc Cert.Middle.main_arg12)
      ∧ r.2.mem ((c.tc : Thread Cert.Middle.nD Cert.Middle.τ).loc Cert.Middle.main_arg13) = m ((c.tc : Thread Cert.Middle.nD Cert.Middle.τ).loc Cert.Middle.main_arg13))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
      ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12)
      ∧ r.2.mem ((c.tc : Thread Cert.MiddleIdeal.nD Cert.MiddleIdeal.τ).loc Cert.MiddleIdeal.main_arg13) = m ((c.tc : Thread Cert.MiddleIdeal.nD Cert.MiddleIdeal.τ).loc Cert.MiddleIdeal.main_arg13))
      ∧ r.2.sem = fun _ => 0)

def quiescent_MiddleIdeal_pre_unclamped_loops [hMiddleIdeal : Cert.MiddleIdeal.Facts] [hPre_unclamped_loops : Cert.Pre_unclamped_loops.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal_unclamped_loops m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
      ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
      ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
      ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
      ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
      ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
      ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
      ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12)
      ∧ r.2.mem ((c.tc : Thread Cert.MiddleIdeal.nD Cert.MiddleIdeal.τ).loc Cert.MiddleIdeal.main_arg13) = m ((c.tc : Thread Cert.MiddleIdeal.nD Cert.MiddleIdeal.τ).loc Cert.MiddleIdeal.main_arg13))
      ∧ r.2.sem = fun _ => 0)

def quiescent_MiddleReferenceIdeal [hMiddleReferenceIdeal : Cert.MiddleReferenceIdeal.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7)
      ∧ r.2.mem ((c.tc : Thread Cert.MiddleReferenceIdeal.nD Cert.MiddleReferenceIdeal.τ).loc Cert.MiddleReferenceIdeal.main_arg8) = m ((c.tc : Thread Cert.MiddleReferenceIdeal.nD Cert.MiddleReferenceIdeal.τ).loc Cert.MiddleReferenceIdeal.main_arg8)
      ∧ r.2.mem ((c.tc : Thread Cert.MiddleReferenceIdeal.nD Cert.MiddleReferenceIdeal.τ).loc Cert.MiddleReferenceIdeal.main_arg9) = m ((c.tc : Thread Cert.MiddleReferenceIdeal.nD Cert.MiddleReferenceIdeal.τ).loc Cert.MiddleReferenceIdeal.main_arg9)
      ∧ r.2.mem ((c.tc : Thread Cert.MiddleReferenceIdeal.nD Cert.MiddleReferenceIdeal.τ).loc Cert.MiddleReferenceIdeal.main_arg10) = m ((c.tc : Thread Cert.MiddleReferenceIdeal.nD Cert.MiddleReferenceIdeal.τ).loc Cert.MiddleReferenceIdeal.main_arg10)
      ∧ r.2.mem ((c.tc : Thread Cert.MiddleReferenceIdeal.nD Cert.MiddleReferenceIdeal.τ).loc Cert.MiddleReferenceIdeal.main_arg11) = m ((c.tc : Thread Cert.MiddleReferenceIdeal.nD Cert.MiddleReferenceIdeal.τ).loc Cert.MiddleReferenceIdeal.main_arg11)
      ∧ r.2.mem ((c.tc : Thread Cert.MiddleReferenceIdeal.nD Cert.MiddleReferenceIdeal.τ).loc Cert.MiddleReferenceIdeal.main_arg12) = m ((c.tc : Thread Cert.MiddleReferenceIdeal.nD Cert.MiddleReferenceIdeal.τ).loc Cert.MiddleReferenceIdeal.main_arg12)
      ∧ r.2.mem ((c.tc : Thread Cert.MiddleReferenceIdeal.nD Cert.MiddleReferenceIdeal.τ).loc Cert.MiddleReferenceIdeal.main_arg13) = m ((c.tc : Thread Cert.MiddleReferenceIdeal.nD Cert.MiddleReferenceIdeal.τ).loc Cert.MiddleReferenceIdeal.main_arg13))
      ∧ r.2.sem = fun _ => 0)

def quiescent_MiddleReferenceIdeal_pre_unclamped_loops [hMiddleReferenceIdeal : Cert.MiddleReferenceIdeal.Facts] [hPre_unclamped_loops : Cert.Pre_unclamped_loops.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal_unclamped_loops m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5)
      ∧ r.2.mem ((c.tc : Thread Cert.MiddleReferenceIdeal.nD Cert.MiddleReferenceIdeal.τ).loc Cert.MiddleReferenceIdeal.main_arg6) = m ((c.tc : Thread Cert.MiddleReferenceIdeal.nD Cert.MiddleReferenceIdeal.τ).loc Cert.MiddleReferenceIdeal.main_arg6)
      ∧ r.2.mem ((c.tc : Thread Cert.MiddleReferenceIdeal.nD Cert.MiddleReferenceIdeal.τ).loc Cert.MiddleReferenceIdeal.main_arg7) = m ((c.tc : Thread Cert.MiddleReferenceIdeal.nD Cert.MiddleReferenceIdeal.τ).loc Cert.MiddleReferenceIdeal.main_arg7)
      ∧ r.2.mem ((c.tc : Thread Cert.MiddleReferenceIdeal.nD Cert.MiddleReferenceIdeal.τ).loc Cert.MiddleReferenceIdeal.main_arg8) = m ((c.tc : Thread Cert.MiddleReferenceIdeal.nD Cert.MiddleReferenceIdeal.τ).loc Cert.MiddleReferenceIdeal.main_arg8)
      ∧ r.2.mem ((c.tc : Thread Cert.MiddleReferenceIdeal.nD Cert.MiddleReferenceIdeal.τ).loc Cert.MiddleReferenceIdeal.main_arg9) = m ((c.tc : Thread Cert.MiddleReferenceIdeal.nD Cert.MiddleReferenceIdeal.τ).loc Cert.MiddleReferenceIdeal.main_arg9)
      ∧ r.2.mem ((c.tc : Thread Cert.MiddleReferenceIdeal.nD Cert.MiddleReferenceIdeal.τ).loc Cert.MiddleReferenceIdeal.main_arg10) = m ((c.tc : Thread Cert.MiddleReferenceIdeal.nD Cert.MiddleReferenceIdeal.τ).loc Cert.MiddleReferenceIdeal.main_arg10)
      ∧ r.2.mem ((c.tc : Thread Cert.MiddleReferenceIdeal.nD Cert.MiddleReferenceIdeal.τ).loc Cert.MiddleReferenceIdeal.main_arg11) = m ((c.tc : Thread Cert.MiddleReferenceIdeal.nD Cert.MiddleReferenceIdeal.τ).loc Cert.MiddleReferenceIdeal.main_arg11)
      ∧ r.2.mem ((c.tc : Thread Cert.MiddleReferenceIdeal.nD Cert.MiddleReferenceIdeal.τ).loc Cert.MiddleReferenceIdeal.main_arg12) = m ((c.tc : Thread Cert.MiddleReferenceIdeal.nD Cert.MiddleReferenceIdeal.τ).loc Cert.MiddleReferenceIdeal.main_arg12)
      ∧ r.2.mem ((c.tc : Thread Cert.MiddleReferenceIdeal.nD Cert.MiddleReferenceIdeal.τ).loc Cert.MiddleReferenceIdeal.main_arg13) = m ((c.tc : Thread Cert.MiddleReferenceIdeal.nD Cert.MiddleReferenceIdeal.τ).loc Cert.MiddleReferenceIdeal.main_arg13))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1)
      ∧ r.2.mem ((c.tc : Thread Cert.Finish.nD Cert.Finish.τ).loc Cert.Finish.main_arg2) = m ((c.tc : Thread Cert.Finish.nD Cert.Finish.τ).loc Cert.Finish.main_arg2)
      ∧ r.2.mem ((c.tc : Thread Cert.Finish.nD Cert.Finish.τ).loc Cert.Finish.main_arg3) = m ((c.tc : Thread Cert.Finish.nD Cert.Finish.τ).loc Cert.Finish.main_arg3)
      ∧ r.2.mem ((c.tc : Thread Cert.Finish.nD Cert.Finish.τ).loc Cert.Finish.main_arg4) = m ((c.tc : Thread Cert.Finish.nD Cert.Finish.τ).loc Cert.Finish.main_arg4)
      ∧ r.2.mem ((c.tc : Thread Cert.Finish.nD Cert.Finish.τ).loc Cert.Finish.main_arg5) = m ((c.tc : Thread Cert.Finish.nD Cert.Finish.τ).loc Cert.Finish.main_arg5)
      ∧ r.2.mem ((c.tc : Thread Cert.Finish.nD Cert.Finish.τ).loc Cert.Finish.main_arg6) = m ((c.tc : Thread Cert.Finish.nD Cert.Finish.τ).loc Cert.Finish.main_arg6)
      ∧ r.2.mem ((c.tc : Thread Cert.Finish.nD Cert.Finish.τ).loc Cert.Finish.main_arg7) = m ((c.tc : Thread Cert.Finish.nD Cert.Finish.τ).loc Cert.Finish.main_arg7)
      ∧ r.2.mem ((c.tc : Thread Cert.Finish.nD Cert.Finish.τ).loc Cert.Finish.main_arg8) = m ((c.tc : Thread Cert.Finish.nD Cert.Finish.τ).loc Cert.Finish.main_arg8)
      ∧ r.2.mem ((c.tc : Thread Cert.Finish.nD Cert.Finish.τ).loc Cert.Finish.main_arg9) = m ((c.tc : Thread Cert.Finish.nD Cert.Finish.τ).loc Cert.Finish.main_arg9))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
      ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
      ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
      ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
      ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
      ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
      ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
      ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
      ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ r.2.sem = fun _ => 0)

def quiescent_FinishReferenceIdeal [hFinishReferenceIdeal : Cert.FinishReferenceIdeal.Facts] : Prop :=
  ∀ (m : (ℓ : Loc Cert.FinishReferenceIdeal.nD Cert.FinishReferenceIdeal.τ Cert.FinishReferenceIdeal.sig) → Buf (Elt Ideal) ℓ) (g : Dev Cert.FinishReferenceIdeal.nD → PrngReg), Pre_FinishReferenceIdeal m →
    θ_run (Cert.FinishReferenceIdeal.defs (F := Ideal)) (onTc (τ := Cert.FinishReferenceIdeal.τ) (Cert.FinishReferenceIdeal.main (F := Ideal))) ⟨m, fun _ => 0, g⟩ (fun r => (∀ c : Dev Cert.FinishReferenceIdeal.nD,
      r.2.mem ((c.tc : Thread Cert.FinishReferenceIdeal.nD Cert.FinishReferenceIdeal.τ).loc Cert.FinishReferenceIdeal.main_arg0) = m ((c.tc : Thread Cert.FinishReferenceIdeal.nD Cert.FinishReferenceIdeal.τ).loc Cert.FinishReferenceIdeal.main_arg0)
      ∧ r.2.mem ((c.tc : Thread Cert.FinishReferenceIdeal.nD Cert.FinishReferenceIdeal.τ).loc Cert.FinishReferenceIdeal.main_arg1) = m ((c.tc : Thread Cert.FinishReferenceIdeal.nD Cert.FinishReferenceIdeal.τ).loc Cert.FinishReferenceIdeal.main_arg1)
      ∧ r.2.mem ((c.tc : Thread Cert.FinishReferenceIdeal.nD Cert.FinishReferenceIdeal.τ).loc Cert.FinishReferenceIdeal.main_arg2) = m ((c.tc : Thread Cert.FinishReferenceIdeal.nD Cert.FinishReferenceIdeal.τ).loc Cert.FinishReferenceIdeal.main_arg2)
      ∧ r.2.mem ((c.tc : Thread Cert.FinishReferenceIdeal.nD Cert.FinishReferenceIdeal.τ).loc Cert.FinishReferenceIdeal.main_arg3) = m ((c.tc : Thread Cert.FinishReferenceIdeal.nD Cert.FinishReferenceIdeal.τ).loc Cert.FinishReferenceIdeal.main_arg3)
      ∧ r.2.mem ((c.tc : Thread Cert.FinishReferenceIdeal.nD Cert.FinishReferenceIdeal.τ).loc Cert.FinishReferenceIdeal.main_arg4) = m ((c.tc : Thread Cert.FinishReferenceIdeal.nD Cert.FinishReferenceIdeal.τ).loc Cert.FinishReferenceIdeal.main_arg4)
      ∧ r.2.mem ((c.tc : Thread Cert.FinishReferenceIdeal.nD Cert.FinishReferenceIdeal.τ).loc Cert.FinishReferenceIdeal.main_arg5) = m ((c.tc : Thread Cert.FinishReferenceIdeal.nD Cert.FinishReferenceIdeal.τ).loc Cert.FinishReferenceIdeal.main_arg5)
      ∧ r.2.mem ((c.tc : Thread Cert.FinishReferenceIdeal.nD Cert.FinishReferenceIdeal.τ).loc Cert.FinishReferenceIdeal.main_arg6) = m ((c.tc : Thread Cert.FinishReferenceIdeal.nD Cert.FinishReferenceIdeal.τ).loc Cert.FinishReferenceIdeal.main_arg6)
      ∧ r.2.mem ((c.tc : Thread Cert.FinishReferenceIdeal.nD Cert.FinishReferenceIdeal.τ).loc Cert.FinishReferenceIdeal.main_arg7) = m ((c.tc : Thread Cert.FinishReferenceIdeal.nD Cert.FinishReferenceIdeal.τ).loc Cert.FinishReferenceIdeal.main_arg7)
      ∧ r.2.mem ((c.tc : Thread Cert.FinishReferenceIdeal.nD Cert.FinishReferenceIdeal.τ).loc Cert.FinishReferenceIdeal.main_arg8) = m ((c.tc : Thread Cert.FinishReferenceIdeal.nD Cert.FinishReferenceIdeal.τ).loc Cert.FinishReferenceIdeal.main_arg8)
      ∧ r.2.mem ((c.tc : Thread Cert.FinishReferenceIdeal.nD Cert.FinishReferenceIdeal.τ).loc Cert.FinishReferenceIdeal.main_arg9) = m ((c.tc : Thread Cert.FinishReferenceIdeal.nD Cert.FinishReferenceIdeal.τ).loc Cert.FinishReferenceIdeal.main_arg9))
      ∧ r.2.sem = fun _ => 0)

def preserves_Kernel_KernelIdeal : Prop :=
  True

def algebraic_KernelIdeal_ReferenceIdeal_pre_unclamped [hKernelIdeal : Cert.KernelIdeal.Facts] [hReferenceIdeal : Cert.ReferenceIdeal.Facts] [hPre_unclamped : Cert.Pre_unclamped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unclamped m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v28)) (v4 : (c : Dev Cert.KernelIdeal.nD) → Buf (Elt Ideal) ((c.tc : Thread Cert.KernelIdeal.nD Cert.KernelIdeal.τ).loc Cert.KernelIdeal.main_v32)) (v5 : (c : Dev Cert.KernelIdeal.nD) → Buf (Elt Ideal) ((c.tc : Thread Cert.KernelIdeal.nD Cert.KernelIdeal.τ).loc Cert.KernelIdeal.main_v30)) (v6 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_v32) = v4 c
          ∧ r.2.mem ((c.tc : Thread Cert.KernelIdeal.nD Cert.KernelIdeal.τ).loc Cert.KernelIdeal.main_v30) = v5 c
          ∧ r.2.mem ((c.tc : Thread Cert.KernelIdeal.nD Cert.KernelIdeal.τ).loc Cert.KernelIdeal.main_v34) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v57) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v76) = v5 c
          ∧ r.2.mem ((c.tc : Thread Cert.ReferenceIdeal.nD Cert.ReferenceIdeal.τ).loc Cert.ReferenceIdeal.main_v89) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Project_ProjectIdeal : Prop :=
  True

def algebraic_ProjectIdeal_ProjectReferenceIdeal_pre_finite_edges [hProjectIdeal : Cert.ProjectIdeal.Facts] [hProjectReferenceIdeal : Cert.ProjectReferenceIdeal.Facts] [hPre_finite_edges : Cert.Pre_finite_edges.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_finite_edges m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)
      ∧ m' ((c.tc : Thread Cert.ProjectReferenceIdeal.nD Cert.ProjectReferenceIdeal.τ).loc Cert.ProjectReferenceIdeal.main_arg8) = m ((c.tc : Thread Cert.ProjectIdeal.nD Cert.ProjectIdeal.τ).loc Cert.ProjectIdeal.main_arg8)) →
    ∃ (v0 : (c : Dev Cert.ProjectIdeal.nD) → Buf (Elt Ideal) ((c.tc : Thread Cert.ProjectIdeal.nD Cert.ProjectIdeal.τ).loc Cert.ProjectIdeal.main_v18_0)) (v1 : (c : Dev Cert.ProjectIdeal.nD) → Buf (Elt Ideal) ((c.tc : Thread Cert.ProjectIdeal.nD Cert.ProjectIdeal.τ).loc Cert.ProjectIdeal.main_v18_1)) (v2 : (c : Dev Cert.ProjectIdeal.nD) → Buf (Elt Ideal) ((c.tc : Thread Cert.ProjectIdeal.nD Cert.ProjectIdeal.τ).loc Cert.ProjectIdeal.main_v18_2)) (v3 : (c : Dev Cert.ProjectIdeal.nD) → Buf (Elt Ideal) ((c.tc : Thread Cert.ProjectIdeal.nD Cert.ProjectIdeal.τ).loc Cert.ProjectIdeal.main_v18_3)) (v4 : (c : Dev Cert.ProjectIdeal.nD) → Buf (Elt Ideal) ((c.tc : Thread Cert.ProjectIdeal.nD Cert.ProjectIdeal.τ).loc Cert.ProjectIdeal.main_v18_4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v18_0) = v0 c
          ∧ r.2.mem ((c.tc : Thread Cert.ProjectIdeal.nD Cert.ProjectIdeal.τ).loc Cert.ProjectIdeal.main_v18_1) = v1 c
          ∧ r.2.mem ((c.tc : Thread Cert.ProjectIdeal.nD Cert.ProjectIdeal.τ).loc Cert.ProjectIdeal.main_v18_2) = v2 c
          ∧ r.2.mem ((c.tc : Thread Cert.ProjectIdeal.nD Cert.ProjectIdeal.τ).loc Cert.ProjectIdeal.main_v18_3) = v3 c
          ∧ r.2.mem ((c.tc : Thread Cert.ProjectIdeal.nD Cert.ProjectIdeal.τ).loc Cert.ProjectIdeal.main_v18_4) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7)
          ∧ r.2.mem ((c.tc : Thread Cert.ProjectIdeal.nD Cert.ProjectIdeal.τ).loc Cert.ProjectIdeal.main_arg8) = m ((c.tc : Thread Cert.ProjectIdeal.nD Cert.ProjectIdeal.τ).loc Cert.ProjectIdeal.main_arg8))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v2) = v0 c
          ∧ r.2.mem ((c.tc : Thread Cert.ProjectReferenceIdeal.nD Cert.ProjectReferenceIdeal.τ).loc Cert.ProjectReferenceIdeal.main_v5) = v1 c
          ∧ r.2.mem ((c.tc : Thread Cert.ProjectReferenceIdeal.nD Cert.ProjectReferenceIdeal.τ).loc Cert.ProjectReferenceIdeal.main_v8) = v2 c
          ∧ r.2.mem ((c.tc : Thread Cert.ProjectReferenceIdeal.nD Cert.ProjectReferenceIdeal.τ).loc Cert.ProjectReferenceIdeal.main_v12) = v3 c
          ∧ r.2.mem ((c.tc : Thread Cert.ProjectReferenceIdeal.nD Cert.ProjectReferenceIdeal.τ).loc Cert.ProjectReferenceIdeal.main_v16) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7)
          ∧ r.2.mem ((c.tc : Thread Cert.ProjectReferenceIdeal.nD Cert.ProjectReferenceIdeal.τ).loc Cert.ProjectReferenceIdeal.main_arg8) = m' ((c.tc : Thread Cert.ProjectReferenceIdeal.nD Cert.ProjectReferenceIdeal.τ).loc Cert.ProjectReferenceIdeal.main_arg8))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)) (v2 : (c : Dev Cert.CombineIdeal.nD) → Buf (Elt Ideal) ((c.tc : Thread Cert.CombineIdeal.nD Cert.CombineIdeal.τ).loc Cert.CombineIdeal.main_v0_2)) (v3 : (c : Dev Cert.CombineIdeal.nD) → Buf (Elt Ideal) ((c.tc : Thread Cert.CombineIdeal.nD Cert.CombineIdeal.τ).loc Cert.CombineIdeal.main_v0_3)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_v0_2) = v2 c
          ∧ r.2.mem ((c.tc : Thread Cert.CombineIdeal.nD Cert.CombineIdeal.τ).loc Cert.CombineIdeal.main_v0_3) = v3 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v1) = v0 c
          ∧ r.2.mem ((c.tc : Thread Cert.CombineReferenceIdeal.nD Cert.CombineReferenceIdeal.τ).loc Cert.CombineReferenceIdeal.main_v3) = v1 c
          ∧ r.2.mem ((c.tc : Thread Cert.CombineReferenceIdeal.nD Cert.CombineReferenceIdeal.τ).loc Cert.CombineReferenceIdeal.main_v5) = v2 c
          ∧ r.2.mem ((c.tc : Thread Cert.CombineReferenceIdeal.nD Cert.CombineReferenceIdeal.τ).loc Cert.CombineReferenceIdeal.main_v7) = v3 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_Middle_MiddleIdeal : Prop :=
  True

def algebraic_MiddleIdeal_MiddleReferenceIdeal_pre_unclamped_loops [hMiddleIdeal : Cert.MiddleIdeal.Facts] [hMiddleReferenceIdeal : Cert.MiddleReferenceIdeal.Facts] [hPre_unclamped_loops : Cert.Pre_unclamped_loops.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleReferenceIdeal.nD Cert.MiddleReferenceIdeal.τ Cert.MiddleReferenceIdeal.sig) → Buf (Elt Ideal) ℓ) (g' : Dev Cert.MiddleReferenceIdeal.nD → PrngReg), Pre_MiddleIdeal_unclamped_loops m →
    (∀ c : Dev Cert.MiddleIdeal.nD,
      m' ((c.tc : Thread Cert.MiddleReferenceIdeal.nD Cert.MiddleReferenceIdeal.τ).loc Cert.MiddleReferenceIdeal.main_arg0) = m ((c.tc : Thread Cert.MiddleIdeal.nD Cert.MiddleIdeal.τ).loc Cert.MiddleIdeal.main_arg0)
      ∧ m' ((c.tc : Thread Cert.MiddleReferenceIdeal.nD Cert.MiddleReferenceIdeal.τ).loc Cert.MiddleReferenceIdeal.main_arg1) = m ((c.tc : Thread Cert.MiddleIdeal.nD Cert.MiddleIdeal.τ).loc Cert.MiddleIdeal.main_arg1)
      ∧ m' ((c.tc : Thread Cert.MiddleReferenceIdeal.nD Cert.MiddleReferenceIdeal.τ).loc Cert.MiddleReferenceIdeal.main_arg2) = m ((c.tc : Thread Cert.MiddleIdeal.nD Cert.MiddleIdeal.τ).loc Cert.MiddleIdeal.main_arg2)
      ∧ m' ((c.tc : Thread Cert.MiddleReferenceIdeal.nD Cert.MiddleReferenceIdeal.τ).loc Cert.MiddleReferenceIdeal.main_arg3) = m ((c.tc : Thread Cert.MiddleIdeal.nD Cert.MiddleIdeal.τ).loc Cert.MiddleIdeal.main_arg3)
      ∧ m' ((c.tc : Thread Cert.MiddleReferenceIdeal.nD Cert.MiddleReferenceIdeal.τ).loc Cert.MiddleReferenceIdeal.main_arg4) = m ((c.tc : Thread Cert.MiddleIdeal.nD Cert.MiddleIdeal.τ).loc Cert.MiddleIdeal.main_arg4)
      ∧ m' ((c.tc : Thread Cert.MiddleReferenceIdeal.nD Cert.MiddleReferenceIdeal.τ).loc Cert.MiddleReferenceIdeal.main_arg5) = m ((c.tc : Thread Cert.MiddleIdeal.nD Cert.MiddleIdeal.τ).loc Cert.MiddleIdeal.main_arg5)
      ∧ m' ((c.tc : Thread Cert.MiddleReferenceIdeal.nD Cert.MiddleReferenceIdeal.τ).loc Cert.MiddleReferenceIdeal.main_arg6) = m ((c.tc : Thread Cert.MiddleIdeal.nD Cert.MiddleIdeal.τ).loc Cert.MiddleIdeal.main_arg6)
      ∧ m' ((c.tc : Thread Cert.MiddleReferenceIdeal.nD Cert.MiddleReferenceIdeal.τ).loc Cert.MiddleReferenceIdeal.main_arg7) = m ((c.tc : Thread Cert.MiddleIdeal.nD Cert.MiddleIdeal.τ).loc Cert.MiddleIdeal.main_arg7)
      ∧ m' ((c.tc : Thread Cert.MiddleReferenceIdeal.nD Cert.MiddleReferenceIdeal.τ).loc Cert.MiddleReferenceIdeal.main_arg8) = m ((c.tc : Thread Cert.MiddleIdeal.nD Cert.MiddleIdeal.τ).loc Cert.MiddleIdeal.main_arg8)
      ∧ m' ((c.tc : Thread Cert.MiddleReferenceIdeal.nD Cert.MiddleReferenceIdeal.τ).loc Cert.MiddleReferenceIdeal.main_arg9) = m ((c.tc : Thread Cert.MiddleIdeal.nD Cert.MiddleIdeal.τ).loc Cert.MiddleIdeal.main_arg9)
      ∧ m' ((c.tc : Thread Cert.MiddleReferenceIdeal.nD Cert.MiddleReferenceIdeal.τ).loc Cert.MiddleReferenceIdeal.main_arg10) = m ((c.tc : Thread Cert.MiddleIdeal.nD Cert.MiddleIdeal.τ).loc Cert.MiddleIdeal.main_arg10)
      ∧ m' ((c.tc : Thread Cert.MiddleReferenceIdeal.nD Cert.MiddleReferenceIdeal.τ).loc Cert.MiddleReferenceIdeal.main_arg11) = m ((c.tc : Thread Cert.MiddleIdeal.nD Cert.MiddleIdeal.τ).loc Cert.MiddleIdeal.main_arg11)
      ∧ m' ((c.tc : Thread Cert.MiddleReferenceIdeal.nD Cert.MiddleReferenceIdeal.τ).loc Cert.MiddleReferenceIdeal.main_arg12) = m ((c.tc : Thread Cert.MiddleIdeal.nD Cert.MiddleIdeal.τ).loc Cert.MiddleIdeal.main_arg12)
      ∧ m' ((c.tc : Thread Cert.MiddleReferenceIdeal.nD Cert.MiddleReferenceIdeal.τ).loc Cert.MiddleReferenceIdeal.main_arg13) = m ((c.tc : Thread Cert.MiddleIdeal.nD Cert.MiddleIdeal.τ).loc Cert.MiddleIdeal.main_arg13)) →
    ∃ (v0 : (c : Dev Cert.MiddleIdeal.nD) → Buf (Elt Ideal) ((c.tc : Thread Cert.MiddleIdeal.nD Cert.MiddleIdeal.τ).loc Cert.MiddleIdeal.main_v14_0)) (v1 : (c : Dev Cert.MiddleIdeal.nD) → Buf (Elt Ideal) ((c.tc : Thread Cert.MiddleIdeal.nD Cert.MiddleIdeal.τ).loc Cert.MiddleIdeal.main_v14_1)) (v2 : (c : Dev Cert.MiddleIdeal.nD) → Buf (Elt Ideal) ((c.tc : Thread Cert.MiddleIdeal.nD Cert.MiddleIdeal.τ).loc Cert.MiddleIdeal.main_v14_2)) (v3 : (c : Dev Cert.MiddleIdeal.nD) → Buf (Elt Ideal) ((c.tc : Thread Cert.MiddleIdeal.nD Cert.MiddleIdeal.τ).loc Cert.MiddleIdeal.main_v14_3)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v14_0) = v0 c
          ∧ r.2.mem ((c.tc : Thread Cert.MiddleIdeal.nD Cert.MiddleIdeal.τ).loc Cert.MiddleIdeal.main_v14_1) = v1 c
          ∧ r.2.mem ((c.tc : Thread Cert.MiddleIdeal.nD Cert.MiddleIdeal.τ).loc Cert.MiddleIdeal.main_v14_2) = v2 c
          ∧ r.2.mem ((c.tc : Thread Cert.MiddleIdeal.nD Cert.MiddleIdeal.τ).loc Cert.MiddleIdeal.main_v14_3) = v3 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5)
          ∧ r.2.mem ((c.tc : Thread Cert.MiddleIdeal.nD Cert.MiddleIdeal.τ).loc Cert.MiddleIdeal.main_arg6) = m ((c.tc : Thread Cert.MiddleIdeal.nD Cert.MiddleIdeal.τ).loc Cert.MiddleIdeal.main_arg6)
          ∧ r.2.mem ((c.tc : Thread Cert.MiddleIdeal.nD Cert.MiddleIdeal.τ).loc Cert.MiddleIdeal.main_arg7) = m ((c.tc : Thread Cert.MiddleIdeal.nD Cert.MiddleIdeal.τ).loc Cert.MiddleIdeal.main_arg7)
          ∧ r.2.mem ((c.tc : Thread Cert.MiddleIdeal.nD Cert.MiddleIdeal.τ).loc Cert.MiddleIdeal.main_arg8) = m ((c.tc : Thread Cert.MiddleIdeal.nD Cert.MiddleIdeal.τ).loc Cert.MiddleIdeal.main_arg8)
          ∧ r.2.mem ((c.tc : Thread Cert.MiddleIdeal.nD Cert.MiddleIdeal.τ).loc Cert.MiddleIdeal.main_arg9) = m ((c.tc : Thread Cert.MiddleIdeal.nD Cert.MiddleIdeal.τ).loc Cert.MiddleIdeal.main_arg9)
          ∧ r.2.mem ((c.tc : Thread Cert.MiddleIdeal.nD Cert.MiddleIdeal.τ).loc Cert.MiddleIdeal.main_arg10) = m ((c.tc : Thread Cert.MiddleIdeal.nD Cert.MiddleIdeal.τ).loc Cert.MiddleIdeal.main_arg10)
          ∧ r.2.mem ((c.tc : Thread Cert.MiddleIdeal.nD Cert.MiddleIdeal.τ).loc Cert.MiddleIdeal.main_arg11) = m ((c.tc : Thread Cert.MiddleIdeal.nD Cert.MiddleIdeal.τ).loc Cert.MiddleIdeal.main_arg11)
          ∧ r.2.mem ((c.tc : Thread Cert.MiddleIdeal.nD Cert.MiddleIdeal.τ).loc Cert.MiddleIdeal.main_arg12) = m ((c.tc : Thread Cert.MiddleIdeal.nD Cert.MiddleIdeal.τ).loc Cert.MiddleIdeal.main_arg12)
          ∧ r.2.mem ((c.tc : Thread Cert.MiddleIdeal.nD Cert.MiddleIdeal.τ).loc Cert.MiddleIdeal.main_arg13) = m ((c.tc : Thread Cert.MiddleIdeal.nD Cert.MiddleIdeal.τ).loc Cert.MiddleIdeal.main_arg13))
      ∧ θ_run (Cert.MiddleReferenceIdeal.defs (F := Ideal)) (onTc (τ := Cert.MiddleReferenceIdeal.τ) (Cert.MiddleReferenceIdeal.main (F := Ideal))) ⟨m', fun _ => 0, g'⟩ (fun r => ∀ c : Dev Cert.MiddleReferenceIdeal.nD,
          r.2.mem ((c.tc : Thread Cert.MiddleReferenceIdeal.nD Cert.MiddleReferenceIdeal.τ).loc Cert.MiddleReferenceIdeal.main_v76) = v0 c
          ∧ r.2.mem ((c.tc : Thread Cert.MiddleReferenceIdeal.nD Cert.MiddleReferenceIdeal.τ).loc Cert.MiddleReferenceIdeal.main_v77) = v1 c
          ∧ r.2.mem ((c.tc : Thread Cert.MiddleReferenceIdeal.nD Cert.MiddleReferenceIdeal.τ).loc Cert.MiddleReferenceIdeal.main_v78) = v2 c
          ∧ r.2.mem ((c.tc : Thread Cert.MiddleReferenceIdeal.nD Cert.MiddleReferenceIdeal.τ).loc Cert.MiddleReferenceIdeal.main_v79) = v3 c
          ∧ r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
          ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1)
          ∧ r.2.mem ((c.tc : Thread Cert.MiddleReferenceIdeal.nD Cert.MiddleReferenceIdeal.τ).loc Cert.MiddleReferenceIdeal.main_arg2) = m' ((c.tc : Thread Cert.MiddleReferenceIdeal.nD Cert.MiddleReferenceIdeal.τ).loc Cert.MiddleReferenceIdeal.main_arg2)
          ∧ r.2.mem ((c.tc : Thread Cert.MiddleReferenceIdeal.nD Cert.MiddleReferenceIdeal.τ).loc Cert.MiddleReferenceIdeal.main_arg3) = m' ((c.tc : Thread Cert.MiddleReferenceIdeal.nD Cert.MiddleReferenceIdeal.τ).loc Cert.MiddleReferenceIdeal.main_arg3)
          ∧ r.2.mem ((c.tc : Thread Cert.MiddleReferenceIdeal.nD Cert.MiddleReferenceIdeal.τ).loc Cert.MiddleReferenceIdeal.main_arg4) = m' ((c.tc : Thread Cert.MiddleReferenceIdeal.nD Cert.MiddleReferenceIdeal.τ).loc Cert.MiddleReferenceIdeal.main_arg4)
          ∧ r.2.mem ((c.tc : Thread Cert.MiddleReferenceIdeal.nD Cert.MiddleReferenceIdeal.τ).loc Cert.MiddleReferenceIdeal.main_arg5) = m' ((c.tc : Thread Cert.MiddleReferenceIdeal.nD Cert.MiddleReferenceIdeal.τ).loc Cert.MiddleReferenceIdeal.main_arg5)
          ∧ r.2.mem ((c.tc : Thread Cert.MiddleReferenceIdeal.nD Cert.MiddleReferenceIdeal.τ).loc Cert.MiddleReferenceIdeal.main_arg6) = m' ((c.tc : Thread Cert.MiddleReferenceIdeal.nD Cert.MiddleReferenceIdeal.τ).loc Cert.MiddleReferenceIdeal.main_arg6)
          ∧ r.2.mem ((c.tc : Thread Cert.MiddleReferenceIdeal.nD Cert.MiddleReferenceIdeal.τ).loc Cert.MiddleReferenceIdeal.main_arg7) = m' ((c.tc : Thread Cert.MiddleReferenceIdeal.nD Cert.MiddleReferenceIdeal.τ).loc Cert.MiddleReferenceIdeal.main_arg7)
          ∧ r.2.mem ((c.tc : Thread Cert.MiddleReferenceIdeal.nD Cert.MiddleReferenceIdeal.τ).loc Cert.MiddleReferenceIdeal.main_arg8) = m' ((c.tc : Thread Cert.MiddleReferenceIdeal.nD Cert.MiddleReferenceIdeal.τ).loc Cert.MiddleReferenceIdeal.main_arg8)
          ∧ r.2.mem ((c.tc : Thread Cert.MiddleReferenceIdeal.nD Cert.MiddleReferenceIdeal.τ).loc Cert.MiddleReferenceIdeal.main_arg9) = m' ((c.tc : Thread Cert.MiddleReferenceIdeal.nD Cert.MiddleReferenceIdeal.τ).loc Cert.MiddleReferenceIdeal.main_arg9)
          ∧ r.2.mem ((c.tc : Thread Cert.MiddleReferenceIdeal.nD Cert.MiddleReferenceIdeal.τ).loc Cert.MiddleReferenceIdeal.main_arg10) = m' ((c.tc : Thread Cert.MiddleReferenceIdeal.nD Cert.MiddleReferenceIdeal.τ).loc Cert.MiddleReferenceIdeal.main_arg10)
          ∧ r.2.mem ((c.tc : Thread Cert.MiddleReferenceIdeal.nD Cert.MiddleReferenceIdeal.τ).loc Cert.MiddleReferenceIdeal.main_arg11) = m' ((c.tc : Thread Cert.MiddleReferenceIdeal.nD Cert.MiddleReferenceIdeal.τ).loc Cert.MiddleReferenceIdeal.main_arg11)
          ∧ r.2.mem ((c.tc : Thread Cert.MiddleReferenceIdeal.nD Cert.MiddleReferenceIdeal.τ).loc Cert.MiddleReferenceIdeal.main_arg12) = m' ((c.tc : Thread Cert.MiddleReferenceIdeal.nD Cert.MiddleReferenceIdeal.τ).loc Cert.MiddleReferenceIdeal.main_arg12)
          ∧ r.2.mem ((c.tc : Thread Cert.MiddleReferenceIdeal.nD Cert.MiddleReferenceIdeal.τ).loc Cert.MiddleReferenceIdeal.main_arg13) = m' ((c.tc : Thread Cert.MiddleReferenceIdeal.nD Cert.MiddleReferenceIdeal.τ).loc Cert.MiddleReferenceIdeal.main_arg13))

def preserves_Finish_FinishIdeal : Prop :=
  True

def algebraic_FinishIdeal_FinishReferenceIdeal [hFinishIdeal : Cert.FinishIdeal.Facts] [hFinishReferenceIdeal : Cert.FinishReferenceIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishReferenceIdeal.nD Cert.FinishReferenceIdeal.τ Cert.FinishReferenceIdeal.sig) → Buf (Elt Ideal) ℓ) (g' : Dev Cert.FinishReferenceIdeal.nD → PrngReg), Pre_FinishIdeal m →
    (∀ c : Dev Cert.FinishIdeal.nD,
      m' ((c.tc : Thread Cert.FinishReferenceIdeal.nD Cert.FinishReferenceIdeal.τ).loc Cert.FinishReferenceIdeal.main_arg0) = m ((c.tc : Thread Cert.FinishIdeal.nD Cert.FinishIdeal.τ).loc Cert.FinishIdeal.main_arg0)
      ∧ m' ((c.tc : Thread Cert.FinishReferenceIdeal.nD Cert.FinishReferenceIdeal.τ).loc Cert.FinishReferenceIdeal.main_arg1) = m ((c.tc : Thread Cert.FinishIdeal.nD Cert.FinishIdeal.τ).loc Cert.FinishIdeal.main_arg1)
      ∧ m' ((c.tc : Thread Cert.FinishReferenceIdeal.nD Cert.FinishReferenceIdeal.τ).loc Cert.FinishReferenceIdeal.main_arg2) = m ((c.tc : Thread Cert.FinishIdeal.nD Cert.FinishIdeal.τ).loc Cert.FinishIdeal.main_arg2)
      ∧ m' ((c.tc : Thread Cert.FinishReferenceIdeal.nD Cert.FinishReferenceIdeal.τ).loc Cert.FinishReferenceIdeal.main_arg3) = m ((c.tc : Thread Cert.FinishIdeal.nD Cert.FinishIdeal.τ).loc Cert.FinishIdeal.main_arg3)
      ∧ m' ((c.tc : Thread Cert.FinishReferenceIdeal.nD Cert.FinishReferenceIdeal.τ).loc Cert.FinishReferenceIdeal.main_arg4) = m ((c.tc : Thread Cert.FinishIdeal.nD Cert.FinishIdeal.τ).loc Cert.FinishIdeal.main_arg4)
      ∧ m' ((c.tc : Thread Cert.FinishReferenceIdeal.nD Cert.FinishReferenceIdeal.τ).loc Cert.FinishReferenceIdeal.main_arg5) = m ((c.tc : Thread Cert.FinishIdeal.nD Cert.FinishIdeal.τ).loc Cert.FinishIdeal.main_arg5)
      ∧ m' ((c.tc : Thread Cert.FinishReferenceIdeal.nD Cert.FinishReferenceIdeal.τ).loc Cert.FinishReferenceIdeal.main_arg6) = m ((c.tc : Thread Cert.FinishIdeal.nD Cert.FinishIdeal.τ).loc Cert.FinishIdeal.main_arg6)
      ∧ m' ((c.tc : Thread Cert.FinishReferenceIdeal.nD Cert.FinishReferenceIdeal.τ).loc Cert.FinishReferenceIdeal.main_arg7) = m ((c.tc : Thread Cert.FinishIdeal.nD Cert.FinishIdeal.τ).loc Cert.FinishIdeal.main_arg7)
      ∧ m' ((c.tc : Thread Cert.FinishReferenceIdeal.nD Cert.FinishReferenceIdeal.τ).loc Cert.FinishReferenceIdeal.main_arg8) = m ((c.tc : Thread Cert.FinishIdeal.nD Cert.FinishIdeal.τ).loc Cert.FinishIdeal.main_arg8)
      ∧ m' ((c.tc : Thread Cert.FinishReferenceIdeal.nD Cert.FinishReferenceIdeal.τ).loc Cert.FinishReferenceIdeal.main_arg9) = m ((c.tc : Thread Cert.FinishIdeal.nD Cert.FinishIdeal.τ).loc Cert.FinishIdeal.main_arg9)) →
    ∃ (v0 : (c : Dev Cert.FinishIdeal.nD) → Buf (Elt Ideal) ((c.tc : Thread Cert.FinishIdeal.nD Cert.FinishIdeal.τ).loc Cert.FinishIdeal.main_v14)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v14) = v0 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1)
          ∧ r.2.mem ((c.tc : Thread Cert.FinishIdeal.nD Cert.FinishIdeal.τ).loc Cert.FinishIdeal.main_arg2) = m ((c.tc : Thread Cert.FinishIdeal.nD Cert.FinishIdeal.τ).loc Cert.FinishIdeal.main_arg2)
          ∧ r.2.mem ((c.tc : Thread Cert.FinishIdeal.nD Cert.FinishIdeal.τ).loc Cert.FinishIdeal.main_arg3) = m ((c.tc : Thread Cert.FinishIdeal.nD Cert.FinishIdeal.τ).loc Cert.FinishIdeal.main_arg3)
          ∧ r.2.mem ((c.tc : Thread Cert.FinishIdeal.nD Cert.FinishIdeal.τ).loc Cert.FinishIdeal.main_arg4) = m ((c.tc : Thread Cert.FinishIdeal.nD Cert.FinishIdeal.τ).loc Cert.FinishIdeal.main_arg4)
          ∧ r.2.mem ((c.tc : Thread Cert.FinishIdeal.nD Cert.FinishIdeal.τ).loc Cert.FinishIdeal.main_arg5) = m ((c.tc : Thread Cert.FinishIdeal.nD Cert.FinishIdeal.τ).loc Cert.FinishIdeal.main_arg5)
          ∧ r.2.mem ((c.tc : Thread Cert.FinishIdeal.nD Cert.FinishIdeal.τ).loc Cert.FinishIdeal.main_arg6) = m ((c.tc : Thread Cert.FinishIdeal.nD Cert.FinishIdeal.τ).loc Cert.FinishIdeal.main_arg6)
          ∧ r.2.mem ((c.tc : Thread Cert.FinishIdeal.nD Cert.FinishIdeal.τ).loc Cert.FinishIdeal.main_arg7) = m ((c.tc : Thread Cert.FinishIdeal.nD Cert.FinishIdeal.τ).loc Cert.FinishIdeal.main_arg7)
          ∧ r.2.mem ((c.tc : Thread Cert.FinishIdeal.nD Cert.FinishIdeal.τ).loc Cert.FinishIdeal.main_arg8) = m ((c.tc : Thread Cert.FinishIdeal.nD Cert.FinishIdeal.τ).loc Cert.FinishIdeal.main_arg8)
          ∧ r.2.mem ((c.tc : Thread Cert.FinishIdeal.nD Cert.FinishIdeal.τ).loc Cert.FinishIdeal.main_arg9) = m ((c.tc : Thread Cert.FinishIdeal.nD Cert.FinishIdeal.τ).loc Cert.FinishIdeal.main_arg9))
      ∧ θ_run (Cert.FinishReferenceIdeal.defs (F := Ideal)) (onTc (τ := Cert.FinishReferenceIdeal.τ) (Cert.FinishReferenceIdeal.main (F := Ideal))) ⟨m', fun _ => 0, g'⟩ (fun r => ∀ c : Dev Cert.FinishReferenceIdeal.nD,
          r.2.mem ((c.tc : Thread Cert.FinishReferenceIdeal.nD Cert.FinishReferenceIdeal.τ).loc Cert.FinishReferenceIdeal.main_v35) = v0 c
          ∧ r.2.mem ((c.tc : Thread Cert.FinishReferenceIdeal.nD Cert.FinishReferenceIdeal.τ).loc Cert.FinishReferenceIdeal.main_arg0) = m' ((c.tc : Thread Cert.FinishReferenceIdeal.nD Cert.FinishReferenceIdeal.τ).loc Cert.FinishReferenceIdeal.main_arg0)
          ∧ r.2.mem ((c.tc : Thread Cert.FinishReferenceIdeal.nD Cert.FinishReferenceIdeal.τ).loc Cert.FinishReferenceIdeal.main_arg1) = m' ((c.tc : Thread Cert.FinishReferenceIdeal.nD Cert.FinishReferenceIdeal.τ).loc Cert.FinishReferenceIdeal.main_arg1)
          ∧ r.2.mem ((c.tc : Thread Cert.FinishReferenceIdeal.nD Cert.FinishReferenceIdeal.τ).loc Cert.FinishReferenceIdeal.main_arg2) = m' ((c.tc : Thread Cert.FinishReferenceIdeal.nD Cert.FinishReferenceIdeal.τ).loc Cert.FinishReferenceIdeal.main_arg2)
          ∧ r.2.mem ((c.tc : Thread Cert.FinishReferenceIdeal.nD Cert.FinishReferenceIdeal.τ).loc Cert.FinishReferenceIdeal.main_arg3) = m' ((c.tc : Thread Cert.FinishReferenceIdeal.nD Cert.FinishReferenceIdeal.τ).loc Cert.FinishReferenceIdeal.main_arg3)
          ∧ r.2.mem ((c.tc : Thread Cert.FinishReferenceIdeal.nD Cert.FinishReferenceIdeal.τ).loc Cert.FinishReferenceIdeal.main_arg4) = m' ((c.tc : Thread Cert.FinishReferenceIdeal.nD Cert.FinishReferenceIdeal.τ).loc Cert.FinishReferenceIdeal.main_arg4)
          ∧ r.2.mem ((c.tc : Thread Cert.FinishReferenceIdeal.nD Cert.FinishReferenceIdeal.τ).loc Cert.FinishReferenceIdeal.main_arg5) = m' ((c.tc : Thread Cert.FinishReferenceIdeal.nD Cert.FinishReferenceIdeal.τ).loc Cert.FinishReferenceIdeal.main_arg5)
          ∧ r.2.mem ((c.tc : Thread Cert.FinishReferenceIdeal.nD Cert.FinishReferenceIdeal.τ).loc Cert.FinishReferenceIdeal.main_arg6) = m' ((c.tc : Thread Cert.FinishReferenceIdeal.nD Cert.FinishReferenceIdeal.τ).loc Cert.FinishReferenceIdeal.main_arg6)
          ∧ r.2.mem ((c.tc : Thread Cert.FinishReferenceIdeal.nD Cert.FinishReferenceIdeal.τ).loc Cert.FinishReferenceIdeal.main_arg7) = m' ((c.tc : Thread Cert.FinishReferenceIdeal.nD Cert.FinishReferenceIdeal.τ).loc Cert.FinishReferenceIdeal.main_arg7)
          ∧ r.2.mem ((c.tc : Thread Cert.FinishReferenceIdeal.nD Cert.FinishReferenceIdeal.τ).loc Cert.FinishReferenceIdeal.main_arg8) = m' ((c.tc : Thread Cert.FinishReferenceIdeal.nD Cert.FinishReferenceIdeal.τ).loc Cert.FinishReferenceIdeal.main_arg8)
          ∧ r.2.mem ((c.tc : Thread Cert.FinishReferenceIdeal.nD Cert.FinishReferenceIdeal.τ).loc Cert.FinishReferenceIdeal.main_arg9) = m' ((c.tc : Thread Cert.FinishReferenceIdeal.nD Cert.FinishReferenceIdeal.τ).loc Cert.FinishReferenceIdeal.main_arg9))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hCombine : Cert.Combine.Facts) (hCombineIdeal : Cert.CombineIdeal.Facts) (hCombineReferenceIdeal : Cert.CombineReferenceIdeal.Facts) (hMiddle : Cert.Middle.Facts) (hMiddleIdeal : Cert.MiddleIdeal.Facts) (hMiddleReferenceIdeal : Cert.MiddleReferenceIdeal.Facts) (hFinish : Cert.Finish.Facts) (hFinishIdeal : Cert.FinishIdeal.Facts) (hFinishReferenceIdeal : Cert.FinishReferenceIdeal.Facts) (hPre_nodes : Cert.Pre_nodes.Facts) (hPre_unclamped : Cert.Pre_unclamped.Facts) (hPre_finite_edges : Cert.Pre_finite_edges.Facts) (hPre_unclamped_loops : Cert.Pre_unclamped_loops.Facts),
    quiescent_Kernel (hKernel := hKernel) (hPre_nodes := hPre_nodes)
    ∧ quiescent_KernelIdeal (hKernelIdeal := hKernelIdeal) (hPre_nodes := hPre_nodes)
    ∧ quiescent_KernelIdeal_pre_unclamped (hKernelIdeal := hKernelIdeal) (hPre_unclamped := hPre_unclamped)
    ∧ quiescent_ReferenceIdeal (hReferenceIdeal := hReferenceIdeal)
    ∧ quiescent_ReferenceIdeal_pre_unclamped (hReferenceIdeal := hReferenceIdeal) (hPre_unclamped := hPre_unclamped)
    ∧ quiescent_Project (hProject := hProject)
    ∧ quiescent_ProjectIdeal (hProjectIdeal := hProjectIdeal)
    ∧ quiescent_ProjectIdeal_pre_finite_edges (hProjectIdeal := hProjectIdeal) (hPre_finite_edges := hPre_finite_edges)
    ∧ quiescent_ProjectReferenceIdeal (hProjectReferenceIdeal := hProjectReferenceIdeal)
    ∧ quiescent_ProjectReferenceIdeal_pre_finite_edges (hProjectReferenceIdeal := hProjectReferenceIdeal) (hPre_finite_edges := hPre_finite_edges)
    ∧ quiescent_Combine (hCombine := hCombine)
    ∧ quiescent_CombineIdeal (hCombineIdeal := hCombineIdeal)
    ∧ quiescent_CombineReferenceIdeal (hCombineReferenceIdeal := hCombineReferenceIdeal)
    ∧ quiescent_Middle (hMiddle := hMiddle)
    ∧ quiescent_MiddleIdeal (hMiddleIdeal := hMiddleIdeal)
    ∧ quiescent_MiddleIdeal_pre_unclamped_loops (hMiddleIdeal := hMiddleIdeal) (hPre_unclamped_loops := hPre_unclamped_loops)
    ∧ quiescent_MiddleReferenceIdeal (hMiddleReferenceIdeal := hMiddleReferenceIdeal)
    ∧ quiescent_MiddleReferenceIdeal_pre_unclamped_loops (hMiddleReferenceIdeal := hMiddleReferenceIdeal) (hPre_unclamped_loops := hPre_unclamped_loops)
    ∧ quiescent_Finish (hFinish := hFinish)
    ∧ quiescent_FinishIdeal (hFinishIdeal := hFinishIdeal)
    ∧ quiescent_FinishReferenceIdeal (hFinishReferenceIdeal := hFinishReferenceIdeal)
    ∧ preserves_Kernel_KernelIdeal
    ∧ algebraic_KernelIdeal_ReferenceIdeal_pre_unclamped (hKernelIdeal := hKernelIdeal) (hReferenceIdeal := hReferenceIdeal) (hPre_unclamped := hPre_unclamped)
    ∧ preserves_Project_ProjectIdeal
    ∧ algebraic_ProjectIdeal_ProjectReferenceIdeal_pre_finite_edges (hProjectIdeal := hProjectIdeal) (hProjectReferenceIdeal := hProjectReferenceIdeal) (hPre_finite_edges := hPre_finite_edges)
    ∧ preserves_Combine_CombineIdeal
    ∧ algebraic_CombineIdeal_CombineReferenceIdeal (hCombineIdeal := hCombineIdeal) (hCombineReferenceIdeal := hCombineReferenceIdeal)
    ∧ preserves_Middle_MiddleIdeal
    ∧ algebraic_MiddleIdeal_MiddleReferenceIdeal_pre_unclamped_loops (hMiddleIdeal := hMiddleIdeal) (hMiddleReferenceIdeal := hMiddleReferenceIdeal) (hPre_unclamped_loops := hPre_unclamped_loops)
    ∧ preserves_Finish_FinishIdeal
    ∧ algebraic_FinishIdeal_FinishReferenceIdeal (hFinishIdeal := hFinishIdeal) (hFinishReferenceIdeal := hFinishReferenceIdeal)
-- ==== Pre_finite_edges.lean ====
abbrev S50000x2 : Shape := ⟨2, ![50000, 2]⟩
abbrev S800000x2 : Shape := ⟨2, ![800000, 2]⟩
abbrev S2x64 : Shape := ⟨2, ![2, 64]⟩
abbrev S64 : Shape := ⟨1, ![64]⟩
abbrev S_ : Shape := ⟨0, ![]⟩

class Facts : Prop where
  bcast_S_S800000x2 : S_.BroadcastsInDim S800000x2 (![] : Fin 0 → Fin S800000x2.rank)
  reducesTo_S800000x2_S_d0_1 : S800000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg8 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x2 .f32) (main_arg1 : FVec F S800000x2 .f32) (main_arg2 : FVec F S2x64 .f32) (main_arg3 : FVec F S64 .f32) (main_arg4 : FVec F S64 .f32) (main_arg5 : FVec F S2x64 .f32) (main_arg6 : FVec F S64 .f32) (main_arg7 : FVec F S2x64 .f32) (main_arg8 : FVec F S64 .f32) : IVec S_ 1 :=
  let main_v0 : FVec F S800000x2 .f32 := Host.absf main_arg1
  let main_cst : FVec F S_ .f32 := constant S_ .f32 0x7F800000#32
  let main_v1 : FVec F S800000x2 .f32 := broadcastInDim S800000x2 ![] bcast_S_S800000x2 main_cst
  let main_v2 : IVec S800000x2 1 := cmpf .olt main_v0 main_v1
  let main_c : IVec S_ 1 := constantI S_ 1 1#1
  let main_v3 : IVec S_ 1 := (fun x v => Host.reduce IntOp.andi x v reducesTo_S800000x2_S_d0_1 h_S_) main_v2 main_c
  let main_v4 : FVec F S2x64 .f32 := Host.absf main_arg5
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64 .f32 := Host.absf main_arg7
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg8 main_v13 main_v16
-- ==== Pre_nodes.lean ====
abbrev S2x800000 : Shape := ⟨2, ![2, 800000]⟩
abbrev S800000 : Shape := ⟨1, ![800000]⟩
abbrev S50000 : Shape := ⟨1, ![50000]⟩
abbrev S50000x64 : Shape := ⟨2, ![50000, 64]⟩
abbrev S_ : Shape := ⟨0, ![]⟩

class Facts : Prop where
  bcast_S_S2x800000 : S_.BroadcastsInDim S2x800000 (![] : Fin 0 → Fin S2x800000.rank)
  reducesTo_S2x800000_S_d0_1 : S2x800000.ReducesTo [0, 1] S_
  h_S_ : 0 < S_.numel

variable [Facts]

def fn {F : FTy → Type} [FloatOps F] (main_arg0 : IVec S2x800000 32) (main_arg1 : FVec F S800000 .f32) (main_arg2 : FVec F S800000 .f32) (main_arg3 : FVec F S50000 .f32) (main_arg4 : FVec F S50000 .f32) (main_arg5 : FVec F S50000x64 .f32) (main_arg6 : FVec F S50000 .f32) (main_arg7 : FVec F S50000 .f32) (main_arg8 : FVec F S50000x64 .f32) : IVec S_ 1 :=
  let main_c : IVec S_ 32 := constantI S_ 32 0#32
  let main_v0 : IVec S2x800000 32 := broadcastInDim S2x800000 ![] bcast_S_S2x800000 main_c
  let main_v1 : IVec S2x800000 1 := cmpi .sge main_arg0 main_v0
  let main_c_0 : IVec S_ 32 := constantI S_ 32 50000#32
  let main_v2 : IVec S2x800000 32 := broadcastInDim S2x800000 ![] bcast_S_S2x800000 main_c_0
  let main_v3 : IVec S2x800000 1 := cmpi .slt main_arg0 main_v2
  let main_v4 : IVec S2x800000 1 := andi main_v1 main_v3
  let main_c_1 : IVec S_ 1 := constantI S_ 1 1#1
  let main_v5 : IVec S_ 1 := (fun x v => Host.reduce IntOp.andi x v reducesTo_S2x800000_S_d0_1 h_S_) main_v4 main_c_1
  main_v5
-- ==== Pre_unclamped.lean ====
abbrev S2x800000 : Shape := ⟨2, ![2, 800000]⟩
abbrev S800000 : Shape := ⟨1, ![800000]⟩
abbrev S50000 : Shape := ⟨1, ![50000]⟩
abbrev S50000x64 : Shape := ⟨2, ![50000, 64]⟩
abbrev S1x800000 : Shape := ⟨2, ![1, 800000]⟩
abbrev S_ : Shape := ⟨0, ![]⟩
abbrev S800000x1 : Shape := ⟨2, ![800000, 1]⟩

class Facts : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S2x800000 : S_.BroadcastsInDim S2x800000 (![] : Fin 0 → Fin S2x800000.rank)
  reducesTo_S2x800000_S_d0_1 : S2x800000.ReducesTo [0, 1] S_
  h_S_ : 0 < S_.numel
  bcast_S_S800000 : S_.BroadcastsInDim S800000 (![] : Fin 0 → Fin S800000.rank)
  bcast_S800000_S800000x1_0 : S800000.BroadcastsInDim S800000x1 (![0] : Fin 1 → Fin S800000x1.rank)
  reducesTo_S800000_S_d0 : S800000.ReducesTo [0] S_
  gather_S50000_S800000x1_S800000_n_0_n_n_0_1_1_wf : GatherDims.WF S50000 S800000x1 S800000 [] [0] [] [0] [] 1 ![1]

variable [Facts]

def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def fn_part2 {F : FTy → Type} [FloatOps F] (main_arg2 : FVec F S800000 .f32) (main_arg7 : FVec F S50000 .f32) (main_v3 : IVec S800000 32) (main_v29 : IVec S_ 1) (main_v36 : FVec F S800000 .f32) : IVec S_ 1 :=
  let main_c_9 : IVec S_ 32 := constantI S_ 32 0#32
  let main_v37 : IVec S800000 32 := broadcastInDim S800000 ![] bcast_S_S800000 main_c_9
  let main_v38 : IVec S800000 1 := cmpi .slt main_v3 main_v37
  let main_c_10 : IVec S_ 32 := constantI S_ 32 50000#32
  let main_v39 : IVec S800000 32 := broadcastInDim S800000 ![] bcast_S_S800000 main_c_10
  let main_v40 : IVec S800000 32 := addi main_v3 main_v39
  let main_v41 : IVec S800000 32 := select main_v38 main_v40 main_v3
  let main_v42 : IVec S800000x1 32 := broadcastInDim S800000x1 ![0] bcast_S800000_S800000x1_0 main_v41
  let main_v43 : FVec F S800000 .f32 := (fun x i => Host.gather gather_S50000_S800000x1_S800000_n_0_n_n_0_1_1 x i) main_arg7 main_v42
  let main_v44 : FVec F S800000 .f32 := addf main_v36 main_v43
  let main_v45 : FVec F S800000 .f32 := addf main_v44 main_arg2
  let main_cst_11 : FVec F S_ .f32 := constant S_ .f32 0x42700000#32
  let main_v46 : FVec F S800000 .f32 := broadcastInDim S800000 ![] bcast_S_S800000 main_cst_11
  let main_v47 : IVec S800000 1 := cmpf .ole main_v45 main_v46
  let main_c_12 : IVec S_ 1 := constantI S_ 1 1#1
  let main_v48 : IVec S_ 1 := (fun x v => Host.reduce IntOp.andi x v reducesTo_S800000_S_d0 h_S_) main_v47 main_c_12
  let main_v49 : IVec S_ 1 := andi main_v29 main_v48
  main_v49

def fn_part1 {F : FTy → Type} [FloatOps F] (main_arg1 : FVec F S800000 .f32) (main_arg2 : FVec F S800000 .f32) (main_arg4 : FVec F S50000 .f32) (main_arg6 : FVec F S50000 .f32) (main_arg7 : FVec F S50000 .f32) (main_v1 : IVec S800000 32) (main_v3 : IVec S800000 32) (main_v9 : IVec S_ 1) (main_v16 : FVec F S800000 .f32) (main_v17 : IVec S800000 32) : IVec S_ 1 :=
  let main_v18 : IVec S800000 1 := cmpi .slt main_v3 main_v17
  let main_c_5 : IVec S_ 32 := constantI S_ 32 50000#32
  let main_v19 : IVec S800000 32 := broadcastInDim S800000 ![] bcast_S_S800000 main_c_5
  let main_v20 : IVec S800000 32 := addi main_v3 main_v19
  let main_v21 : IVec S800000 32 := select main_v18 main_v20 main_v3
  let main_v22 : IVec S800000x1 32 := broadcastInDim S800000x1 ![0] bcast_S800000_S800000x1_0 main_v21
  let main_v23 : FVec F S800000 .f32 := (fun x i => Host.gather gather_S50000_S800000x1_S800000_n_0_n_n_0_1_1 x i) main_arg4 main_v22
  let main_v24 : FVec F S800000 .f32 := addf main_v16 main_v23
  let main_v25 : FVec F S800000 .f32 := addf main_v24 main_arg1
  let main_cst : FVec F S_ .f32 := constant S_ .f32 0x42700000#32
  let main_v26 : FVec F S800000 .f32 := broadcastInDim S800000 ![] bcast_S_S800000 main_cst
  let main_v27 : IVec S800000 1 := cmpf .ole main_v25 main_v26
  let main_c_6 : IVec S_ 1 := constantI S_ 1 1#1
  let main_v28 : IVec S_ 1 := (fun x v => Host.reduce IntOp.andi x v reducesTo_S800000_S_d0 h_S_) main_v27 main_c_6
  let main_v29 : IVec S_ 1 := andi main_v9 main_v28
  let main_c_7 : IVec S_ 32 := constantI S_ 32 0#32
  let main_v30 : IVec S800000 32 := broadcastInDim S800000 ![] bcast_S_S800000 main_c_7
  let main_v31 : IVec S800000 1 := cmpi .slt main_v1 main_v30
  let main_c_8 : IVec S_ 32 := constantI S_ 32 50000#32
  let main_v32 : IVec S800000 32 := broadcastInDim S800000 ![] bcast_S_S800000 main_c_8
  let main_v33 : IVec S800000 32 := addi main_v1 main_v32
  let main_v34 : IVec S800000 32 := select main_v31 main_v33 main_v1
  let main_v35 : IVec S800000x1 32 := broadcastInDim S800000x1 ![0] bcast_S800000_S800000x1_0 main_v34
  let main_v36 : FVec F S800000 .f32 := (fun x i => Host.gather gather_S50000_S800000x1_S800000_n_0_n_n_0_1_1 x i) main_arg6 main_v35
  fn_part2 (F := F) main_arg2 main_arg7 main_v3 main_v29 main_v36

def fn {F : FTy → Type} [FloatOps F] (main_arg0 : IVec S2x800000 32) (main_arg1 : FVec F S800000 .f32) (main_arg2 : FVec F S800000 .f32) (main_arg3 : FVec F S50000 .f32) (main_arg4 : FVec F S50000 .f32) (main_arg5 : FVec F S50000x64 .f32) (main_arg6 : FVec F S50000 .f32) (main_arg7 : FVec F S50000 .f32) (main_arg8 : FVec F S50000x64 .f32) : IVec S_ 1 :=
  let main_v0 : IVec S1x800000 32 := (extractStridedSlice S1x800000 ![0, 0] · slices_S2x800000_S1x800000_0_0) main_arg0
  let main_v1 : IVec S800000 32 := shapeCast S800000 main_v0 shapeCasts_S1x800000_S800000
  let main_v2 : IVec S1x800000 32 := (extractStridedSlice S1x800000 ![1, 0] · slices_S2x800000_S1x800000_1_0) main_arg0
  let main_v3 : IVec S800000 32 := shapeCast S800000 main_v2 shapeCasts_S1x800000_S800000
  let main_c : IVec S_ 32 := constantI S_ 32 0#32
  let main_v4 : IVec S2x800000 32 := broadcastInDim S2x800000 ![] bcast_S_S2x800000 main_c
  let main_v5 : IVec S2x800000 1 := cmpi .sge main_arg0 main_v4
  let main_c_0 : IVec S_ 32 := constantI S_ 32 50000#32
  let main_v6 : IVec S2x800000 32 := broadcastInDim S2x800000 ![] bcast_S_S2x800000 main_c_0
  let main_v7 : IVec S2x800000 1 := cmpi .slt main_arg0 main_v6
  let main_v8 : IVec S2x800000 1 := andi main_v5 main_v7
  let main_c_1 : IVec S_ 1 := constantI S_ 1 1#1
  let main_v9 : IVec S_ 1 := (fun x v => Host.reduce IntOp.andi x v reducesTo_S2x800000_S_d0_1 h_S_) main_v8 main_c_1
  let main_c_2 : IVec S_ 32 := constantI S_ 32 0#32
  let main_v10 : IVec S800000 32 := broadcastInDim S800000 ![] bcast_S_S800000 main_c_2
  let main_v11 : IVec S800000 1 := cmpi .slt main_v1 main_v10
  let main_c_3 : IVec S_ 32 := constantI S_ 32 50000#32
  let main_v12 : IVec S800000 32 := broadcastInDim S800000 ![] bcast_S_S800000 main_c_3
  let main_v13 : IVec S800000 32 := addi main_v1 main_v12
  let main_v14 : IVec S800000 32 := select main_v11 main_v13 main_v1
  let main_v15 : IVec S800000x1 32 := broadcastInDim S800000x1 ![0] bcast_S800000_S800000x1_0 main_v14
  let main_v16 : FVec F S800000 .f32 := (fun x i => Host.gather gather_S50000_S800000x1_S800000_n_0_n_n_0_1_1 x i) main_arg3 main_v15
  let main_c_4 : IVec S_ 32 := constantI S_ 32 0#32
  let main_v17 : IVec S800000 32 := broadcastInDim S800000 ![] bcast_S_S800000 main_c_4
  fn_part1 (F := F) main_arg1 main_arg2 main_arg4 main_arg6 main_arg7 main_v1 main_v3 main_v9 main_v16 main_v17
-- ==== Pre_unclamped_loops.lean ====
abbrev S50176 : Shape := ⟨1, ![50176]⟩
abbrev S50176x64 : Shape := ⟨2, ![50176, 64]⟩
abbrev S64 : Shape := ⟨1, ![64]⟩
abbrev S64x64 : Shape := ⟨2, ![64, 64]⟩
abbrev S_ : Shape := ⟨0, ![]⟩
abbrev S50176x1 : Shape := ⟨2, ![50176, 1]⟩
abbrev S1x64 : Shape := ⟨2, ![1, 64]⟩
abbrev S50000x64 : Shape := ⟨2, ![50000, 64]⟩

class Facts : Prop where
  bcast_S_S50176 : S_.BroadcastsInDim S50176 (![] : Fin 0 → Fin S50176.rank)
  bcast_S50176_S50176x1_0 : S50176.BroadcastsInDim S50176x1 (![0] : Fin 1 → Fin S50176x1.rank)
  bcast_S50176x1_S50176x64_0_1 : S50176x1.BroadcastsInDim S50176x64 (![0, 1] : Fin 2 → Fin S50176x64.rank)
  bcast_S64_S1x64_1 : S64.BroadcastsInDim S1x64 (![1] : Fin 1 → Fin S1x64.rank)
  bcast_S1x64_S50176x64_0_1 : S1x64.BroadcastsInDim S50176x64 (![0, 1] : Fin 2 → Fin S50176x64.rank)
  slices_S50176x64_S50000x64_0_0 : S50176x64.Slices ![0, 0] S50000x64
  reducesTo_S50000x64_S64_d0 : S50000x64.ReducesTo [0] S64
  h_S_ : 0 < S_.numel
  bcast_S_S64 : S_.BroadcastsInDim S64 (![] : Fin 0 → Fin S64.rank)
  bcast_S1x64_S50000x64_0_1 : S1x64.BroadcastsInDim S50000x64 (![0, 1] : Fin 2 → Fin S50000x64.rank)
  bcast_S_S50176x64 : S_.BroadcastsInDim S50176x64 (![] : Fin 0 → Fin S50176x64.rank)
  reducesTo_S50176_S_d0 : S50176.ReducesTo [0] S_
  dot_S50176x64_S64x64_S50176x64_1_0_0_1_n_n_wf : DotDims.WF S50176x64 S64x64 S50176x64 [1] [0] [0] [1] [] []
  dot_S50176x64_S64_S50176_1_0_0_n_n_n_wf : DotDims.WF S50176x64 S64 S50176 [1] [0] [0] [] [] []

variable [Facts]

def dot_S50176x64_S64x64_S50176x64_1_0_0_1_n_n : DotDims S50176x64 S64x64 S50176x64 where
  lhsContracting := [1]
  rhsContracting := [0]
  lhsNonContracting := [0]
  rhsNonContracting := [1]
  lhsBatch := []
  rhsBatch := []
  wf := dot_S50176x64_S64x64_S50176x64_1_0_0_1_n_n_wf
def dot_S50176x64_S64_S50176_1_0_0_n_n_n : DotDims S50176x64 S64 S50176 where
  lhsContracting := [1]
  rhsContracting := [0]
  lhsNonContracting := [0]
  rhsNonContracting := []
  lhsBatch := []
  rhsBatch := []
  wf := dot_S50176x64_S64_S50176_1_0_0_n_n_n_wf
def fn_where {F : FTy → Type} [FloatOps F] (arg0 : IVec S50176 1) (arg1 : FVec F S50176 .f32) (arg2 : FVec F S_ .f32) : FVec F S50176 .f32 :=
  let v0 : FVec F S_ .f32 := id arg2
  let v1 : FVec F S50176 .f32 := broadcastInDim S50176 ![] bcast_S_S50176 v0
  let v2 : FVec F S50176 .f32 := select arg0 arg1 v1
  v2

def fn_where_0 {F : FTy → Type} [FloatOps F] (arg0 : IVec S50176 1) (arg1 : FVec F S50176 .f32) (arg2 : FVec F S50176 .f32) : FVec F S50176 .f32 :=
  let v0 : FVec F S50176 .f32 := select arg0 arg1 arg2
  v0

def fn_where_1 {F : FTy → Type} [FloatOps F] (arg0 : IVec S50176x64 1) (arg1 : FVec F S50176x64 .f32) (arg2 : FVec F S50176x64 .f32) : FVec F S50176x64 .f32 :=
  let v0 : FVec F S50176x64 .f32 := select arg0 arg1 arg2
  v0

def fn_part5 {F : FTy → Type} [FloatOps F] (main_v77 : IVec S_ 1) (main_v92 : IVec S50176 1) (main_c_24 : IVec S_ 1) : IVec S_ 1 :=
  let main_v93 : IVec S_ 1 := (fun x v => Host.reduce IntOp.andi x v reducesTo_S50176_S_d0 h_S_) main_v92 main_c_24
  let main_v94 : IVec S_ 1 := andi main_v77 main_v93
  main_v94

def fn_part4 {F : FTy → Type} [FloatOps F] (main_arg0 : FVec F S50176 .f32) (main_arg2 : FVec F S50176 .f32) (main_v60 : FVec F S50176 .f32) (main_v61 : FVec F S50176 .f32) (main_v76 : IVec S50176 1) : IVec S_ 1 :=
  let main_c : IVec S_ 1 := constantI S_ 1 1#1
  let main_v77 : IVec S_ 1 := (fun x v => Host.reduce IntOp.andi x v reducesTo_S50176_S_d0 h_S_) main_v76 main_c
  let main_v78 : FVec F S50176 .f32 := addf main_v60 main_v61
  let main_cst_18 : FVec F S_ .f32 := constant S_ .f32 0x00000000#32
  let main_v79 : FVec F S50176 .f32 := broadcastInDim S50176 ![] bcast_S_S50176 main_cst_18
  let main_v80 : IVec S50176 1 := cmpf .ogt main_arg0 main_v79
  let main_cst_19 : FVec F S_ .f32 := constant S_ .f32 0x3F800000#32
  let main_v81 : FVec F S50176 .f32 := broadcastInDim S50176 ![] bcast_S_S50176 main_cst_19
  let main_v82 : FVec F S50176 .f32 := maximumf main_arg0 main_v81
  let main_v83 : FVec F S50176 .f32 := Host.divf main_arg2 main_v82
  let main_cst_20 : FVec F S_ .f32 := constant S_ .f32 0x00000000#32
  let main_v84 : FVec F S50176 .f32 := fn_where (F := F) main_v80 main_v83 main_cst_20
  let main_v85 : FVec F S50176 .f32 := addf main_v78 main_v84
  let main_cst_21 : FVec F S_ .f32 := constant S_ .f32 0x00000000#32
  let main_v86 : FVec F S50176 .f32 := broadcastInDim S50176 ![] bcast_S_S50176 main_cst_21
  let main_v87 : IVec S50176 1 := cmpf .ogt main_v85 main_v86
  let main_cst_22 : FVec F S_ .f32 := constant S_ .f32 0x3E4CCCCD#32
  let main_v88 : FVec F S50176 .f32 := broadcastInDim S50176 ![] bcast_S_S50176 main_cst_22
  let main_v89 : FVec F S50176 .f32 := mulf main_v88 main_v85
  let main_v90 : FVec F S50176 .f32 := fn_where_0 (F := F) main_v87 main_v85 main_v89
  let main_cst_23 : FVec F S_ .f32 := constant S_ .f32 0x42700000#32
  let main_v91 : FVec F S50176 .f32 := broadcastInDim S50176 ![] bcast_S_S50176 main_cst_23
  let main_v92 : IVec S50176 1 := cmpf .ole main_v90 main_v91
  let main_c_24 : IVec S_ 1 := constantI S_ 1 1#1
  fn_part5 (F := F) main_v77 main_v92 main_c_24

def fn_part3 {F : FTy → Type} [FloatOps F] (main_arg0 : FVec F S50176 .f32) (main_arg1 : FVec F S50176 .f32) (main_arg2 : FVec F S50176 .f32) (main_arg4 : FVec F S50176 .f32) (main_arg5 : FVec F S50176 .f32) (main_arg11 : FVec F S64x64 .f32) (main_arg12 : FVec F S64 .f32) (main_arg13 : FVec F S64 .f32) (main_v58 : FVec F S50176x64 .f32) : IVec S_ 1 :=
  let main_v59 : FVec F S50176x64 .f32 := (fun l r => Host.dotGeneral dot_S50176x64_S64x64_S50176x64_1_0_0_1_n_n none l r) main_v58 main_arg11
  let main_v60 : FVec F S50176 .f32 := (fun l r => Host.dotGeneral dot_S50176x64_S64_S50176_1_0_0_n_n_n none l r) main_v59 main_arg12
  let main_v61 : FVec F S50176 .f32 := (fun l r => Host.dotGeneral dot_S50176x64_S64_S50176_1_0_0_n_n_n none l r) main_v59 main_arg13
  let main_v62 : FVec F S50176 .f32 := addf main_arg4 main_arg5
  let main_cst_12 : FVec F S_ .f32 := constant S_ .f32 0x00000000#32
  let main_v63 : FVec F S50176 .f32 := broadcastInDim S50176 ![] bcast_S_S50176 main_cst_12
  let main_v64 : IVec S50176 1 := cmpf .ogt main_arg0 main_v63
  let main_cst_13 : FVec F S_ .f32 := constant S_ .f32 0x3F800000#32
  let main_v65 : FVec F S50176 .f32 := broadcastInDim S50176 ![] bcast_S_S50176 main_cst_13
  let main_v66 : FVec F S50176 .f32 := maximumf main_arg0 main_v65
  let main_v67 : FVec F S50176 .f32 := Host.divf main_arg1 main_v66
  let main_cst_14 : FVec F S_ .f32 := constant S_ .f32 0x00000000#32
  let main_v68 : FVec F S50176 .f32 := fn_where (F := F) main_v64 main_v67 main_cst_14
  let main_v69 : FVec F S50176 .f32 := addf main_v62 main_v68
  let main_cst_15 : FVec F S_ .f32 := constant S_ .f32 0x00000000#32
  let main_v70 : FVec F S50176 .f32 := broadcastInDim S50176 ![] bcast_S_S50176 main_cst_15
  let main_v71 : IVec S50176 1 := cmpf .ogt main_v69 main_v70
  let main_cst_16 : FVec F S_ .f32 := constant S_ .f32 0x3E4CCCCD#32
  let main_v72 : FVec F S50176 .f32 := broadcastInDim S50176 ![] bcast_S_S50176 main_cst_16
  let main_v73 : FVec F S50176 .f32 := mulf main_v72 main_v69
  let main_v74 : FVec F S50176 .f32 := fn_where_0 (F := F) main_v71 main_v69 main_v73
  let main_cst_17 : FVec F S_ .f32 := constant S_ .f32 0x42700000#32
  let main_v75 : FVec F S50176 .f32 := broadcastInDim S50176 ![] bcast_S_S50176 main_cst_17
  let main_v76 : IVec S50176 1 := cmpf .ole main_v74 main_v75
  fn_part4 (F := F) main_arg0 main_arg2 main_v60 main_v61 main_v76

def fn_part2 {F : FTy → Type} [FloatOps F] (main_arg0 : FVec F S50176 .f32) (main_arg1 : FVec F S50176 .f32) (main_arg2 : FVec F S50176 .f32) (main_arg4 : FVec F S50176 .f32) (main_arg5 : FVec F S50176 .f32) (main_arg9 : FVec F S64 .f32) (main_arg10 : FVec F S64 .f32) (main_arg11 : FVec F S64x64 .f32) (main_arg12 : FVec F S64 .f32) (main_arg13 : FVec F S64 .f32) (main_v26 : FVec F S50176x64 .f32) (main_v30 : FVec F S64 .f32) (main_v36 : FVec F S64 .f32) (main_v37 : FVec F S64 .f32) : IVec S_ 1 :=
  let main_v38 : FVec F S64 .f32 := Host.divf main_v36 main_v37
  let main_v39 : FVec F S1x64 .f32 := broadcastInDim S1x64 ![1] bcast_S64_S1x64_1 main_v30
  let main_v40 : FVec F S50176x64 .f32 := broadcastInDim S50176x64 ![0, 1] bcast_S1x64_S50176x64_0_1 main_v39
  let main_v41 : FVec F S50176x64 .f32 := subf main_v26 main_v40
  let main_v42 : FVec F S1x64 .f32 := broadcastInDim S1x64 ![1] bcast_S64_S1x64_1 main_arg9
  let main_v43 : FVec F S50176x64 .f32 := broadcastInDim S50176x64 ![0, 1] bcast_S1x64_S50176x64_0_1 main_v42
  let main_v44 : FVec F S50176x64 .f32 := mulf main_v43 main_v41
  let main_cst_9 : FVec F S_ .f32 := constant S_ .f32 0x3727C5AC#32
  let main_v45 : FVec F S64 .f32 := broadcastInDim S64 ![] bcast_S_S64 main_cst_9
  let main_v46 : FVec F S64 .f32 := addf main_v38 main_v45
  let main_v47 : FVec F S64 .f32 := Host.sqrt main_v46
  let main_v48 : FVec F S1x64 .f32 := broadcastInDim S1x64 ![1] bcast_S64_S1x64_1 main_v47
  let main_v49 : FVec F S50176x64 .f32 := broadcastInDim S50176x64 ![0, 1] bcast_S1x64_S50176x64_0_1 main_v48
  let main_v50 : FVec F S50176x64 .f32 := Host.divf main_v44 main_v49
  let main_v51 : FVec F S1x64 .f32 := broadcastInDim S1x64 ![1] bcast_S64_S1x64_1 main_arg10
  let main_v52 : FVec F S50176x64 .f32 := broadcastInDim S50176x64 ![0, 1] bcast_S1x64_S50176x64_0_1 main_v51
  let main_v53 : FVec F S50176x64 .f32 := addf main_v50 main_v52
  let main_cst_10 : FVec F S_ .f32 := constant S_ .f32 0x00000000#32
  let main_v54 : FVec F S50176x64 .f32 := broadcastInDim S50176x64 ![] bcast_S_S50176x64 main_cst_10
  let main_v55 : IVec S50176x64 1 := cmpf .ogt main_v53 main_v54
  let main_cst_11 : FVec F S_ .f32 := constant S_ .f32 0x3C23D70A#32
  let main_v56 : FVec F S50176x64 .f32 := broadcastInDim S50176x64 ![] bcast_S_S50176x64 main_cst_11
  let main_v57 : FVec F S50176x64 .f32 := mulf main_v56 main_v53
  let main_v58 : FVec F S50176x64 .f32 := fn_where_1 (F := F) main_v55 main_v53 main_v57
  fn_part3 (F := F) main_arg0 main_arg1 main_arg2 main_arg4 main_arg5 main_arg11 main_arg12 main_arg13 main_v58

def fn_part1 {F : FTy → Type} [FloatOps F] (main_arg0 : FVec F S50176 .f32) (main_arg1 : FVec F S50176 .f32) (main_arg2 : FVec F S50176 .f32) (main_arg4 : FVec F S50176 .f32) (main_arg5 : FVec F S50176 .f32) (main_arg8 : FVec F S64 .f32) (main_arg9 : FVec F S64 .f32) (main_arg10 : FVec F S64 .f32) (main_arg11 : FVec F S64x64 .f32) (main_arg12 : FVec F S64 .f32) (main_arg13 : FVec F S64 .f32) (main_v17 : FVec F S50176x64 .f32) (main_v18 : FVec F S50176 .f32) : IVec S_ 1 :=
  let main_cst_4 : FVec F S_ .f32 := constant S_ .f32 0x24E69595#32
  let main_v19 : FVec F S50176 .f32 := broadcastInDim S50176 ![] bcast_S_S50176 main_cst_4
  let main_v20 : FVec F S50176 .f32 := addf main_v18 main_v19
  let main_v21 : FVec F S50176x1 .f32 := broadcastInDim S50176x1 ![0] bcast_S50176_S50176x1_0 main_v20
  let main_v22 : FVec F S50176x64 .f32 := broadcastInDim S50176x64 ![0, 1] bcast_S50176x1_S50176x64_0_1 main_v21
  let main_v23 : FVec F S50176x64 .f32 := Host.divf main_v17 main_v22
  let main_v24 : FVec F S1x64 .f32 := broadcastInDim S1x64 ![1] bcast_S64_S1x64_1 main_arg8
  let main_v25 : FVec F S50176x64 .f32 := broadcastInDim S50176x64 ![0, 1] bcast_S1x64_S50176x64_0_1 main_v24
  let main_v26 : FVec F S50176x64 .f32 := addf main_v23 main_v25
  let main_v27 : FVec F S50000x64 .f32 := (extractStridedSlice S50000x64 ![0, 0] · slices_S50176x64_S50000x64_0_0) main_v26
  let main_cst_5 : FVec F S_ .f32 := constant S_ .f32 0x00000000#32
  let main_v28 : FVec F S64 .f32 := (fun x v => Host.reduceAdd x v reducesTo_S50000x64_S64_d0 h_S_) main_v27 main_cst_5
  let main_cst_6 : FVec F S_ .f32 := constant S_ .f32 0x47435000#32
  let main_v29 : FVec F S64 .f32 := broadcastInDim S64 ![] bcast_S_S64 main_cst_6
  let main_v30 : FVec F S64 .f32 := Host.divf main_v28 main_v29
  let main_v31 : FVec F S50000x64 .f32 := (extractStridedSlice S50000x64 ![0, 0] · slices_S50176x64_S50000x64_0_0) main_v26
  let main_v32 : FVec F S1x64 .f32 := broadcastInDim S1x64 ![1] bcast_S64_S1x64_1 main_v30
  let main_v33 : FVec F S50000x64 .f32 := broadcastInDim S50000x64 ![0, 1] bcast_S1x64_S50000x64_0_1 main_v32
  let main_v34 : FVec F S50000x64 .f32 := subf main_v31 main_v33
  let main_v35 : FVec F S50000x64 .f32 := mulf main_v34 main_v34
  let main_cst_7 : FVec F S_ .f32 := constant S_ .f32 0x00000000#32
  let main_v36 : FVec F S64 .f32 := (fun x v => Host.reduceAdd x v reducesTo_S50000x64_S64_d0 h_S_) main_v35 main_cst_7
  let main_cst_8 : FVec F S_ .f32 := constant S_ .f32 0x47435000#32
  let main_v37 : FVec F S64 .f32 := broadcastInDim S64 ![] bcast_S_S64 main_cst_8
  fn_part2 (F := F) main_arg0 main_arg1 main_arg2 main_arg4 main_arg5 main_arg9 main_arg10 main_arg11 main_arg12 main_arg13 main_v26 main_v30 main_v36 main_v37

def fn {F : FTy → Type} [FloatOps F] (main_arg0 : FVec F S50176 .f32) (main_arg1 : FVec F S50176 .f32) (main_arg2 : FVec F S50176 .f32) (main_arg3 : FVec F S50176 .f32) (main_arg4 : FVec F S50176 .f32) (main_arg5 : FVec F S50176 .f32) (main_arg6 : FVec F S50176x64 .f32) (main_arg7 : FVec F S50176x64 .f32) (main_arg8 : FVec F S64 .f32) (main_arg9 : FVec F S64 .f32) (main_arg10 : FVec F S64 .f32) (main_arg11 : FVec F S64x64 .f32) (main_arg12 : FVec F S64 .f32) (main_arg13 : FVec F S64 .f32) : IVec S_ 1 :=
  let main_v0 : FVec F S50176 .f32 := addf main_arg4 main_arg5
  let main_cst : FVec F S_ .f32 := constant S_ .f32 0x00000000#32
  let main_v1 : FVec F S50176 .f32 := broadcastInDim S50176 ![] bcast_S_S50176 main_cst
  let main_v2 : IVec S50176 1 := cmpf .ogt main_arg0 main_v1
  let main_cst_0 : FVec F S_ .f32 := constant S_ .f32 0x3F800000#32
  let main_v3 : FVec F S50176 .f32 := broadcastInDim S50176 ![] bcast_S_S50176 main_cst_0
  let main_v4 : FVec F S50176 .f32 := maximumf main_arg0 main_v3
  let main_v5 : FVec F S50176 .f32 := Host.divf main_arg1 main_v4
  let main_cst_1 : FVec F S_ .f32 := constant S_ .f32 0x00000000#32
  let main_v6 : FVec F S50176 .f32 := fn_where (F := F) main_v2 main_v5 main_cst_1
  let main_v7 : FVec F S50176 .f32 := addf main_v0 main_v6
  let main_cst_2 : FVec F S_ .f32 := constant S_ .f32 0x00000000#32
  let main_v8 : FVec F S50176 .f32 := broadcastInDim S50176 ![] bcast_S_S50176 main_cst_2
  let main_v9 : IVec S50176 1 := cmpf .ogt main_v7 main_v8
  let main_cst_3 : FVec F S_ .f32 := constant S_ .f32 0x3E4CCCCD#32
  let main_v10 : FVec F S50176 .f32 := broadcastInDim S50176 ![] bcast_S_S50176 main_cst_3
  let main_v11 : FVec F S50176 .f32 := mulf main_v10 main_v7
  let main_v12 : FVec F S50176 .f32 := fn_where_0 (F := F) main_v9 main_v7 main_v11
  let main_v13 : FVec F S50176 .f32 := Host.exp main_v12
  let main_v14 : FVec F S50176x1 .f32 := broadcastInDim S50176x1 ![0] bcast_S50176_S50176x1_0 main_v13
  let main_v15 : FVec F S50176x64 .f32 := broadcastInDim S50176x64 ![0, 1] bcast_S50176x1_S50176x64_0_1 main_v14
  let main_v16 : FVec F S50176x64 .f32 := mulf main_v15 main_arg7
  let main_v17 : FVec F S50176x64 .f32 := addf main_arg6 main_v16
  let main_v18 : FVec F S50176 .f32 := addf main_arg3 main_v13
  fn_part1 (F := F) main_arg0 main_arg1 main_arg2 main_arg4 main_arg5 main_arg8 main_arg9 main_arg10 main_arg11 main_arg12 main_arg13 main_v17 main_v18
-- ==== Kernel.lean ====
abbrev S2x800000 : Shape := ⟨2, ![2, 800000]⟩
abbrev S800000 : Shape := ⟨1, ![800000]⟩
abbrev S50000 : Shape := ⟨1, ![50000]⟩
abbrev S50000x64 : Shape := ⟨2, ![50000, 64]⟩
abbrev S1x800000 : Shape := ⟨2, ![1, 800000]⟩
abbrev S_ : Shape := ⟨0, ![]⟩
abbrev S819200 : Shape := ⟨1, ![819200]⟩
abbrev S64x50000 : Shape := ⟨2, ![64, 50000]⟩
abbrev S64x50176 : Shape := ⟨2, ![64, 50176]⟩
abbrev S50176 : Shape := ⟨1, ![50176]⟩
abbrev S32x50176 : Shape := ⟨2, ![32, 50176]⟩
abbrev S3200 : Shape := ⟨1, ![3200]⟩
abbrev S16 : Shape := ⟨1, ![16]⟩
abbrev S1x50176 : Shape := ⟨2, ![1, 50176]⟩
abbrev S8192 : Shape := ⟨1, ![8192]⟩

abbrev nBuf : Table → Nat
  | .hbm => 75
  | .local .scVector .vmem => 27
  | _ => 0

abbrev bufTy : (tb : Table) → Fin (nBuf tb) → BufTy
  | .hbm, ⟨0, _⟩ => ⟨S2x800000, .i32⟩
  | .hbm, ⟨1, _⟩ => ⟨S800000, .f32⟩
  | .hbm, ⟨2, _⟩ => ⟨S800000, .f32⟩
  | .hbm, ⟨3, _⟩ => ⟨S50000, .f32⟩
  | .hbm, ⟨4, _⟩ => ⟨S50000, .f32⟩
  | .hbm, ⟨5, _⟩ => ⟨S50000x64, .f32⟩
  | .hbm, ⟨6, _⟩ => ⟨S50000, .f32⟩
  | .hbm, ⟨7, _⟩ => ⟨S50000, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S_, .i32⟩
  | .hbm, ⟨15, _⟩ => ⟨S819200, .i32⟩
  | .hbm, ⟨16, _⟩ => ⟨S_, .i32⟩
  | .hbm, ⟨17, _⟩ => ⟨S_, .i32⟩
  | .hbm, ⟨18, _⟩ => ⟨S819200, .i32⟩
  | .hbm, ⟨19, _⟩ => ⟨S_, .i32⟩
  | .hbm, ⟨20, _⟩ => ⟨S_, .f32⟩
  | .hbm, ⟨21, _⟩ => ⟨S819200, .f32⟩
  | .hbm, ⟨22, _⟩ => ⟨S_, .i32⟩
  | .hbm, ⟨23, _⟩ => ⟨S_, .f32⟩
  | .hbm, ⟨24, _⟩ => ⟨S819200, .f32⟩
  | .hbm, ⟨25, _⟩ => ⟨S64x50000, .f32⟩
  | .hbm, ⟨26, _⟩ => ⟨S_, .i32⟩
  | .hbm, ⟨27, _⟩ => ⟨S_, .f32⟩
  | .hbm, ⟨28, _⟩ => ⟨S64x50176, .f32⟩
  | .hbm, ⟨29, _⟩ => ⟨S64x50000, .f32⟩
  | .hbm, ⟨30, _⟩ => ⟨S_, .i32⟩
  | .hbm, ⟨31, _⟩ => ⟨S_, .f32⟩
  | .hbm, ⟨32, _⟩ => ⟨S64x50176, .f32⟩
  | .hbm, ⟨33, _⟩ => ⟨S_, .i32⟩
  | .hbm, ⟨34, _⟩ => ⟨S_, .f32⟩
  | .hbm, ⟨35, _⟩ => ⟨S50176, .f32⟩
  | .hbm, ⟨36, _⟩ => ⟨S32x50176, .f32⟩
  | .hbm, ⟨37, _⟩ => ⟨S32x50176, .f32⟩
  | .hbm, ⟨38, _⟩ => ⟨S32x50176, .f32⟩
  | .hbm, ⟨39, _⟩ => ⟨S819200, .f32⟩
  | .hbm, ⟨40, _⟩ => ⟨S_, .i32⟩
  | .hbm, ⟨41, _⟩ => ⟨S_, .f32⟩
  | .hbm, ⟨42, _⟩ => ⟨S50176, .f32⟩
  | .hbm, ⟨43, _⟩ => ⟨S819200, .f32⟩
  | .hbm, ⟨44, _⟩ => ⟨S32x50176, .f32⟩
  | .hbm, ⟨45, _⟩ => ⟨S64x50176, .f32⟩
  | .hbm, ⟨46, _⟩ => ⟨S_, .i32⟩
  | .hbm, ⟨47, _⟩ => ⟨S_, .f32⟩
  | .hbm, ⟨48, _⟩ => ⟨S50176, .f32⟩
  | .hbm, ⟨49, _⟩ => ⟨S_, .i32⟩
  | .hbm, ⟨50, _⟩ => ⟨S_, .f32⟩
  | .hbm, ⟨51, _⟩ => ⟨S50176, .f32⟩
  | .hbm, ⟨52, _⟩ => ⟨S819200, .f32⟩
  | .hbm, ⟨53, _⟩ => ⟨S819200, .f32⟩
  | .hbm, ⟨54, _⟩ => ⟨S32x50176, .f32⟩
  | .hbm, ⟨55, _⟩ => ⟨S64x50176, .f32⟩
  | .hbm, ⟨56, _⟩ => ⟨S_, .f32⟩
  | .hbm, ⟨57, _⟩ => ⟨S50176, .f32⟩
  | .hbm, ⟨58, _⟩ => ⟨S50000, .f32⟩
  | .hbm, ⟨59, _⟩ => ⟨S_, .f32⟩
  | .hbm, ⟨60, _⟩ => ⟨S50176, .f32⟩
  | .hbm, ⟨61, _⟩ => ⟨S50000, .f32⟩
  | .hbm, ⟨62, _⟩ => ⟨S_, .f32⟩
  | .hbm, ⟨63, _⟩ => ⟨S50176, .f32⟩
  | .hbm, ⟨64, _⟩ => ⟨S50000, .f32⟩
  | .hbm, ⟨65, _⟩ => ⟨S_, .f32⟩
  | .hbm, ⟨66, _⟩ => ⟨S50176, .f32⟩
  | .hbm, ⟨67, _⟩ => ⟨S50000, .f32⟩
  | .hbm, ⟨68, _⟩ => ⟨S_, .f32⟩
  | .hbm, ⟨69, _⟩ => ⟨S50176, .f32⟩
  | .hbm, ⟨70, _⟩ => ⟨S50000, .f32⟩
  | .hbm, ⟨71, _⟩ => ⟨S64x50000, .f32⟩
  | .hbm, ⟨72, _⟩ => ⟨S50000x64, .f32⟩
  | .hbm, ⟨73, _⟩ => ⟨S64x50000, .f32⟩
  | .hbm, ⟨74, _⟩ => ⟨S50000x64, .f32⟩
  | .local .scVector .vmem, ⟨0, _⟩ => ⟨S50176, .f32⟩
  | .local .scVector .vmem, ⟨1, _⟩ => ⟨S50176, .f32⟩
  | .local .scVector .vmem, ⟨2, _⟩ => ⟨S3200, .i32⟩
  | .local .scVector .vmem, ⟨3, _⟩ => ⟨S3200, .i32⟩
  | .local .scVector .vmem, ⟨4, _⟩ => ⟨S3200, .f32⟩
  | .local .scVector .vmem, ⟨5, _⟩ => ⟨S3200, .f32⟩
  | .local .scVector .vmem, ⟨6, _⟩ => ⟨S3200, .f32⟩
  | .local .scVector .vmem, ⟨7, _⟩ => ⟨S50176, .f32⟩
  | .local .scVector .vmem, ⟨8, _⟩ => ⟨S50176, .f32⟩
  | .local .scVector .vmem, ⟨9, _⟩ => ⟨S3200, .i32⟩
  | .local .scVector .vmem, ⟨10, _⟩ => ⟨S3200, .f32⟩
  | .local .scVector .vmem, ⟨11, _⟩ => ⟨S3200, .f32⟩
  | .local .scVector .vmem, ⟨12, _⟩ => ⟨S50176, .f32⟩
  | .local .scVector .vmem, ⟨13, _⟩ => ⟨S50176, .f32⟩
  | .local .scVector .vmem, ⟨14, _⟩ => ⟨S8192, .i32⟩
  | .local .scVector .vmem, ⟨15, _⟩ => ⟨S8192, .i32⟩
  | .local .scVector .vmem, ⟨16, _⟩ => ⟨S8192, .f32⟩
  | .local .scVector .vmem, ⟨17, _⟩ => ⟨S50176, .f32⟩
  | .local .scVector .vmem, ⟨18, _⟩ => ⟨S50176, .f32⟩
  | .local .scVector .vmem, ⟨19, _⟩ => ⟨S3200, .i32⟩
  | .local .scVector .vmem, ⟨20, _⟩ => ⟨S3200, .f32⟩
  | .local .scVector .vmem, ⟨21, _⟩ => ⟨S3200, .f32⟩
  | .local .scVector .vmem, ⟨22, _⟩ => ⟨S50176, .f32⟩
  | .local .scVector .vmem, ⟨23, _⟩ => ⟨S50176, .f32⟩
  | .local .scVector .vmem, ⟨24, _⟩ => ⟨S8192, .i32⟩
  | .local .scVector .vmem, ⟨25, _⟩ => ⟨S8192, .i32⟩
  | .local .scVector .vmem, ⟨26, _⟩ => ⟨S8192, .f32⟩
  | _, _ => ⟨S2x800000, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 45 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | _ => false

abbrev sig : RefSig :=
  ofTables nBuf rfl bufTy 4 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_c_1 : Ref sig .tc := ⟨.hbm, 19, rfl⟩
abbrev main_call2_v0 : Ref sig .tc := ⟨.hbm, 20, rfl⟩
abbrev main_v6 : Ref sig .tc := ⟨.hbm, 21, rfl⟩
abbrev main_c_2 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_call4_v0 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_call5_v0 : Ref sig .tc := ⟨.hbm, 31, rfl⟩
abbrev main_v11 : Ref sig .tc := ⟨.hbm, 32, rfl⟩
abbrev main_c_5 : Ref sig .tc := ⟨.hbm, 33, rfl⟩
abbrev main_call6_v0 : Ref sig .tc := ⟨.hbm, 34, rfl⟩
abbrev main_v12 : Ref sig .tc := ⟨.hbm, 35, rfl⟩
abbrev main_v13_0 : Ref sig .tc := ⟨.hbm, 36, rfl⟩
abbrev main_v13_1 : Ref sig .tc := ⟨.hbm, 37, rfl⟩
abbrev main_v13_2 : Ref sig .tc := ⟨.hbm, 38, rfl⟩
abbrev main_v13_3 : Ref sig .tc := ⟨.hbm, 39, rfl⟩
abbrev main_c_6 : Ref sig .tc := ⟨.hbm, 40, rfl⟩
abbrev main_call7_v0 : Ref sig .tc := ⟨.hbm, 41, rfl⟩
abbrev main_v14 : Ref sig .tc := ⟨.hbm, 42, rfl⟩
abbrev main_v15_0 : Ref sig .tc := ⟨.hbm, 43, rfl⟩
abbrev main_v15_1 : Ref sig .tc := ⟨.hbm, 44, rfl⟩
abbrev main_v16 : Ref sig .tc := ⟨.hbm, 45, rfl⟩
abbrev main_c_7 : Ref sig .tc := ⟨.hbm, 46, rfl⟩
abbrev main_call8_v0 : Ref sig .tc := ⟨.hbm, 47, rfl⟩
abbrev main_v17 : Ref sig .tc := ⟨.hbm, 48, rfl⟩
abbrev main_c_8 : Ref sig .tc := ⟨.hbm, 49, rfl⟩
abbrev main_call9_v0 : Ref sig .tc := ⟨.hbm, 50, rfl⟩
abbrev main_v18 : Ref sig .tc := ⟨.hbm, 51, rfl⟩
abbrev main_v19_0 : Ref sig .tc := ⟨.hbm, 52, rfl⟩
abbrev main_v19_1 : Ref sig .tc := ⟨.hbm, 53, rfl⟩
abbrev main_v19_2 : Ref sig .tc := ⟨.hbm, 54, rfl⟩
abbrev main_v20 : Ref sig .tc := ⟨.hbm, 55, rfl⟩
abbrev main_cst : Ref sig .tc := ⟨.hbm, 56, rfl⟩
abbrev main_v21 : Ref sig .tc := ⟨.hbm, 57, rfl⟩
abbrev main_v22 : Ref sig .tc := ⟨.hbm, 58, rfl⟩
abbrev main_cst_9 : Ref sig .tc := ⟨.hbm, 59, rfl⟩
abbrev main_v23 : Ref sig .tc := ⟨.hbm, 60, rfl⟩
abbrev main_v24 : Ref sig .tc := ⟨.hbm, 61, rfl⟩
abbrev main_cst_10 : Ref sig .tc := ⟨.hbm, 62, rfl⟩
abbrev main_v25 : Ref sig .tc := ⟨.hbm, 63, rfl⟩
abbrev main_v26 : Ref sig .tc := ⟨.hbm, 64, rfl⟩
abbrev main_cst_11 : Ref sig .tc := ⟨.hbm, 65, rfl⟩
abbrev main_v27 : Ref sig .tc := ⟨.hbm, 66, rfl⟩
abbrev main_v28 : Ref sig .tc := ⟨.hbm, 67, rfl⟩
abbrev main_cst_12 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v5_scv : Ref sig .scVector := ⟨.hbm, 18, rfl⟩
abbrev main_v4_scv : Ref sig .scVector := ⟨.hbm, 15, rfl⟩
abbrev main_v6_scv : Ref sig .scVector := ⟨.hbm, 21, rfl⟩
abbrev main_v7_scv : Ref sig .scVector := ⟨.hbm, 24, rfl⟩
abbrev main_v12_scv : Ref sig .scVector := ⟨.hbm, 35, rfl⟩
abbrev main_v13_0_scv : Ref sig .scVector := ⟨.hbm, 36, rfl⟩
abbrev main_v13_1_scv : Ref sig .scVector := ⟨.hbm, 37, rfl⟩
abbrev main_v13_2_scv : Ref sig .scVector := ⟨.hbm, 38, rfl⟩
abbrev main_v13_3_scv : Ref sig .scVector := ⟨.hbm, 39, rfl⟩
abbrev main_v14_scv : Ref sig .scVector := ⟨.hbm, 42, rfl⟩
abbrev main_v15_0_scv : Ref sig .scVector := ⟨.hbm, 43, rfl⟩
abbrev main_v15_1_scv : Ref sig .scVector := ⟨.hbm, 44, rfl⟩
abbrev main_v9_scv : Ref sig .scVector := ⟨.hbm, 28, rfl⟩
abbrev main_v16_scv : Ref sig .scVector := ⟨.hbm, 45, rfl⟩
abbrev main_v17_scv : Ref sig .scVector := ⟨.hbm, 48, rfl⟩
abbrev main_v18_scv : Ref sig .scVector := ⟨.hbm, 51, rfl⟩
abbrev main_v19_0_scv : Ref sig .scVector := ⟨.hbm, 52, rfl⟩
abbrev main_v19_1_scv : Ref sig .scVector := ⟨.hbm, 53, rfl⟩
abbrev main_v19_2_scv : Ref sig .scVector := ⟨.hbm, 54, rfl⟩
abbrev main_v11_scv : Ref sig .scVector := ⟨.hbm, 32, rfl⟩
abbrev main_v20_scv : Ref sig .scVector := ⟨.hbm, 55, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc1_scratch0 : Ref sig .scVector := ⟨.vmem, 7, rfl⟩
abbrev cc1_scratch1 : Ref sig .scVector := ⟨.vmem, 8, rfl⟩
abbrev cc1_scratch2 : Ref sig .scVector := ⟨.vmem, 9, rfl⟩
abbrev cc1_scratch3 : Ref sig .scVector := ⟨.vmem, 10, rfl⟩
abbrev cc1_scratch4 : Ref sig .scVector := ⟨.vmem, 11, rfl⟩
abbrev cc2_scratch0 : Ref sig .scVector := ⟨.vmem, 12, rfl⟩
abbrev cc2_scratch1 : Ref sig .scVector := ⟨.vmem, 13, rfl⟩
abbrev cc2_scratch2 : Ref sig .scVector := ⟨.vmem, 14, rfl⟩
abbrev cc2_scratch3 : Ref sig .scVector := ⟨.vmem, 15, rfl⟩
abbrev cc2_scratch4 : Ref sig .scVector := ⟨.vmem, 16, rfl⟩
abbrev cc3_scratch0 : Ref sig .scVector := ⟨.vmem, 17, rfl⟩
abbrev cc3_scratch1 : Ref sig .scVector := ⟨.vmem, 18, rfl⟩
abbrev cc3_scratch2 : Ref sig .scVector := ⟨.vmem, 19, rfl⟩
abbrev cc3_scratch3 : Ref sig .scVector := ⟨.vmem, 20, rfl⟩
abbrev cc3_scratch4 : Ref sig .scVector := ⟨.vmem, 21, rfl⟩
abbrev cc4_scratch0 : Ref sig .scVector := ⟨.vmem, 22, rfl⟩
abbrev cc4_scratch1 : Ref sig .scVector := ⟨.vmem, 23, rfl⟩
abbrev cc4_scratch2 : Ref sig .scVector := ⟨.vmem, 24, rfl⟩
abbrev cc4_scratch3 : Ref sig .scVector := ⟨.vmem, 25, rfl⟩
abbrev cc4_scratch4 : Ref sig .scVector := ⟨.vmem, 26, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c3136_i32 : BitVec 32 := 3136#32
  let v5 : BitVec 32 := Scalar.addi c0_i32_1 c3136_i32
  let c1_i32 : BitVec 32 := 1#32
  ⟨c0_i32_1, v5, c1_i32⟩
def k0_off1 (k0_t1 : Fin k0_t1_loop.trips) : Fin 1 → Nat :=
  let c0_i32_1 : BitVec 32 := 0#32
  let c1_i32 : BitVec 32 := 1#32
  let arg18 : BitVec 32 := Scf.iv c0_i32_1 c1_i32 k0_t1
  let c16_i32 : BitVec 32 := 16#32
  let v17 : BitVec 32 := Scalar.muli arg18 c16_i32
  let v18 : Index := Scalar.indexCast v17
  ![v18.toNat]
@[reducible] def k0_t2_loop : Scf.Loop 32 :=
  let c0_i32_5 : BitVec 32 := 0#32
  let c3136_i32_6 : BitVec 32 := 3136#32
  let v8 : BitVec 32 := Scalar.addi c0_i32_5 c3136_i32_6
  let c1_i32_7 : BitVec 32 := 1#32
  ⟨c0_i32_5, v8, c1_i32_7⟩
def k0_off2 (k0_t2 : Fin k0_t2_loop.trips) : Fin 1 → Nat :=
  let c0_i32_5 : BitVec 32 := 0#32
  let c1_i32_7 : BitVec 32 := 1#32
  let arg18 : BitVec 32 := Scf.iv c0_i32_5 c1_i32_7 k0_t2
  let c16_i32 : BitVec 32 := 16#32
  let v17 : BitVec 32 := Scalar.muli arg18 c16_i32
  let v18 : Index := Scalar.indexCast v17
  ![v18.toNat]
@[reducible] def k0_t3_loop : Scf.Loop 32 :=
  let c0_i32_10 : BitVec 32 := 0#32
  let c8_i32 : BitVec 32 := 8#32
  let v10 : BitVec 32 := Scalar.addi c0_i32_10 c8_i32
  let c1_i32_11 : BitVec 32 := 1#32
  ⟨c0_i32_10, v10, c1_i32_11⟩
def k0_off3 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_10 : BitVec 32 := 0#32
  let c1_i32_11 : BitVec 32 := 1#32
  let arg18 : BitVec 32 := Scf.iv c0_i32_10 c1_i32_11 k0_t3
  let c3200_i32 : BitVec 32 := 3200#32
  let v17 : BitVec 32 := Scalar.muli arg18 c3200_i32
  let v18 : BitVec 32 := Scalar.addi v2 v17
  ![v18.toNat]
@[reducible] def k0_t4_loop : Scf.Loop 32 :=
  let c0_i32_25 : BitVec 32 := 0#32
  let c200_i32 : BitVec 32 := 200#32
  let v19 : BitVec 32 := Scalar.addi c0_i32_25 c200_i32
  let c1_i32_26 : BitVec 32 := 1#32
  ⟨c0_i32_25, v19, c1_i32_26⟩
def k0_off4 (k0_t4 : Fin k0_t4_loop.trips) : Fin 1 → Nat :=
  let c0_i32_25 : BitVec 32 := 0#32
  let c1_i32_26 : BitVec 32 := 1#32
  let arg20 : BitVec 32 := Scf.iv c0_i32_25 c1_i32_26 k0_t4
  let c16_i32 : BitVec 32 := 16#32
  let v21 : BitVec 32 := Scalar.muli arg20 c16_i32
  let v22 : Index := Scalar.indexCast v21
  ![v22.toNat]
def k0_off5 (k0_t4 : Fin k0_t4_loop.trips) : Fin 1 → Nat :=
  let c0_i32_25 : BitVec 32 := 0#32
  let c1_i32_26 : BitVec 32 := 1#32
  let arg20 : BitVec 32 := Scf.iv c0_i32_25 c1_i32_26 k0_t4
  let c16_i32_29 : BitVec 32 := 16#32
  let v24 : BitVec 32 := Scalar.muli arg20 c16_i32_29
  let v25 : Index := Scalar.indexCast v24
  ![v25.toNat]

def k0_chk1 (v23 : IVec S16 32) : Prop :=
  (∀ a x, ((![v23] : Fin 1 → IVec S16 32) a x).toNat < S50176.size a) ∧
  (∀ a x, ((![v23] : Fin 1 → IVec S16 32) a x).toNat < S50176.size a)
theorem k0_idx1_inb : ∀ (v23 : IVec S16 32) (k0_hw1 : k0_chk1 v23), ∀ a x, ((![v23] : Fin 1 → IVec S16 32) a x).toNat < S50176.size a := fun v23 k0_hw1 => k0_hw1.1
theorem k0_idx2_inb : ∀ (v23 : IVec S16 32) (k0_hw1 : k0_chk1 v23), ∀ a x, ((![v23] : Fin 1 → IVec S16 32) a x).toNat < S50176.size a := fun v23 k0_hw1 => k0_hw1.2
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r2 : BitVec 32 := 0#32
  ![v1.toNat, 0]
@[reducible] def k0_t5_loop : Scf.Loop 32 :=
  let c0_i32_15 : BitVec 32 := 0#32
  let c3136_i32_16 : BitVec 32 := 3136#32
  let v13 : BitVec 32 := Scalar.addi c0_i32_15 c3136_i32_16
  let c1_i32_17 : BitVec 32 := 1#32
  ⟨c0_i32_15, v13, c1_i32_17⟩
def k0_off7 (k0_t5 : Fin k0_t5_loop.trips) : Fin 1 → Nat :=
  let c0_i32_15 : BitVec 32 := 0#32
  let c1_i32_17 : BitVec 32 := 1#32
  let arg18 : BitVec 32 := Scf.iv c0_i32_15 c1_i32_17 k0_t5
  let c16_i32 : BitVec 32 := 16#32
  let v17 : BitVec 32 := Scalar.muli arg18 c16_i32
  let v18 : Index := Scalar.indexCast v17
  ![v18.toNat]
@[reducible] def k0_t6_loop : Scf.Loop 32 :=
  let c0_i32_20 : BitVec 32 := 0#32
  let c8_i32_21 : BitVec 32 := 8#32
  let v15 : BitVec 32 := Scalar.addi c0_i32_20 c8_i32_21
  let c1_i32_22 : BitVec 32 := 1#32
  ⟨c0_i32_20, v15, c1_i32_22⟩
def k0_off8 (i : grid0.Coords) (k0_t6 : Fin k0_t6_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_20 : BitVec 32 := 0#32
  let c1_i32_22 : BitVec 32 := 1#32
  let arg18 : BitVec 32 := Scf.iv c0_i32_20 c1_i32_22 k0_t6
  let c3200_i32 : BitVec 32 := 3200#32
  let v17 : BitVec 32 := Scalar.muli arg18 c3200_i32
  let v18 : BitVec 32 := Scalar.addi v2 v17
  ![v18.toNat]
@[reducible] def k0_t7_loop : Scf.Loop 32 :=
  let c0_i32_25 : BitVec 32 := 0#32
  let c200_i32 : BitVec 32 := 200#32
  let v19 : BitVec 32 := Scalar.addi c0_i32_25 c200_i32
  let c1_i32_26 : BitVec 32 := 1#32
  ⟨c0_i32_25, v19, c1_i32_26⟩
def k0_off9 (k0_t7 : Fin k0_t7_loop.trips) : Fin 1 → Nat :=
  let c0_i32_25 : BitVec 32 := 0#32
  let c1_i32_26 : BitVec 32 := 1#32
  let arg20 : BitVec 32 := Scf.iv c0_i32_25 c1_i32_26 k0_t7
  let c16_i32 : BitVec 32 := 16#32
  let v21 : BitVec 32 := Scalar.muli arg20 c16_i32
  let v22 : Index := Scalar.indexCast v21
  ![v22.toNat]

def k0_chk2 (v23 : IVec S16 32) : Prop :=
  (∀ a x, ((![v23] : Fin 1 → IVec S16 32) a x).toNat < S50176.size a)
theorem k0_idx3_inb : ∀ (v23 : IVec S16 32) (k0_hw2 : k0_chk2 v23), ∀ a x, ((![v23] : Fin 1 → IVec S16 32) a x).toNat < S50176.size a := fun v23 k0_hw2 => k0_hw2
def k0_off10 (k0_t7 : Fin k0_t7_loop.trips) : Fin 1 → Nat :=
  let c0_i32_25 : BitVec 32 := 0#32
  let c1_i32_26 : BitVec 32 := 1#32
  let arg20 : BitVec 32 := Scf.iv c0_i32_25 c1_i32_26 k0_t7
  let c16_i32_30 : BitVec 32 := 16#32
  let v28 : BitVec 32 := Scalar.muli arg20 c16_i32_30
  let v29 : Index := Scalar.indexCast v28
  ![v29.toNat]

def k0_chk3 (v26 : IVec S16 32) : Prop :=
  (∀ a x, ((![v26] : Fin 1 → IVec S16 32) a x).toNat < S50176.size a)
theorem k0_idx4_inb : ∀ (v26 : IVec S16 32) (k0_hw3 : k0_chk3 v26), ∀ a x, ((![v26] : Fin 1 → IVec S16 32) a x).toNat < S50176.size a := fun v26 k0_hw3 => k0_hw3
abbrev grid1 : Pipeline.Grid := ⟨2, ![2, 16], ![false, false]⟩

@[reducible] def k1_t1_loop : Scf.Loop 32 :=
  let c0_i32_0 : BitVec 32 := 0#32
  let c3136_i32 : BitVec 32 := 3136#32
  let v4 : BitVec 32 := Scalar.addi c0_i32_0 c3136_i32
  let c1_i32 : BitVec 32 := 1#32
  ⟨c0_i32_0, v4, c1_i32⟩
def k1_off1 (k1_t1 : Fin k1_t1_loop.trips) : Fin 1 → Nat :=
  let c0_i32_0 : BitVec 32 := 0#32
  let c1_i32 : BitVec 32 := 1#32
  let arg12 : BitVec 32 := Scf.iv c0_i32_0 c1_i32 k1_t1
  let c16_i32 : BitVec 32 := 16#32
  let v8 : BitVec 32 := Scalar.muli arg12 c16_i32
  let v9 : Index := Scalar.indexCast v8
  ![v9.toNat]
@[reducible] def k1_t2_loop : Scf.Loop 32 :=
  let c0_i32_3 : BitVec 32 := 0#32
  let c8_i32 : BitVec 32 := 8#32
  let v6 : BitVec 32 := Scalar.addi c0_i32_3 c8_i32
  let c1_i32_4 : BitVec 32 := 1#32
  ⟨c0_i32_3, v6, c1_i32_4⟩
def k1_off2 (i : grid1.Coords) (k1_t2 : Fin k1_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_3 : BitVec 32 := 0#32
  let c1_i32_4 : BitVec 32 := 1#32
  let arg12 : BitVec 32 := Scf.iv c0_i32_3 c1_i32_4 k1_t2
  let c3200_i32 : BitVec 32 := 3200#32
  let v8 : BitVec 32 := Scalar.muli arg12 c3200_i32
  let v9 : BitVec 32 := Scalar.addi v2 v8
  ![v9.toNat]
@[reducible] def k1_t3_loop : Scf.Loop 32 :=
  let c0_i32_7 : BitVec 32 := 0#32
  let c200_i32 : BitVec 32 := 200#32
  let v10 : BitVec 32 := Scalar.addi c0_i32_7 c200_i32
  let c1_i32_8 : BitVec 32 := 1#32
  ⟨c0_i32_7, v10, c1_i32_8⟩
def k1_off3 (k1_t3 : Fin k1_t3_loop.trips) : Fin 1 → Nat :=
  let c0_i32_7 : BitVec 32 := 0#32
  let c1_i32_8 : BitVec 32 := 1#32
  let arg14 : BitVec 32 := Scf.iv c0_i32_7 c1_i32_8 k1_t3
  let c16_i32 : BitVec 32 := 16#32
  let v12 : BitVec 32 := Scalar.muli arg14 c16_i32
  let v13 : Index := Scalar.indexCast v12
  ![v13.toNat]
def k1_off4 (k1_t3 : Fin k1_t3_loop.trips) : Fin 1 → Nat :=
  let c0_i32_7 : BitVec 32 := 0#32
  let c1_i32_8 : BitVec 32 := 1#32
  let arg14 : BitVec 32 := Scf.iv c0_i32_7 c1_i32_8 k1_t3
  let c16_i32_15 : BitVec 32 := 16#32
  let v28 : BitVec 32 := Scalar.muli arg14 c16_i32_15
  let v29 : Index := Scalar.indexCast v28
  ![v29.toNat]

def k1_chk1 (v14 : IVec S16 32) : Prop :=
  (∀ a x, ((![v14] : Fin 1 → IVec S16 32) a x).toNat < S50176.size a) ∧
  (∀ a x, ((![v14] : Fin 1 → IVec S16 32) a x).toNat < S50176.size a)
theorem k1_idx1_inb : ∀ (v14 : IVec S16 32) (k1_hw1 : k1_chk1 v14), ∀ a x, ((![v14] : Fin 1 → IVec S16 32) a x).toNat < S50176.size a := fun v14 k1_hw1 => k1_hw1.1
theorem k1_idx2_inb : ∀ (v14 : IVec S16 32) (k1_hw1 : k1_chk1 v14), ∀ a x, ((![v14] : Fin 1 → IVec S16 32) a x).toNat < S50176.size a := fun v14 k1_hw1 => k1_hw1.2
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_6_r4 : BitVec 32 := 0#32
  ![v1.toNat, 0]
abbrev grid2 : Pipeline.Grid := ⟨2, ![2, 16], ![false, false]⟩

def k2_off1 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c0_i32_18_r0 : BitVec 32 := 0#32
  ![v2.toNat, 0]
@[reducible] def k2_t1_loop : Scf.Loop 32 :=
  let c0_i32_1 : BitVec 32 := 0#32
  let c3136_i32 : BitVec 32 := 3136#32
  let v4 : BitVec 32 := Scalar.addi c0_i32_1 c3136_i32
  let c1_i32 : BitVec 32 := 1#32
  ⟨c0_i32_1, v4, c1_i32⟩
def k2_off2 (k2_t1 : Fin k2_t1_loop.trips) : Fin 1 → Nat :=
  let c0_i32_1 : BitVec 32 := 0#32
  let c1_i32 : BitVec 32 := 1#32
  let arg12 : BitVec 32 := Scf.iv c0_i32_1 c1_i32 k2_t1
  let c16_i32 : BitVec 32 := 16#32
  let v14 : BitVec 32 := Scalar.muli arg12 c16_i32
  let v15 : Index := Scalar.indexCast v14
  ![v15.toNat]
@[reducible] def k2_t2_loop : Scf.Loop 32 :=
  let c0_i32_4 : BitVec 32 := 0#32
  let c100_i32 : BitVec 32 := 100#32
  let v6 : BitVec 32 := Scalar.addi c0_i32_4 c100_i32
  let c1_i32_5 : BitVec 32 := 1#32
  ⟨c0_i32_4, v6, c1_i32_5⟩
def k2_off3 (k2_t2 : Fin k2_t2_loop.trips) : Fin 1 → Nat :=
  let c0_i32_4 : BitVec 32 := 0#32
  let c1_i32_5 : BitVec 32 := 1#32
  let arg12 : BitVec 32 := Scf.iv c0_i32_4 c1_i32_5 k2_t2
  let c8192_i32 : BitVec 32 := 8192#32
  let v14 : BitVec 32 := Scalar.muli arg12 c8192_i32
  ![v14.toNat]
@[reducible] def k2_t3_loop : Scf.Loop 32 :=
  let c0_i32_19 : BitVec 32 := 0#32
  let c512_i32 : BitVec 32 := 512#32
  let v15 : BitVec 32 := Scalar.addi c0_i32_19 c512_i32
  let c1_i32_20 : BitVec 32 := 1#32
  ⟨c0_i32_19, v15, c1_i32_20⟩
def k2_off4 (k2_t3 : Fin k2_t3_loop.trips) : Fin 1 → Nat :=
  let c0_i32_19 : BitVec 32 := 0#32
  let c1_i32_20 : BitVec 32 := 1#32
  let arg14 : BitVec 32 := Scf.iv c0_i32_19 c1_i32_20 k2_t3
  let c16_i32 : BitVec 32 := 16#32
  let v17 : BitVec 32 := Scalar.muli arg14 c16_i32
  let v18 : Index := Scalar.indexCast v17
  ![v18.toNat]

def k2_chk1 (v19 : IVec S16 32) : Prop :=
  (∀ a x, ((![v19] : Fin 1 → IVec S16 32) a x).toNat < S50176.size a)
theorem k2_idx1_inb : ∀ (v19 : IVec S16 32) (k2_hw1 : k2_chk1 v19), ∀ a x, ((![v19] : Fin 1 → IVec S16 32) a x).toNat < S50176.size a := fun v19 k2_hw1 => k2_hw1
def k2_off5 (k2_t3 : Fin k2_t3_loop.trips) : Fin 1 → Nat :=
  let c0_i32_19 : BitVec 32 := 0#32
  let c1_i32_20 : BitVec 32 := 1#32
  let arg14 : BitVec 32 := Scf.iv c0_i32_19 c1_i32_20 k2_t3
  let c16_i32_24 : BitVec 32 := 16#32
  let v24 : BitVec 32 := Scalar.muli arg14 c16_i32_24
  let v25 : Index := Scalar.indexCast v24
  ![v25.toNat]

def k2_chk2 (v22 : IVec S16 32) : Prop :=
  (∀ a x, ((![v22] : Fin 1 → IVec S16 32) a x).toNat < S50176.size a)
theorem k2_idx2_inb : ∀ (v22 : IVec S16 32) (k2_hw2 : k2_chk2 v22), ∀ a x, ((![v22] : Fin 1 → IVec S16 32) a x).toNat < S50176.size a := fun v22 k2_hw2 => k2_hw2
@[reducible] def k2_t4_loop : Scf.Loop 32 :=
  let c0_i32_9 : BitVec 32 := 0#32
  let c3136_i32_10 : BitVec 32 := 3136#32
  let v10 : BitVec 32 := Scalar.addi c0_i32_9 c3136_i32_10
  let c1_i32_11 : BitVec 32 := 1#32
  ⟨c0_i32_9, v10, c1_i32_11⟩
def k2_off6 (k2_t4 : Fin k2_t4_loop.trips) : Fin 1 → Nat :=
  let c0_i32_9 : BitVec 32 := 0#32
  let c1_i32_11 : BitVec 32 := 1#32
  let arg12 : BitVec 32 := Scf.iv c0_i32_9 c1_i32_11 k2_t4
  let c16_i32 : BitVec 32 := 16#32
  let v14 : BitVec 32 := Scalar.muli arg12 c16_i32
  let v15 : Index := Scalar.indexCast v14
  ![v15.toNat]
@[reducible] def k2_t5_loop : Scf.Loop 32 :=
  let c0_i32_14 : BitVec 32 := 0#32
  let c100_i32_15 : BitVec 32 := 100#32
  let v12 : BitVec 32 := Scalar.addi c0_i32_14 c100_i32_15
  let c1_i32_16 : BitVec 32 := 1#32
  ⟨c0_i32_14, v12, c1_i32_16⟩
def k2_off7 (k2_t5 : Fin k2_t5_loop.trips) : Fin 1 → Nat :=
  let c0_i32_14 : BitVec 32 := 0#32
  let c1_i32_16 : BitVec 32 := 1#32
  let arg12 : BitVec 32 := Scf.iv c0_i32_14 c1_i32_16 k2_t5
  let c8192_i32 : BitVec 32 := 8192#32
  let v14 : BitVec 32 := Scalar.muli arg12 c8192_i32
  ![v14.toNat]
@[reducible] def k2_t6_loop : Scf.Loop 32 :=
  let c0_i32_19 : BitVec 32 := 0#32
  let c512_i32 : BitVec 32 := 512#32
  let v15 : BitVec 32 := Scalar.addi c0_i32_19 c512_i32
  let c1_i32_20 : BitVec 32 := 1#32
  ⟨c0_i32_19, v15, c1_i32_20⟩
def k2_off8 (k2_t6 : Fin k2_t6_loop.trips) : Fin 1 → Nat :=
  let c0_i32_19 : BitVec 32 := 0#32
  let c1_i32_20 : BitVec 32 := 1#32
  let arg14 : BitVec 32 := Scf.iv c0_i32_19 c1_i32_20 k2_t6
  let c16_i32 : BitVec 32 := 16#32
  let v17 : BitVec 32 := Scalar.muli arg14 c16_i32
  let v18 : Index := Scalar.indexCast v17
  ![v18.toNat]

def k2_chk3 (v19 : IVec S16 32) : Prop :=
  (∀ a x, ((![v19] : Fin 1 → IVec S16 32) a x).toNat < S50176.size a)
theorem k2_idx3_inb : ∀ (v19 : IVec S16 32) (k2_hw3 : k2_chk3 v19), ∀ a x, ((![v19] : Fin 1 → IVec S16 32) a x).toNat < S50176.size a := fun v19 k2_hw3 => k2_hw3
def k2_off9 (k2_t6 : Fin k2_t6_loop.trips) : Fin 1 → Nat :=
  let c0_i32_19 : BitVec 32 := 0#32
  let c1_i32_20 : BitVec 32 := 1#32
  let arg14 : BitVec 32 := Scf.iv c0_i32_19 c1_i32_20 k2_t6
  let c16_i32_24 : BitVec 32 := 16#32
  let v24 : BitVec 32 := Scalar.muli arg14 c16_i32_24
  let v25 : Index := Scalar.indexCast v24
  ![v25.toNat]

def k2_chk4 (v22 : IVec S16 32) : Prop :=
  (∀ a x, ((![v22] : Fin 1 → IVec S16 32) a x).toNat < S50176.size a)
theorem k2_idx4_inb : ∀ (v22 : IVec S16 32) (k2_hw4 : k2_chk4 v22), ∀ a x, ((![v22] : Fin 1 → IVec S16 32) a x).toNat < S50176.size a := fun v22 k2_hw4 => k2_hw4
abbrev grid3 : Pipeline.Grid := ⟨2, ![2, 16], ![false, false]⟩

@[reducible] def k3_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_0 : BitVec 32 := 0#32
  let c1_i32 : BitVec 32 := 1#32
  let arg15 : BitVec 32 := Scf.iv c0_i32_0 c1_i32 k3_t1
  let c3200_i32 : BitVec 32 := 3200#32
  let v10 : BitVec 32 := Scalar.muli arg15 c3200_i32
  let v11 : BitVec 32 := Scalar.addi v2 v10
  ![v11.toNat]
@[reducible] def k3_t2_loop : Scf.Loop 32 :=
  let c0_i32_12 : BitVec 32 := 0#32
  let c200_i32 : BitVec 32 := 200#32
  let v12 : BitVec 32 := Scalar.addi c0_i32_12 c200_i32
  let c1_i32_13 : BitVec 32 := 1#32
  ⟨c0_i32_12, v12, c1_i32_13⟩
def k3_off2 (k3_t2 : Fin k3_t2_loop.trips) : Fin 1 → Nat :=
  let c0_i32_12 : BitVec 32 := 0#32
  let c1_i32_13 : BitVec 32 := 1#32
  let arg17 : BitVec 32 := Scf.iv c0_i32_12 c1_i32_13 k3_t2
  let c16_i32 : BitVec 32 := 16#32
  let v14 : BitVec 32 := Scalar.muli arg17 c16_i32
  let v15 : Index := Scalar.indexCast v14
  ![v15.toNat]

def k3_chk1 (v16 : IVec S16 32) : Prop :=
  (∀ a x, ((![v16] : Fin 1 → IVec S16 32) a x).toNat < S50176.size a)
theorem k3_idx1_inb : ∀ (v16 : IVec S16 32) (k3_hw1 : k3_chk1 v16), ∀ a x, ((![v16] : Fin 1 → IVec S16 32) a x).toNat < S50176.size a := fun v16 k3_hw1 => k3_hw1
def k3_off3 (k3_t2 : Fin k3_t2_loop.trips) : Fin 1 → Nat :=
  let c0_i32_12 : BitVec 32 := 0#32
  let c1_i32_13 : BitVec 32 := 1#32
  let arg17 : BitVec 32 := Scf.iv c0_i32_12 c1_i32_13 k3_t2
  let c16_i32_16 : BitVec 32 := 16#32
  let v18 : BitVec 32 := Scalar.muli arg17 c16_i32_16
  let v19 : Index := Scalar.indexCast v18
  ![v19.toNat]
@[reducible] def k3_t3_loop : Scf.Loop 32 :=
  let c0_i32_3 : BitVec 32 := 0#32
  let c3136_i32 : BitVec 32 := 3136#32
  let v6 : BitVec 32 := Scalar.addi c0_i32_3 c3136_i32
  let c1_i32_4 : BitVec 32 := 1#32
  ⟨c0_i32_3, v6, c1_i32_4⟩
def k3_off4 (k3_t3 : Fin k3_t3_loop.trips) : Fin 1 → Nat :=
  let c0_i32_3 : BitVec 32 := 0#32
  let c1_i32_4 : BitVec 32 := 1#32
  let arg15 : BitVec 32 := Scf.iv c0_i32_3 c1_i32_4 k3_t3
  let c16_i32 : BitVec 32 := 16#32
  let v10 : BitVec 32 := Scalar.muli arg15 c16_i32
  let v11 : Index := Scalar.indexCast v10
  ![v11.toNat]
@[reducible] def k3_t4_loop : Scf.Loop 32 :=
  let c0_i32_7 : BitVec 32 := 0#32
  let c8_i32_8 : BitVec 32 := 8#32
  let v8 : BitVec 32 := Scalar.addi c0_i32_7 c8_i32_8
  let c1_i32_9 : BitVec 32 := 1#32
  ⟨c0_i32_7, v8, c1_i32_9⟩
def k3_off5 (i : grid3.Coords) (k3_t4 : Fin k3_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32_7 : BitVec 32 := 0#32
  let c1_i32_9 : BitVec 32 := 1#32
  let arg15 : BitVec 32 := Scf.iv c0_i32_7 c1_i32_9 k3_t4
  let c3200_i32 : BitVec 32 := 3200#32
  let v10 : BitVec 32 := Scalar.muli arg15 c3200_i32
  let v11 : BitVec 32 := Scalar.addi v2 v10
  ![v11.toNat]
@[reducible] def k3_t5_loop : Scf.Loop 32 :=
  let c0_i32_12 : BitVec 32 := 0#32
  let c200_i32 : BitVec 32 := 200#32
  let v12 : BitVec 32 := Scalar.addi c0_i32_12 c200_i32
  let c1_i32_13 : BitVec 32 := 1#32
  ⟨c0_i32_12, v12, c1_i32_13⟩
def k3_off6 (k3_t5 : Fin k3_t5_loop.trips) : Fin 1 → Nat :=
  let c0_i32_12 : BitVec 32 := 0#32
  let c1_i32_13 : BitVec 32 := 1#32
  let arg17 : BitVec 32 := Scf.iv c0_i32_12 c1_i32_13 k3_t5
  let c16_i32 : BitVec 32 := 16#32
  let v14 : BitVec 32 := Scalar.muli arg17 c16_i32
  let v15 : Index := Scalar.indexCast v14
  ![v15.toNat]
def k3_off7 (k3_t5 : Fin k3_t5_loop.trips) : Fin 1 → Nat :=
  let c0_i32_12 : BitVec 32 := 0#32
  let c1_i32_13 : BitVec 32 := 1#32
  let arg17 : BitVec 32 := Scf.iv c0_i32_12 c1_i32_13 k3_t5
  let c16_i32_20 : BitVec 32 := 16#32
  let v30 : BitVec 32 := Scalar.muli arg17 c16_i32_20
  let v31 : Index := Scalar.indexCast v30
  ![v31.toNat]

def k3_chk2 (v16 : IVec S16 32) : Prop :=
  (∀ a x, ((![v16] : Fin 1 → IVec S16 32) a x).toNat < S50176.size a) ∧
  (∀ a x, ((![v16] : Fin 1 → IVec S16 32) a x).toNat < S50176.size a)
theorem k3_idx2_inb : ∀ (v16 : IVec S16 32) (k3_hw2 : k3_chk2 v16), ∀ a x, ((![v16] : Fin 1 → IVec S16 32) a x).toNat < S50176.size a := fun v16 k3_hw2 => k3_hw2.1
theorem k3_idx3_inb : ∀ (v16 : IVec S16 32) (k3_hw2 : k3_chk2 v16), ∀ a x, ((![v16] : Fin 1 → IVec S16 32) a x).toNat < S50176.size a := fun v16 k3_hw2 => k3_hw2.2
def k3_off8 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_11_r8 : BitVec 32 := 0#32
  ![v1.toNat, 0]
abbrev grid4 : Pipeline.Grid := ⟨2, ![2, 16], ![false, false]⟩

def k4_off1 (i : grid4.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi v1 c0_i32
  let c0_i32_18_r0 : BitVec 32 := 0#32
  ![v2.toNat, 0]
@[reducible] def k4_t1_loop : Scf.Loop 32 :=
  let c0_i32_1 : BitVec 32 := 0#32
  let c3136_i32 : BitVec 32 := 3136#32
  let v4 : BitVec 32 := Scalar.addi c0_i32_1 c3136_i32
  let c1_i32 : BitVec 32 := 1#32
  ⟨c0_i32_1, v4, c1_i32⟩
def k4_off2 (k4_t1 : Fin k4_t1_loop.trips) : Fin 1 → Nat :=
  let c0_i32_1 : BitVec 32 := 0#32
  let c1_i32 : BitVec 32 := 1#32
  let arg12 : BitVec 32 := Scf.iv c0_i32_1 c1_i32 k4_t1
  let c16_i32 : BitVec 32 := 16#32
  let v14 : BitVec 32 := Scalar.muli arg12 c16_i32
  let v15 : Index := Scalar.indexCast v14
  ![v15.toNat]
@[reducible] def k4_t2_loop : Scf.Loop 32 :=
  let c0_i32_4 : BitVec 32 := 0#32
  let c100_i32 : BitVec 32 := 100#32
  let v6 : BitVec 32 := Scalar.addi c0_i32_4 c100_i32
  let c1_i32_5 : BitVec 32 := 1#32
  ⟨c0_i32_4, v6, c1_i32_5⟩
def k4_off3 (k4_t2 : Fin k4_t2_loop.trips) : Fin 1 → Nat :=
  let c0_i32_4 : BitVec 32 := 0#32
  let c1_i32_5 : BitVec 32 := 1#32
  let arg12 : BitVec 32 := Scf.iv c0_i32_4 c1_i32_5 k4_t2
  let c8192_i32 : BitVec 32 := 8192#32
  let v14 : BitVec 32 := Scalar.muli arg12 c8192_i32
  ![v14.toNat]
@[reducible] def k4_t3_loop : Scf.Loop 32 :=
  let c0_i32_19 : BitVec 32 := 0#32
  let c512_i32 : BitVec 32 := 512#32
  let v15 : BitVec 32 := Scalar.addi c0_i32_19 c512_i32
  let c1_i32_20 : BitVec 32 := 1#32
  ⟨c0_i32_19, v15, c1_i32_20⟩
def k4_off4 (k4_t3 : Fin k4_t3_loop.trips) : Fin 1 → Nat :=
  let c0_i32_19 : BitVec 32 := 0#32
  let c1_i32_20 : BitVec 32 := 1#32
  let arg14 : BitVec 32 := Scf.iv c0_i32_19 c1_i32_20 k4_t3
  let c16_i32 : BitVec 32 := 16#32
  let v17 : BitVec 32 := Scalar.muli arg14 c16_i32
  let v18 : Index := Scalar.indexCast v17
  ![v18.toNat]

def k4_chk1 (v19 : IVec S16 32) : Prop :=
  (∀ a x, ((![v19] : Fin 1 → IVec S16 32) a x).toNat < S50176.size a)
theorem k4_idx1_inb : ∀ (v19 : IVec S16 32) (k4_hw1 : k4_chk1 v19), ∀ a x, ((![v19] : Fin 1 → IVec S16 32) a x).toNat < S50176.size a := fun v19 k4_hw1 => k4_hw1
def k4_off5 (k4_t3 : Fin k4_t3_loop.trips) : Fin 1 → Nat :=
  let c0_i32_19 : BitVec 32 := 0#32
  let c1_i32_20 : BitVec 32 := 1#32
  let arg14 : BitVec 32 := Scf.iv c0_i32_19 c1_i32_20 k4_t3
  let c16_i32_24 : BitVec 32 := 16#32
  let v24 : BitVec 32 := Scalar.muli arg14 c16_i32_24
  let v25 : Index := Scalar.indexCast v24
  ![v25.toNat]

def k4_chk2 (v22 : IVec S16 32) : Prop :=
  (∀ a x, ((![v22] : Fin 1 → IVec S16 32) a x).toNat < S50176.size a)
theorem k4_idx2_inb : ∀ (v22 : IVec S16 32) (k4_hw2 : k4_chk2 v22), ∀ a x, ((![v22] : Fin 1 → IVec S16 32) a x).toNat < S50176.size a := fun v22 k4_hw2 => k4_hw2
@[reducible] def k4_t4_loop : Scf.Loop 32 :=
  let c0_i32_9 : BitVec 32 := 0#32
  let c3136_i32_10 : BitVec 32 := 3136#32
  let v10 : BitVec 32 := Scalar.addi c0_i32_9 c3136_i32_10
  let c1_i32_11 : BitVec 32 := 1#32
  ⟨c0_i32_9, v10, c1_i32_11⟩
def k4_off6 (k4_t4 : Fin k4_t4_loop.trips) : Fin 1 → Nat :=
  let c0_i32_9 : BitVec 32 := 0#32
  let c1_i32_11 : BitVec 32 := 1#32
  let arg12 : BitVec 32 := Scf.iv c0_i32_9 c1_i32_11 k4_t4
  let c16_i32 : BitVec 32 := 16#32
  let v14 : BitVec 32 := Scalar.muli arg12 c16_i32
  let v15 : Index := Scalar.indexCast v14
  ![v15.toNat]
@[reducible] def k4_t5_loop : Scf.Loop 32 :=
  let c0_i32_14 : BitVec 32 := 0#32
  let c100_i32_15 : BitVec 32 := 100#32
  let v12 : BitVec 32 := Scalar.addi c0_i32_14 c100_i32_15
  let c1_i32_16 : BitVec 32 := 1#32
  ⟨c0_i32_14, v12, c1_i32_16⟩
def k4_off7 (k4_t5 : Fin k4_t5_loop.trips) : Fin 1 → Nat :=
  let c0_i32_14 : BitVec 32 := 0#32
  let c1_i32_16 : BitVec 32 := 1#32
  let arg12 : BitVec 32 := Scf.iv c0_i32_14 c1_i32_16 k4_t5
  let c8192_i32 : BitVec 32 := 8192#32
  let v14 : BitVec 32 := Scalar.muli arg12 c8192_i32
  ![v14.toNat]
@[reducible] def k4_t6_loop : Scf.Loop 32 :=
  let c0_i32_19 : BitVec 32 := 0#32
  let c512_i32 : BitVec 32 := 512#32
  let v15 : BitVec 32 := Scalar.addi c0_i32_19 c512_i32
  let c1_i32_20 : BitVec 32 := 1#32
  ⟨c0_i32_19, v15, c1_i32_20⟩
def k4_off8 (k4_t6 : Fin k4_t6_loop.trips) : Fin 1 → Nat :=
  let c0_i32_19 : BitVec 32 := 0#32
  let c1_i32_20 : BitVec 32 := 1#32
  let arg14 : BitVec 32 := Scf.iv c0_i32_19 c1_i32_20 k4_t6
  let c16_i32 : BitVec 32 := 16#32
  let v17 : BitVec 32 := Scalar.muli arg14 c16_i32
  let v18 : Index := Scalar.indexCast v17
  ![v18.toNat]

def k4_chk3 (v19 : IVec S16 32) : Prop :=
  (∀ a x, ((![v19] : Fin 1 → IVec S16 32) a x).toNat < S50176.size a)
theorem k4_idx3_inb : ∀ (v19 : IVec S16 32) (k4_hw3 : k4_chk3 v19), ∀ a x, ((![v19] : Fin 1 → IVec S16 32) a x).toNat < S50176.size a := fun v19 k4_hw3 => k4_hw3
def k4_off9 (k4_t6 : Fin k4_t6_loop.trips) : Fin 1 → Nat :=
  let c0_i32_19 : BitVec 32 := 0#32
  let c1_i32_20 : BitVec 32 := 1#32
  let arg14 : BitVec 32 := Scf.iv c0_i32_19 c1_i32_20 k4_t6
  let c16_i32_24 : BitVec 32 := 16#32
  let v24 : BitVec 32 := Scalar.muli arg14 c16_i32_24
  let v25 : Index := Scalar.indexCast v24
  ![v25.toNat]

def k4_chk4 (v22 : IVec S16 32) : Prop :=
  (∀ a x, ((![v22] : Fin 1 → IVec S16 32) a x).toNat < S50176.size a)
theorem k4_idx4_inb : ∀ (v22 : IVec S16 32) (k4_hw4 : k4_chk4 v22), ∀ a x, ((![v22] : Fin 1 → IVec S16 32) a x).toNat < S50176.size a := fun v22 k4_hw4 => k4_hw4
abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S2x800000 : Shape := ⟨2, ![2, 800000]⟩
abbrev S800000 : Shape := ⟨1, ![800000]⟩
abbrev S50000 : Shape := ⟨1, ![50000]⟩
abbrev S50000x64 : Shape := ⟨2, ![50000, 64]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩

abbrev nBuf : Space → Nat
  | .hbm => 123
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S800000, .f32⟩
  | .hbm, ⟨2, _⟩ => ⟨S800000, .f32⟩
  | .hbm, ⟨3, _⟩ => ⟨S50000, .f32⟩
  | .hbm, ⟨4, _⟩ => ⟨S50000, .f32⟩
  | .hbm, ⟨5, _⟩ => ⟨S50000x64, .f32⟩
  | .hbm, ⟨6, _⟩ => ⟨S50000, .f32⟩
  | .hbm, ⟨7, _⟩ => ⟨S50000, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S800000, .f32⟩
  | .hbm, ⟨32, _⟩ => ⟨S800000, .f32⟩
  | .hbm, ⟨33, _⟩ => ⟨S_, .f32⟩
  | .hbm, ⟨34, _⟩ => ⟨S800000, .f32⟩
  | .hbm, ⟨35, _⟩ => ⟨S800000, .i1⟩
  | .hbm, ⟨36, _⟩ => ⟨S_, .f32⟩
  | .hbm, ⟨37, _⟩ => ⟨S800000, .f32⟩
  | .hbm, ⟨38, _⟩ => ⟨S800000, .f32⟩
  | .hbm, ⟨39, _⟩ => ⟨S800000, .f32⟩
  | .hbm, ⟨40, _⟩ => ⟨S800000, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000, .f32⟩
  | .hbm, ⟨59, _⟩ => ⟨S800000, .f32⟩
  | .hbm, ⟨60, _⟩ => ⟨S800000, .f32⟩
  | .hbm, ⟨61, _⟩ => ⟨S_, .f32⟩
  | .hbm, ⟨62, _⟩ => ⟨S800000, .f32⟩
  | .hbm, ⟨63, _⟩ => ⟨S800000, .i1⟩
  | .hbm, ⟨64, _⟩ => ⟨S_, .f32⟩
  | .hbm, ⟨65, _⟩ => ⟨S800000, .f32⟩
  | .hbm, ⟨66, _⟩ => ⟨S800000, .f32⟩
  | .hbm, ⟨67, _⟩ => ⟨S800000, .f32⟩
  | .hbm, ⟨68, _⟩ => ⟨S800000, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S_, .f32⟩
  | .hbm, ⟨76, _⟩ => ⟨S50000, .f32⟩
  | .hbm, ⟨77, _⟩ => ⟨S800000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S800000x1, .i32⟩
  | .hbm, ⟨82, _⟩ => ⟨S50000, .f32⟩
  | .hbm, ⟨83, _⟩ => ⟨S_, .f32⟩
  | .hbm, ⟨84, _⟩ => ⟨S50000, .f32⟩
  | .hbm, ⟨85, _⟩ => ⟨S800000x1, .i32⟩
  | .hbm, ⟨86, _⟩ => ⟨S50000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x64, .f32⟩
  | .hbm, ⟨96, _⟩ => ⟨S800000x1, .f32⟩
  | .hbm, ⟨97, _⟩ => ⟨S800000x64, .f32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | .hbm, ⟨103, _⟩ => ⟨S_, .f32⟩
  | .hbm, ⟨104, _⟩ => ⟨S50000, .f32⟩
  | .hbm, ⟨105, _⟩ => ⟨S800000x1, .i32⟩
  | .hbm, ⟨106, _⟩ => ⟨S50000, .f32⟩
  | .hbm, ⟨107, _⟩ => ⟨S_, .i32⟩
  | .hbm, ⟨108, _⟩ => ⟨S800000, .i32⟩
  | .hbm, ⟨109, _⟩ => ⟨S800000, .i1⟩
  | .hbm, ⟨110, _⟩ => ⟨S_, .i32⟩
  | .hbm, ⟨111, _⟩ => ⟨S800000, .i32⟩
  | .hbm, ⟨112, _⟩ => ⟨S800000, .i32⟩
  | .hbm, ⟨113, _⟩ => ⟨S800000, .i32⟩
  | .hbm, ⟨114, _⟩ => ⟨S800000x1, .i32⟩
  | .hbm, ⟨115, _⟩ => ⟨S800000x64, .f32⟩
  | .hbm, ⟨116, _⟩ => ⟨S800000x1, .f32⟩
  | .hbm, ⟨117, _⟩ => ⟨S800000x64, .f32⟩
  | .hbm, ⟨118, _⟩ => ⟨S800000x64, .f32⟩
  | .hbm, ⟨119, _⟩ => ⟨S_, .f32⟩
  | .hbm, ⟨120, _⟩ => ⟨S50000x64, .f32⟩
  | .hbm, ⟨121, _⟩ => ⟨S800000x1, .i32⟩
  | .hbm, ⟨122, _⟩ => ⟨S50000x64, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_13 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_14 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_15 : Ref sig .tc := ⟨.hbm, 87, rfl⟩
abbrev main_v61 : Ref sig .tc := ⟨.hbm, 88, rfl⟩
abbrev main_v62 : Ref sig .tc := ⟨.hbm, 89, rfl⟩
abbrev main_c_16 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_18 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_19 : Ref sig .tc := ⟨.hbm, 107, rfl⟩
abbrev main_v77 : Ref sig .tc := ⟨.hbm, 108, rfl⟩
abbrev main_v78 : Ref sig .tc := ⟨.hbm, 109, rfl⟩
abbrev main_c_20 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_21 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Project.lean ====
abbrev S50000x2 : Shape := ⟨2, ![50000, 2]⟩
abbrev S800000x2 : Shape := ⟨2, ![800000, 2]⟩
abbrev S2x64 : Shape := ⟨2, ![2, 64]⟩
abbrev S64 : Shape := ⟨1, ![64]⟩
abbrev S2x50000 : Shape := ⟨2, ![2, 50000]⟩
abbrev S_ : Shape := ⟨0, ![]⟩
abbrev S2x50176 : Shape := ⟨2, ![2, 50176]⟩
abbrev S800000x1 : Shape := ⟨2, ![800000, 1]⟩
abbrev S800000 : Shape := ⟨1, ![800000]⟩
abbrev S819200 : Shape := ⟨1, ![819200]⟩
abbrev S1600x512 : Shape := ⟨2, ![1600, 512]⟩
abbrev S2 : Shape := ⟨1, ![2]⟩
abbrev S1x2 : Shape := ⟨2, ![1, 2]⟩
abbrev S2x2 : Shape := ⟨2, ![2, 2]⟩
abbrev S64x2 : Shape := ⟨2, ![64, 2]⟩
abbrev S64x1 : Shape := ⟨2, ![64, 1]⟩
abbrev S64x50176 : Shape := ⟨2, ![64, 50176]⟩
abbrev S1x50176 : Shape := ⟨2, ![1, 50176]⟩
abbrev S50176 : Shape := ⟨1, ![50176]⟩
abbrev S1x1 : Shape := ⟨2, ![1, 1]⟩

abbrev nBuf : Space → Nat
  | .hbm => 38
  | .vmem => 12
  | .smem => 0
  | _ => 0

abbrev bufTy : (tb : Table) → Fin (tcTables nBuf tb) → BufTy
  | .hbm, ⟨0, _⟩ => ⟨S50000x2, .f32⟩
  | .hbm, ⟨1, _⟩ => ⟨S800000x2, .f32⟩
  | .hbm, ⟨2, _⟩ => ⟨S2x64, .f32⟩
  | .hbm, ⟨3, _⟩ => ⟨S64, .f32⟩
  | .hbm, ⟨4, _⟩ => ⟨S64, .f32⟩
  | .hbm, ⟨5, _⟩ => ⟨S2x64, .f32⟩
  | .hbm, ⟨6, _⟩ => ⟨S64, .f32⟩
  | .hbm, ⟨7, _⟩ => ⟨S2x64, .f32⟩
  | .hbm, ⟨8, _⟩ => ⟨S64, .f32⟩
  | .hbm, ⟨9, _⟩ => ⟨S2x50000, .f32⟩
  | .hbm, ⟨10, _⟩ => ⟨S_, .i32⟩
  | .hbm, ⟨11, _⟩ => ⟨S_, .f32⟩
  | .hbm, ⟨12, _⟩ => ⟨S2x50176, .f32⟩
  | .hbm, ⟨13, _⟩ => ⟨S800000x1, .f32⟩
  | .hbm, ⟨14, _⟩ => ⟨S800000, .f32⟩
  | .hbm, ⟨15, _⟩ => ⟨S_, .i32⟩
  | .hbm, ⟨16, _⟩ => ⟨S_, .f32⟩
  | .hbm, ⟨17, _⟩ => ⟨S819200, .f32⟩
  | .hbm, ⟨18, _⟩ => ⟨S1600x512, .f32⟩
  | .hbm, ⟨19, _⟩ => ⟨S800000x1, .f32⟩
  | .hbm, ⟨20, _⟩ => ⟨S800000, .f32⟩
  | .hbm, ⟨21, _⟩ => ⟨S_, .i32⟩
  | .hbm, ⟨22, _⟩ => ⟨S_, .f32⟩
  | .hbm, ⟨23, _⟩ => ⟨S819200, .f32⟩
  | .hbm, ⟨24, _⟩ => ⟨S1600x512, .f32⟩
  | .hbm, ⟨25, _⟩ => ⟨S2, .f32⟩
  | .hbm, ⟨26, _⟩ => ⟨S2, .f32⟩
  | .hbm, ⟨27, _⟩ => ⟨S1x2, .f32⟩
  | .hbm, ⟨28, _⟩ => ⟨S1x2, .f32⟩
  | .hbm, ⟨29, _⟩ => ⟨S2x2, .f32⟩
  | .hbm, ⟨30, _⟩ => ⟨S64x2, .f32⟩
  | .hbm, ⟨31, _⟩ => ⟨S64x1, .f32⟩
  | .hbm, ⟨32, _⟩ => ⟨S64x1, .f32⟩
  | .hbm, ⟨33, _⟩ => ⟨S64x50176, .f32⟩
  | .hbm, ⟨34, _⟩ => ⟨S1x50176, .f32⟩
  | .hbm, ⟨35, _⟩ => ⟨S1x50176, .f32⟩
  | .hbm, ⟨36, _⟩ => ⟨S1600x512, .f32⟩
  | .hbm, ⟨37, _⟩ => ⟨S1600x512, .f32⟩
  | .local _ .vmem, ⟨0, _⟩ => ⟨S2x50176, .f32⟩
  | .local _ .vmem, ⟨1, _⟩ => ⟨S1600x512, .f32⟩
  | .local _ .vmem, ⟨2, _⟩ => ⟨S1600x512, .f32⟩
  | .local _ .vmem, ⟨3, _⟩ => ⟨S64x2, .f32⟩
  | .local _ .vmem, ⟨4, _⟩ => ⟨S64x1, .f32⟩
  | .local _ .vmem, ⟨5, _⟩ => ⟨S64x1, .f32⟩
  | .local _ .vmem, ⟨6, _⟩ => ⟨S2x2, .f32⟩
  | .local _ .vmem, ⟨7, _⟩ => ⟨S64x50176, .f32⟩
  | .local _ .vmem, ⟨8, _⟩ => ⟨S1x50176, .f32⟩
  | .local _ .vmem, ⟨9, _⟩ => ⟨S1x50176, .f32⟩
  | .local _ .vmem, ⟨10, _⟩ => ⟨S1600x512, .f32⟩
  | .local _ .vmem, ⟨11, _⟩ => ⟨S1600x512, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v18_3 : Ref sig .tc := ⟨.hbm, 36, rfl⟩
abbrev main_v18_4 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x50176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1600x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1600x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x50176 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x50176 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x50176 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1600x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1600x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ProjectReferenceIdeal.lean ====
abbrev S50000x2 : Shape := ⟨2, ![50000, 2]⟩
abbrev S800000x2 : Shape := ⟨2, ![800000, 2]⟩
abbrev S2x64 : Shape := ⟨2, ![2, 64]⟩
abbrev S64 : Shape := ⟨1, ![64]⟩
abbrev S50000x64 : Shape := ⟨2, ![50000, 64]⟩
abbrev S64x50000 : Shape := ⟨2, ![64, 50000]⟩
abbrev S_ : Shape := ⟨0, ![]⟩
abbrev S64x50176 : Shape := ⟨2, ![64, 50176]⟩
abbrev S50000 : Shape := ⟨1, ![50000]⟩
abbrev S50176 : Shape := ⟨1, ![50176]⟩
abbrev S1x50176 : Shape := ⟨2, ![1, 50176]⟩
abbrev S800000x64 : Shape := ⟨2, ![800000, 64]⟩
abbrev S800000 : Shape := ⟨1, ![800000]⟩
abbrev S819200 : Shape := ⟨1, ![819200]⟩
abbrev S1600x512 : Shape := ⟨2, ![1600, 512]⟩

abbrev nBuf : Space → Nat
  | .hbm => 36
  | .vmem => 0
  | .smem => 0
  | _ => 0

abbrev bufTy : (tb : Table) → Fin (tcTables nBuf tb) → BufTy
  | .hbm, ⟨0, _⟩ => ⟨S50000x2, .f32⟩
  | .hbm, ⟨1, _⟩ => ⟨S800000x2, .f32⟩
  | .hbm, ⟨2, _⟩ => ⟨S2x64, .f32⟩
  | .hbm, ⟨3, _⟩ => ⟨S64, .f32⟩
  | .hbm, ⟨4, _⟩ => ⟨S64, .f32⟩
  | .hbm, ⟨5, _⟩ => ⟨S2x64, .f32⟩
  | .hbm, ⟨6, _⟩ => ⟨S64, .f32⟩
  | .hbm, ⟨7, _⟩ => ⟨S2x64, .f32⟩
  | .hbm, ⟨8, _⟩ => ⟨S64, .f32⟩
  | .hbm, ⟨9, _⟩ => ⟨S50000x64, .f32⟩
  | .hbm, ⟨10, _⟩ => ⟨S64x50000, .f32⟩
  | .hbm, ⟨11, _⟩ => ⟨S_, .i32⟩
  | .hbm, ⟨12, _⟩ => ⟨S_, .f32⟩
  | .hbm, ⟨13, _⟩ => ⟨S64x50176, .f32⟩
  | .hbm, ⟨14, _⟩ => ⟨S50000, .f32⟩
  | .hbm, ⟨15, _⟩ => ⟨S_, .i32⟩
  | .hbm, ⟨16, _⟩ => ⟨S_, .f32⟩
  | .hbm, ⟨17, _⟩ => ⟨S50176, .f32⟩
  | .hbm, ⟨18, _⟩ => ⟨S1x50176, .f32⟩
  | .hbm, ⟨19, _⟩ => ⟨S50000, .f32⟩
  | .hbm, ⟨20, _⟩ => ⟨S_, .i32⟩
  | .hbm, ⟨21, _⟩ => ⟨S_, .f32⟩
  | .hbm, ⟨22, _⟩ => ⟨S50176, .f32⟩
  | .hbm, ⟨23, _⟩ => ⟨S1x50176, .f32⟩
  | .hbm, ⟨24, _⟩ => ⟨S800000x64, .f32⟩
  | .hbm, ⟨25, _⟩ => ⟨S800000, .f32⟩
  | .hbm, ⟨26, _⟩ => ⟨S_, .i32⟩
  | .hbm, ⟨27, _⟩ => ⟨S_, .f32⟩
  | .hbm, ⟨28, _⟩ => ⟨S819200, .f32⟩
  | .hbm, ⟨29, _⟩ => ⟨S1600x512, .f32⟩
  | .hbm, ⟨30, _⟩ => ⟨S800000x64, .f32⟩
  | .hbm, ⟨31, _⟩ => ⟨S800000, .f32⟩
  | .hbm, ⟨32, _⟩ => ⟨S_, .i32⟩
  | .hbm, ⟨33, _⟩ => ⟨S_, .f32⟩
  | .hbm, ⟨34, _⟩ => ⟨S819200, .f32⟩
  | .hbm, ⟨35, _⟩ => ⟨S1600x512, .f32⟩
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_call2_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_call4_v0 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Combine.lean ====
abbrev S32x50176 : Shape := ⟨2, ![32, 50176]⟩
abbrev S1x50176 : Shape := ⟨2, ![1, 50176]⟩
abbrev S50176 : Shape := ⟨1, ![50176]⟩

abbrev nBuf : Space → Nat
  | .hbm => 8
  | .vmem => 8
  | .smem => 0
  | _ => 0

abbrev bufTy : (tb : Table) → Fin (tcTables nBuf tb) → BufTy
  | .hbm, ⟨0, _⟩ => ⟨S32x50176, .f32⟩
  | .hbm, ⟨1, _⟩ => ⟨S32x50176, .f32⟩
  | .hbm, ⟨2, _⟩ => ⟨S32x50176, .f32⟩
  | .hbm, ⟨3, _⟩ => ⟨S32x50176, .f32⟩
  | .hbm, ⟨4, _⟩ => ⟨S1x50176, .f32⟩
  | .hbm, ⟨5, _⟩ => ⟨S1x50176, .f32⟩
  | .hbm, ⟨6, _⟩ => ⟨S1x50176, .f32⟩
  | .hbm, ⟨7, _⟩ => ⟨S1x50176, .f32⟩
  | .local _ .vmem, ⟨0, _⟩ => ⟨S32x50176, .f32⟩
  | .local _ .vmem, ⟨1, _⟩ => ⟨S32x50176, .f32⟩
  | .local _ .vmem, ⟨2, _⟩ => ⟨S32x50176, .f32⟩
  | .local _ .vmem, ⟨3, _⟩ => ⟨S32x50176, .f32⟩
  | .local _ .vmem, ⟨4, _⟩ => ⟨S1x50176, .f32⟩
  | .local _ .vmem, ⟨5, _⟩ => ⟨S1x50176, .f32⟩
  | .local _ .vmem, ⟨6, _⟩ => ⟨S1x50176, .f32⟩
  | .local _ .vmem, ⟨7, _⟩ => ⟨S1x50176, .f32⟩
  | _, _ => ⟨S32x50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S32x50176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x50176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x50176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x50176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x50176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x50176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x50176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x50176 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== CombineReferenceIdeal.lean ====
abbrev S32x50176 : Shape := ⟨2, ![32, 50176]⟩
abbrev S_ : Shape := ⟨0, ![]⟩
abbrev S50176 : Shape := ⟨1, ![50176]⟩
abbrev S1x50176 : Shape := ⟨2, ![1, 50176]⟩

abbrev nBuf : Space → Nat
  | .hbm => 16
  | .vmem => 0
  | .smem => 0
  | _ => 0

abbrev bufTy : (tb : Table) → Fin (tcTables nBuf tb) → BufTy
  | .hbm, ⟨0, _⟩ => ⟨S32x50176, .f32⟩
  | .hbm, ⟨1, _⟩ => ⟨S32x50176, .f32⟩
  | .hbm, ⟨2, _⟩ => ⟨S32x50176, .f32⟩
  | .hbm, ⟨3, _⟩ => ⟨S32x50176, .f32⟩
  | .hbm, ⟨4, _⟩ => ⟨S_, .f32⟩
  | .hbm, ⟨5, _⟩ => ⟨S50176, .f32⟩
  | .hbm, ⟨6, _⟩ => ⟨S1x50176, .f32⟩
  | .hbm, ⟨7, _⟩ => ⟨S_, .f32⟩
  | .hbm, ⟨8, _⟩ => ⟨S50176, .f32⟩
  | .hbm, ⟨9, _⟩ => ⟨S1x50176, .f32⟩
  | .hbm, ⟨10, _⟩ => ⟨S_, .f32⟩
  | .hbm, ⟨11, _⟩ => ⟨S50176, .f32⟩
  | .hbm, ⟨12, _⟩ => ⟨S1x50176, .f32⟩
  | .hbm, ⟨13, _⟩ => ⟨S_, .f32⟩
  | .hbm, ⟨14, _⟩ => ⟨S50176, .f32⟩
  | .hbm, ⟨15, _⟩ => ⟨S1x50176, .f32⟩
  | _, _ => ⟨S32x50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Middle.lean ====
abbrev S50176 : Shape := ⟨1, ![50176]⟩
abbrev S50176x64 : Shape := ⟨2, ![50176, 64]⟩
abbrev S64 : Shape := ⟨1, ![64]⟩
abbrev S64x64 : Shape := ⟨2, ![64, 64]⟩
abbrev S1x50176 : Shape := ⟨2, ![1, 50176]⟩
abbrev S64x50176 : Shape := ⟨2, ![64, 50176]⟩
abbrev S64x1 : Shape := ⟨2, ![64, 1]⟩
abbrev S64x50000 : Shape := ⟨2, ![64, 50000]⟩

abbrev nBuf : Space → Nat
  | .hbm => 32
  | .vmem => 18
  | .smem => 0
  | _ => 0

abbrev bufTy : (tb : Table) → Fin (tcTables nBuf tb) → BufTy
  | .hbm, ⟨0, _⟩ => ⟨S50176, .f32⟩
  | .hbm, ⟨1, _⟩ => ⟨S50176, .f32⟩
  | .hbm, ⟨2, _⟩ => ⟨S50176, .f32⟩
  | .hbm, ⟨3, _⟩ => ⟨S50176, .f32⟩
  | .hbm, ⟨4, _⟩ => ⟨S50176, .f32⟩
  | .hbm, ⟨5, _⟩ => ⟨S50176, .f32⟩
  | .hbm, ⟨6, _⟩ => ⟨S50176x64, .f32⟩
  | .hbm, ⟨7, _⟩ => ⟨S50176x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S1x50176, .f32⟩
  | .hbm, ⟨15, _⟩ => ⟨S1x50176, .f32⟩
  | .hbm, ⟨16, _⟩ => ⟨S1x50176, .f32⟩
  | .hbm, ⟨17, _⟩ => ⟨S1x50176, .f32⟩
  | .hbm, ⟨18, _⟩ => ⟨S1x50176, .f32⟩
  | .hbm, ⟨19, _⟩ => ⟨S1x50176, .f32⟩
  | .hbm, ⟨20, _⟩ => ⟨S64x50176, .f32⟩
  | .hbm, ⟨21, _⟩ => ⟨S64x50176, .f32⟩
  | .hbm, ⟨22, _⟩ => ⟨S64x1, .f32⟩
  | .hbm, ⟨23, _⟩ => ⟨S64x1, .f32⟩
  | .hbm, ⟨24, _⟩ => ⟨S64x1, .f32⟩
  | .hbm, ⟨25, _⟩ => ⟨S64x64, .f32⟩
  | .hbm, ⟨26, _⟩ => ⟨S64x1, .f32⟩
  | .hbm, ⟨27, _⟩ => ⟨S64x1, .f32⟩
  | .hbm, ⟨28, _⟩ => ⟨S64x50176, .f32⟩
  | .hbm, ⟨29, _⟩ => ⟨S1x50176, .f32⟩
  | .hbm, ⟨30, _⟩ => ⟨S1x50176, .f32⟩
  | .hbm, ⟨31, _⟩ => ⟨S1x50176, .f32⟩
  | .local _ .vmem, ⟨0, _⟩ => ⟨S1x50176, .f32⟩
  | .local _ .vmem, ⟨1, _⟩ => ⟨S1x50176, .f32⟩
  | .local _ .vmem, ⟨2, _⟩ => ⟨S1x50176, .f32⟩
  | .local _ .vmem, ⟨3, _⟩ => ⟨S1x50176, .f32⟩
  | .local _ .vmem, ⟨4, _⟩ => ⟨S1x50176, .f32⟩
  | .local _ .vmem, ⟨5, _⟩ => ⟨S1x50176, .f32⟩
  | .local _ .vmem, ⟨6, _⟩ => ⟨S64x50176, .f32⟩
  | .local _ .vmem, ⟨7, _⟩ => ⟨S64x50176, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S64x64, .f32⟩
  | .local _ .vmem, ⟨12, _⟩ => ⟨S64x1, .f32⟩
  | .local _ .vmem, ⟨13, _⟩ => ⟨S64x1, .f32⟩
  | .local _ .vmem, ⟨14, _⟩ => ⟨S64x50176, .f32⟩
  | .local _ .vmem, ⟨15, _⟩ => ⟨S1x50176, .f32⟩
  | .local _ .vmem, ⟨16, _⟩ => ⟨S1x50176, .f32⟩
  | .local _ .vmem, ⟨17, _⟩ => ⟨S1x50176, .f32⟩
  | _, _ => ⟨S50176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v14_3 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S1x50176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x50176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x50176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x50176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x50176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x50176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x50176 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x50176 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x50176 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x50176 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x50176 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x50176 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== MiddleReferenceIdeal.lean ====
abbrev S50176 : Shape := ⟨1, ![50176]⟩
abbrev S50176x64 : Shape := ⟨2, ![50176, 64]⟩
abbrev S64 : Shape := ⟨1, ![64]⟩
abbrev S64x64 : Shape := ⟨2, ![64, 64]⟩
abbrev S_ : Shape := ⟨0, ![]⟩
abbrev S50176x1 : Shape := ⟨2, ![50176, 1]⟩
abbrev S1x64 : Shape := ⟨2, ![1, 64]⟩
abbrev S50000x64 : Shape := ⟨2, ![50000, 64]⟩
abbrev S64x50176 : Shape := ⟨2, ![64, 50176]⟩
abbrev S1x50176 : Shape := ⟨2, ![1, 50176]⟩

abbrev nBuf : Space → Nat
  | .hbm => 116
  | .vmem => 0
  | .smem => 0
  | _ => 0

abbrev bufTy : (tb : Table) → Fin (tcTables nBuf tb) → BufTy
  | .hbm, ⟨0, _⟩ => ⟨S50176, .f32⟩
  | .hbm, ⟨1, _⟩ => ⟨S50176, .f32⟩
  | .hbm, ⟨2, _⟩ => ⟨S50176, .f32⟩
  | .hbm, ⟨3, _⟩ => ⟨S50176, .f32⟩
  | .hbm, ⟨4, _⟩ => ⟨S50176, .f32⟩
  | .hbm, ⟨5, _⟩ => ⟨S50176, .f32⟩
  | .hbm, ⟨6, _⟩ => ⟨S50176x64, .f32⟩
  | .hbm, ⟨7, _⟩ => ⟨S50176x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S50176, .f32⟩
  | .hbm, ⟨15, _⟩ => ⟨S_, .f32⟩
  | .hbm, ⟨16, _⟩ => ⟨S50176, .f32⟩
  | .hbm, ⟨17, _⟩ => ⟨S50176, .i1⟩
  | .hbm, ⟨18, _⟩ => ⟨S_, .f32⟩
  | .hbm, ⟨19, _⟩ => ⟨S50176, .f32⟩
  | .hbm, ⟨20, _⟩ => ⟨S50176, .f32⟩
  | .hbm, ⟨21, _⟩ => ⟨S50176, .f32⟩
  | .hbm, ⟨22, _⟩ => ⟨S_, .f32⟩
  | .hbm, ⟨23, _⟩ => ⟨S_, .f32⟩
  | .hbm, ⟨24, _⟩ => ⟨S50176, .f32⟩
  | .hbm, ⟨25, _⟩ => ⟨S50176, .f32⟩
  | .hbm, ⟨26, _⟩ => ⟨S50176, .f32⟩
  | .hbm, ⟨27, _⟩ => ⟨S_, .f32⟩
  | .hbm, ⟨28, _⟩ => ⟨S50176, .f32⟩
  | .hbm, ⟨29, _⟩ => ⟨S50176, .i1⟩
  | .hbm, ⟨30, _⟩ => ⟨S_, .f32⟩
  | .hbm, ⟨31, _⟩ => ⟨S50176, .f32⟩
  | .hbm, ⟨32, _⟩ => ⟨S50176, .f32⟩
  | .hbm, ⟨33, _⟩ => ⟨S50176, .f32⟩
  | .hbm, ⟨34, _⟩ => ⟨S50176, .f32⟩
  | .hbm, ⟨35, _⟩ => ⟨S50176x1, .f32⟩
  | .hbm, ⟨36, _⟩ => ⟨S50176x64, .f32⟩
  | .hbm, ⟨37, _⟩ => ⟨S50176x64, .f32⟩
  | .hbm, ⟨38, _⟩ => ⟨S50176x64, .f32⟩
  | .hbm, ⟨39, _⟩ => ⟨S50176, .f32⟩
  | .hbm, ⟨40, _⟩ => ⟨S_, .f32⟩
  | .hbm, ⟨41, _⟩ => ⟨S50176, .f32⟩
  | .hbm, ⟨42, _⟩ => ⟨S50176, .f32⟩
  | .hbm, ⟨43, _⟩ => ⟨S50176x1, .f32⟩
  | .hbm, ⟨44, _⟩ => ⟨S50176x64, .f32⟩
  | .hbm, ⟨45, _⟩ => ⟨S50176x64, .f32⟩
  | .hbm, ⟨46, _⟩ => ⟨S1x64, .f32⟩
  | .hbm, ⟨47, _⟩ => ⟨S50176x64, .f32⟩
  | .hbm, ⟨48, _⟩ => ⟨S50176x64, .f32⟩
  | .hbm, ⟨49, _⟩ => ⟨S50000x64, .f32⟩
  | .hbm, ⟨50, _⟩ => ⟨S_, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S50000x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S50176x64, .f32⟩
  | .hbm, ⟨67, _⟩ => ⟨S50176x64, .f32⟩
  | .hbm, ⟨68, _⟩ => ⟨S1x64, .f32⟩
  | .hbm, ⟨69, _⟩ => ⟨S50176x64, .f32⟩
  | .hbm, ⟨70, _⟩ => ⟨S50176x64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S1x64, .f32⟩
  | .hbm, ⟨76, _⟩ => ⟨S50176x64, .f32⟩
  | .hbm, ⟨77, _⟩ => ⟨S50176x64, .f32⟩
  | .hbm, ⟨78, _⟩ => ⟨S1x64, .f32⟩
  | .hbm, ⟨79, _⟩ => ⟨S50176x64, .f32⟩
  | .hbm, ⟨80, _⟩ => ⟨S50176x64, .f32⟩
  | .hbm, ⟨81, _⟩ => ⟨S_, .f32⟩
  | .hbm, ⟨82, _⟩ => ⟨S50176x64, .f32⟩
  | .hbm, ⟨83, _⟩ => ⟨S50176x64, .i1⟩
  | .hbm, ⟨84, _⟩ => ⟨S_, .f32⟩
  | .hbm, ⟨85, _⟩ => ⟨S50176x64, .f32⟩
  | .hbm, ⟨86, _⟩ => ⟨S50176x64, .f32⟩
  | .hbm, ⟨87, _⟩ => ⟨S50176x64, .f32⟩
  | .hbm, ⟨88, _⟩ => ⟨S50176x64, .f32⟩
  | .hbm, ⟨89, _⟩ => ⟨S50176, .f32⟩
  | .hbm, ⟨90, _⟩ => ⟨S50176, .f32⟩
  | .hbm, ⟨91, _⟩ => ⟨S50176, .f32⟩
  | .hbm, ⟨92, _⟩ => ⟨S_, .f32⟩
  | .hbm, ⟨93, _⟩ => ⟨S50176, .f32⟩
  | .hbm, ⟨94, _⟩ => ⟨S50176, .i1⟩
  | .hbm, ⟨95, _⟩ => ⟨S_, .f32⟩
  | .hbm, ⟨96, _⟩ => ⟨S50176, .f32⟩
  | .hbm, ⟨97, _⟩ => ⟨S50176, .f32⟩
  | .hbm, ⟨98, _⟩ => ⟨S50176, .f32⟩
  | .hbm, ⟨99, _⟩ => ⟨S_, .f32⟩
  | .hbm, ⟨100, _⟩ => ⟨S_, .f32⟩
  | .hbm, ⟨101, _⟩ => ⟨S50176, .f32⟩
  | .hbm, ⟨102, _⟩ => ⟨S50176, .f32⟩
  | .hbm, ⟨103, _⟩ => ⟨S50176, .f32⟩
  | .hbm, ⟨104, _⟩ => ⟨S_, .f32⟩
  | .hbm, ⟨105, _⟩ => ⟨S50176, .f32⟩
  | .hbm, ⟨106, _⟩ => ⟨S50176, .i1⟩
  | .hbm, ⟨107, _⟩ => ⟨S_, .f32⟩
  | .hbm, ⟨108, _⟩ => ⟨S50176, .f32⟩
  | .hbm, ⟨109, _⟩ => ⟨S50176, .f32⟩
  | .hbm, ⟨110, _⟩ => ⟨S50176, .f32⟩
  | .hbm, ⟨111, _⟩ => ⟨S50176, .f32⟩
  | .hbm, ⟨112, _⟩ => ⟨S64x50176, .f32⟩
  | .hbm, ⟨113, _⟩ => ⟨S1x50176, .f32⟩
  | .hbm, ⟨114, _⟩ => ⟨S1x50176, .f32⟩
  | .hbm, ⟨115, _⟩ => ⟨S1x50176, .f32⟩
  | _, _ => ⟨S50176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_cst_13 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_14 : Ref sig .tc := ⟨.hbm, 99, rfl⟩
abbrev main_call3_v0 : Ref sig .tc := ⟨.hbm, 100, rfl⟩
abbrev main_call3_v1 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_cst_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩

abbrev nD : Nat := 1
abbrev τ : Topo := Topo.v7x

variable {F : FTy → Type} [FloatOps F]
-- ==== Finish.lean ====
abbrev S50000x64 : Shape := ⟨2, ![50000, 64]⟩
abbrev S32x50000 : Shape := ⟨2, ![32, 50000]⟩
abbrev S50000 : Shape := ⟨1, ![50000]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S64x50000 : Shape := ⟨2, ![64, 50000]⟩
abbrev S_ : Shape := ⟨0, ![]⟩
abbrev S64x50176 : Shape := ⟨2, ![64, 50176]⟩
abbrev S32x50176 : Shape := ⟨2, ![32, 50176]⟩
abbrev S50176 : Shape := ⟨1, ![50176]⟩
abbrev S1x50176 : Shape := ⟨2, ![1, 50176]⟩
abbrev S64x1 : Shape := ⟨2, ![64, 1]⟩
abbrev S32x64 : Shape := ⟨2, ![32, 64]⟩
abbrev S1x32 : Shape := ⟨2, ![1, 32]⟩
abbrev S1x1 : Shape := ⟨2, ![1, 1]⟩

abbrev nBuf : Space → Nat
  | .hbm => 35
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S32x50000, .f32⟩
  | .hbm, ⟨3, _⟩ => ⟨S50000, .f32⟩
  | .hbm, ⟨4, _⟩ => ⟨S50000, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S64x50000, .f32⟩
  | .hbm, ⟨11, _⟩ => ⟨S_, .i32⟩
  | .hbm, ⟨12, _⟩ => ⟨S_, .f32⟩
  | .hbm, ⟨13, _⟩ => ⟨S64x50176, .f32⟩
  | .hbm, ⟨14, _⟩ => ⟨S64x50000, .f32⟩
  | .hbm, ⟨15, _⟩ => ⟨S_, .i32⟩
  | .hbm, ⟨16, _⟩ => ⟨S_, .f32⟩
  | .hbm, ⟨17, _⟩ => ⟨S64x50176, .f32⟩
  | .hbm, ⟨18, _⟩ => ⟨S_, .i32⟩
  | .hbm, ⟨19, _⟩ => ⟨S_, .f32⟩
  | .hbm, ⟨20, _⟩ => ⟨S32x50176, .f32⟩
  | .hbm, ⟨21, _⟩ => ⟨S_, .i32⟩
  | .hbm, ⟨22, _⟩ => ⟨S_, .f32⟩
  | .hbm, ⟨23, _⟩ => ⟨S50176, .f32⟩
  | .hbm, ⟨24, _⟩ => ⟨S1x50176, .f32⟩
  | .hbm, ⟨25, _⟩ => ⟨S_, .i32⟩
  | .hbm, ⟨26, _⟩ => ⟨S_, .f32⟩
  | .hbm, ⟨27, _⟩ => ⟨S50176, .f32⟩
  | .hbm, ⟨28, _⟩ => ⟨S1x50176, .f32⟩
  | .hbm, ⟨29, _⟩ => ⟨S64x1, .f32⟩
  | .hbm, ⟨30, _⟩ => ⟨S32x64, .f32⟩
  | .hbm, ⟨31, _⟩ => ⟨S32x1, .f32⟩
  | .hbm, ⟨32, _⟩ => ⟨S1x32, .f32⟩
  | .hbm, ⟨33, _⟩ => ⟨S1x1, .f32⟩
  | .hbm, ⟨34, _⟩ => ⟨S1x50176, .f32⟩
  | .local _ .vmem, ⟨0, _⟩ => ⟨S64x50176, .f32⟩
  | .local _ .vmem, ⟨1, _⟩ => ⟨S64x50176, .f32⟩
  | .local _ .vmem, ⟨2, _⟩ => ⟨S32x50176, .f32⟩
  | .local _ .vmem, ⟨3, _⟩ => ⟨S1x50176, .f32⟩
  | .local _ .vmem, ⟨4, _⟩ => ⟨S1x50176, .f32⟩
  | .local _ .vmem, ⟨5, _⟩ => ⟨S64x1, .f32⟩
  | .local _ .vmem, ⟨6, _⟩ => ⟨S32x64, .f32⟩
  | .local _ .vmem, ⟨7, _⟩ => ⟨S32x1, .f32⟩
  | .local _ .vmem, ⟨8, _⟩ => ⟨S1x32, .f32⟩
  | .local _ .vmem, ⟨9, _⟩ => ⟨S1x1, .f32⟩
  | .local _ .vmem, ⟨10, _⟩ => ⟨S1x50176, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_c_1 : Ref sig .tc := ⟨.hbm, 18, rfl⟩
abbrev main_call2_v0 : Ref sig .tc := ⟨.hbm, 19, rfl⟩
abbrev main_v4 : Ref sig .tc := ⟨.hbm, 20, rfl⟩
abbrev main_c_2 : Ref sig .tc := ⟨.hbm, 21, rfl⟩
abbrev main_call3_v0 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_call4_v0 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S64x50176 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x50176 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x50176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x50176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x50176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x50176 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== FinishReferenceIdeal.lean ====
abbrev S50000x64 : Shape := ⟨2, ![50000, 64]⟩
abbrev S32x50000 : Shape := ⟨2, ![32, 50000]⟩
abbrev S50000 : Shape := ⟨1, ![50000]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩
abbrev S50000x1 : Shape := ⟨2, ![50000, 1]⟩
abbrev S1x64 : Shape := ⟨2, ![1, 64]⟩
abbrev S50000x32 : Shape := ⟨2, ![50000, 32]⟩
abbrev S1x32 : Shape := ⟨2, ![1, 32]⟩
abbrev S1x1 : Shape := ⟨2, ![1, 1]⟩
abbrev S50176 : Shape := ⟨1, ![50176]⟩
abbrev S1x50176 : Shape := ⟨2, ![1, 50176]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S32x50000, .f32⟩
  | .hbm, ⟨3, _⟩ => ⟨S50000, .f32⟩
  | .hbm, ⟨4, _⟩ => ⟨S50000, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S_, .f32⟩
  | .hbm, ⟨11, _⟩ => ⟨S50000, .f32⟩
  | .hbm, ⟨12, _⟩ => ⟨S50000, .f32⟩
  | .hbm, ⟨13, _⟩ => ⟨S50000x1, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x64, .f32⟩
  | .hbm, ⟨22, _⟩ => ⟨S50000x64, .f32⟩
  | .hbm, ⟨23, _⟩ => ⟨S1x64, .f32⟩
  | .hbm, ⟨24, _⟩ => ⟨S50000x64, .f32⟩
  | .hbm, ⟨25, _⟩ => ⟨S50000x64, .f32⟩
  | .hbm, ⟨26, _⟩ => ⟨S_, .f32⟩
  | .hbm, ⟨27, _⟩ => ⟨S50000x64, .f32⟩
  | .hbm, ⟨28, _⟩ => ⟨S50000x64, .i1⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S50000x64, .f32⟩
  | .hbm, ⟨33, _⟩ => ⟨S50000x32, .f32⟩
  | .hbm, ⟨34, _⟩ => ⟨S1x32, .f32⟩
  | .hbm, ⟨35, _⟩ => ⟨S50000x32, .f32⟩
  | .hbm, ⟨36, _⟩ => ⟨S50000x32, .f32⟩
  | .hbm, ⟨37, _⟩ => ⟨S_, .f32⟩
  | .hbm, ⟨38, _⟩ => ⟨S50000x32, .f32⟩
  | .hbm, ⟨39, _⟩ => ⟨S50000x32, .i1⟩
  | .hbm, ⟨40, _⟩ => ⟨S_, .f32⟩
  | .hbm, ⟨41, _⟩ => ⟨S50000x32, .f32⟩
  | .hbm, ⟨42, _⟩ => ⟨S50000x32, .f32⟩
  | .hbm, ⟨43, _⟩ => ⟨S50000x32, .f32⟩
  | .hbm, ⟨44, _⟩ => ⟨S50000x1, .f32⟩
  | .hbm, ⟨45, _⟩ => ⟨S1x1, .f32⟩
  | .hbm, ⟨46, _⟩ => ⟨S50000x1, .f32⟩
  | .hbm, ⟨47, _⟩ => ⟨S50000x1, .f32⟩
  | .hbm, ⟨48, _⟩ => ⟨S50000, .f32⟩
  | .hbm, ⟨49, _⟩ => ⟨S50000, .f32⟩
  | .hbm, ⟨50, _⟩ => ⟨S_, .i32⟩
  | .hbm, ⟨51, _⟩ => ⟨S_, .f32⟩
  | .hbm, ⟨52, _⟩ => ⟨S50176, .f32⟩
  | .hbm, ⟨53, _⟩ => ⟨S1x50176, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_call2_v0 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Proof.Value.lean ====
/-
  What one vector subcore computes, as functions of the padded edge arrays: a table gathered along the edges, and a row of
  sums accumulated group by group, sixteen edges at a time, each group by one indexed store with add.
-/
module

public import Idealize.ShloMosaic.PureOps.ShapeOps
public import Idealize.ShloMosaic.PureOps.Float
public import Idealize.ShloMosaic.Lib.SparseCore.Ops

@[expose] public section

noncomputable section

namespace Cert.Proof

open Idealize.ShloMosaic Idealize.SL.Sem

variable {F : FTy → Type}

/-- Sixteen lanes, the padded edges, the padded nodes, features by nodes, subcores by nodes. -/
abbrev B16 : Shape := ⟨1, ![16]⟩
abbrev BE : Shape := ⟨1, ![819200]⟩
abbrev BN : Shape := ⟨1, ![50176]⟩
abbrev BH : Shape := ⟨2, ![64, 50176]⟩
abbrev BP : Shape := ⟨2, ![32, 50176]⟩

/-- Position `k` of the padded edge arrays (`k < 819200` wherever it is used). -/
def edgeIx (k : ℕ) : BE.Idx := fun a => ⟨k % 819200, by
  obtain rfl : a = 0 := Subsingleton.elim _ _
  exact Nat.mod_lt _ (by decide)⟩

/-- Node `n` of a row (`n < 50176` wherever it is used). -/
def nodeAt (n : ℕ) : BN.Idx := fun a => ⟨n % 50176, by
  obtain rfl : a = 0 := Subsingleton.elim _ _
  exact Nat.mod_lt _ (by decide)⟩

/-- Group `g` of an edge array: its sixteen elements from `16 * g` on. -/
def grp {α : Type} (a : BE.Idx → α) (g : ℕ) : B16.Idx → α := fun x => a (edgeIx (16 * g + (x 0).val))

/-- The `n` elements of an edge array from `b` on. -/
def chunk {α : Type} (n : ℕ) (a : BE.Idx → α) (b : ℕ) : (⟨1, ![n]⟩ : Shape).Idx → α := fun x => a (edgeIx (b + (x 0).val))

/-- Every word of `a` names a padded node. -/
def InRange (a : IVec BE 32) : Prop := ∀ j, (a j).toNat < 50176

/-- The condition the kernel checks of sixteen indices. -/
def Chk (v : IVec B16 32) : Prop := ∀ (a : Fin 1) x, ((![v] : Fin 1 → IVec B16 32) a x).toNat < BN.size a

theorem chk_grp {a : IVec BE 32} (h : InRange a) (g : ℕ) : Chk (grp a g) := by
  intro i x
  obtain rfl : i = 0 := Subsingleton.elim _ _
  exact h _

/-- A table of nodes read along the edges. -/
def gath {α : Type} (tab : BN.Idx → α) (idx : IVec BE 32) : BE.Idx → α := fun e => tab (nodeAt (idx e).toNat)

theorem loadIdx_grp {e : EltTy} (tab : Vec F BN e) {idx : IVec BE 32} (h : InRange idx) (g : ℕ) (hc : Chk (grp idx g)) :
    loadIdx tab ![grp idx g] hc = grp (gath tab idx) g := by
  funext x
  show tab _ = tab _
  refine congrArg tab ?_
  funext b
  obtain rfl : b = 0 := Subsingleton.elim _ _
  exact Fin.ext (Nat.mod_eq_of_lt (h _)).symm

variable [FloatOps F]

open Classical in
/-- One group added: `f` with `pv` added at `dv`, lowest lane first (`f` itself when an index is out of range, which never
    happens to a task). -/
def addGrp (f : Vec F BN .f32) (dv : IVec B16 32) (pv : Vec F B16 .f32) : Vec F BN .f32 :=
  if h : Chk dv then storeIdx f ![dv] pv (fun _ => 1#1) true h else f

theorem addGrp_of {f : Vec F BN .f32} {dv : IVec B16 32} {pv : Vec F B16 .f32} (hd : Chk dv) :
    addGrp f dv pv = storeIdx f ![dv] pv (fun _ => 1#1) true hd := dif_pos hd

/-- The weight of a logit `a`: `exp (min (leaky a) cap)`, the slope below zero the nearest number to a fifth. -/
def actV {s : Shape} (cap : F .f32) (a : Vec F s .f32) : Vec F s .f32 :=
  exp (minimumf (select (cmpf .ogt a (broadcast s (Scalar.ofBits .f32 0x00000000#32))) a
    (mulf (broadcast s (Scalar.ofBits .f32 0x3E4CCCCD#32)) a)) (broadcast s cap))

/-- The edges all ones. -/
def onesE : Vec F BE .f32 := fun _ => Scalar.ofBits .f32 0x3F800000#32

/-- A row after `n` groups of edges from group `g` on, from zero. -/
def accS (idx : IVec BE 32) (val : Vec F BE .f32) (g : ℕ) : ℕ → Vec F BN .f32
  | 0 => fun _ => Scalar.ofBits .f32 0x00000000#32
  | n + 1 => addGrp (accS idx val g n) (grp idx (g + n)) (grp val (g + n))

/-- The place of row `n`, node `j`, in an array of `m` rows. -/
def rowIx (m : ℕ) (hm : 0 < m) (n : ℕ) (j : BN.Idx) : (⟨2, ![m, 50176]⟩ : Shape).Idx := fun a =>
  match a with
  | ⟨0, _⟩ => ⟨n % m, Nat.mod_lt _ hm⟩
  | ⟨1, _⟩ => ⟨(j 0).val, (j 0).isLt⟩

/-- The node of a place. -/
def nodeIx {m : ℕ} (i : (⟨2, ![m, 50176]⟩ : Shape).Idx) : BN.Idx := fun a => ⟨(i 1).val, by
  obtain rfl : a = 0 := Subsingleton.elim _ _
  exact (i 1).isLt⟩

/-- Row `n` of an array of rows. -/
def rowOf {α : Type} {m : ℕ} (hm : 0 < m) (H : (⟨2, ![m, 50176]⟩ : Shape).Idx → α) (n : ℕ) : BN.Idx → α := fun j => H (rowIx m hm n j)

theorem rowOf_mk {α : Type} {m : ℕ} (hm : 0 < m) (r : ℕ → BN.Idx → α) {n : ℕ} (hn : n < m) :
    rowOf hm (fun i => r (i 0).val (nodeIx i)) n = r n := by
  funext j
  show r (n % m) (nodeIx (rowIx m hm n j)) = _
  have h2 : nodeIx (rowIx m hm n j) = j := by
    funext a
    obtain rfl : a = 0 := Subsingleton.elim _ _
    rfl
  rw [h2, Nat.mod_eq_of_lt hn]

/-- The numerators: each feature's row has its products of all 51200 groups of edges added. -/
def numOf (src dst : IVec BE 32) (ex : Vec F BE .f32) (H : Vec F BH .f32) : Vec F BH .f32 :=
  fun i => accS dst (mulf (gath (rowOf (by decide) H (i 0).val) src) ex) 0 51200 (nodeIx i)

/-- The partial sums: row `w` has the 1600 groups of edges of subcore `w` added. -/
def partOf (idx : IVec BE 32) (val : Vec F BE .f32) : Vec F BP .f32 :=
  fun i => accS idx val (1600 * (i 0).val) 1600 (nodeIx i)

theorem rowOf_numOf (src dst : IVec BE 32) (ex : Vec F BE .f32) (H : Vec F BH .f32) {n : ℕ} (hn : n < 64) :
    rowOf (by decide) (numOf src dst ex H) n = accS dst (mulf (gath (rowOf (by decide) H n) src) ex) 0 51200 :=
  rowOf_mk (by decide) (fun n => accS dst (mulf (gath (rowOf (by decide) H n) src) ex) 0 51200) hn

theorem rowOf_partOf (idx : IVec BE 32) (val : Vec F BE .f32) {n : ℕ} (hn : n < 32) :
    rowOf (by decide) (partOf idx val) n = accS idx val (1600 * n) 1600 :=
  rowOf_mk (by decide) (fun n => accS idx val (1600 * n) 1600) hn

end Cert.Proof

end
-- ==== Proof.Run.Setup.lean ====
/-
  The five calls to the SparseCores as the launch sees them, all in one shape: a call is handed some arrays to read, each at
  a share, and some to write, each split among the 32 vector subcores by a fixed rule, and hands them back with the written
  ones at new contents. What remains per call is the run of one subcore's task.
-/
module

public import proofs.«01_k».proof.Proof.Value
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Pipeline.Frame
public import Idealize.ShloMosaic.Lib.Tactic

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTok shareDrop pointsTo_toks)
open Idealize.ShloMosaic.StableHlo (held held_sub_split held_congr wp_seq seq after)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 5 := sc (F := F)
theorem nSub_eq (q : Fin 5) : (K (F := F)).nSub q = 16 := match q with | 0 => rfl | 1 => rfl | 2 => rfl | 3 => rfl | 4 => rfl
theorem nCore_eq (q : Fin 5) : (K (F := F)).nCore q = 2 := match q with | 0 => rfl | 1 => rfl | 2 => rfl | 3 => rfl | 4 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 5) (Elt F) ℕ UU ℕ

abbrev EH : Emb UH (MT nD τ sig (HIx 5) (Elt F) ℕ UU ℕ) := embL

/-! ## Big stars -/

theorem bigSep_list {α : Type} [DecidableEq α] (Φ : α → sProp 𝕄) : ∀ (l : List α) (S : Finset α), l.Nodup → (∀ a ∈ l, a ∈ S) →
    bigSep S Φ = l.foldr (fun a P => iprop(Φ a ∗ P)) (bigSep (S \ l.toFinset) Φ)
  | [], S, _, _ => by simp
  | a :: l, S, hn, hm => by
    rw [List.foldr_cons, SparseCore.bigSep_erase' (hm a List.mem_cons_self),
      bigSep_list Φ l (S.erase a) (List.nodup_cons.mp hn).2 fun b hb =>
        Finset.mem_erase.mpr ⟨fun e => (List.nodup_cons.mp hn).1 (e ▸ hb), hm b (List.mem_cons_of_mem _ hb)⟩]
    have e : (S.erase a) \ l.toFinset = S \ (a :: l).toFinset := by
      ext x
      simp only [Finset.mem_sdiff, Finset.mem_erase, List.toFinset_cons, Finset.mem_insert, not_or]
      tauto
    rw [e]

/-- A star over a list. -/
def starL {α : Type} (Φ : α → sProp 𝕄) (l : List α) : sProp 𝕄 := l.foldr (fun a P => iprop(Φ a ∗ P)) iprop(emp)

theorem foldr_star {α : Type} (Φ : α → sProp 𝕄) (R : sProp 𝕄) (l : List α) :
    l.foldr (fun a P => iprop(Φ a ∗ P)) R ⊣⊢ iprop(starL Φ l ∗ R) := by
  unfold starL
  induction l with
  | nil => exact ⟨BI.emp_sep.2, BI.emp_sep.1⟩
  | cons a l ih =>
    simp only [List.foldr_cons]
    refine ⟨?_, ?_⟩
    · iintro ⟨Ha, H⟩
      ihave H := ih.1 $$ H
      icases H with ⟨Hl, HR⟩
      iframe
    · iintro ⟨⟨Ha, Hl⟩, HR⟩
      isplitl [Ha]; · iexact Ha
      iapply ih.2
      iframe

theorem bigSep_swap {I J : Type} (s : Finset I) (t : Finset J) (Φ : I → J → sProp 𝕄) :
    (bigSep s fun i => bigSep t fun j => Φ i j) = bigSep t fun j => bigSep s fun i => Φ i j := by
  classical
  induction s using Finset.induction_on with
  | empty => simp only [bigSep_empty]; exact (bigSep_emp_const t).symm
  | insert a s ha ih =>
    rw [SparseCore.bigSep_insert' ha, ih, ← bigSep_sep']
    refine bigSep_congr fun j _ => ?_
    rw [SparseCore.bigSep_insert' ha]

theorem bigSep_cast {n k : ℕ} (h : n = k) (Φ : Fin k → sProp 𝕄) :
    (bigSep Finset.univ fun i : Fin n => Φ (Fin.cast h i)) = bigSep Finset.univ Φ := by
  subst h; rfl

/-! ## What a subcore has of its own -/

section Own

variable (d : Dev nD) (c : Fin τ.nSC) (j : Fin τ.nSub)

/-- The counters in `l` at zero; the scratch buffers in `l` at any contents. -/
def semsZero (l : List (DmaSem sig)) : sProp 𝕄 := starL (fun s => semVal (V d c j, SemLoc.dma s) 0) l
def bufsAny (l : List (Ref sig .scVector)) : sProp 𝕄 :=
  starL (fun b => iprop(∃ f, (((d, (Proc.scVector c j).devRef b) : Loc nD τ sig) ↦{fullShare} f))) l

theorem ownSems0_split (l : List (DmaSem sig)) (hn : l.Nodup) (hs : ∀ s ∈ l, (SemLoc.dma s : SemLoc sig).isScoped .scVector = true) :
    ∃ R : sProp 𝕄, (ownSems0 (V d c j) : sProp 𝕄) ⊣⊢ iprop(semsZero d c j l ∗ R) := by
  let L : List (GSem nD τ sig) := l.map fun s => (V d c j, SemLoc.dma s)
  refine ⟨bigSep (ownCells (V d c j) \ L.toFinset) fun g => semVal g 0, ?_⟩
  have e : (ownSems0 (V d c j) : sProp 𝕄) = L.foldr (fun g P => iprop(semVal g 0 ∗ P)) (bigSep (ownCells (V d c j) \ L.toFinset) fun g => semVal g 0) :=
    bigSep_list (fun g => semVal g 0) L _ (List.Nodup.map (fun a b e => SemLoc.dma.inj (congrArg Prod.snd e)) hn) (by
      intro g hg
      obtain ⟨s, h, rfl⟩ := List.mem_map.mp hg
      exact (mem_ownCells (g := (V d c j, SemLoc.dma s))).mpr ⟨rfl, hs s h⟩)
  rw [e, List.foldr_map]
  exact foldr_star (fun s => semVal (V d c j, SemLoc.dma s) 0) _ l

theorem ownBufs_split (l : List (Ref sig .scVector)) (hn : l.Nodup)
    (hs : ∀ b ∈ l, ((Proc.scVector c j).devRef b : DevRef τ sig) ∈ ownRefs (τ := τ) (.scVector c j)) :
    ∃ R : sProp 𝕄, (ownBufs (V d c j) : sProp 𝕄) ⊣⊢ iprop(bufsAny d c j l ∗ R) := by
  let L : List (DevRef τ sig) := l.map (Proc.scVector c j).devRef
  let Φ : DevRef τ sig → sProp 𝕄 := fun b => iprop(∃ f, ((d, b) : Loc nD τ sig) ↦{fullShare} f)
  refine ⟨bigSep (ownRefs (τ := τ) (.scVector c j) \ L.toFinset) Φ, ?_⟩
  have e : (ownBufs (V d c j) : sProp 𝕄) = L.foldr (fun b P => iprop(Φ b ∗ P)) (bigSep (ownRefs (τ := τ) (.scVector c j) \ L.toFinset) Φ) :=
    bigSep_list Φ L _ (List.Nodup.map (Proc.devRef_injective _) hn) (by
      intro g hg
      obtain ⟨s, h, rfl⟩ := List.mem_map.mp hg
      exact hs s h)
  rw [e, List.foldr_map]
  exact foldr_star (fun b => Φ ((Proc.scVector c j).devRef b)) _ l

end Own

/-! ## What the calls move -/

/-- An array in the device's memory. -/
abbrev arr (r : Ref sig .tc) : DevRef τ sig := Proc.devRef .tc r

/-- The arrays a call reads, and those it writes. -/
def ins : Fin 5 → Finset (DevRef τ sig)
  | 0 => {arr main_v4, arr main_v5, arr main_v6, arr main_v7, arr main_v12}
  | 1 => {arr main_v5, arr main_v13_3, arr main_v14}
  | 2 => {arr main_v4, arr main_v5, arr main_v15_0, arr main_v9}
  | 3 => {arr main_v4, arr main_v5, arr main_v7, arr main_v17, arr main_v18}
  | 4 => {arr main_v4, arr main_v5, arr main_v19_1, arr main_v11}

def outs : Fin 5 → Finset (DevRef τ sig)
  | 0 => {arr main_v13_0, arr main_v13_1, arr main_v13_2, arr main_v13_3}
  | 1 => {arr main_v15_0, arr main_v15_1}
  | 2 => {arr main_v16}
  | 3 => {arr main_v19_0, arr main_v19_1, arr main_v19_2}
  | 4 => {arr main_v20}

theorem ins_outs (q : Fin 5) : Disjoint (ins q) (outs q) := match q with
  | 0 => by decide | 1 => by decide | 2 => by decide | 3 => by decide | 4 => by decide
theorem call_sub (q : Fin 5) : ins q ∪ outs q ⊆ Pipeline.ucRefs τ sig := match q with
  | 0 => by decide | 1 => by decide | 2 => by decide | 3 => by decide | 4 => by decide

/-- Which of the 32 subcores writes place `x` of an array: for an array over the edges the one whose edges these are, for an
    array of rows the row's number modulo 32. -/
def ownOf (b : DevRef τ sig) (x : b.ty.shape.Idx) : ℕ :=
  if h : 0 < b.ty.shape.rank then
    (if b.ty.shape.rank = 1 then (x ⟨0, h⟩).val / 25600 else (x ⟨0, h⟩).val) % 32
  else 0

theorem ownOf_lt (b : DevRef τ sig) (x : b.ty.shape.Idx) : ownOf b x < 32 := by
  unfold ownOf
  split
  · exact Nat.mod_lt _ (by decide)
  · decide

/-- The places of one task, and of one SparseCore. -/
def tileSet (b : DevRef τ sig) (c i : ℕ) : Finset b.ty.shape.Idx := Finset.univ.filter fun x => ownOf b x = 2 * i + c
def coreSet (b : DevRef τ sig) (c : ℕ) : Finset b.ty.shape.Idx := Finset.univ.filter fun x => ownOf b x % 2 = c

/-- The contents of the arrays before and after each call. -/
structure Calls (F : FTy → Type) where
  V : Fin 5 → Dev nD → Valuation τ sig (Elt F)
  W : Fin 5 → Dev nD → Valuation τ sig (Elt F)

/-- The share of the inputs one SparseCore reads at, and one of its vector subcores. -/
abbrev coreShare (c : Fin 2) : PosShare TreeShare := shareTok fullShare 2 c
abbrev tileShare (c : Fin 2) (i : Fin 16) : PosShare TreeShare := shareTok (coreShare c) 16 i

/-- The arrays in `S` at a share; the task's, the core's places of the arrays in `S`. -/
def insAt (S : Finset (DevRef τ sig)) (V : Valuation τ sig (Elt F)) (d : Dev nD) (q : PosShare TreeShare) : sProp 𝕄 :=
  bigSep S fun b => (((d, b) : Loc nD τ sig) ↦{q} V b)
def tileAt (S : Finset (DevRef τ sig)) (V : Valuation τ sig (Elt F)) (d : Dev nD) (c i : ℕ) : sProp 𝕄 :=
  bigSep S fun b => (((d, b) : Loc nD τ sig) ↦[tileSet b c i]{fullShare} V b)
def coreAt (S : Finset (DevRef τ sig)) (V : Valuation τ sig (Elt F)) (d : Dev nD) (c : ℕ) : sProp 𝕄 :=
  bigSep S fun b => (((d, b) : Loc nD τ sig) ↦[coreSet b c]{fullShare} V b)

instance insAt_storable (S : Finset (DevRef τ sig)) (V : Valuation τ sig (Elt F)) (d : Dev nD) (q : PosShare TreeShare) :
    BI.Storable (upEmb : UEmb _ 𝕄) (insAt S V d q) := by unfold insAt; infer_instance
instance tileAt_storable (S : Finset (DevRef τ sig)) (V : Valuation τ sig (Elt F)) (d : Dev nD) (c i : ℕ) :
    BI.Storable (upEmb : UEmb _ 𝕄) (tileAt S V d c i) := by unfold tileAt; infer_instance
instance coreAt_storable (S : Finset (DevRef τ sig)) (V : Valuation τ sig (Elt F)) (d : Dev nD) (c : ℕ) :
    BI.Storable (upEmb : UEmb _ 𝕄) (coreAt S V d c) := by unfold coreAt; infer_instance

variable (C : Calls F)

/-- What the calls' handshakes carry. -/
def P : (K (F := F)).Pay (nD := nD) (Val := Elt F) (Name := ℕ) (U := UU) where
  st := fun q d c => iprop(insAt (ins q) (C.V q d) d (coreShare (Fin.cast (nCore_eq q) c)) ∗ coreAt (outs q) (C.V q d) d c.val)
  dn := fun q d c => iprop(insAt (ins q) (C.V q d) d (coreShare (Fin.cast (nCore_eq q) c)) ∗ coreAt (outs q) (C.W q d) d c.val)
  go := fun q d c i => iprop(insAt (ins q) (C.V q d) d (tileShare (Fin.cast (nCore_eq q) c) (Fin.cast (nSub_eq q) i))
    ∗ tileAt (outs q) (C.V q d) d c.val i.val)
  td := fun q d c i => iprop(insAt (ins q) (C.V q d) d (tileShare (Fin.cast (nCore_eq q) c) (Fin.cast (nSub_eq q) i))
    ∗ tileAt (outs q) (C.W q d) d c.val i.val)
  x := fun _ _ => iprop(emp)

instance P_storable : (P C).IsStorable where
  st q d c := (inferInstance : BI.Storable (upEmb : UEmb _ 𝕄) iprop(insAt (ins q) (C.V q d) d (coreShare (Fin.cast (nCore_eq q) c)) ∗ coreAt (outs q) (C.V q d) d c.val))
  dn q d c := (inferInstance : BI.Storable (upEmb : UEmb _ 𝕄) iprop(insAt (ins q) (C.V q d) d (coreShare (Fin.cast (nCore_eq q) c)) ∗ coreAt (outs q) (C.W q d) d c.val))
  go q d c i := (inferInstance : BI.Storable (upEmb : UEmb _ 𝕄)
    iprop(insAt (ins q) (C.V q d) d (tileShare (Fin.cast (nCore_eq q) c) (Fin.cast (nSub_eq q) i)) ∗ tileAt (outs q) (C.V q d) d c.val i.val))
  td q d c i := (inferInstance : BI.Storable (upEmb : UEmb _ 𝕄)
    iprop(insAt (ins q) (C.V q d) d (tileShare (Fin.cast (nCore_eq q) c) (Fin.cast (nSub_eq q) i)) ∗ tileAt (outs q) (C.W q d) d c.val i.val))

/-! ## How the arrays split -/

theorem coreAt_tiles (S : Finset (DevRef τ sig)) (V : Valuation τ sig (Elt F)) (d : Dev nD) (c : Fin 2) :
    (coreAt S V d c.val : sProp 𝕄) = bigSep Finset.univ fun i : Fin 16 => tileAt S V d c.val i.val := by
  have hc : c.val < 2 := c.isLt
  unfold coreAt tileAt
  rw [bigSep_swap]
  refine bigSep_congr fun b _ => ?_
  have hcov : (Finset.univ : Finset (Fin 16)).biUnion (fun i => tileSet b c.val i.val) = coreSet b c.val := by
    ext x
    have hx := ownOf_lt b x
    simp only [tileSet, coreSet, Finset.mem_biUnion, Finset.mem_filter, Finset.mem_univ, true_and]
    constructor
    · rintro ⟨i, hi⟩; omega
    · intro h
      exact ⟨⟨ownOf b x / 2, by omega⟩, show ownOf b x = 2 * (ownOf b x / 2) + c.val by omega⟩
  rw [← hcov]
  refine pointsTo_biUnion Finset.univ (ℓ := ((d, b) : Loc nD τ sig)) (fun i : Fin 16 => tileSet b c.val i.val) (fun i _ j _ hij => ?_)
  rw [Finset.disjoint_left]
  intro x hx hy
  simp only [tileSet, Finset.mem_filter, Finset.mem_univ, true_and] at hx hy
  exact hij (Fin.ext (by omega))

theorem held_cores (S : Finset (DevRef τ sig)) (V : Valuation τ sig (Elt F)) (d : Dev nD) :
    (held (SparseCore.T d) S V : sProp 𝕄) = bigSep Finset.univ fun c : Fin 2 => coreAt S V d c.val := by
  unfold held coreAt
  refine Eq.trans ?_ (bigSep_swap S Finset.univ fun b (c : Fin 2) => ((((d, b) : Loc nD τ sig) ↦[coreSet b c.val]{fullShare} V b) : sProp 𝕄))
  refine bigSep_congr fun b _ => ?_
  have hcov : (Finset.univ : Finset (Fin 2)).biUnion (fun c => coreSet b c.val) = Finset.univ := by
    ext x
    simp only [coreSet, Finset.mem_biUnion, Finset.mem_filter, Finset.mem_univ, true_and, iff_true]
    exact ⟨⟨ownOf b x % 2, Nat.mod_lt _ (by decide)⟩, rfl⟩
  show ((((d, b) : Loc nD τ sig) ↦[Finset.univ]{fullShare} V b) : sProp 𝕄) = _
  rw [← hcov]
  refine pointsTo_biUnion Finset.univ (ℓ := ((d, b) : Loc nD τ sig)) (fun c : Fin 2 => coreSet b c.val) (fun i _ j _ hij => ?_)
  rw [Finset.disjoint_left]
  intro x hx hy
  simp only [coreSet, Finset.mem_filter, Finset.mem_univ, true_and] at hx hy
  exact hij (Fin.ext (by omega))

theorem insAt_toks (S : Finset (DevRef τ sig)) (V : Valuation τ sig (Elt F)) (d : Dev nD) (q : PosShare TreeShare) (n : ℕ) :
    (insAt S V d q : sProp 𝕄) ⊣⊢ iprop(insAt S V d (shareDrop q n) ∗ bigSep Finset.univ fun i : Fin n => insAt S V d (shareTok q n i)) := by
  unfold insAt
  rw [bigSep_swap, ← bigSep_sep']
  exact ⟨bigSep_mono fun b _ => (pointsTo_toks q n).1, bigSep_mono fun b _ => (pointsTo_toks q n).2⟩

/-- One SparseCore's operands split into its sixteen tasks' and its results gather from theirs. -/
theorem vecSplit (q : Fin 5) : (K (F := F)).VecSplit' (P C) q := by
  intro d c
  show iprop(insAt (ins q) (C.V q d) d (coreShare (Fin.cast (nCore_eq q) c)) ∗ coreAt (outs q) (C.V q d) d c.val) ⊢ |={Set.univ}=> iprop(
      (bigSep Finset.univ fun i : Fin ((K (F := F)).nSub q) =>
        iprop(insAt (ins q) (C.V q d) d (tileShare (Fin.cast (nCore_eq q) c) (Fin.cast (nSub_eq q) i)) ∗ tileAt (outs q) (C.V q d) d c.val (Fin.cast (nSub_eq q) i).val))
      ∗ ((bigSep Finset.univ fun i : Fin ((K (F := F)).nSub q) =>
          iprop(insAt (ins q) (C.V q d) d (tileShare (Fin.cast (nCore_eq q) c) (Fin.cast (nSub_eq q) i)) ∗ tileAt (outs q) (C.W q d) d c.val (Fin.cast (nSub_eq q) i).val))
          -∗ iprop(insAt (ins q) (C.V q d) d (coreShare (Fin.cast (nCore_eq q) c)) ∗ coreAt (outs q) (C.W q d) d c.val)))
  rw [bigSep_cast (nSub_eq q) (fun i => iprop(insAt (ins q) (C.V q d) d (tileShare (Fin.cast (nCore_eq q) c) i) ∗ tileAt (outs q) (C.V q d) d c.val i.val)),
    bigSep_cast (nSub_eq q) (fun i => iprop(insAt (ins q) (C.V q d) d (tileShare (Fin.cast (nCore_eq q) c) i) ∗ tileAt (outs q) (C.W q d) d c.val i.val)),
    bigSep_sep', bigSep_sep']
  have hcp : ∀ V, (coreAt (outs q) V d c.val : sProp 𝕄) = bigSep Finset.univ fun i : Fin 16 => tileAt (outs q) V d c.val i.val :=
    fun V => coreAt_tiles (outs q) V d (Fin.cast (nCore_eq q) c)
  rw [hcp, hcp]
  iintro ⟨HI, HN⟩
  ihave HI := (insAt_toks (ins q) (C.V q d) d (coreShare (Fin.cast (nCore_eq q) c)) 16).1 $$ HI
  icases HI with ⟨HD, HT⟩
  imodintro
  isplitl [HT HN]
  · iframe
  iintro ⟨HT, HN⟩
  isplitl [HD HT]
  · iapply (insAt_toks (ins q) (C.V q d) d (coreShare (Fin.cast (nCore_eq q) c)) 16).2
    iframe
  · iexact HN

/-! ## A call, from @main -/

variable [FloatOps F]

/-- A call leaves every array as it was but those it writes. -/
def Calls.Keeps (q : Fin 5) : Prop := ∀ d, ∀ b, b ∉ outs q → C.W q d b = C.V q d b

theorem st_eq (q : Fin 5) (d : Dev nD) : (bigSep Finset.univ fun c : Fin ((K (F := F)).nCore q) => (P C).st q d c)
    = iprop((bigSep Finset.univ fun c : Fin 2 => insAt (ins q) (C.V q d) d (coreShare c)) ∗ held (SparseCore.T d) (outs q) (C.V q d)) := by
  rw [held_cores, ← bigSep_sep']
  exact bigSep_cast (nCore_eq q) fun c => iprop(insAt (ins q) (C.V q d) d (coreShare c) ∗ coreAt (outs q) (C.V q d) d c.val)

theorem dn_eq (q : Fin 5) (d : Dev nD) : (bigSep Finset.univ fun c : Fin ((K (F := F)).nCore q) => (P C).dn q d c)
    = iprop((bigSep Finset.univ fun c : Fin 2 => insAt (ins q) (C.V q d) d (coreShare c)) ∗ held (SparseCore.T d) (outs q) (C.W q d)) := by
  rw [held_cores, ← bigSep_sep']
  exact bigSep_cast (nCore_eq q) fun c => iprop(insAt (ins q) (C.V q d) d (coreShare c) ∗ coreAt (outs q) (C.W q d) d c.val)

theorem held_union {S S' : Finset (DevRef τ sig)} (h : Disjoint S S') (V : Valuation τ sig (Elt F)) (d : Dev nD) :
    (held (SparseCore.T d) (S ∪ S') V : sProp 𝕄) = iprop(held (SparseCore.T d) S V ∗ held (SparseCore.T d) S' V) := by
  unfold held
  exact bigSep_union h

/-- A call takes the arrays from what they were before it to what they are after it. -/
theorem call_step (κ : GSem nD τ sig → ℕ) (q : Fin 5) (hK : C.Keeps q) (d : Dev nD) {Φ : PUnit → sProp 𝕄} :
    iprop((K (F := F)).ctx EH (P C) κ ∗ (K (F := F)).tcSt EH d q.val ∗ held (SparseCore.T d) (Pipeline.ucRefs τ sig) (C.V q d)
        ∗ (((K (F := F)).tcSt EH d (q.val + 1) ∗ held (SparseCore.T d) (Pipeline.ucRefs τ sig) (C.W q d)) -∗ Φ ⟨⟩))
      ⊢ wp frame (wpE ((K (F := F)).defs (D (F := F))) 𝒱 (SparseCore.T d) none) Set.univ ((K (F := F)).run d q) Φ := by
  have eV : (held (SparseCore.T d) (Pipeline.ucRefs τ sig) (C.V q d) : sProp 𝕄) = iprop((insAt (ins q) (C.V q d) d fullShare ∗ held (SparseCore.T d) (outs q) (C.V q d))
      ∗ held (SparseCore.T d) (Pipeline.ucRefs τ sig \ (ins q ∪ outs q)) (C.V q d)) := by
    rw [held_sub_split _ (call_sub q), held_union (ins_outs q)]; rfl
  have eW : (held (SparseCore.T d) (Pipeline.ucRefs τ sig) (C.W q d) : sProp 𝕄) = iprop((insAt (ins q) (C.V q d) d fullShare ∗ held (SparseCore.T d) (outs q) (C.W q d))
      ∗ held (SparseCore.T d) (Pipeline.ucRefs τ sig \ (ins q ∪ outs q)) (C.V q d)) := by
    rw [held_sub_split _ (call_sub q), held_union (ins_outs q),
      held_congr (S := ins q) (V := C.W q d) (V' := C.V q d) _ fun b hb => hK d b fun h => Finset.disjoint_left.mp (ins_outs q) hb h,
      held_congr (S := Pipeline.ucRefs τ sig \ (ins q ∪ outs q)) (V := C.W q d) (V' := C.V q d) _ fun b hb => hK d b fun h => (Finset.mem_sdiff.mp hb).2 (Finset.mem_union_right _ h)]
    rfl
  rw [eV, eW]
  iintro ⟨#Hctx, Hst, ⟨⟨HI, HN⟩, Hrest⟩, Hk⟩
  ihave HI := (insAt_toks (ins q) (C.V q d) d fullShare 2).1 $$ HI
  icases HI with ⟨HD, HT⟩
  iapply ((K (F := F)).wp_run (D (F := F)) 𝒱 (EH := EH) (P := P C) κ d q) $$ [Hst Hk Hrest HD HT HN]
  isplitr; · iexact Hctx
  isplitl [Hst]; · iexact Hst
  isplitl [HT HN]
  · rw [st_eq]
    iframe
  iintro ⟨Hst, Hdn⟩
  ihave Hdn := (Entails.of_eq (dn_eq C q d)) $$ Hdn
  icases Hdn with ⟨HT, HN⟩
  iapply Hk
  isplitl [Hst]; · iexact Hst
  isplitl [HD HT HN]
  · isplitl [HD HT]
    · iapply (insAt_toks (ins q) (C.V q d) d fullShare 2).2
      iframe
    · iexact HN
  · iexact Hrest

/-! ## One vector subcore's task -/

theorem waits_insert {W W' : Waits sig (HIx 5)} {s : SemLoc sig} (h : ∀ p ∈ W', p ∈ W ∨ p.2 = none) :
    ∀ p ∈ insert (s, (default : HIx 5)) W', p ∈ W ∨ p.2 = none := by
  intro p hp
  rcases Finset.mem_insert.mp hp with hp | hp
  · exact .inr (hp ▸ rfl)
  · exact h p hp

/-- A task's run over its own counters and buffers, in the launch's form. -/
theorem tile_body (d : Dev nD) (c : Fin τ.nSC) (j : Fin τ.nSub) (bl : List (Ref sig .scVector)) (sl : List (DmaSem sig))
    (hbn : bl.Nodup) (hb : ∀ b ∈ bl, ((Proc.scVector c j).devRef b : DevRef τ sig) ∈ ownRefs (τ := τ) (.scVector c j))
    (hsn : sl.Nodup) (hs : ∀ s ∈ sl, (SemLoc.dma s : SemLoc sig).isScoped .scVector = true)
    (prog : Prog (TpuEff nD τ sig (Elt F) Λ₀ (.scVector c j)) PUnit) (A B : sProp 𝕄) (O : CellTallies nD τ sig (HIx 5)) (W : Waits sig (HIx 5))
    (hO : ∀ g, O g none = 0)
    (h : iprop(MayWaits (V d c j) (none : HIx 5) O ∗ A ∗ bufsAny d c j bl ∗ semsZero d c j sl ∗ owes (V d c j) O W)
      ⊢ wp frame (wpE (defs₀ (F := F)) 𝒱₀ (V d c j) none) Set.univ prog fun _ =>
          iprop(B ∗ bufsAny d c j bl ∗ semsZero d c j sl ∗ ∃ W', ⌜∀ p ∈ W', p ∈ W ∨ p.2 = none⌝ ∗ owes (V d c j) O W')) :
    iprop(levAts (K (F := F)).L (K (F := F)).lev ∗ emp ∗ A ∗ scopedBufs (V d c j) ∗ scopedSems0 (V d c j) ∗ owes (V d c j) O W)
      ⊢ wp frame (wpE (defs₀ (F := F)) 𝒱₀ (V d c j) none) Set.univ prog
          fun _ => iprop(B ∗ scopedBufs (V d c j) ∗ scopedSems0 (V d c j)
            ∗ ∃ W', ⌜∀ p ∈ W', p ∈ W ∨ p.2 = none⌝ ∗ owes (V d c j) O W') := by
  obtain ⟨RB, eB⟩ := ownBufs_split (F := F) d c j bl hbn hb
  obtain ⟨RS, eS⟩ := ownSems0_split (F := F) d c j sl hsn hs
  rw [(K (F := F)).scopedBufs_V facts d c j, SparseCore.Cfg.scopedSems0_V (Val := Elt F) d c j]
  iintro ⟨#Hlv, -, HA, HB, HS, HO⟩
  ihave Hmw := ((K (F := F)).mayWaits_none (thr := V d c j) hO) $$ Hlv
  ihave HB := eB.1 $$ HB
  icases HB with ⟨HB, HBr⟩
  ihave HS := eS.1 $$ HS
  icases HS with ⟨HS, HSr⟩
  iapply (wp_wand_r frame (wpE (defs₀ (F := F)) 𝒱₀ (V d c j) none) Set.univ)
  isplitl [Hmw HA HB HS HO]
  · iapply h
    isplitl [Hmw]; · iexact Hmw
    iframe
  iintro %_ ⟨HI, HB, HS, HO⟩
  isplitl [HI]; · iexact HI
  isplitl [HB HBr]
  · iapply eB.2; iframe
  isplitl [HS HSr]
  · iapply eS.2; iframe
  iexact HO

theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Run

end
-- ==== Proof.Run.TileKit.lean ====
/-
  What the tasks' proofs share: a group of sixteen read out of a chunk, a chunk fetched from an edge array, sixteen elements
  stored, an edge array's ranges and a rows' array's rows as sets of places.
-/
module

public import proofs.«01_k».proof.Proof.Run.Setup

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTok shareDrop pointsTo_toks)
open Idealize.ShloMosaic.StableHlo (held held_sub_split held_congr wp_seq seq after)
open Idealize.ShloMosaic.Tactic

variable {F : FTy → Type}

local notation "𝕄" => MT nD τ sig (HIx 5) (Elt F) ℕ UU ℕ

variable [FloatOps F]

/-! ## Reading and storing sixteen elements -/

/-- The group's sixteen elements of a fetched chunk. -/
theorem read_group {n : ℕ} {e : EltTy} (a : Vec F BE e) (m : Memref sig .scVector .vmem ⟨1, ![n]⟩ e) {B t g : ℕ} (hg : 16 * g = B + 16 * t)
    (f : m.view.ty.Contents (Elt F)) (hf : m.view.read (Elt F) f = chunk n a B)
    {off : Fin 1 → Nat} (ho : off = ![16 * t]) (inb : ∀ i, off i + S16.size i ≤ (⟨1, ![n]⟩ : Shape).size i) :
    View.readAt (Elt F) m.view (Rect.unit (s := ⟨1, ![n]⟩) off S16.size inb).toLoadRect f = grp a g := by
  subst ho
  funext x
  show m.view.read (Elt F) f _ = _
  rw [hf]
  unfold chunk grp
  congr 2
  show B + (16 * t + 1 * (x 0).val) = 16 * g + (x 0).val
  omega

/-- A chunk fetched from an edge array. -/
theorem read_chunk {n : ℕ} {e : EltTy} (a : Vec F BE e) (m : Memref sig .scVector .hbm S819200 e) {B : ℕ} (hB : B + n ≤ 819200)
    (f : m.view.ty.Contents (Elt F)) (hf : m.view.read (Elt F) f = a)
    {off : Fin 1 → Nat} (ho : off = ![B]) (inb : ∀ i, off i + (⟨1, ![n]⟩ : Shape).size i ≤ S819200.size i) :
    (m.slice (Rect.unit (s := S819200) off (⟨1, ![n]⟩ : Shape).size inb) (fun _ => rfl)).view.read (Elt F) f = chunk n a B := by
  subst ho
  funext x
  show m.view.read (Elt F) f _ = _
  rw [hf]
  unfold chunk
  congr 1
  funext i
  obtain rfl : i = 0 := Subsingleton.elim _ _
  refine Fin.ext ?_
  have hx : (x 0).val < n := (x 0).isLt
  show B + 1 * (x 0).val = (B + (x 0).val) % 819200
  rw [Nat.mod_eq_of_lt (by omega)]
  omega

/-- A buffer filled up to `16 * k` has sixteen more elements after the store there. -/
theorem store_contents {n : ℕ} (m : Memref sig .scVector .vmem ⟨1, ![n]⟩ .f32) (A : Vec F ⟨1, ![n]⟩ .f32) {k : ℕ} {f : m.view.ty.Contents (Elt F)}
    (hf : ∀ j : (⟨1, ![n]⟩ : Shape).Idx, (j 0).val < 16 * k → m.view.read (Elt F) f j = A j)
    {off : Fin 1 → Nat} (ho : off = ![16 * k]) (inb : ∀ i, off i + S16.size i ≤ (⟨1, ![n]⟩ : Shape).size i) (pay : Vec F S16 .f32)
    (hp : ∀ (x : S16.Idx) (j : (⟨1, ![n]⟩ : Shape).Idx), (j 0).val = 16 * k + (x 0).val → pay x = A j)
    (j : (⟨1, ![n]⟩ : Shape).Idx) (hj : (j 0).val < 16 * (k + 1)) :
    m.view.read (Elt F) (m.view.writes (Elt F) f [⟨Rect.unit (s := ⟨1, ![n]⟩) off S16.size inb, pay⟩]) j = A j := by
  subst ho
  by_cases h : 16 * k ≤ (j 0).val
  · refine (View.read_writes_cons_hit_of_coords _ _ _ _ _
      (fun a => ⟨(j 0).val - 16 * k, by obtain rfl : a = 0 := Subsingleton.elim _ _; show _ < 16; omega⟩) j ?_).trans ?_
    · intro a
      obtain rfl : a = 0 := Subsingleton.elim _ _
      show (j 0).val = 16 * k + 1 * ((j 0).val - 16 * k)
      omega
    · exact hp _ j (show (j 0).val = 16 * k + ((j 0).val - 16 * k) by omega)
  · exact (View.read_writes_cons_miss_of_axis _ _ _ _ j 0 (16 * k) 16 rfl rfl rfl (.inl (by omega))).trans (hf j (by omega))

/-- The elements of a chunk a group's values are. -/
theorem grp_chunk {n : ℕ} (a : Vec F BE .f32) {B t g : ℕ} (hg : 16 * g = B + 16 * t) (x : S16.Idx) (j : (⟨1, ![n]⟩ : Shape).Idx)
    (h : (j 0).val = 16 * t + (x 0).val) : grp a g x = chunk n a B j := by
  unfold grp chunk
  congr 2
  omega

/-- A whole scratch buffer after a copy into it. -/
theorem pts_fetched (thr : Thread nD τ) (r : Ref sig thr.2.kind) (f : Buf (Elt F) ((Memref.whole r).view.loc thr)) {w g : r.ty.Contents (Elt F)} (hw : w = g) :
    ((Memref.whole r).view.loc thr ↦{fullShare} View.write (Elt F) (Memref.whole r).view f w Finset.univ : sProp 𝕄)
      ⊢ (Memref.whole r).view.loc thr ↦{fullShare} g := by
  rw [hw]
  exact Entails.of_eq (congrArg _ (View.write_whole_univ _ _ _))

/-- Two contents a view reads alike are alike on its places. -/
theorem eq_of_read {κ : Kind} {sp : Space} {s : Shape} {e : EltTy} (v : View sig κ sp s e) {A B : v.ty.Contents (Elt F)}
    (h : v.read (Elt F) A = v.read (Elt F) B) {i : v.ty.Idx} (hi : i ∈ v.set) : A i = B i := by
  obtain ⟨x, -, rfl⟩ := Finset.mem_map.mp hi
  exact (cast_inj _).mp (congrFun h x)

/-- A view written whole holds any contents it reads the same. -/
theorem pts_written {sp : Space} {s : Shape} {e : EltTy} (thr : Thread nD τ) (v : View sig thr.2.kind sp s e)
    (f g : Buf (Elt F) (v.loc thr)) {w : Vec F s e} (hw : v.read (Elt F) g = w) :
    (v.loc thr ↦[v.set]{fullShare} v.writes (Elt F) f [⟨Rect.whole s, w⟩] : sProp 𝕄) ⊢ v.loc thr ↦[v.set]{fullShare} g := by
  refine Entails.of_eq (pointsTo_congr fun i hi => ?_)
  exact eq_of_read (F := F) v ((View.read_writes_whole v f w).trans hw.symm) hi

/-- A scratch buffer of nodes, through the view an indexed access takes of it. -/
theorem pts_whole (thr : Thread nD τ) (r : Ref sig thr.2.kind) (f : Buf (Elt F) ((Memref.whole r).view.loc thr)) :
    (((Memref.whole r).access (.whole r.ty.shape)).loc thr ↦[((Memref.whole r).access (.whole r.ty.shape)).set]{fullShare} f : sProp 𝕄)
      = ((Memref.whole r).view.loc thr ↦{fullShare} f) := by
  rw [show ((Memref.whole r).access (.whole r.ty.shape)).set = Finset.univ from Memref.set_access_whole r]

/-! ## Ranges of the edges -/

def rangeSet (lo hi : ℕ) : Finset S819200.Idx := Finset.univ.filter fun x => lo ≤ (x 0).val ∧ (x 0).val < hi

theorem rangeSet_split {lo mid hi : ℕ} (h1 : lo ≤ mid) (h2 : mid ≤ hi) : rangeSet lo hi = rangeSet lo mid ∪ rangeSet mid hi := by
  ext x
  simp only [rangeSet, Finset.mem_filter, Finset.mem_union, Finset.mem_univ, true_and]
  omega

theorem rangeSet_disjoint (lo mid hi : ℕ) : Disjoint (rangeSet lo mid) (rangeSet mid hi) := by
  rw [Finset.disjoint_left]
  intro x hx hy
  simp only [rangeSet, Finset.mem_filter, Finset.mem_univ, true_and] at hx hy
  omega

theorem rangeSet_empty (lo : ℕ) : rangeSet lo lo = ∅ := by
  ext x
  simp only [rangeSet, Finset.mem_filter, Finset.mem_univ, true_and, Finset.notMem_empty, iff_false]
  omega

theorem rect_range {n B : ℕ} {off : Fin 1 → Nat} (ho : off = ![B]) (inb : ∀ i, off i + (⟨1, ![n]⟩ : Shape).size i ≤ S819200.size i) :
    (Rect.unit (s := S819200) off (⟨1, ![n]⟩ : Shape).size inb).set = rangeSet B (B + n) := by
  subst ho
  ext i
  refine (Rect.unit (s := S819200) ![B] (⟨1, ![n]⟩ : Shape).size inb).mem_set.trans ?_
  simp only [rangeSet, Finset.mem_filter, Finset.mem_univ, true_and]
  constructor
  · intro h
    obtain ⟨x, hx, e⟩ := h 0
    have hx' : x < n := hx
    have e' : (i 0).val = B + 1 * x := e
    omega
  · rintro ⟨h1, h2⟩ a
    obtain rfl : a = 0 := Subsingleton.elim _ _
    exact ⟨(i 0).val - B, show (i 0).val - B < n by omega, show (i 0).val = B + 1 * ((i 0).val - B) by omega⟩

/-! ## Rows -/

def rowSet (m n : ℕ) : Finset (⟨2, ![m, 50176]⟩ : Shape).Idx := Finset.univ.filter fun i => (i 0).val = n

theorem rect_row {m n : ℕ} {off : Fin 2 → ℕ} (ho : off = ![n, 0]) (inb : ∀ a, off a + S1x50176.size a ≤ (⟨2, ![m, 50176]⟩ : Shape).size a) :
    (Rect.unit (s := ⟨2, ![m, 50176]⟩) off S1x50176.size inb).set = rowSet m n := by
  subst ho
  ext i
  refine (Rect.unit (s := ⟨2, ![m, 50176]⟩) ![n, 0] S1x50176.size inb).mem_set.trans ?_
  unfold rowSet
  rw [Finset.mem_filter]
  constructor
  · intro h
    obtain ⟨x, hx, e⟩ := h 0
    refine ⟨Finset.mem_univ _, ?_⟩
    have hx' : x < 1 := hx
    have e' : (i 0).val = n + 1 * x := e
    omega
  · rintro ⟨-, h⟩ a
    match a with
    | ⟨0, _⟩ => exact ⟨0, Nat.one_pos, show (i 0).val = n + 1 * 0 by omega⟩
    | ⟨1, _⟩ => exact ⟨(i 1).val, (i 1).isLt, show (i 1).val = 0 + 1 * (i 1).val by omega⟩

/-- Row `n` of a memref of rows, as the kernels slice it. -/
abbrev rowK {m : ℕ} (M : Memref sig .scVector .hbm ⟨2, ![m, 50176]⟩ .f32) (off : Fin 2 → ℕ) (inb : ∀ a, off a + S1x50176.size a ≤ (⟨2, ![m, 50176]⟩ : Shape).size a) :
    Memref sig .scVector .hbm S50176 .f32 :=
  (M.slice (Rect.unit (s := ⟨2, ![m, 50176]⟩) off S1x50176.size inb) (fun _ => rfl)).squeeze S50176 squeezes_S1x50176_S50176

theorem read_row {m : ℕ} (hm : 0 < m) (M : Memref sig .scVector .hbm ⟨2, ![m, 50176]⟩ .f32) {off : Fin 2 → ℕ} {n : ℕ} (ho : off = ![n, 0]) (hn : n < m)
    (inb : ∀ a, off a + S1x50176.size a ≤ (⟨2, ![m, 50176]⟩ : Shape).size a) (f : M.view.ty.Contents (Elt F)) (H : Vec F ⟨2, ![m, 50176]⟩ .f32)
    (hf : M.view.read (Elt F) f = H) : (rowK M off inb).view.read (Elt F) f = rowOf hm H n := by
  subst ho
  refine (Memref.read_squeeze_slice M _ _ _ (show S1x50176.ShapeCasts S50176 by decide) f).trans ?_
  funext j
  refine (shapeCast_apply _ _ j (fun a => match a with | ⟨0, _⟩ => ⟨0, Nat.one_pos⟩ | ⟨1, _⟩ => ⟨(j 0).val, (j 0).isLt⟩) ?_).trans ?_
  · rw [Shape.rowMajor_val_two, Shape.rowMajor_val_one]
    show 0 * 50176 + (j 0).val = (j 0).val
    omega
  · show M.view.read (Elt F) f _ = _
    rw [hf]
    unfold rowOf
    congr 1
    funext a
    match a with
    | ⟨0, _⟩ => exact Fin.ext (show n + 1 * 0 = n % m by rw [Nat.mod_eq_of_lt hn]; omega)
    | ⟨1, _⟩ => exact Fin.ext (show 0 + 1 * (j 0).val = (j 0).val by omega)

end Cert.Proof.Run

end
-- ==== Proof.Run.T1.lean ====
/-
  One task of the call `_sc_m1`: over its 25600 edges it counts them by destination and sums the first layer's edge part by
  destination, writes out both rows, then adds the source's part of the first layer's logit to the edge's and writes the sums
  out, and sums the second layer's edge part by destination into its own row.
-/
module

public import proofs.«01_k».proof.Proof.Run.TileKit

@[expose] public section

noncomputable section

namespace Cert.Proof.Run.T1

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTok shareDrop pointsTo_toks)
open Idealize.ShloMosaic.StableHlo (held held_sub_split held_congr wp_seq seq after)
open Idealize.ShloMosaic.Tactic

variable {F : FTy → Type}

local notation "𝕄" => MT nD τ sig (HIx 5) (Elt F) ℕ UU ℕ

variable [FloatOps F]

/-! ## The task's memrefs -/

abbrev dstM : Memref sig .scVector .hbm S819200 .i32 := Memref.whole main_v5_scv
abbrev srcM : Memref sig .scVector .hbm S819200 .i32 := Memref.whole main_v4_scv
abbrev e1M : Memref sig .scVector .hbm S819200 .f32 := Memref.whole main_v6_scv
abbrev e2M : Memref sig .scVector .hbm S819200 .f32 := Memref.whole main_v7_scv
abbrev asM : Memref sig .scVector .hbm S50176 .f32 := Memref.whole main_v12_scv
abbrev degM : Memref sig .scVector .hbm S32x50176 .f32 := Memref.whole main_v13_0_scv
abbrev a1M : Memref sig .scVector .hbm S32x50176 .f32 := Memref.whole main_v13_1_scv
abbrev a2M : Memref sig .scVector .hbm S32x50176 .f32 := Memref.whole main_v13_2_scv
abbrev pM : Memref sig .scVector .hbm S819200 .f32 := Memref.whole main_v13_3_scv
abbrev sAM : Memref sig .scVector .vmem S50176 .f32 := Memref.whole cc0_scratch0
abbrev sBM : Memref sig .scVector .vmem S50176 .f32 := Memref.whole cc0_scratch1
abbrev iAM : Memref sig .scVector .vmem S3200 .i32 := Memref.whole cc0_scratch2
abbrev iBM : Memref sig .scVector .vmem S3200 .i32 := Memref.whole cc0_scratch3
abbrev fAM : Memref sig .scVector .vmem S3200 .f32 := Memref.whole cc0_scratch4
abbrev fBM : Memref sig .scVector .vmem S3200 .f32 := Memref.whole cc0_scratch5
abbrev fCM : Memref sig .scVector .vmem S3200 .f32 := Memref.whole cc0_scratch6

section Tile

variable (d : Dev nD) (L : grid0.Coords)

abbrev cV (L : grid0.Coords) : Fin τ.nSC := (L 0).castLE hcore0
abbrev jV (L : grid0.Coords) : Fin τ.nSub := (L 1).castLE hsub0
abbrev tV (d : Dev nD) (L : grid0.Coords) : Thread nD τ := V d (cV L) (jV L)

/-- The task's number. -/
abbrev wid (L : grid0.Coords) : ℕ := 2 * (L 1).val + (L 0).val

theorem wid_lt : wid L < 32 := by
  have h0 : (L 0).val < 2 := (L 0).isLt
  have h1 : (L 1).val < 16 := (L 1).isLt
  unfold wid
  omega

/-- The first edge of chunk `k` of the task. -/
abbrev at0 (L : grid0.Coords) (k : ℕ) : ℕ := 25600 * wid L + 3200 * k

theorem at0_le {k : ℕ} (hk : k < 8) : at0 L k + 3200 ≤ 819200 := by
  have := wid_lt L
  unfold at0
  omega

theorem grp_at (k t : ℕ) : 16 * (1600 * wid L + (200 * k + t)) = at0 L k + 16 * t := by
  unfold at0
  omega

theorem off_chunkA (k : Fin k0_t3_loop.trips) : k0_off3 L k = ![at0 L k.val] := by
  rw [k0_off3_eq]
  congr 1
  show 51200 * (L 1).val + 25600 * (L 0).val + 3200 * k.val = 25600 * (2 * (L 1).val + (L 0).val) + 3200 * k.val
  omega

theorem off_chunkB (k : Fin k0_t6_loop.trips) : k0_off8 L k = ![at0 L k.val] := by
  rw [k0_off8_eq]
  congr 1
  show 51200 * (L 1).val + 25600 * (L 0).val + 3200 * k.val = 25600 * (2 * (L 1).val + (L 0).val) + 3200 * k.val
  omega

theorem off_row : k0_off6 L = ![wid L, 0] := k0_off6_eq L

abbrev pK (off : Fin 1 → ℕ) (inb : ∀ a, off a + S3200.size a ≤ S819200.size a) : Memref sig .scVector .hbm S3200 .f32 :=
  (pM).slice (Rect.unit (s := S819200) off S3200.size inb) (fun _ => rfl)

theorem set_pK {off : Fin 1 → ℕ} {B : ℕ} (ho : off = ![B]) (inb : ∀ a, off a + S3200.size a ≤ S819200.size a) :
    (pK off inb).view.set = rangeSet B (B + 3200) := (View.set_slice_whole _ _).trans (rect_range (n := 3200) ho inb)

theorem pts_pK {off : Fin 1 → ℕ} {B : ℕ} (ho : off = ![B]) (inb : ∀ a, off a + S3200.size a ≤ S819200.size a)
    (f : Buf (Elt F) ((pM).view.loc (tV d L))) :
    ((pM).view.loc (tV d L) ↦[rangeSet B (B + 3200)]{fullShare} f : sProp 𝕄)
      = ((pK off inb).view.loc (tV d L) ↦[(pK off inb).view.set]{fullShare} f) := by
  rw [set_pK ho inb]

theorem pts_p_written {off : Fin 1 → ℕ} {B : ℕ} (ho : off = ![B]) (hB : B + 3200 ≤ 819200) (inb : ∀ a, off a + S3200.size a ≤ S819200.size a)
    (f : Buf (Elt F) ((pM).view.loc (tV d L))) (G : Vec F BE .f32) {w : Vec F S3200 .f32} (hw : w = chunk 3200 G B) :
    ((pK off inb).view.loc (tV d L) ↦[(pK off inb).view.set]{fullShare} (pK off inb).view.writes (Elt F) f [⟨Rect.whole S3200, w⟩] : sProp 𝕄)
      ⊢ (pM).view.loc (tV d L) ↦[rangeSet B (B + 3200)]{fullShare} G := by
  rw [pts_pK (F := F) d L ho inb]
  exact pts_written (F := F) (tV d L) (pK off inb).view f G ((read_chunk (F := F) (e := .f32) (n := 3200) G pM hB G rfl ho inb).trans hw.symm)

theorem pts_p_split {lo mid hi : ℕ} (h1 : lo ≤ mid) (h2 : mid ≤ hi) (f : Buf (Elt F) ((pM).view.loc (tV d L))) :
    ((pM).view.loc (tV d L) ↦[rangeSet lo hi]{fullShare} f : sProp 𝕄)
      ⊣⊢ iprop(((pM).view.loc (tV d L) ↦[rangeSet lo mid]{fullShare} f) ∗ ((pM).view.loc (tV d L) ↦[rangeSet mid hi]{fullShare} f)) := by
  rw [rangeSet_split h1 h2]
  exact pointsTo_union (ℓ := (pM).view.loc (tV d L)) (rangeSet_disjoint lo mid hi)

theorem pts_p_none (lo : ℕ) (f g : Buf (Elt F) ((pM).view.loc (tV d L))) :
    ((pM).view.loc (tV d L) ↦[rangeSet lo lo]{fullShare} f : sProp 𝕄) ⊢ (pM).view.loc (tV d L) ↦[rangeSet lo lo]{fullShare} g := by
  refine Entails.of_eq (pointsTo_congr fun i hi => ?_)
  rw [rangeSet_empty] at hi
  exact absurd hi (Finset.notMem_empty i)

theorem set_degK {off : Fin 2 → ℕ} {n : ℕ} (ho : off = ![n, 0]) (inb : ∀ a, off a + S1x50176.size a ≤ S32x50176.size a) :
    (rowK degM off inb).view.set = rowSet 32 n := by
  show (((degM).view.slice (Rect.unit (s := S32x50176) off S1x50176.size inb)).reshape S50176 squeezes_S1x50176_S50176.numel_eq).set = _
  rw [View.set_reshape]
  exact (View.set_slice_whole _ _).trans (rect_row (m := 32) ho inb)

theorem pts_degK {off : Fin 2 → ℕ} {n : ℕ} (ho : off = ![n, 0]) (inb : ∀ a, off a + S1x50176.size a ≤ S32x50176.size a)
    (f : Buf (Elt F) ((degM).view.loc (tV d L))) :
    ((degM).view.loc (tV d L) ↦[rowSet 32 n]{fullShare} f : sProp 𝕄)
      = ((rowK degM off inb).view.loc (tV d L) ↦[(rowK degM off inb).view.set]{fullShare} f) := by
  rw [set_degK ho inb]

theorem pts_deg_written {off : Fin 2 → ℕ} {n : ℕ} (ho : off = ![n, 0]) (hn : n < 32) (inb : ∀ a, off a + S1x50176.size a ≤ S32x50176.size a)
    (f : Buf (Elt F) ((degM).view.loc (tV d L))) (G : Vec F BP .f32) {w : Vec F S50176 .f32} (hw : w = rowOf (by decide) G n) :
    ((rowK degM off inb).view.loc (tV d L) ↦[(rowK degM off inb).view.set]{fullShare}
        (rowK degM off inb).view.writes (Elt F) f [⟨Rect.whole S50176, w⟩] : sProp 𝕄)
      ⊢ (degM).view.loc (tV d L) ↦[rowSet 32 n]{fullShare} G := by
  rw [pts_degK (F := F) d L ho inb]
  exact pts_written (F := F) (tV d L) (rowK degM off inb).view f G ((read_row (F := F) (by decide) degM ho hn inb G G rfl).trans hw.symm)

theorem set_a1K {off : Fin 2 → ℕ} {n : ℕ} (ho : off = ![n, 0]) (inb : ∀ a, off a + S1x50176.size a ≤ S32x50176.size a) :
    (rowK a1M off inb).view.set = rowSet 32 n := by
  show (((a1M).view.slice (Rect.unit (s := S32x50176) off S1x50176.size inb)).reshape S50176 squeezes_S1x50176_S50176.numel_eq).set = _
  rw [View.set_reshape]
  exact (View.set_slice_whole _ _).trans (rect_row (m := 32) ho inb)

theorem pts_a1K {off : Fin 2 → ℕ} {n : ℕ} (ho : off = ![n, 0]) (inb : ∀ a, off a + S1x50176.size a ≤ S32x50176.size a)
    (f : Buf (Elt F) ((a1M).view.loc (tV d L))) :
    ((a1M).view.loc (tV d L) ↦[rowSet 32 n]{fullShare} f : sProp 𝕄)
      = ((rowK a1M off inb).view.loc (tV d L) ↦[(rowK a1M off inb).view.set]{fullShare} f) := by
  rw [set_a1K ho inb]

theorem pts_a1_written {off : Fin 2 → ℕ} {n : ℕ} (ho : off = ![n, 0]) (hn : n < 32) (inb : ∀ a, off a + S1x50176.size a ≤ S32x50176.size a)
    (f : Buf (Elt F) ((a1M).view.loc (tV d L))) (G : Vec F BP .f32) {w : Vec F S50176 .f32} (hw : w = rowOf (by decide) G n) :
    ((rowK a1M off inb).view.loc (tV d L) ↦[(rowK a1M off inb).view.set]{fullShare}
        (rowK a1M off inb).view.writes (Elt F) f [⟨Rect.whole S50176, w⟩] : sProp 𝕄)
      ⊢ (a1M).view.loc (tV d L) ↦[rowSet 32 n]{fullShare} G := by
  rw [pts_a1K (F := F) d L ho inb]
  exact pts_written (F := F) (tV d L) (rowK a1M off inb).view f G ((read_row (F := F) (by decide) a1M ho hn inb G G rfl).trans hw.symm)

theorem set_a2K {off : Fin 2 → ℕ} {n : ℕ} (ho : off = ![n, 0]) (inb : ∀ a, off a + S1x50176.size a ≤ S32x50176.size a) :
    (rowK a2M off inb).view.set = rowSet 32 n := by
  show (((a2M).view.slice (Rect.unit (s := S32x50176) off S1x50176.size inb)).reshape S50176 squeezes_S1x50176_S50176.numel_eq).set = _
  rw [View.set_reshape]
  exact (View.set_slice_whole _ _).trans (rect_row (m := 32) ho inb)

theorem pts_a2K {off : Fin 2 → ℕ} {n : ℕ} (ho : off = ![n, 0]) (inb : ∀ a, off a + S1x50176.size a ≤ S32x50176.size a)
    (f : Buf (Elt F) ((a2M).view.loc (tV d L))) :
    ((a2M).view.loc (tV d L) ↦[rowSet 32 n]{fullShare} f : sProp 𝕄)
      = ((rowK a2M off inb).view.loc (tV d L) ↦[(rowK a2M off inb).view.set]{fullShare} f) := by
  rw [set_a2K ho inb]

theorem pts_a2_written {off : Fin 2 → ℕ} {n : ℕ} (ho : off = ![n, 0]) (hn : n < 32) (inb : ∀ a, off a + S1x50176.size a ≤ S32x50176.size a)
    (f : Buf (Elt F) ((a2M).view.loc (tV d L))) (G : Vec F BP .f32) {w : Vec F S50176 .f32} (hw : w = rowOf (by decide) G n) :
    ((rowK a2M off inb).view.loc (tV d L) ↦[(rowK a2M off inb).view.set]{fullShare}
        (rowK a2M off inb).view.writes (Elt F) f [⟨Rect.whole S50176, w⟩] : sProp 𝕄)
      ⊢ (a2M).view.loc (tV d L) ↦[rowSet 32 n]{fullShare} G := by
  rw [pts_a2K (F := F) d L ho inb]
  exact pts_written (F := F) (tV d L) (rowK a2M off inb).view f G ((read_row (F := F) (by decide) a2M ho hn inb G G rfl).trans hw.symm)

abbrev zeroABody := k0_t1_body (F := F) L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10

/-- After `k` trips the buffer's first `16 * k` elements are zero. -/
def zeroAInv (k : Nat) (_ : BitVec 32) : sProp 𝕄 :=
  iprop(∃ f : Vec F S50176 .f32, ⌜∀ j : S50176.Idx, (j 0).val < 16 * k → f j = Scalar.ofBits .f32 0x00000000#32⌝
    ∗ ((sAM).view.loc (tV d L) ↦{fullShare} f))

theorem zeroAInv_0 (f : Buf (Elt F) ((sAM).view.loc (tV d L))) (b : BitVec 32) : (((sAM).view.loc (tV d L) ↦{fullShare} f) : sProp 𝕄) ⊢ zeroAInv (F := F) d L 0 b := by
  unfold zeroAInv
  iintro Hc
  iexists _; isplitr
  rotate_left
  · iexact Hc
  · ipureintro
    intro j hj
    exact absurd hj (by omega)

theorem zeroAInv_end {k : ℕ} (hk : k = 3136) (idx : IVec BE 32) (val : Vec F BE .f32) (g : ℕ) (b : BitVec 32) :
    zeroAInv (F := F) d L k b ⊢ (sAM).view.loc (tV d L) ↦{fullShare} accS idx val g 0 := by
  unfold zeroAInv
  iintro ⟨%f, %hf, Hc⟩
  obtain rfl : f = accS idx val g 0 := funext fun j => hf j (by
    have hj : (j 0).val < 50176 := (j 0).isLt
    omega)
  iexact Hc

theorem zeroA_step (k : Fin k0_t1_loop.trips) (b : BitVec 32) :
    zeroAInv (F := F) d L k.val b ⊢ wp frame (wpE (defs₀ (F := F)) 𝒱₀ (tV d L) none) Set.univ
      (zeroABody L k b) (fun b' => zeroAInv (F := F) d L (k.val + 1) b') := by
  unfold zeroAInv zeroABody k0_t1_body
  iintro ⟨%f, %hf, Hc⟩
  sl_exec
  sl_step
  iexists ((sAM).view.writes (Elt F) f [⟨Rect.unit (k0_off1 k) S16.size (k0_off1_inb k), k0_pay4 (F := F)⟩])
  isplitr
  · ipureintro
    exact store_contents sAM (fun _ => Scalar.ofBits .f32 0x00000000#32) hf (k0_off1_eq k) (k0_off1_inb k) (k0_pay4 (F := F)) (fun _ _ _ => rfl)
  · iexact Hc

abbrev zeroBBody := k0_t2_body (F := F) L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10

/-- After `k` trips the buffer's first `16 * k` elements are zero. -/
def zeroBInv (k : Nat) (_ : BitVec 32) : sProp 𝕄 :=
  iprop(∃ f : Vec F S50176 .f32, ⌜∀ j : S50176.Idx, (j 0).val < 16 * k → f j = Scalar.ofBits .f32 0x00000000#32⌝
    ∗ ((sBM).view.loc (tV d L) ↦{fullShare} f))

theorem zeroBInv_0 (f : Buf (Elt F) ((sBM).view.loc (tV d L))) (b : BitVec 32) : (((sBM).view.loc (tV d L) ↦{fullShare} f) : sProp 𝕄) ⊢ zeroBInv (F := F) d L 0 b := by
  unfold zeroBInv
  iintro Hc
  iexists _; isplitr
  rotate_left
  · iexact Hc
  · ipureintro
    intro j hj
    exact absurd hj (by omega)

theorem zeroBInv_end {k : ℕ} (hk : k = 3136) (idx : IVec BE 32) (val : Vec F BE .f32) (g : ℕ) (b : BitVec 32) :
    zeroBInv (F := F) d L k b ⊢ (sBM).view.loc (tV d L) ↦{fullShare} accS idx val g 0 := by
  unfold zeroBInv
  iintro ⟨%f, %hf, Hc⟩
  obtain rfl : f = accS idx val g 0 := funext fun j => hf j (by
    have hj : (j 0).val < 50176 := (j 0).isLt
    omega)
  iexact Hc

theorem zeroB_step (k : Fin k0_t2_loop.trips) (b : BitVec 32) :
    zeroBInv (F := F) d L k.val b ⊢ wp frame (wpE (defs₀ (F := F)) 𝒱₀ (tV d L) none) Set.univ
      (zeroBBody L k b) (fun b' => zeroBInv (F := F) d L (k.val + 1) b') := by
  unfold zeroBInv zeroBBody k0_t2_body
  iintro ⟨%f, %hf, Hc⟩
  sl_exec
  sl_step
  iexists ((sBM).view.writes (Elt F) f [⟨Rect.unit (k0_off2 k) S16.size (k0_off2_inb k), k0_pay5 (F := F)⟩])
  isplitr
  · ipureintro
    exact store_contents sBM (fun _ => Scalar.ofBits .f32 0x00000000#32) hf (k0_off2_eq k) (k0_off2_inb k) (k0_pay5 (F := F)) (fun _ _ _ => rfl)
  · iexact Hc

abbrev zeroCBody := k0_t5_body (F := F) L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10

theorem zeroC_step (k : Fin k0_t5_loop.trips) (b : BitVec 32) :
    zeroBInv (F := F) d L k.val b ⊢ wp frame (wpE (defs₀ (F := F)) 𝒱₀ (tV d L) none) Set.univ
      (zeroCBody L k b) (fun b' => zeroBInv (F := F) d L (k.val + 1) b') := by
  unfold zeroBInv zeroCBody k0_t5_body
  iintro ⟨%f, %hf, Hc⟩
  sl_exec
  sl_step
  iexists ((sBM).view.writes (Elt F) f [⟨Rect.unit (k0_off7 k) S16.size (k0_off7_inb k), k0_pay1 (F := F)⟩])
  isplitr
  · ipureintro
    exact store_contents sBM (fun _ => Scalar.ofBits .f32 0x00000000#32) hf (k0_off7_eq k) (k0_off7_inb k) (k0_pay1 (F := F)) (fun _ _ _ => rfl)
  · iexact Hc

/-- The indexed store with add of a group is the accumulator with the group added. -/
theorem store_A (dst : IVec BE 32) (val : Vec F BE .f32) (g n : ℕ) {iv : IVec S16 32} {pv : Vec F S16 .f32} (h1 : iv = grp dst (g + n)) (h2 : pv = grp val (g + n))
    {i1 : Chk iv} :
    ((sAM).access (.whole S50176)).write (Elt F) (accS dst val g n)
      (storeIdx (((sAM).access (.whole S50176)).read (Elt F) (accS dst val g n)) ![iv] pv (fun _ => 1#1) true i1) Finset.univ
      = accS dst val g (n + 1) := by
  subst h1 h2
  refine (Memref.write_access_whole_univ (Elt F) (cc0_scratch0 : Ref sig .scVector) _ _).trans ?_
  rw [show accS dst val g (n + 1) = storeIdx (accS dst val g n) ![grp dst (g + n)] (grp val (g + n)) (fun _ => 1#1) true i1 from addGrp_of i1]
  rw [show ((sAM).access (.whole S50176)).read (Elt F) (accS dst val g n) = accS dst val g n from
    Memref.read_access_whole (Elt F) (cc0_scratch0 : Ref sig .scVector) _]

/-- The indexed store with add of a group is the accumulator with the group added. -/
theorem store_B (dst : IVec BE 32) (val : Vec F BE .f32) (g n : ℕ) {iv : IVec S16 32} {pv : Vec F S16 .f32} (h1 : iv = grp dst (g + n)) (h2 : pv = grp val (g + n))
    {i1 : Chk iv} :
    ((sBM).access (.whole S50176)).write (Elt F) (accS dst val g n)
      (storeIdx (((sBM).access (.whole S50176)).read (Elt F) (accS dst val g n)) ![iv] pv (fun _ => 1#1) true i1) Finset.univ
      = accS dst val g (n + 1) := by
  subst h1 h2
  refine (Memref.write_access_whole_univ (Elt F) (cc0_scratch1 : Ref sig .scVector) _ _).trans ?_
  rw [show accS dst val g (n + 1) = storeIdx (accS dst val g n) ![grp dst (g + n)] (grp val (g + n)) (fun _ => 1#1) true i1 from addGrp_of i1]
  rw [show ((sBM).access (.whole S50176)).read (Elt F) (accS dst val g n) = accS dst val g n from
    Memref.read_access_whole (Elt F) (cc0_scratch1 : Ref sig .scVector) _]

/-! ## The first pass: the edges counted, the first layer's edge part summed -/

/-- The sums of the source's part and the edge's. -/
abbrev pV (src : IVec BE 32) (e : Vec F BE .f32) (sa : Vec F BN .f32) : Vec F BE .f32 := addf (gath sa src) e

theorem read_iA (dst : IVec BE 32) (k : ℕ) (t : Fin k0_t4_loop.trips) :
    View.readAt (Elt F) (iAM).view (Rect.unit (s := S3200) (k0_off4 t) S16.size (k0_off4_inb t)).toLoadRect (chunk 3200 dst (at0 L k))
      = grp dst (1600 * wid L + (200 * k + t.val)) :=
  read_group (F := F) (e := .i32) dst iAM (grp_at L k t.val) (chunk 3200 dst (at0 L k)) rfl (k0_off4_eq t) (k0_off4_inb t)

theorem read_aA (e : Vec F BE .f32) (k : ℕ) (t : Fin k0_t4_loop.trips) :
    View.readAt (Elt F) (fAM).view (Rect.unit (s := S3200) (k0_off5 t) S16.size (k0_off5_inb t)).toLoadRect (chunk 3200 e (at0 L k))
      = grp e (1600 * wid L + (200 * k + t.val)) :=
  read_group (F := F) (e := .f32) e fAM (grp_at L k t.val) (chunk 3200 e (at0 L k)) rfl (k0_off5_eq t) (k0_off5_inb t)

theorem read_sB (src : IVec BE 32) (k : ℕ) (t : Fin k0_t7_loop.trips) :
    View.readAt (Elt F) (iAM).view (Rect.unit (s := S3200) (k0_off9 t) S16.size (k0_off9_inb t)).toLoadRect (chunk 3200 src (at0 L k))
      = grp src (1600 * wid L + (200 * k + t.val)) :=
  read_group (F := F) (e := .i32) src iAM (grp_at L k t.val) (chunk 3200 src (at0 L k)) rfl (k0_off9_eq t) (k0_off9_inb t)

theorem read_dB (dst : IVec BE 32) (k : ℕ) (t : Fin k0_t7_loop.trips) :
    View.readAt (Elt F) (iBM).view (Rect.unit (s := S3200) (k0_off9 t) S16.size (k0_off9_inb t)).toLoadRect (chunk 3200 dst (at0 L k))
      = grp dst (1600 * wid L + (200 * k + t.val)) :=
  read_group (F := F) (e := .i32) dst iBM (grp_at L k t.val) (chunk 3200 dst (at0 L k)) rfl (k0_off9_eq t) (k0_off9_inb t)

theorem read_aB (e : Vec F BE .f32) (k : ℕ) (t : Fin k0_t7_loop.trips) :
    View.readAt (Elt F) (fAM).view (Rect.unit (s := S3200) (k0_off10 t) S16.size (k0_off10_inb t)).toLoadRect (chunk 3200 e (at0 L k))
      = grp e (1600 * wid L + (200 * k + t.val)) :=
  read_group (F := F) (e := .f32) e fAM (grp_at L k t.val) (chunk 3200 e (at0 L k)) rfl (k0_off10_eq t) (k0_off10_inb t)

theorem read_bB (e : Vec F BE .f32) (k : ℕ) (t : Fin k0_t7_loop.trips) :
    View.readAt (Elt F) (fBM).view (Rect.unit (s := S3200) (k0_off10 t) S16.size (k0_off10_inb t)).toLoadRect (chunk 3200 e (at0 L k))
      = grp e (1600 * wid L + (200 * k + t.val)) :=
  read_group (F := F) (e := .f32) e fBM (grp_at L k t.val) (chunk 3200 e (at0 L k)) rfl (k0_off10_eq t) (k0_off10_inb t)

theorem pay_ones (g : ℕ) : k0_pay3 (F := F) = grp onesE g := rfl

theorem pay_p (src : IVec BE 32) (e : Vec F BE .f32) (sa : Vec F BN .f32) (hs : InRange src) (g : ℕ) {iv : IVec S16 32} {av : Vec F S16 .f32}
    (h1 : iv = grp src g) (h2 : av = grp e g) {i1 : Chk iv} :
    k0_pay2 (loadIdx (((sAM).access (.whole S50176)).read (Elt F) sa) ![iv] i1) av = grp (pV src e sa) g := by
  subst h1 h2
  rw [show ((sAM).access (.whole S50176)).read (Elt F) sa = sa from Memref.read_access_whole (Elt F) (cc0_scratch0 : Ref sig .scVector) sa]
  rw [loadIdx_grp (F := F) (e := .f32) sa hs g i1]
  rfl

variable (src dst : IVec BE 32) (e1 e2 : Vec F BE .f32) (sa : Vec F BN .f32)

abbrev groupBodyA := k0_t4_body (F := F) L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10

def groupInvA (k t : Nat) (_ : BitVec 32) : sProp 𝕄 :=
  iprop(((sAM).view.loc (tV d L) ↦{fullShare} accS dst onesE (1600 * wid L) (200 * k + t))
    ∗ ((sBM).view.loc (tV d L) ↦{fullShare} accS dst e1 (1600 * wid L) (200 * k + t))
    ∗ ((iAM).view.loc (tV d L) ↦{fullShare} chunk 3200 dst (at0 L k))
    ∗ ((fAM).view.loc (tV d L) ↦{fullShare} chunk 3200 e1 (at0 L k)))

theorem group_stepA (hd : InRange dst) (k : Nat) (t : Fin k0_t4_loop.trips) (b : BitVec 32) :
    groupInvA d L dst e1 k t.val b ⊢ wp frame (wpE (defs₀ (F := F)) 𝒱₀ (tV d L) none) Set.univ
      (groupBodyA L t b) (fun b' => groupInvA d L dst e1 k (t.val + 1) b') := by
  unfold groupInvA groupBodyA k0_t4_body
  iintro ⟨HA, HB, Hi, Ha⟩
  have hcd : Chk (grp dst (1600 * wid L + (200 * k + t.val))) := chk_grp hd _
  sl_exec
  rw [wp_assume_of _ _ _ _ (by rw [read_iA (F := F) L dst k t]; exact ⟨hcd, hcd⟩)]
  ihave HA' := (Entails.of_eq (pts_whole (F := F) (tV d L) cc0_scratch0 _).symm) $$ HA
  iapply (SparseCore.wp_vectorStoreIdx 𝒱₀ (tV d L) none Set.univ (base := sAM)) $$ HA'; iintro HA'
  sl_exec
  ihave HB' := (Entails.of_eq (pts_whole (F := F) (tV d L) cc0_scratch1 _).symm) $$ HB
  iapply (SparseCore.wp_vectorStoreIdx 𝒱₀ (tV d L) none Set.univ (base := sBM)) $$ HB'; iintro HB'
  sl_step
  isplitl [HA']
  · ihave HA := (Entails.of_eq (pts_whole (F := F) (tV d L) cc0_scratch0 _)) $$ HA'
    iapply (Entails.of_eq (congrArg (fun f => ((sAM).view.loc (tV d L) ↦{fullShare} f : sProp 𝕄))
      (store_A (F := F) dst onesE (1600 * wid L) (200 * k + t.val) (read_iA (F := F) L dst k t) (pay_ones _))))
    iexact HA
  isplitl [HB']
  · ihave HB := (Entails.of_eq (pts_whole (F := F) (tV d L) cc0_scratch1 _)) $$ HB'
    iapply (Entails.of_eq (congrArg (fun f => ((sBM).view.loc (tV d L) ↦{fullShare} f : sProp 𝕄))
      (store_B (F := F) dst e1 (1600 * wid L) (200 * k + t.val) (read_iA (F := F) L dst k t) (read_aA (F := F) L e1 k t))))
    iexact HB
  isplitl [Hi]; · iexact Hi
  iexact Ha

abbrev chunkBodyA := k0_t3_body (F := F) L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10

def chunkInvA (q : PosShare TreeShare) (O : CellTallies nD τ sig (HIx 5)) (W : Waits sig (HIx 5)) (k : Nat) (_ : BitVec 32) : sProp 𝕄 :=
  iprop(MayWaits (tV d L) (none : HIx 5) O
    ∗ ((dstM).view.loc (tV d L) ↦{q} dst)
    ∗ ((e1M).view.loc (tV d L) ↦{q} e1)
    ∗ ((sAM).view.loc (tV d L) ↦{fullShare} accS dst onesE (1600 * wid L) (200 * k))
    ∗ ((sBM).view.loc (tV d L) ↦{fullShare} accS dst e1 (1600 * wid L) (200 * k))
    ∗ (∃ f, (iAM).view.loc (tV d L) ↦{fullShare} f)
    ∗ (∃ f, (fAM).view.loc (tV d L) ↦{fullShare} f)
    ∗ semVal (tV d L, SemLoc.dma cc0_scoped0.sem) 0
    ∗ semVal (tV d L, SemLoc.dma cc0_scoped1.sem) 0
    ∗ ∃ W', ⌜∀ p ∈ W', p ∈ W ∨ p.2 = none⌝ ∗ owes (tV d L) O W')

theorem chunk_stepA (hd : InRange dst) (q : PosShare TreeShare) (O : CellTallies nD τ sig (HIx 5)) (W : Waits sig (HIx 5))
    (k : Fin k0_t3_loop.trips) (b : BitVec 32) :
    chunkInvA d L dst e1 q O W k.val b ⊢ wp frame (wpE (defs₀ (F := F)) 𝒱₀ (tV d L) none) Set.univ
      (chunkBodyA L k b) (fun b' => chunkInvA d L dst e1 q O W (k.val + 1) b') := by
  have hk : k.val < 8 := k.isLt
  unfold chunkInvA chunkBodyA k0_t3_body
  iintro ⟨Hmw, Hdst, He, HA, HB, ⟨%fi, Hi⟩, ⟨%fa, Ha⟩, Hr0, Hr1, %W', %hW', HO⟩
  sl_exec (disch := exact View.amount_pos _ _ (show 0 < S3200.numel by decide))
  ihave Hi := (pts_fetched (F := F) (tV d L) cc0_scratch2 fi (w := chunk_stepA.sl.dma0 L dst k)
    (read_chunk (F := F) (e := .i32) (n := 3200) dst dstM (at0_le L hk) dst rfl (off_chunkA L k) (k0_off3_inb L k))) $$ Hi
  ihave Ha := (pts_fetched (F := F) (tV d L) cc0_scratch4 fa (w := chunk_stepA.sl.dma0_1 L e1 k)
    (read_chunk (F := F) (e := .f32) (n := 3200) e1 e1M (at0_le L hk) e1 rfl (off_chunkA L k) (k0_off3_inb L k))) $$ Ha
  sl_for (groupInvA d L dst e1 k.val) $$ [HA HB Hi Ha]
  case region => exact fun t b => group_stepA d L dst e1 hd k.val t b
  · unfold groupInvA
    isplitl [HA]; · iexact HA
    isplitl [HB]; · iexact HB
    isplitl [Hi]; · iexact Hi
    iexact Ha
  iintro %_ HI
  unfold groupInvA
  icases HI with ⟨HA, HB, Hi, Ha⟩
  sl_exec
  sl_step
  isplitl [Hmw]; · iexact Hmw
  isplitl [Hdst]; · iexact Hdst
  isplitl [He]; · iexact He
  isplitl [HA]; · iexact HA
  isplitl [HB]; · iexact HB
  isplitl [Hi]; · iexists _; iexact Hi
  isplitl [Ha]; · iexists _; iexact Ha
  isplitl [Hr0]; · iexact Hr0
  isplitl [Hr1]; · iexact Hr1
  iexists _; isplitr
  rotate_left
  · iexact HO
  · ipureintro
    exact waits_insert (waits_insert hW')

/-! ## The second pass: the source's part added to the edge's, the second layer's edge part summed -/

abbrev groupBodyB := k0_t7_body (F := F) L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10

def groupInvB (k t : Nat) (_ : BitVec 32) : sProp 𝕄 :=
  iprop(((sAM).view.loc (tV d L) ↦{fullShare} sa)
    ∗ ((sBM).view.loc (tV d L) ↦{fullShare} accS dst e2 (1600 * wid L) (200 * k + t))
    ∗ ((iAM).view.loc (tV d L) ↦{fullShare} chunk 3200 src (at0 L k))
    ∗ ((iBM).view.loc (tV d L) ↦{fullShare} chunk 3200 dst (at0 L k))
    ∗ ((fAM).view.loc (tV d L) ↦{fullShare} chunk 3200 e1 (at0 L k))
    ∗ ((fBM).view.loc (tV d L) ↦{fullShare} chunk 3200 e2 (at0 L k))
    ∗ ∃ f : Vec F S3200 .f32, ⌜∀ j : S3200.Idx, (j 0).val < 16 * t → f j = chunk 3200 (pV src e1 sa) (at0 L k) j⌝
      ∗ ((fCM).view.loc (tV d L) ↦{fullShare} f))

theorem group_stepB (hs : InRange src) (hd : InRange dst) (k : Nat) (t : Fin k0_t7_loop.trips) (b : BitVec 32) :
    groupInvB d L src dst e1 e2 sa k t.val b ⊢ wp frame (wpE (defs₀ (F := F)) 𝒱₀ (tV d L) none) Set.univ
      (groupBodyB L t b) (fun b' => groupInvB d L src dst e1 e2 sa k (t.val + 1) b') := by
  unfold groupInvB groupBodyB k0_t7_body
  iintro ⟨HA, HB, Hi, Hj, Ha, Hb, %f, %hf, Hc⟩
  have hcs : Chk (grp src (1600 * wid L + (200 * k + t.val))) := chk_grp hs _
  have hcd : Chk (grp dst (1600 * wid L + (200 * k + t.val))) := chk_grp hd _
  sl_exec
  rw [wp_assume_of _ _ _ _ (by rw [read_sB (F := F) L src k t]; exact hcs)]
  sl_exec
  rw [wp_assume_of _ _ _ _ (by rw [read_dB (F := F) L dst k t]; exact hcd)]
  iapply (SparseCore.wp_vectorLoadIdx 𝒱₀ (tV d L) none Set.univ (base := sAM) (S := Finset.univ) (q := fullShare) (Finset.subset_univ _)) $$ HA; iintro HA
  sl_exec
  ihave HB' := (Entails.of_eq (pts_whole (F := F) (tV d L) cc0_scratch1 _).symm) $$ HB
  iapply (SparseCore.wp_vectorStoreIdx 𝒱₀ (tV d L) none Set.univ (base := sBM)) $$ HB'; iintro HB'
  sl_step
  isplitl [HA]; · iexact HA
  isplitl [HB']
  · ihave HB := (Entails.of_eq (pts_whole (F := F) (tV d L) cc0_scratch1 _)) $$ HB'
    iapply (Entails.of_eq (congrArg (fun f => ((sBM).view.loc (tV d L) ↦{fullShare} f : sProp 𝕄))
      (store_B (F := F) dst e2 (1600 * wid L) (200 * k + t.val) (read_dB (F := F) L dst k t) (read_bB (F := F) L e2 k t))))
    iexact HB
  isplitl [Hi]; · iexact Hi
  isplitl [Hj]; · iexact Hj
  isplitl [Ha]; · iexact Ha
  isplitl [Hb]; · iexact Hb
  iexists _; isplitr
  rotate_left
  · iexact Hc
  · ipureintro
    exact store_contents fCM (chunk 3200 (pV src e1 sa) (at0 L k)) hf (k0_off10_eq t) (k0_off10_inb t) _ fun x j h =>
      (congrFun (pay_p (F := F) src e1 sa hs _ (read_sB (F := F) L src k t) (read_aB (F := F) L e1 k t)) x).trans (grp_chunk _ (grp_at L k t.val) x j h)

abbrev chunkBodyB := k0_t6_body (F := F) L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10

def chunkInvB (q : PosShare TreeShare) (O : CellTallies nD τ sig (HIx 5)) (W : Waits sig (HIx 5)) (f0 : Buf (Elt F) ((pM).view.loc (tV d L)))
    (k : Nat) (_ : BitVec 32) : sProp 𝕄 :=
  iprop(MayWaits (tV d L) (none : HIx 5) O
    ∗ ((dstM).view.loc (tV d L) ↦{q} dst)
    ∗ ((srcM).view.loc (tV d L) ↦{q} src)
    ∗ ((e1M).view.loc (tV d L) ↦{q} e1)
    ∗ ((e2M).view.loc (tV d L) ↦{q} e2)
    ∗ ((sAM).view.loc (tV d L) ↦{fullShare} sa)
    ∗ ((sBM).view.loc (tV d L) ↦{fullShare} accS dst e2 (1600 * wid L) (200 * k))
    ∗ (∃ f, (iAM).view.loc (tV d L) ↦{fullShare} f)
    ∗ (∃ f, (iBM).view.loc (tV d L) ↦{fullShare} f)
    ∗ (∃ f, (fAM).view.loc (tV d L) ↦{fullShare} f)
    ∗ (∃ f, (fBM).view.loc (tV d L) ↦{fullShare} f)
    ∗ (∃ f, (fCM).view.loc (tV d L) ↦{fullShare} f)
    ∗ ((pM).view.loc (tV d L) ↦[rangeSet (at0 L 0) (at0 L k)]{fullShare} pV src e1 sa)
    ∗ ((pM).view.loc (tV d L) ↦[rangeSet (at0 L k) (at0 L 8)]{fullShare} f0)
    ∗ semVal (tV d L, SemLoc.dma cc0_scoped5.sem) 0
    ∗ semVal (tV d L, SemLoc.dma cc0_scoped6.sem) 0
    ∗ semVal (tV d L, SemLoc.dma cc0_scoped7.sem) 0
    ∗ semVal (tV d L, SemLoc.dma cc0_scoped8.sem) 0
    ∗ semVal (tV d L, SemLoc.dma cc0_scoped9.sem) 0
    ∗ ∃ W', ⌜∀ p ∈ W', p ∈ W ∨ p.2 = none⌝ ∗ owes (tV d L) O W')

theorem chunk_stepB (hs : InRange src) (hd : InRange dst) (q : PosShare TreeShare) (O : CellTallies nD τ sig (HIx 5)) (W : Waits sig (HIx 5))
    (f0 : Buf (Elt F) ((pM).view.loc (tV d L))) (k : Fin k0_t6_loop.trips) (b : BitVec 32) :
    chunkInvB d L src dst e1 e2 sa q O W f0 k.val b ⊢ wp frame (wpE (defs₀ (F := F)) 𝒱₀ (tV d L) none) Set.univ
      (chunkBodyB L k b) (fun b' => chunkInvB d L src dst e1 e2 sa q O W f0 (k.val + 1) b') := by
  have hk : k.val < 8 := k.isLt
  have hm : at0 L (k.val + 1) = at0 L k.val + 3200 := by unfold at0; omega
  unfold chunkInvB chunkBodyB k0_t6_body
  iintro ⟨Hmw, Hdst, Hsrc, He1, He2, HA, HB, ⟨%fi, Hi⟩, ⟨%fj, Hj⟩, ⟨%fa, Ha⟩, ⟨%fb, Hb⟩, ⟨%fc, Hc⟩, Hlo, Hhi, Hr5, Hr6, Hr7, Hr8, Hr9, %W', %hW', HO⟩
  sl_exec (disch := exact View.amount_pos _ _ (show 0 < S3200.numel by decide))
  ihave Hi := (pts_fetched (F := F) (tV d L) cc0_scratch2 fi (w := chunk_stepB.sl.dma0 L src k)
    (read_chunk (F := F) (e := .i32) (n := 3200) src srcM (at0_le L hk) src rfl (off_chunkB L k) (k0_off8_inb L k))) $$ Hi
  ihave Hj := (pts_fetched (F := F) (tV d L) cc0_scratch3 fj (w := chunk_stepB.sl.dma0_1 L dst k)
    (read_chunk (F := F) (e := .i32) (n := 3200) dst dstM (at0_le L hk) dst rfl (off_chunkB L k) (k0_off8_inb L k))) $$ Hj
  ihave Ha := (pts_fetched (F := F) (tV d L) cc0_scratch4 fa (w := chunk_stepB.sl.dma0_2 L e1 k)
    (read_chunk (F := F) (e := .f32) (n := 3200) e1 e1M (at0_le L hk) e1 rfl (off_chunkB L k) (k0_off8_inb L k))) $$ Ha
  ihave Hb := (pts_fetched (F := F) (tV d L) cc0_scratch5 fb (w := chunk_stepB.sl.dma0_3 L e2 k)
    (read_chunk (F := F) (e := .f32) (n := 3200) e2 e2M (at0_le L hk) e2 rfl (off_chunkB L k) (k0_off8_inb L k))) $$ Hb
  sl_for (groupInvB d L src dst e1 e2 sa k.val) $$ [HA HB Hi Hj Ha Hb Hc]
  case region => exact fun t b => group_stepB d L src dst e1 e2 sa hs hd k.val t b
  · unfold groupInvB
    isplitl [HA]; · iexact HA
    isplitl [HB]; · iexact HB
    isplitl [Hi]; · iexact Hi
    isplitl [Hj]; · iexact Hj
    isplitl [Ha]; · iexact Ha
    isplitl [Hb]; · iexact Hb
    iexists _; isplitr
    rotate_left
    · iexact Hc
    · ipureintro
      intro j hj
      exact absurd hj (by omega)
  iintro %_ HI
  unfold groupInvB
  icases HI with ⟨HA, HB, Hi, Hj, Ha, Hb, %fc', %hc', Hc⟩
  obtain rfl : fc' = chunk 3200 (pV src e1 sa) (at0 L k.val) := funext fun j => hc' j (show (j 0).val < 3200 from (j 0).isLt)
  ihave Hhi := (pts_p_split (F := F) d L (lo := at0 L k.val) (mid := at0 L k.val + 3200) (hi := at0 L 8) (by omega) (by unfold at0; omega) f0).1 $$ Hhi
  icases Hhi with ⟨Hx, Hhi⟩
  ihave Hx := (Entails.of_eq (pts_pK (F := F) d L (off_chunkB L k) (k0_off8_inb L k) f0)) $$ Hx
  sl_exec (disch := exact View.amount_pos _ _ (show 0 < S3200.numel by decide))
  sl_step
  ihave Hx := (pts_p_written (F := F) d L (off_chunkB L k) (at0_le L hk) (k0_off8_inb L k) f0 (pV src e1 sa) (w := chunk_stepB.sl.dma0_4 L src e1 sa k) rfl) $$ Hx
  ihave Hlo := (pts_p_split (F := F) d L (lo := at0 L 0) (mid := at0 L k.val) (hi := at0 L k.val + 3200) (by unfold at0; omega) (by omega) (pV src e1 sa)).2 $$ [Hlo Hx]
  · isplitl [Hlo]; · iexact Hlo
    iexact Hx
  rw [hm]
  isplitl [Hmw]; · iexact Hmw
  isplitl [Hdst]; · iexact Hdst
  isplitl [Hsrc]; · iexact Hsrc
  isplitl [He1]; · iexact He1
  isplitl [He2]; · iexact He2
  isplitl [HA]; · iexact HA
  isplitl [HB]; · iexact HB
  isplitl [Hi]; · iexists _; iexact Hi
  isplitl [Hj]; · iexists _; iexact Hj
  isplitl [Ha]; · iexists _; iexact Ha
  isplitl [Hb]; · iexists _; iexact Hb
  isplitl [Hc]; · iexists _; iexact Hc
  isplitl [Hlo]; · iexact Hlo
  isplitl [Hhi]; · iexact Hhi
  isplitl [Hr5]; · iexact Hr5
  isplitl [Hr6]; · iexact Hr6
  isplitl [Hr7]; · iexact Hr7
  isplitl [Hr8]; · iexact Hr8
  isplitl [Hr9]; · iexact Hr9
  iexists _; isplitr
  rotate_left
  · iexact HO
  · ipureintro
    exact waits_insert (waits_insert (waits_insert (waits_insert (waits_insert hW'))))

/-! ## The task -/

/-- A task's scratch buffers and counters. -/
def bl : List (Ref sig .scVector) := [cc0_scratch0, cc0_scratch1, cc0_scratch2, cc0_scratch3, cc0_scratch4, cc0_scratch5, cc0_scratch6]
def sl : List (DmaSem sig) := [cc0_scoped0.sem, cc0_scoped1.sem, cc0_scoped2.sem, cc0_scoped3.sem, cc0_scoped4.sem, cc0_scoped5.sem, cc0_scoped6.sem, cc0_scoped7.sem, cc0_scoped8.sem, cc0_scoped9.sem, cc0_scoped10.sem]

theorem bufs_eq : (bufsAny d (cV L) (jV L) bl : sProp 𝕄) = iprop((∃ f, (sAM).view.loc (tV d L) ↦{fullShare} f) ∗ (∃ f, (sBM).view.loc (tV d L) ↦{fullShare} f) ∗ (∃ f, (iAM).view.loc (tV d L) ↦{fullShare} f) ∗ (∃ f, (iBM).view.loc (tV d L) ↦{fullShare} f) ∗ (∃ f, (fAM).view.loc (tV d L) ↦{fullShare} f) ∗ (∃ f, (fBM).view.loc (tV d L) ↦{fullShare} f) ∗ (∃ f, (fCM).view.loc (tV d L) ↦{fullShare} f) ∗ emp) := rfl

theorem sems_eq : (semsZero d (cV L) (jV L) sl : sProp 𝕄) = iprop(semVal (tV d L, SemLoc.dma cc0_scoped0.sem) 0 ∗ semVal (tV d L, SemLoc.dma cc0_scoped1.sem) 0 ∗ semVal (tV d L, SemLoc.dma cc0_scoped2.sem) 0 ∗ semVal (tV d L, SemLoc.dma cc0_scoped3.sem) 0 ∗ semVal (tV d L, SemLoc.dma cc0_scoped4.sem) 0 ∗ semVal (tV d L, SemLoc.dma cc0_scoped5.sem) 0 ∗ semVal (tV d L, SemLoc.dma cc0_scoped6.sem) 0 ∗ semVal (tV d L, SemLoc.dma cc0_scoped7.sem) 0 ∗ semVal (tV d L, SemLoc.dma cc0_scoped8.sem) 0 ∗ semVal (tV d L, SemLoc.dma cc0_scoped9.sem) 0 ∗ semVal (tV d L, SemLoc.dma cc0_scoped10.sem) 0 ∗ emp) := rfl

theorem ins_eq (U : Valuation τ sig (Elt F)) (q : PosShare TreeShare) : (insAt (ins 0) U d q : sProp 𝕄)
    = iprop(((srcM).view.loc (tV d L) ↦{q} U (arr main_v4)) ∗ ((dstM).view.loc (tV d L) ↦{q} U (arr main_v5)) ∗ ((e1M).view.loc (tV d L) ↦{q} U (arr main_v6)) ∗ ((e2M).view.loc (tV d L) ↦{q} U (arr main_v7)) ∗ ((asM).view.loc (tV d L) ↦{q} U (arr main_v12))) := by
  show bigSep {arr main_v4, arr main_v5, arr main_v6, arr main_v7, arr main_v12} _ = _
  rw [SparseCore.bigSep_insert' (by decide), SparseCore.bigSep_insert' (by decide), SparseCore.bigSep_insert' (by decide), SparseCore.bigSep_insert' (by decide), bigSep_singleton]

theorem tile_deg : tileSet (arr main_v13_0) (L 0).val (L 1).val = rowSet 32 (wid L) := by
  ext x
  have hx : (x 0).val < 32 := (x 0).isLt
  unfold tileSet rowSet
  rw [Finset.mem_filter, Finset.mem_filter]
  refine and_congr_right fun _ => ?_
  show (x 0).val % 32 = 2 * (L 1).val + (L 0).val ↔ (x 0).val = 2 * (L 1).val + (L 0).val
  omega

theorem tile_a1 : tileSet (arr main_v13_1) (L 0).val (L 1).val = rowSet 32 (wid L) := by
  ext x
  have hx : (x 0).val < 32 := (x 0).isLt
  unfold tileSet rowSet
  rw [Finset.mem_filter, Finset.mem_filter]
  refine and_congr_right fun _ => ?_
  show (x 0).val % 32 = 2 * (L 1).val + (L 0).val ↔ (x 0).val = 2 * (L 1).val + (L 0).val
  omega

theorem tile_a2 : tileSet (arr main_v13_2) (L 0).val (L 1).val = rowSet 32 (wid L) := by
  ext x
  have hx : (x 0).val < 32 := (x 0).isLt
  unfold tileSet rowSet
  rw [Finset.mem_filter, Finset.mem_filter]
  refine and_congr_right fun _ => ?_
  show (x 0).val % 32 = 2 * (L 1).val + (L 0).val ↔ (x 0).val = 2 * (L 1).val + (L 0).val
  omega

theorem tile_p : tileSet (arr main_v13_3) (L 0).val (L 1).val = rangeSet (at0 L 0) (at0 L 8) := by
  have h := wid_lt L
  ext x
  have hx : (x 0).val < 819200 := (x 0).isLt
  unfold tileSet rangeSet
  rw [Finset.mem_filter, Finset.mem_filter]
  refine and_congr_right fun _ => ?_
  show (x 0).val / 25600 % 32 = 2 * (L 1).val + (L 0).val ↔ _
  unfold at0
  unfold wid at *
  omega

theorem outs_eq (U : Valuation τ sig (Elt F)) : (tileAt (outs 0) U d (L 0).val (L 1).val : sProp 𝕄)
    = iprop(((degM).view.loc (tV d L) ↦[rowSet 32 (wid L)]{fullShare} U (arr main_v13_0)) ∗ ((a1M).view.loc (tV d L) ↦[rowSet 32 (wid L)]{fullShare} U (arr main_v13_1)) ∗ ((a2M).view.loc (tV d L) ↦[rowSet 32 (wid L)]{fullShare} U (arr main_v13_2)) ∗ ((pM).view.loc (tV d L) ↦[rangeSet (at0 L 0) (at0 L 8)]{fullShare} U (arr main_v13_3))) := by
  show bigSep {arr main_v13_0, arr main_v13_1, arr main_v13_2, arr main_v13_3} _ = _
  rw [SparseCore.bigSep_insert' (by decide), SparseCore.bigSep_insert' (by decide), SparseCore.bigSep_insert' (by decide), bigSep_singleton, tile_deg, tile_a1, tile_a2, tile_p]

/-- The five arrays a task only reads, each at a share. -/
def insHeld (q : PosShare TreeShare) : sProp 𝕄 :=
  iprop(((srcM).view.loc (tV d L) ↦{q} src) ∗ ((dstM).view.loc (tV d L) ↦{q} dst) ∗ ((e1M).view.loc (tV d L) ↦{q} e1)
    ∗ ((e2M).view.loc (tV d L) ↦{q} e2) ∗ ((asM).view.loc (tV d L) ↦{q} sa))

/-- Its rows of the three arrays of rows, and its edges of the fourth. -/
def outsHeld (g0 : Buf (Elt F) ((degM).view.loc (tV d L))) (g1 : Buf (Elt F) ((a1M).view.loc (tV d L))) (g2 : Buf (Elt F) ((a2M).view.loc (tV d L)))
    (g3 : Buf (Elt F) ((pM).view.loc (tV d L))) : sProp 𝕄 :=
  iprop(((degM).view.loc (tV d L) ↦[rowSet 32 (wid L)]{fullShare} g0) ∗ ((a1M).view.loc (tV d L) ↦[rowSet 32 (wid L)]{fullShare} g1)
    ∗ ((a2M).view.loc (tV d L) ↦[rowSet 32 (wid L)]{fullShare} g2) ∗ ((pM).view.loc (tV d L) ↦[rangeSet (at0 L 0) (at0 L 8)]{fullShare} g3))

set_option maxHeartbeats 2000000 in
theorem task_run (hs : InRange src) (hd : InRange dst) (q : PosShare TreeShare) (O : CellTallies nD τ sig (HIx 5)) (W : Waits sig (HIx 5))
    (g0 : Buf (Elt F) ((degM).view.loc (tV d L))) (g1 : Buf (Elt F) ((a1M).view.loc (tV d L))) (g2 : Buf (Elt F) ((a2M).view.loc (tV d L)))
    (g3 : Buf (Elt F) ((pM).view.loc (tV d L))) :
    iprop(MayWaits (tV d L) (none : HIx 5) O ∗ (insHeld d L src dst e1 e2 sa q ∗ outsHeld d L g0 g1 g2 g3)
        ∗ bufsAny d (cV L) (jV L) bl ∗ semsZero d (cV L) (jV L) sl ∗ owes (tV d L) O W)
      ⊢ wp frame (wpE (defs₀ (F := F)) 𝒱₀ (tV d L) none) Set.univ
          (cc0__sc_m1 L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10)
          fun _ => iprop((insHeld d L src dst e1 e2 sa q
              ∗ outsHeld d L (partOf dst onesE) (partOf dst e1) (partOf dst e2) (pV src e1 sa))
            ∗ bufsAny d (cV L) (jV L) bl ∗ semsZero d (cV L) (jV L) sl ∗ ∃ W', ⌜∀ p ∈ W', p ∈ W ∨ p.2 = none⌝ ∗ owes (tV d L) O W') := by
  rw [cc0__sc_m1_eq_skeleton]; unfold cc0__sc_m1_skel
  rw [k0_part1_eq_skeleton]; unfold k0_part1_skel
  simp only [bind_assoc]
  unfold insHeld outsHeld
  rw [bufs_eq, sems_eq]
  rw [pts_degK (F := F) d L (off_row L) (k0_off6_inb L), pts_a1K (F := F) d L (off_row L) (k0_off6_inb L), pts_a2K (F := F) d L (off_row L) (k0_off6_inb L)]
  iintro ⟨Hmw, ⟨⟨Hsrc, Hdst, He1, He2, Has⟩, Ho0, Ho1, Ho2, Hp⟩, ⟨⟨%fA, HA⟩, ⟨%fB, HB⟩, ⟨%fi, Hi⟩, ⟨%fj, Hj⟩, ⟨%fa, Ha⟩, ⟨%fb, Hb⟩, ⟨%fc, Hc⟩, -⟩, ⟨Hr0, Hr1, Hr2, Hr3, Hr4, Hr5, Hr6, Hr7, Hr8, Hr9, Hr10, -⟩, HO⟩
  sl_exec
  ihave HA := (zeroAInv_0 (F := F) d L _ 0#32) $$ HA
  sl_for (zeroAInv (F := F) d L) $$ [HA]
  case region => exact fun k b => zeroA_step d L k b
  · iexact HA
  iintro %_ HI
  ihave HA := (zeroAInv_end (F := F) d L (k := k0_t1_loop.trips) rfl dst onesE (1600 * wid L) _) $$ HI
  sl_exec
  ihave HB := (zeroBInv_0 (F := F) d L _ 0#32) $$ HB
  sl_for (zeroBInv (F := F) d L) $$ [HB]
  case region => exact fun k b => zeroB_step d L k b
  · iexact HB
  iintro %_ HI
  ihave HB := (zeroBInv_end (F := F) d L (k := k0_t2_loop.trips) rfl dst e1 (1600 * wid L) _) $$ HI
  sl_exec
  sl_for (chunkInvA d L dst e1 q O W) $$ [Hmw Hdst He1 HA HB Hi Ha Hr0 Hr1 HO]
  case region => exact fun k b => chunk_stepA d L dst e1 hd q O W k b
  · unfold chunkInvA
    isplitl [Hmw]; · iexact Hmw
    isplitl [Hdst]; · iexact Hdst
    isplitl [He1]; · iexact He1
    isplitl [HA]; · iexact HA
    isplitl [HB]; · iexact HB
    isplitl [Hi]; · iexists _; iexact Hi
    isplitl [Ha]; · iexists _; iexact Ha
    isplitl [Hr0]; · iexact Hr0
    isplitl [Hr1]; · iexact Hr1
    iexists _; isplitr
    rotate_left
    · iexact HO
    · ipureintro
      exact fun p hp => .inl hp
  iintro %_ HI
  unfold chunkInvA
  icases HI with ⟨Hmw, Hdst, He1, HA, HB, ⟨%gi, Hi⟩, ⟨%ga, Ha⟩, Hr0, Hr1, %gW, %hgW, HO⟩
  sl_exec (disch := exact View.amount_pos _ _ (show 0 < S50176.numel by decide))
  ihave HA := (pts_fetched (F := F) (tV d L) cc0_scratch0 _ (w := task_run.sl.dma0_2 sa) rfl) $$ HA
  ihave HB := (zeroBInv_0 (F := F) d L _ 0#32) $$ HB
  sl_for (zeroBInv (F := F) d L) $$ [HB]
  case region => exact fun k b => zeroC_step d L k b
  · iexact HB
  iintro %_ HI
  ihave HB := (zeroBInv_end (F := F) d L (k := k0_t5_loop.trips) rfl dst e2 (1600 * wid L) _) $$ HI
  sl_exec
  sl_for (chunkInvB d L src dst e1 e2 sa q O W g3) $$ [Hmw Hdst Hsrc He1 He2 HA HB Hi Hj Ha Hb Hc Hp Hr5 Hr6 Hr7 Hr8 Hr9 HO]
  case region => exact fun k b => chunk_stepB d L src dst e1 e2 sa hs hd q O W g3 k b
  · unfold chunkInvB
    isplitl [Hmw]; · iexact Hmw
    isplitl [Hdst]; · iexact Hdst
    isplitl [Hsrc]; · iexact Hsrc
    isplitl [He1]; · iexact He1
    isplitl [He2]; · iexact He2
    isplitl [HA]; · iexact HA
    isplitl [HB]; · iexact HB
    isplitl [Hi]; · iexists _; iexact Hi
    isplitl [Hj]; · iexists _; iexact Hj
    isplitl [Ha]; · iexists _; iexact Ha
    isplitl [Hb]; · iexists _; iexact Hb
    isplitl [Hc]; · iexists _; iexact Hc
    ihave Hp := (pts_p_split (F := F) d L (lo := at0 L 0) (mid := at0 L 0) (hi := at0 L 8) (by omega) (by unfold at0; omega) g3).1 $$ Hp
    icases Hp with ⟨Hp0, Hp⟩
    isplitl [Hp0]
    · iapply (pts_p_none (F := F) d L (at0 L 0) g3 (pV src e1 sa))
      iexact Hp0
    isplitl [Hp]; · iexact Hp
    isplitl [Hr5]; · iexact Hr5
    isplitl [Hr6]; · iexact Hr6
    isplitl [Hr7]; · iexact Hr7
    isplitl [Hr8]; · iexact Hr8
    isplitl [Hr9]; · iexact Hr9
    iexists _; isplitr
    rotate_left
    · iexact HO
    · ipureintro
      exact waits_insert (waits_insert (waits_insert hgW))
  iintro %_ HI
  unfold chunkInvB
  icases HI with ⟨Hmw, Hdst, Hsrc, He1, He2, HA, HB, ⟨%ui, Hi⟩, ⟨%uj, Hj⟩, ⟨%ua, Ha⟩, ⟨%ub, Hb⟩, ⟨%uc, Hc⟩, Hlo, Hhi, Hr5, Hr6, Hr7, Hr8, Hr9, %uW, %huW, HO⟩
  sl_exec (disch := exact View.amount_pos _ _ (show 0 < S50176.numel by decide))
  sl_step
  ihave Ho0 := (pts_deg_written (F := F) d L (off_row L) (wid_lt L) (k0_off6_inb L) _ (partOf dst onesE)
    (w := task_run.sl.dma0 L dst) (rowOf_partOf dst onesE (wid_lt L)).symm) $$ Ho0
  ihave Ho1 := (pts_a1_written (F := F) d L (off_row L) (wid_lt L) (k0_off6_inb L) _ (partOf dst e1)
    (w := task_run.sl.dma0_1 L dst e1) (rowOf_partOf dst e1 (wid_lt L)).symm) $$ Ho1
  ihave Ho2 := (pts_a2_written (F := F) d L (off_row L) (wid_lt L) (k0_off6_inb L) _ (partOf dst e2)
    (w := task_run.sl.dma0_3 L dst e2) (rowOf_partOf dst e2 (wid_lt L)).symm) $$ Ho2
  isplitl [Hsrc Hdst He1 He2 Has Ho0 Ho1 Ho2 Hlo]
  · isplitl [Hsrc Hdst He1 He2 Has]
    · skip
      isplitl [Hsrc]; · iexact Hsrc
      isplitl [Hdst]; · iexact Hdst
      isplitl [He1]; · iexact He1
      isplitl [He2]; · iexact He2
      iexact Has
    isplitl [Ho0]; · iexact Ho0
    isplitl [Ho1]; · iexact Ho1
    isplitl [Ho2]; · iexact Ho2
    iexact Hlo
  isplitl [HA HB Hi Hj Ha Hb Hc]
  · skip
    isplitl [HA]; · iexists _; iexact HA
    isplitl [HB]; · iexists _; iexact HB
    isplitl [Hi]; · iexists _; iexact Hi
    isplitl [Hj]; · iexists _; iexact Hj
    isplitl [Ha]; · iexists _; iexact Ha
    isplitl [Hb]; · iexists _; iexact Hb
    isplitl [Hc]; · iexists _; iexact Hc
    iempintro
  isplitl [Hr0 Hr1 Hr2 Hr3 Hr4 Hr5 Hr6 Hr7 Hr8 Hr9 Hr10]
  · skip
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    isplitl [Hr10]; · iexact Hr10
    iempintro
  iexists _; isplitr
  rotate_left
  · iexact HO
  · ipureintro
    exact waits_insert huW

/-! ## The launch's obligation -/

/-- What the call needs of its operands, and what it makes of them. -/
structure Spec (U U' : Valuation τ sig (Elt F)) : Prop where
  hs : InRange (U (arr main_v4))
  hd : InRange (U (arr main_v5))
  deg : U' (arr main_v13_0) = partOf (F := F) (U (arr main_v5)) onesE
  a1 : U' (arr main_v13_1) = partOf (F := F) (U (arr main_v5)) (U (arr main_v6))
  a2 : U' (arr main_v13_2) = partOf (F := F) (U (arr main_v5)) (U (arr main_v7))
  p : U' (arr main_v13_3) = pV (F := F) (U (arr main_v4)) (U (arr main_v6)) (U (arr main_v12))

theorem run_body {U U' : Valuation τ sig (Elt F)} (h : Spec U U') (q : PosShare TreeShare) (O : CellTallies nD τ sig (HIx 5)) (W : Waits sig (HIx 5))
    (hO : ∀ g, O g none = 0) :
    iprop(levAts (K (F := F)).L (K (F := F)).lev ∗ emp ∗ (insAt (ins 0) U d q ∗ tileAt (outs 0) U d (L 0).val (L 1).val)
        ∗ scopedBufs (tV d L) ∗ scopedSems0 (tV d L) ∗ owes (tV d L) O W)
      ⊢ wp frame (wpE (defs₀ (F := F)) 𝒱₀ (tV d L) none) Set.univ
          (cc0__sc_m1 L dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10)
          fun _ => iprop((insAt (ins 0) U d q ∗ tileAt (outs 0) U' d (L 0).val (L 1).val) ∗ scopedBufs (tV d L) ∗ scopedSems0 (tV d L)
            ∗ ∃ W', ⌜∀ p ∈ W', p ∈ W ∨ p.2 = none⌝ ∗ owes (tV d L) O W') := by
  refine tile_body d (cV L) (jV L) bl sl (by decide) (by
    intro b hb
    simp only [bl, List.mem_cons, List.not_mem_nil, or_false] at hb
    rcases hb with rfl | rfl | rfl | rfl | rfl | rfl | rfl <;> exact SparseCore.Cfg.mem_ownRefs_of_owner rfl)
    (by decide) (by decide) _ _ _ O W hO ?_
  rw [ins_eq d L, outs_eq d L, outs_eq d L, h.deg, h.a1, h.a2, h.p]
  have hr := task_run d L (U (arr main_v4)) (U (arr main_v5)) (U (arr main_v6)) (U (arr main_v7)) (U (arr main_v12)) h.hs h.hd q O W
    (U (arr main_v13_0)) (U (arr main_v13_1)) (U (arr main_v13_2)) (U (arr main_v13_3))
  unfold insHeld outsHeld at hr
  exact hr

end Tile

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_m1 (coordsV c s) dstM (Memref.isWhole_whole _) srcM (Memref.isWhole_whole _) e1M (Memref.isWhole_whole _) e2M (Memref.isWhole_whole _) asM (Memref.isWhole_whole _) degM (Memref.isWhole_whole _) a1M (Memref.isWhole_whole _) a2M (Memref.isWhole_whole _) pM (Memref.isWhole_whole _) sAM (Memref.isWhole_whole _) sBM (Memref.isWhole_whole _) iAM (Memref.isWhole_whole _) iBM (Memref.isWhole_whole _) fAM (Memref.isWhole_whole _) fBM (Memref.isWhole_whole _) fCM (Memref.isWhole_whole _) cc0_scoped0 cc0_scoped1 cc0_scoped2 cc0_scoped3 cc0_scoped4 cc0_scoped5 cc0_scoped6 cc0_scoped7 cc0_scoped8 cc0_scoped9 cc0_scoped10) ⟨⟩ c s := rfl

set_option maxRecDepth 1024 in
/-- The task of every vector subcore meets the launch's obligation. -/
theorem tileObl (C : Calls F) (h : ∀ d, Spec (C.V 0 d) (C.W 0 d)) : (K (F := F)).TileObl (D (F := F)) 𝒱 (P C) v₀ 0 := by
  intro d c i O W hO _ _
  simp only [show (P C).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (run_body d (coordsV ⟨_, hc.1⟩ ⟨_, hc.2⟩) (h d) (tileShare (Fin.cast (nCore_eq 0) c) (Fin.cast (nSub_eq 0) i)) O W hO).trans
    (wp_mono frame _ _ fun _ => obl_post)

end Cert.Proof.Run.T1

end
-- ==== Proof.Run.T2.lean ====
/-
  One task of the call `_sc_m2`: over its 25600 edges it adds each edge's part of the logit and the destination's, takes the
  weight, writes the weights out chunk by chunk, and sums them by destination into its own row of partial sums.
-/
module

public import proofs.«01_k».proof.Proof.Run.TileKit

@[expose] public section

noncomputable section

namespace Cert.Proof.Run.T2

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTok shareDrop pointsTo_toks)
open Idealize.ShloMosaic.StableHlo (held held_sub_split held_congr wp_seq seq after)
open Idealize.ShloMosaic.Tactic

variable {F : FTy → Type}

local notation "𝕄" => MT nD τ sig (HIx 5) (Elt F) ℕ UU ℕ

variable [FloatOps F]

/-! ## The task's memrefs -/

abbrev dstM : Memref sig .scVector .hbm S819200 .i32 := Memref.whole main_v5_scv
abbrev pM : Memref sig .scVector .hbm S819200 .f32 := Memref.whole main_v13_3_scv
abbrev adM : Memref sig .scVector .hbm S50176 .f32 := Memref.whole main_v14_scv
abbrev exM : Memref sig .scVector .hbm S819200 .f32 := Memref.whole main_v15_0_scv
abbrev denM : Memref sig .scVector .hbm S32x50176 .f32 := Memref.whole main_v15_1_scv
abbrev tabM : Memref sig .scVector .vmem S50176 .f32 := Memref.whole cc1_scratch0
abbrev accM : Memref sig .scVector .vmem S50176 .f32 := Memref.whole cc1_scratch1
abbrev iM : Memref sig .scVector .vmem S3200 .i32 := Memref.whole cc1_scratch2
abbrev aM : Memref sig .scVector .vmem S3200 .f32 := Memref.whole cc1_scratch3
abbrev bM : Memref sig .scVector .vmem S3200 .f32 := Memref.whole cc1_scratch4

section Tile

variable (d : Dev nD) (L : grid1.Coords)

abbrev cV (L : grid1.Coords) : Fin τ.nSC := (L 0).castLE hcore1
abbrev jV (L : grid1.Coords) : Fin τ.nSub := (L 1).castLE hsub1
abbrev tV (d : Dev nD) (L : grid1.Coords) : Thread nD τ := V d (cV L) (jV L)

/-- The task's number, and its first edge. -/
abbrev wid (L : grid1.Coords) : ℕ := 2 * (L 1).val + (L 0).val

theorem wid_lt : wid L < 32 := by
  have h0 : (L 0).val < 2 := (L 0).isLt
  have h1 : (L 1).val < 16 := (L 1).isLt
  unfold wid
  omega

abbrev at0 (L : grid1.Coords) (k : ℕ) : ℕ := 25600 * wid L + 3200 * k

theorem off_chunk (k : Fin k1_t2_loop.trips) : k1_off2 L k = ![at0 L k.val] := by
  rw [k1_off2_eq]
  congr 1
  show 51200 * (L 1).val + 25600 * (L 0).val + 3200 * k.val = 25600 * (2 * (L 1).val + (L 0).val) + 3200 * k.val
  omega

theorem at0_le {k : ℕ} (hk : k < 8) : at0 L k + 3200 ≤ 819200 := by
  have := wid_lt L
  unfold at0
  omega

theorem off_row : k1_off5 L = ![wid L, 0] := k1_off5_eq L

abbrev exK (off : Fin 1 → ℕ) (inb : ∀ a, off a + S3200.size a ≤ S819200.size a) : Memref sig .scVector .hbm S3200 .f32 :=
  (exM).slice (Rect.unit (s := S819200) off S3200.size inb) (fun _ => rfl)

theorem set_exK {off : Fin 1 → ℕ} {B : ℕ} (ho : off = ![B]) (inb : ∀ a, off a + S3200.size a ≤ S819200.size a) :
    (exK off inb).view.set = rangeSet B (B + 3200) := (View.set_slice_whole _ _).trans (rect_range (n := 3200) ho inb)

theorem pts_exK {off : Fin 1 → ℕ} {B : ℕ} (ho : off = ![B]) (inb : ∀ a, off a + S3200.size a ≤ S819200.size a)
    (f : Buf (Elt F) ((exM).view.loc (tV d L))) :
    ((exM).view.loc (tV d L) ↦[rangeSet B (B + 3200)]{fullShare} f : sProp 𝕄)
      = ((exK off inb).view.loc (tV d L) ↦[(exK off inb).view.set]{fullShare} f) := by
  rw [set_exK ho inb]

theorem pts_ex_written {off : Fin 1 → ℕ} {B : ℕ} (ho : off = ![B]) (hB : B + 3200 ≤ 819200) (inb : ∀ a, off a + S3200.size a ≤ S819200.size a)
    (f : Buf (Elt F) ((exM).view.loc (tV d L))) (G : Vec F BE .f32) {w : Vec F S3200 .f32} (hw : w = chunk 3200 G B) :
    ((exK off inb).view.loc (tV d L) ↦[(exK off inb).view.set]{fullShare} (exK off inb).view.writes (Elt F) f [⟨Rect.whole S3200, w⟩] : sProp 𝕄)
      ⊢ (exM).view.loc (tV d L) ↦[rangeSet B (B + 3200)]{fullShare} G := by
  rw [pts_exK (F := F) d L ho inb]
  exact pts_written (F := F) (tV d L) (exK off inb).view f G ((read_chunk (F := F) (e := .f32) (n := 3200) G exM hB G rfl ho inb).trans hw.symm)

theorem pts_ex_split {lo mid hi : ℕ} (h1 : lo ≤ mid) (h2 : mid ≤ hi) (f : Buf (Elt F) ((exM).view.loc (tV d L))) :
    ((exM).view.loc (tV d L) ↦[rangeSet lo hi]{fullShare} f : sProp 𝕄)
      ⊣⊢ iprop(((exM).view.loc (tV d L) ↦[rangeSet lo mid]{fullShare} f) ∗ ((exM).view.loc (tV d L) ↦[rangeSet mid hi]{fullShare} f)) := by
  rw [rangeSet_split h1 h2]
  exact pointsTo_union (ℓ := (exM).view.loc (tV d L)) (rangeSet_disjoint lo mid hi)

theorem pts_ex_none (lo : ℕ) (f g : Buf (Elt F) ((exM).view.loc (tV d L))) :
    ((exM).view.loc (tV d L) ↦[rangeSet lo lo]{fullShare} f : sProp 𝕄) ⊢ (exM).view.loc (tV d L) ↦[rangeSet lo lo]{fullShare} g := by
  refine Entails.of_eq (pointsTo_congr fun i hi => ?_)
  rw [rangeSet_empty] at hi
  exact absurd hi (Finset.notMem_empty i)

theorem set_denK {off : Fin 2 → ℕ} {n : ℕ} (ho : off = ![n, 0]) (inb : ∀ a, off a + S1x50176.size a ≤ S32x50176.size a) :
    (rowK denM off inb).view.set = rowSet 32 n := by
  show (((denM).view.slice (Rect.unit (s := S32x50176) off S1x50176.size inb)).reshape S50176 squeezes_S1x50176_S50176.numel_eq).set = _
  rw [View.set_reshape]
  exact (View.set_slice_whole _ _).trans (rect_row (m := 32) ho inb)

theorem pts_denK {off : Fin 2 → ℕ} {n : ℕ} (ho : off = ![n, 0]) (inb : ∀ a, off a + S1x50176.size a ≤ S32x50176.size a)
    (f : Buf (Elt F) ((denM).view.loc (tV d L))) :
    ((denM).view.loc (tV d L) ↦[rowSet 32 n]{fullShare} f : sProp 𝕄)
      = ((rowK denM off inb).view.loc (tV d L) ↦[(rowK denM off inb).view.set]{fullShare} f) := by
  rw [set_denK ho inb]

/-! ## Clearing the accumulator -/

abbrev zeroBody :=
  k1_t1_body (F := F) L dstM (Memref.isWhole_whole _) pM (Memref.isWhole_whole _) adM (Memref.isWhole_whole _) exM (Memref.isWhole_whole _)
    denM (Memref.isWhole_whole _) tabM (Memref.isWhole_whole _) accM (Memref.isWhole_whole _) iM (Memref.isWhole_whole _)
    aM (Memref.isWhole_whole _) bM (Memref.isWhole_whole _) cc1_scoped0 cc1_scoped1 cc1_scoped2 cc1_scoped3 cc1_scoped4

def zeroInv (k : Nat) (_ : BitVec 32) : sProp 𝕄 :=
  iprop(∃ f : Vec F S50176 .f32, ⌜∀ j : S50176.Idx, (j 0).val < 16 * k → f j = Scalar.ofBits .f32 0x00000000#32⌝
    ∗ ((accM).view.loc (tV d L) ↦{fullShare} f))

theorem zero_step (k : Fin k1_t1_loop.trips) (b : BitVec 32) :
    zeroInv (F := F) d L k.val b ⊢ wp frame (wpE (defs₀ (F := F)) 𝒱₀ (tV d L) none) Set.univ
      (zeroBody L k b) (fun b' => zeroInv (F := F) d L (k.val + 1) b') := by
  unfold zeroInv zeroBody k1_t1_body
  iintro ⟨%f, %hf, Hc⟩
  sl_exec
  sl_step
  iexists ((accM).view.writes (Elt F) f [⟨Rect.unit (k1_off1 k) S16.size (k1_off1_inb k), k1_pay1 (F := F)⟩])
  isplitr
  · ipureintro
    exact store_contents accM (fun _ => Scalar.ofBits .f32 0x00000000#32) hf (k1_off1_eq k) (k1_off1_inb k) (k1_pay1 (F := F)) (fun _ _ _ => rfl)
  · iexact Hc

theorem zeroed (idx : IVec BE 32) (val : Vec F BE .f32) (g : ℕ) (b : BitVec 32) :
    zeroInv (F := F) d L k1_t1_loop.trips b ⊢ (accM).view.loc (tV d L) ↦{fullShare} accS idx val g 0 := by
  unfold zeroInv
  iintro ⟨%f, %hf, Hc⟩
  obtain rfl : f = accS idx val g 0 := funext fun j => hf j (by
    have hj : (j 0).val < 50176 := (j 0).isLt
    have ht : k1_t1_loop.trips = 3136 := rfl
    omega)
  iexact Hc

/-! ## One group of sixteen edges -/

variable (dst : IVec BE 32) (p : Vec F BE .f32) (ad : Vec F BN .f32)

/-- The weights. -/
abbrev exV (dst : IVec BE 32) (p : Vec F BE .f32) (ad : Vec F BN .f32) : Vec F BE .f32 :=
  actV (Scalar.ofBits .f32 0x42700000#32) (addf p (gath ad dst))

abbrev groupBody :=
  k1_t3_body (F := F) L dstM (Memref.isWhole_whole _) pM (Memref.isWhole_whole _) adM (Memref.isWhole_whole _) exM (Memref.isWhole_whole _)
    denM (Memref.isWhole_whole _) tabM (Memref.isWhole_whole _) accM (Memref.isWhole_whole _) iM (Memref.isWhole_whole _)
    aM (Memref.isWhole_whole _) bM (Memref.isWhole_whole _) cc1_scoped0 cc1_scoped1 cc1_scoped2 cc1_scoped3 cc1_scoped4

def groupInv (k t : Nat) (_ : BitVec 32) : sProp 𝕄 :=
  iprop(((tabM).view.loc (tV d L) ↦{fullShare} ad)
    ∗ ((accM).view.loc (tV d L) ↦{fullShare} accS dst (exV dst p ad) (1600 * wid L) (200 * k + t))
    ∗ ((iM).view.loc (tV d L) ↦{fullShare} chunk 3200 dst (at0 L k))
    ∗ ((aM).view.loc (tV d L) ↦{fullShare} chunk 3200 p (at0 L k))
    ∗ ∃ f : Vec F S3200 .f32, ⌜∀ j : S3200.Idx, (j 0).val < 16 * t → f j = chunk 3200 (exV dst p ad) (at0 L k) j⌝
      ∗ ((bM).view.loc (tV d L) ↦{fullShare} f))

theorem grp_at (k t : ℕ) : 16 * (1600 * wid L + (200 * k + t)) = at0 L k + 16 * t := by
  unfold at0
  omega

theorem read_i (k : ℕ) (t : Fin k1_t3_loop.trips) :
    View.readAt (Elt F) (iM).view (Rect.unit (s := S3200) (k1_off3 t) S16.size (k1_off3_inb t)).toLoadRect (chunk 3200 dst (at0 L k))
      = grp dst (1600 * wid L + (200 * k + t.val)) :=
  read_group (F := F) (e := .i32) dst iM (grp_at L k t.val) (chunk 3200 dst (at0 L k)) rfl (k1_off3_eq t) (k1_off3_inb t)

theorem read_a (k : ℕ) (t : Fin k1_t3_loop.trips) :
    View.readAt (Elt F) (aM).view (Rect.unit (s := S3200) (k1_off3 t) S16.size (k1_off3_inb t)).toLoadRect (chunk 3200 p (at0 L k))
      = grp p (1600 * wid L + (200 * k + t.val)) :=
  read_group (F := F) (e := .f32) p aM (grp_at L k t.val) (chunk 3200 p (at0 L k)) rfl (k1_off3_eq t) (k1_off3_inb t)

/-- The weights the group computes. -/
theorem pay_group (hd : InRange dst) (g : ℕ) {iv : IVec S16 32} {av : Vec F S16 .f32} (h1 : iv = grp dst g) (h2 : av = grp p g) {i1 : Chk iv} :
    k1_pay2 av (loadIdx (((tabM).access (.whole S50176)).read (Elt F) ad) ![iv] i1) = grp (exV dst p ad) g := by
  subst h1 h2
  rw [show ((tabM).access (.whole S50176)).read (Elt F) ad = ad from Memref.read_access_whole (Elt F) (cc1_scratch0 : Ref sig .scVector) ad]
  rw [loadIdx_grp (F := F) (e := .f32) ad hd g i1]
  rfl

/-- The indexed store with add of a group's weights is the accumulator with the group added. -/
theorem store_group (val : Vec F BE .f32) (g n : ℕ) {iv : IVec S16 32} {pv : Vec F S16 .f32} (h1 : iv = grp dst (g + n)) (h2 : pv = grp val (g + n))
    {i1 : Chk iv} :
    ((accM).access (.whole S50176)).write (Elt F) (accS dst val g n)
      (storeIdx (((accM).access (.whole S50176)).read (Elt F) (accS dst val g n)) ![iv] pv (fun _ => 1#1) true i1) Finset.univ
      = accS dst val g (n + 1) := by
  subst h1 h2
  refine (Memref.write_access_whole_univ (Elt F) (cc1_scratch1 : Ref sig .scVector) _ _).trans ?_
  rw [show accS dst val g (n + 1) = storeIdx (accS dst val g n) ![grp dst (g + n)] (grp val (g + n)) (fun _ => 1#1) true i1 from addGrp_of i1]
  rw [show ((accM).access (.whole S50176)).read (Elt F) (accS dst val g n) = accS dst val g n from
    Memref.read_access_whole (Elt F) (cc1_scratch1 : Ref sig .scVector) _]

theorem group_step (hd : InRange dst) (k : Nat) (t : Fin k1_t3_loop.trips) (b : BitVec 32) :
    groupInv d L dst p ad k t.val b ⊢ wp frame (wpE (defs₀ (F := F)) 𝒱₀ (tV d L) none) Set.univ
      (groupBody L t b) (fun b' => groupInv d L dst p ad k (t.val + 1) b') := by
  unfold groupInv groupBody k1_t3_body
  iintro ⟨Ht, Hc, Hi, Ha, %f, %hf, Hb⟩
  have hcd : Chk (grp dst (1600 * wid L + (200 * k + t.val))) := chk_grp hd _
  sl_exec
  rw [wp_assume_of _ _ _ _ (by rw [read_i (F := F) L dst k t]; exact ⟨hcd, hcd⟩)]
  sl_exec
  iapply (SparseCore.wp_vectorLoadIdx 𝒱₀ (tV d L) none Set.univ (base := tabM) (S := Finset.univ) (q := fullShare) (Finset.subset_univ _)) $$ Ht; iintro Ht
  sl_exec
  ihave Hc' := (Entails.of_eq (pts_whole (F := F) (tV d L) cc1_scratch1 _).symm) $$ Hc
  iapply (SparseCore.wp_vectorStoreIdx 𝒱₀ (tV d L) none Set.univ (base := accM)) $$ Hc'; iintro Hc'
  sl_step
  isplitl [Ht]; · iexact Ht
  isplitl [Hc']
  · ihave Hc := (Entails.of_eq (pts_whole (F := F) (tV d L) cc1_scratch1 _)) $$ Hc'
    iapply (Entails.of_eq (congrArg (fun f => ((accM).view.loc (tV d L) ↦{fullShare} f : sProp 𝕄))
      (store_group (F := F) dst (exV dst p ad) (1600 * wid L) (200 * k + t.val) (read_i (F := F) L dst k t)
        (pay_group (F := F) dst p ad hd _ (read_i (F := F) L dst k t) (read_a (F := F) L p k t)))))
    iexact Hc
  isplitl [Hi]; · iexact Hi
  isplitl [Ha]; · iexact Ha
  iexists _; isplitr
  rotate_left
  · iexact Hb
  · ipureintro
    exact store_contents bM (chunk 3200 (exV dst p ad) (at0 L k)) hf (k1_off4_eq t) (k1_off4_inb t) _ fun x j h =>
      (congrFun (pay_group (F := F) dst p ad hd _ (read_i (F := F) L dst k t) (read_a (F := F) L p k t)) x).trans (grp_chunk _ (grp_at L k t.val) x j h)

/-! ## One chunk -/

abbrev chunkBody :=
  k1_t2_body (F := F) L dstM (Memref.isWhole_whole _) pM (Memref.isWhole_whole _) adM (Memref.isWhole_whole _) exM (Memref.isWhole_whole _)
    denM (Memref.isWhole_whole _) tabM (Memref.isWhole_whole _) accM (Memref.isWhole_whole _) iM (Memref.isWhole_whole _)
    aM (Memref.isWhole_whole _) bM (Memref.isWhole_whole _) cc1_scoped0 cc1_scoped1 cc1_scoped2 cc1_scoped3 cc1_scoped4

def chunkInv (q : PosShare TreeShare) (O : CellTallies nD τ sig (HIx 5)) (W : Waits sig (HIx 5)) (f0 : Buf (Elt F) ((exM).view.loc (tV d L)))
    (k : Nat) (_ : BitVec 32) : sProp 𝕄 :=
  iprop(MayWaits (tV d L) (none : HIx 5) O
    ∗ ((dstM).view.loc (tV d L) ↦{q} dst)
    ∗ ((pM).view.loc (tV d L) ↦{q} p)
    ∗ ((tabM).view.loc (tV d L) ↦{fullShare} ad)
    ∗ ((accM).view.loc (tV d L) ↦{fullShare} accS dst (exV dst p ad) (1600 * wid L) (200 * k))
    ∗ (∃ f, (iM).view.loc (tV d L) ↦{fullShare} f)
    ∗ (∃ f, (aM).view.loc (tV d L) ↦{fullShare} f)
    ∗ (∃ f, (bM).view.loc (tV d L) ↦{fullShare} f)
    ∗ ((exM).view.loc (tV d L) ↦[rangeSet (at0 L 0) (at0 L k)]{fullShare} exV dst p ad)
    ∗ ((exM).view.loc (tV d L) ↦[rangeSet (at0 L k) (at0 L 8)]{fullShare} f0)
    ∗ semVal (tV d L, SemLoc.dma cc1_scoped1.sem) 0
    ∗ semVal (tV d L, SemLoc.dma cc1_scoped2.sem) 0
    ∗ semVal (tV d L, SemLoc.dma cc1_scoped3.sem) 0
    ∗ ∃ W', ⌜∀ p ∈ W', p ∈ W ∨ p.2 = none⌝ ∗ owes (tV d L) O W')

theorem chunk_step (hd : InRange dst) (q : PosShare TreeShare) (O : CellTallies nD τ sig (HIx 5)) (W : Waits sig (HIx 5))
    (f0 : Buf (Elt F) ((exM).view.loc (tV d L))) (k : Fin k1_t2_loop.trips) (b : BitVec 32) :
    chunkInv d L dst p ad q O W f0 k.val b ⊢ wp frame (wpE (defs₀ (F := F)) 𝒱₀ (tV d L) none) Set.univ
      (chunkBody L k b) (fun b' => chunkInv d L dst p ad q O W f0 (k.val + 1) b') := by
  have hk : k.val < 8 := k.isLt
  have hm : at0 L (k.val + 1) = at0 L k.val + 3200 := by unfold at0; omega
  unfold chunkInv chunkBody k1_t2_body
  iintro ⟨Hmw, Hdst, Hp, Ht, Hc, ⟨%fi, Hi⟩, ⟨%fa, Ha⟩, ⟨%fb, Hb⟩, Hlo, Hhi, Hr1, Hr2, Hr3, %W', %hW', HO⟩
  sl_exec (disch := exact View.amount_pos _ _ (show 0 < S3200.numel by decide))
  ihave Hi := (pts_fetched (F := F) (tV d L) cc1_scratch2 fi (w := chunk_step.sl.dma0 L dst k)
    (read_chunk (F := F) (e := .i32) (n := 3200) dst dstM (at0_le L hk) dst rfl (off_chunk L k) (k1_off2_inb L k))) $$ Hi
  ihave Ha := (pts_fetched (F := F) (tV d L) cc1_scratch3 fa (w := chunk_step.sl.dma0_1 L p k)
    (read_chunk (F := F) (e := .f32) (n := 3200) p pM (at0_le L hk) p rfl (off_chunk L k) (k1_off2_inb L k))) $$ Ha
  sl_for (groupInv d L dst p ad k.val) $$ [Ht Hc Hi Ha Hb]
  case region => exact fun t b => group_step d L dst p ad hd k.val t b
  · unfold groupInv
    isplitl [Ht]; · iexact Ht
    isplitl [Hc]; · iexact Hc
    isplitl [Hi]; · iexact Hi
    isplitl [Ha]; · iexact Ha
    iexists _; isplitr
    rotate_left
    · iexact Hb
    · ipureintro
      intro j hj
      exact absurd hj (by omega)
  iintro %_ HI
  unfold groupInv
  icases HI with ⟨Ht, Hc, Hi, Ha, %fb', %hb', Hb⟩
  obtain rfl : fb' = chunk 3200 (exV dst p ad) (at0 L k.val) := funext fun j => hb' j (show (j 0).val < 3200 from (j 0).isLt)
  ihave Hhi := (pts_ex_split (F := F) d L (lo := at0 L k.val) (mid := at0 L k.val + 3200) (hi := at0 L 8) (by omega) (by unfold at0; omega) f0).1 $$ Hhi
  icases Hhi with ⟨Hx, Hhi⟩
  ihave Hx := (Entails.of_eq (pts_exK (F := F) d L (off_chunk L k) (k1_off2_inb L k) f0)) $$ Hx
  sl_exec (disch := exact View.amount_pos _ _ (show 0 < S3200.numel by decide))
  sl_step
  ihave Hx := (pts_ex_written (F := F) d L (off_chunk L k) (at0_le L hk) (k1_off2_inb L k) f0 (exV dst p ad) (w := chunk_step.sl.dma0_2 L dst p ad k) rfl) $$ Hx
  ihave Hlo := (pts_ex_split (F := F) d L (lo := at0 L 0) (mid := at0 L k.val) (hi := at0 L k.val + 3200) (by unfold at0; omega) (by omega) (exV dst p ad)).2 $$ [Hlo Hx]
  · isplitl [Hlo]; · iexact Hlo
    iexact Hx
  rw [hm]
  isplitl [Hmw]; · iexact Hmw
  isplitl [Hdst]; · iexact Hdst
  isplitl [Hp]; · iexact Hp
  isplitl [Ht]; · iexact Ht
  isplitl [Hc]; · iexact Hc
  isplitl [Hi]; · iexists _; iexact Hi
  isplitl [Ha]; · iexists _; iexact Ha
  isplitl [Hb]; · iexists _; iexact Hb
  isplitl [Hlo]; · iexact Hlo
  isplitl [Hhi]; · iexact Hhi
  isplitl [Hr1]; · iexact Hr1
  isplitl [Hr2]; · iexact Hr2
  isplitl [Hr3]; · iexact Hr3
  iexists (insert (SemLoc.dma cc1_scoped3.sem, (default : HIx 5)) (insert (SemLoc.dma cc1_scoped2.sem, (default : HIx 5)) (insert (SemLoc.dma cc1_scoped1.sem, (default : HIx 5)) W')))
  isplitr
  · ipureintro
    exact waits_insert (waits_insert (waits_insert hW'))
  · iexact HO

/-! ## The task -/

/-- A task's scratch buffers and counters. -/
def bl : List (Ref sig .scVector) := [cc1_scratch0, cc1_scratch1, cc1_scratch2, cc1_scratch3, cc1_scratch4]
def sl : List (DmaSem sig) := [cc1_scoped0.sem, cc1_scoped1.sem, cc1_scoped2.sem, cc1_scoped3.sem, cc1_scoped4.sem]

theorem ins_eq (U : Valuation τ sig (Elt F)) (q : PosShare TreeShare) : (insAt (ins 1) U d q : sProp 𝕄)
    = iprop(((dstM).view.loc (tV d L) ↦{q} U (arr main_v5)) ∗ ((pM).view.loc (tV d L) ↦{q} U (arr main_v13_3)) ∗ ((adM).view.loc (tV d L) ↦{q} U (arr main_v14))) := by
  show bigSep {arr main_v5, arr main_v13_3, arr main_v14} _ = _
  rw [SparseCore.bigSep_insert' (by decide), SparseCore.bigSep_insert' (by decide), bigSep_singleton]

theorem tile_ex : tileSet (arr main_v15_0) (L 0).val (L 1).val = rangeSet (at0 L 0) (at0 L 8) := by
  have h := wid_lt L
  ext x
  have hx : (x 0).val < 819200 := (x 0).isLt
  unfold tileSet rangeSet
  rw [Finset.mem_filter, Finset.mem_filter]
  refine and_congr_right fun _ => ?_
  show (x 0).val / 25600 % 32 = 2 * (L 1).val + (L 0).val ↔ _
  unfold at0
  unfold wid at *
  omega

theorem tile_den : tileSet (arr main_v15_1) (L 0).val (L 1).val = rowSet 32 (wid L) := by
  ext x
  have hx : (x 0).val < 32 := (x 0).isLt
  unfold tileSet rowSet
  rw [Finset.mem_filter, Finset.mem_filter]
  refine and_congr_right fun _ => ?_
  show (x 0).val % 32 = 2 * (L 1).val + (L 0).val ↔ (x 0).val = 2 * (L 1).val + (L 0).val
  omega

theorem outs_eq (U : Valuation τ sig (Elt F)) : (tileAt (outs 1) U d (L 0).val (L 1).val : sProp 𝕄)
    = iprop(((exM).view.loc (tV d L) ↦[rangeSet (at0 L 0) (at0 L 8)]{fullShare} U (arr main_v15_0))
      ∗ ((denM).view.loc (tV d L) ↦[rowSet 32 (wid L)]{fullShare} U (arr main_v15_1))) := by
  show bigSep {arr main_v15_0, arr main_v15_1} _ = _
  rw [SparseCore.bigSep_insert' (by decide), bigSep_singleton, tile_ex, tile_den]

theorem bufs_eq : (bufsAny d (cV L) (jV L) bl : sProp 𝕄) = iprop((∃ f, (tabM).view.loc (tV d L) ↦{fullShare} f) ∗ (∃ f, (accM).view.loc (tV d L) ↦{fullShare} f)
    ∗ (∃ f, (iM).view.loc (tV d L) ↦{fullShare} f) ∗ (∃ f, (aM).view.loc (tV d L) ↦{fullShare} f) ∗ (∃ f, (bM).view.loc (tV d L) ↦{fullShare} f) ∗ emp) := rfl

theorem sems_eq : (semsZero d (cV L) (jV L) sl : sProp 𝕄) = iprop(semVal (tV d L, SemLoc.dma cc1_scoped0.sem) 0 ∗ semVal (tV d L, SemLoc.dma cc1_scoped1.sem) 0
    ∗ semVal (tV d L, SemLoc.dma cc1_scoped2.sem) 0 ∗ semVal (tV d L, SemLoc.dma cc1_scoped3.sem) 0 ∗ semVal (tV d L, SemLoc.dma cc1_scoped4.sem) 0 ∗ emp) := rfl

theorem pts_den_written {off : Fin 2 → ℕ} {n : ℕ} (ho : off = ![n, 0]) (hn : n < 32) (inb : ∀ a, off a + S1x50176.size a ≤ S32x50176.size a)
    (f : Buf (Elt F) ((denM).view.loc (tV d L))) (G : Vec F BP .f32) {w : Vec F S50176 .f32} (hw : w = rowOf (by decide) G n) :
    ((rowK denM off inb).view.loc (tV d L) ↦[(rowK denM off inb).view.set]{fullShare}
        (rowK denM off inb).view.writes (Elt F) f [⟨Rect.whole S50176, w⟩] : sProp 𝕄)
      ⊢ (denM).view.loc (tV d L) ↦[rowSet 32 n]{fullShare} G := by
  rw [pts_denK (F := F) d L ho inb]
  exact pts_written (F := F) (tV d L) (rowK denM off inb).view f G ((read_row (F := F) (by decide) denM ho hn inb G G rfl).trans hw.symm)

theorem task_run (hd : InRange dst) (q : PosShare TreeShare) (O : CellTallies nD τ sig (HIx 5)) (W : Waits sig (HIx 5))
    (f0 : Buf (Elt F) ((exM).view.loc (tV d L))) (f1 : Buf (Elt F) ((denM).view.loc (tV d L))) :
    iprop(MayWaits (tV d L) (none : HIx 5) O ∗ ((((dstM).view.loc (tV d L) ↦{q} dst) ∗ ((pM).view.loc (tV d L) ↦{q} p) ∗ ((adM).view.loc (tV d L) ↦{q} ad))
        ∗ ((exM).view.loc (tV d L) ↦[rangeSet (at0 L 0) (at0 L 8)]{fullShare} f0) ∗ ((denM).view.loc (tV d L) ↦[rowSet 32 (wid L)]{fullShare} f1))
        ∗ bufsAny d (cV L) (jV L) bl ∗ semsZero d (cV L) (jV L) sl ∗ owes (tV d L) O W)
      ⊢ wp frame (wpE (defs₀ (F := F)) 𝒱₀ (tV d L) none) Set.univ
          (cc1__sc_m2 L dstM (Memref.isWhole_whole _) pM (Memref.isWhole_whole _) adM (Memref.isWhole_whole _) exM (Memref.isWhole_whole _)
            denM (Memref.isWhole_whole _) tabM (Memref.isWhole_whole _) accM (Memref.isWhole_whole _) iM (Memref.isWhole_whole _)
            aM (Memref.isWhole_whole _) bM (Memref.isWhole_whole _) cc1_scoped0 cc1_scoped1 cc1_scoped2 cc1_scoped3 cc1_scoped4)
          fun _ => iprop(((((dstM).view.loc (tV d L) ↦{q} dst) ∗ ((pM).view.loc (tV d L) ↦{q} p) ∗ ((adM).view.loc (tV d L) ↦{q} ad))
            ∗ ((exM).view.loc (tV d L) ↦[rangeSet (at0 L 0) (at0 L 8)]{fullShare} exV dst p ad)
            ∗ ((denM).view.loc (tV d L) ↦[rowSet 32 (wid L)]{fullShare} partOf dst (exV dst p ad)))
            ∗ bufsAny d (cV L) (jV L) bl ∗ semsZero d (cV L) (jV L) sl ∗ ∃ W', ⌜∀ p ∈ W', p ∈ W ∨ p.2 = none⌝ ∗ owes (tV d L) O W') := by
  rw [cc1__sc_m2_eq_skeleton]; unfold cc1__sc_m2_skel
  rw [bufs_eq, sems_eq]
  rw [pts_denK (F := F) d L (off_row L) (k1_off5_inb L)]
  iintro ⟨Hmw, ⟨⟨Hdst, Hp, Had⟩, Hx, Ho⟩, ⟨⟨%ft, Ht⟩, ⟨%fc, Hc⟩, ⟨%fi, Hi⟩, ⟨%fa, Ha⟩, ⟨%fb, Hb⟩, -⟩, ⟨Hr0, Hr1, Hr2, Hr3, Hr4, -⟩, HO⟩
  sl_exec (disch := exact View.amount_pos _ _ (show 0 < S50176.numel by decide))
  ihave Ht := (pts_fetched (F := F) (tV d L) cc1_scratch0 ft (w := task_run.sl.dma0 ad) rfl) $$ Ht
  sl_for (zeroInv (F := F) d L) $$ [Hc]
  case region => exact fun k b => zero_step d L k b
  · unfold zeroInv
    iexists _; isplitr
    rotate_left
    · iexact Hc
    · ipureintro
      intro j hj
      exact absurd hj (by omega)
  iintro %_ HI
  ihave Hc := (zeroed (F := F) d L dst (exV dst p ad) (1600 * wid L) _) $$ HI
  sl_exec
  sl_for (chunkInv d L dst p ad q O W f0) $$ [Hmw Hdst Hp Ht Hc Hi Ha Hb Hx Hr1 Hr2 Hr3 HO]
  case region => exact fun k b => chunk_step d L dst p ad hd q O W f0 k b
  · unfold chunkInv
    isplitl [Hmw]; · iexact Hmw
    isplitl [Hdst]; · iexact Hdst
    isplitl [Hp]; · iexact Hp
    isplitl [Ht]; · iexact Ht
    isplitl [Hc]; · iexact Hc
    isplitl [Hi]; · iexists _; iexact Hi
    isplitl [Ha]; · iexists _; iexact Ha
    isplitl [Hb]; · iexists _; iexact Hb
    ihave Hx := (pts_ex_split (F := F) d L (lo := at0 L 0) (mid := at0 L 0) (hi := at0 L 8) (by omega) (by unfold at0; omega) f0).1 $$ Hx
    icases Hx with ⟨Hx0, Hx⟩
    isplitl [Hx0]
    · iapply (pts_ex_none (F := F) d L (at0 L 0) f0 (exV dst p ad))
      iexact Hx0
    isplitl [Hx]; · iexact Hx
    isplitl [Hr1]; · iexact Hr1
    isplitl [Hr2]; · iexact Hr2
    isplitl [Hr3]; · iexact Hr3
    iexists _; isplitr
    rotate_left
    · iexact HO
    · ipureintro
      exact waits_insert fun p hp => .inl hp
  iintro %_ HI
  unfold chunkInv
  icases HI with ⟨Hmw, Hdst, Hp, Ht, Hc, ⟨%gi, Hi⟩, ⟨%ga, Ha⟩, ⟨%gb, Hb⟩, Hlo, Hhi, Hr1, Hr2, Hr3, %gW, %hgW, HO⟩
  sl_exec (disch := exact View.amount_pos _ _ (show 0 < S50176.numel by decide))
  sl_step
  ihave Ho := (pts_den_written (F := F) d L (off_row L) (wid_lt L) (k1_off5_inb L) f1 (partOf dst (exV dst p ad))
    (w := task_run.sl.dma0_1 L dst p ad) (rowOf_partOf dst (exV dst p ad) (wid_lt L)).symm) $$ Ho
  isplitl [Hdst Hp Had Hlo Ho]
  · isplitl [Hdst Hp Had]
    · isplitl [Hdst]; · iexact Hdst
      isplitl [Hp]; · iexact Hp
      iexact Had
    isplitl [Hlo]; · iexact Hlo
    iexact Ho
  isplitl [Ht Hc Hi Ha Hb]
  · skip
    isplitl [Ht]; · iexists _; iexact Ht
    isplitl [Hc]; · iexists _; iexact Hc
    isplitl [Hi]; · iexists _; iexact Hi
    isplitl [Ha]; · iexists _; iexact Ha
    isplitl [Hb]; · iexists _; iexact Hb
    iempintro
  isplitl [Hr0 Hr1 Hr2 Hr3 Hr4]
  · skip
    isplitl [Hr0]; · iexact Hr0
    isplitl [Hr1]; · iexact Hr1
    isplitl [Hr2]; · iexact Hr2
    isplitl [Hr3]; · iexact Hr3
    isplitl [Hr4]; · iexact Hr4
    iempintro
  iexists _; isplitr
  rotate_left
  · iexact HO
  · ipureintro
    exact waits_insert hgW

/-! ## The launch's obligation -/

/-- What the call needs of its operands, and what it makes of them. -/
structure Spec (U U' : Valuation τ sig (Elt F)) : Prop where
  hd : InRange (U (arr main_v5))
  ex : U' (arr main_v15_0) = exV (F := F) (U (arr main_v5)) (U (arr main_v13_3)) (U (arr main_v14))
  den : U' (arr main_v15_1) = partOf (F := F) (U (arr main_v5)) (exV (F := F) (U (arr main_v5)) (U (arr main_v13_3)) (U (arr main_v14)))

theorem run_body {U U' : Valuation τ sig (Elt F)} (h : Spec U U') (q : PosShare TreeShare) (O : CellTallies nD τ sig (HIx 5)) (W : Waits sig (HIx 5))
    (hO : ∀ g, O g none = 0) :
    iprop(levAts (K (F := F)).L (K (F := F)).lev ∗ emp ∗ (insAt (ins 1) U d q ∗ tileAt (outs 1) U d (L 0).val (L 1).val)
        ∗ scopedBufs (tV d L) ∗ scopedSems0 (tV d L) ∗ owes (tV d L) O W)
      ⊢ wp frame (wpE (defs₀ (F := F)) 𝒱₀ (tV d L) none) Set.univ
          (cc1__sc_m2 L dstM (Memref.isWhole_whole _) pM (Memref.isWhole_whole _) adM (Memref.isWhole_whole _) exM (Memref.isWhole_whole _)
            denM (Memref.isWhole_whole _) tabM (Memref.isWhole_whole _) accM (Memref.isWhole_whole _) iM (Memref.isWhole_whole _)
            aM (Memref.isWhole_whole _) bM (Memref.isWhole_whole _) cc1_scoped0 cc1_scoped1 cc1_scoped2 cc1_scoped3 cc1_scoped4)
          fun _ => iprop((insAt (ins 1) U d q ∗ tileAt (outs 1) U' d (L 0).val (L 1).val) ∗ scopedBufs (tV d L) ∗ scopedSems0 (tV d L)
            ∗ ∃ W', ⌜∀ p ∈ W', p ∈ W ∨ p.2 = none⌝ ∗ owes (tV d L) O W') := by
  refine tile_body d (cV L) (jV L) bl sl (by decide) (by
    intro b hb
    simp only [bl, List.mem_cons, List.not_mem_nil, or_false] at hb
    rcases hb with rfl | rfl | rfl | rfl | rfl <;> exact SparseCore.Cfg.mem_ownRefs_of_owner rfl)
    (by decide) (by decide) _ _ _ O W hO ?_
  rw [ins_eq d L, outs_eq d L, outs_eq d L, h.ex, h.den]
  exact task_run d L _ _ _ h.hd q O W _ _

end Tile

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_m2 (coordsV c s)
          dstM (Memref.isWhole_whole _) pM (Memref.isWhole_whole _) adM (Memref.isWhole_whole _) exM (Memref.isWhole_whole _)
          denM (Memref.isWhole_whole _) tabM (Memref.isWhole_whole _) accM (Memref.isWhole_whole _) iM (Memref.isWhole_whole _)
          aM (Memref.isWhole_whole _) bM (Memref.isWhole_whole _) cc1_scoped0 cc1_scoped1 cc1_scoped2 cc1_scoped3 cc1_scoped4) ⟨⟩ c s := rfl

set_option maxRecDepth 1024 in
/-- The task of every vector subcore meets the launch's obligation. -/
theorem tileObl (C : Calls F) (h : ∀ d, Spec (C.V 1 d) (C.W 1 d)) : (K (F := F)).TileObl (D (F := F)) 𝒱 (P C) v₀ 1 := by
  intro d c i O W hO _ _
  simp only [show (P C).ox = fun _ _ => 0 from rfl, add_zero]
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  have hc : ((K (F := F)).core 1 c).val < grid1.bound 0 ∧ ((K (F := F)).sub 1 i).val < grid1.bound 1 := ⟨c.isLt, i.isLt⟩
  rw [defs₀_vector]; simp only [SparseCore.onTile, hc, and_self, ↓reduceDIte]
  exact (run_body d (coordsV ⟨_, hc.1⟩ ⟨_, hc.2⟩) (h d) (tileShare (Fin.cast (nCore_eq 1) c) (Fin.cast (nSub_eq 1) i)) O W hO).trans
    (wp_mono frame _ _ fun _ => obl_post)

end Cert.Proof.Run.T2

end
-- ==== Proof.Run.T3.lean ====
/-
  One task of the first call `_sc_m3`: for each of its two features it clears a row, goes through all the edges, adding at the
  destination the product of the weight and the source's feature, and writes the row out.
-/
module

public import proofs.«01_k».proof.Proof.Run.TileKit

@[expose] public section

noncomputable section

namespace Cert.Proof.Run.T3

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTok shareDrop pointsTo_toks)
open Idealize.ShloMosaic.StableHlo (held held_sub_split held_congr wp_seq seq after)
open Idealize.ShloMosaic.Tactic

variable {F : FTy → Type}

local notation "𝕄" => MT nD τ sig (HIx 5) (Elt F) ℕ UU ℕ

variable [FloatOps F]

/-! ## The task's memrefs -/

abbrev srcM : Memref sig .scVector .hbm S819200 .i32 := Memref.whole main_v4_scv
abbrev dstM : Memref sig .scVector .hbm S819200 .i32 := Memref.whole main_v5_scv
abbrev exM : Memref sig .scVector .hbm S819200 .f32 := Memref.whole main_v15_0_scv
abbrev hM : Memref sig .scVector .hbm S64x50176 .f32 := Memref.whole main_v9_scv
abbrev numM : Memref sig .scVector .hbm S64x50176 .f32 := Memref.whole main_v16_scv
abbrev rowM : Memref sig .scVector .vmem S50176 .f32 := Memref.whole cc2_scratch0
abbrev accM : Memref sig .scVector .vmem S50176 .f32 := Memref.whole cc2_scratch1
abbrev sM : Memref sig .scVector .vmem S8192 .i32 := Memref.whole cc2_scratch2
abbrev dM : Memref sig .scVector .vmem S8192 .i32 := Memref.whole cc2_scratch3
abbrev eM : Memref sig .scVector .vmem S8192 .f32 := Memref.whole cc2_scratch4

section Tile

variable (d : Dev nD) (L : grid2.Coords)

abbrev cV (L : grid2.Coords) : Fin τ.nSC := (L 0).castLE hcore2
abbrev jV (L : grid2.Coords) : Fin τ.nSub := (L 1).castLE hsub2
abbrev tV (d : Dev nD) (L : grid2.Coords) : Thread nD τ := V d (cV L) (jV L)

/-- The task's number. -/
abbrev wid (L : grid2.Coords) : ℕ := 2 * (L 1).val + (L 0).val

theorem wid_lt : wid L < 32 := by
  have h0 : (L 0).val < 2 := (L 0).isLt
  have h1 : (L 1).val < 16 := (L 1).isLt
  unfold wid
  omega

/-- The two features of the task. -/
abbrev feat (L : grid2.Coords) (r : ℕ) : ℕ := 2 * (L 1).val + (L 0).val + 32 * r

theorem feat_lt {r : ℕ} (hr : r < 2) : feat L r < 64 := by
  have := wid_lt L
  unfold wid at this
  unfold feat
  omega

theorem off_feat0 : k2_off1 L 0#32 = ![feat L 0, 0] := k2_off1_eq L 0
theorem off_feat1 : k2_off1 L 32#32 = ![feat L 1, 0] := k2_off1_eq L 1

theorem at_le {k : ℕ} (hk : k < 100) : 8192 * k + 8192 ≤ 819200 := by omega

theorem grp_at (k t : ℕ) : 16 * (0 + (512 * k + t)) = 8192 * k + 16 * t := by omega

theorem set_numK {off : Fin 2 → ℕ} {n : ℕ} (ho : off = ![n, 0]) (inb : ∀ a, off a + S1x50176.size a ≤ S64x50176.size a) :
    (rowK numM off inb).view.set = rowSet 64 n := by
  show (((numM).view.slice (Rect.unit (s := S64x50176) off S1x50176.size inb)).reshape S50176 squeezes_S1x50176_S50176.numel_eq).set = _
  rw [View.set_reshape]
  exact (View.set_slice_whole _ _).trans (rect_row (m := 64) ho inb)

theorem pts_numK {off : Fin 2 → ℕ} {n : ℕ} (ho : off = ![n, 0]) (inb : ∀ a, off a + S1x50176.size a ≤ S64x50176.size a)
    (f : Buf (Elt F) ((numM).view.loc (tV d L))) :
    ((numM).view.loc (tV d L) ↦[rowSet 64 n]{fullShare} f : sProp 𝕄)
      = ((rowK numM off inb).view.loc (tV d L) ↦[(rowK numM off inb).view.set]{fullShare} f) := by
  rw [set_numK ho inb]

theorem pts_num_written {off : Fin 2 → ℕ} {n : ℕ} (ho : off = ![n, 0]) (hn : n < 64) (inb : ∀ a, off a + S1x50176.size a ≤ S64x50176.size a)
    (f : Buf (Elt F) ((numM).view.loc (tV d L))) (G : Vec F BH .f32) {w : Vec F S50176 .f32} (hw : w = rowOf (by decide) G n) :
    ((rowK numM off inb).view.loc (tV d L) ↦[(rowK numM off inb).view.set]{fullShare}
        (rowK numM off inb).view.writes (Elt F) f [⟨Rect.whole S50176, w⟩] : sProp 𝕄)
      ⊢ (numM).view.loc (tV d L) ↦[rowSet 64 n]{fullShare} G := by
  rw [pts_numK (F := F) d L ho inb]
  exact pts_written (F := F) (tV d L) (rowK numM off inb).view f G ((read_row (F := F) (by decide) numM ho hn inb G G rfl).trans hw.symm)

abbrev zeroABody := k2_t1_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9

/-- After `k` trips the buffer's first `16 * k` elements are zero. -/
def zeroInv (k : Nat) (_ : BitVec 32) : sProp 𝕄 :=
  iprop(∃ f : Vec F S50176 .f32, ⌜∀ j : S50176.Idx, (j 0).val < 16 * k → f j = Scalar.ofBits .f32 0x00000000#32⌝
    ∗ ((accM).view.loc (tV d L) ↦{fullShare} f))

theorem zeroInv_0 (f : Buf (Elt F) ((accM).view.loc (tV d L))) (b : BitVec 32) : (((accM).view.loc (tV d L) ↦{fullShare} f) : sProp 𝕄) ⊢ zeroInv (F := F) d L 0 b := by
  unfold zeroInv
  iintro Hc
  iexists _; isplitr
  rotate_left
  · iexact Hc
  · ipureintro
    intro j hj
    exact absurd hj (by omega)

theorem zeroInv_end {k : ℕ} (hk : k = 3136) (idx : IVec BE 32) (val : Vec F BE .f32) (g : ℕ) (b : BitVec 32) :
    zeroInv (F := F) d L k b ⊢ (accM).view.loc (tV d L) ↦{fullShare} accS idx val g 0 := by
  unfold zeroInv
  iintro ⟨%f, %hf, Hc⟩
  obtain rfl : f = accS idx val g 0 := funext fun j => hf j (by
    have hj : (j 0).val < 50176 := (j 0).isLt
    omega)
  iexact Hc

theorem zeroA_step (k : Fin k2_t1_loop.trips) (b : BitVec 32) :
    zeroInv (F := F) d L k.val b ⊢ wp frame (wpE (defs₀ (F := F)) 𝒱₀ (tV d L) none) Set.univ
      (zeroABody L k b) (fun b' => zeroInv (F := F) d L (k.val + 1) b') := by
  unfold zeroInv zeroABody k2_t1_body
  iintro ⟨%f, %hf, Hc⟩
  sl_exec
  sl_step
  iexists ((accM).view.writes (Elt F) f [⟨Rect.unit (k2_off2 k) S16.size (k2_off2_inb k), k2_pay3 (F := F)⟩])
  isplitr
  · ipureintro
    exact store_contents accM (fun _ => Scalar.ofBits .f32 0x00000000#32) hf (k2_off2_eq k) (k2_off2_inb k) (k2_pay3 (F := F)) (fun _ _ _ => rfl)
  · iexact Hc

abbrev zeroBBody := k2_t4_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9

theorem zeroB_step (k : Fin k2_t4_loop.trips) (b : BitVec 32) :
    zeroInv (F := F) d L k.val b ⊢ wp frame (wpE (defs₀ (F := F)) 𝒱₀ (tV d L) none) Set.univ
      (zeroBBody L k b) (fun b' => zeroInv (F := F) d L (k.val + 1) b') := by
  unfold zeroInv zeroBBody k2_t4_body
  iintro ⟨%f, %hf, Hc⟩
  sl_exec
  sl_step
  iexists ((accM).view.writes (Elt F) f [⟨Rect.unit (k2_off6 k) S16.size (k2_off6_inb k), k2_pay1 (F := F)⟩])
  isplitr
  · ipureintro
    exact store_contents accM (fun _ => Scalar.ofBits .f32 0x00000000#32) hf (k2_off6_eq k) (k2_off6_inb k) (k2_pay1 (F := F)) (fun _ _ _ => rfl)
  · iexact Hc

/-- The indexed store with add of a group is the accumulator with the group added. -/
theorem store_acc (dst : IVec BE 32) (val : Vec F BE .f32) (g n : ℕ) {iv : IVec S16 32} {pv : Vec F S16 .f32} (h1 : iv = grp dst (g + n)) (h2 : pv = grp val (g + n))
    {i1 : Chk iv} :
    ((accM).access (.whole S50176)).write (Elt F) (accS dst val g n)
      (storeIdx (((accM).access (.whole S50176)).read (Elt F) (accS dst val g n)) ![iv] pv (fun _ => 1#1) true i1) Finset.univ
      = accS dst val g (n + 1) := by
  subst h1 h2
  refine (Memref.write_access_whole_univ (Elt F) (cc2_scratch1 : Ref sig .scVector) _ _).trans ?_
  rw [show accS dst val g (n + 1) = storeIdx (accS dst val g n) ![grp dst (g + n)] (grp val (g + n)) (fun _ => 1#1) true i1 from addGrp_of i1]
  rw [show ((accM).access (.whole S50176)).read (Elt F) (accS dst val g n) = accS dst val g n from
    Memref.read_access_whole (Elt F) (cc2_scratch1 : Ref sig .scVector) _]

/-- The products along the edges for one feature's row. -/
abbrev prodV (src : IVec BE 32) (ex : Vec F BE .f32) (hrow : Vec F BN .f32) : Vec F BE .f32 := mulf (gath hrow src) ex

variable (src dst : IVec BE 32) (ex : Vec F BE .f32) (hrow : Vec F BN .f32)

/-- Inside chunk `k`, after `t` groups. -/
def groupInv (k t : Nat) (_ : BitVec 32) : sProp 𝕄 :=
  iprop(((rowM).view.loc (tV d L) ↦{fullShare} hrow)
    ∗ ((accM).view.loc (tV d L) ↦{fullShare} accS dst (prodV src ex hrow) 0 (512 * k + t))
    ∗ ((sM).view.loc (tV d L) ↦{fullShare} chunk 8192 src (8192 * k))
    ∗ ((dM).view.loc (tV d L) ↦{fullShare} chunk 8192 dst (8192 * k))
    ∗ ((eM).view.loc (tV d L) ↦{fullShare} chunk 8192 ex (8192 * k)))

/-- After `k` chunks. -/
def chunkInv (q : PosShare TreeShare) (O : CellTallies nD τ sig (HIx 5)) (W : Waits sig (HIx 5)) (r1 r2 r3 : DmaSems sig S_)
    (k : Nat) (_ : BitVec 32) : sProp 𝕄 :=
  iprop(MayWaits (tV d L) (none : HIx 5) O
    ∗ ((srcM).view.loc (tV d L) ↦{q} src)
    ∗ ((dstM).view.loc (tV d L) ↦{q} dst)
    ∗ ((exM).view.loc (tV d L) ↦{q} ex)
    ∗ ((rowM).view.loc (tV d L) ↦{fullShare} hrow)
    ∗ ((accM).view.loc (tV d L) ↦{fullShare} accS dst (prodV src ex hrow) 0 (512 * k))
    ∗ (∃ f, (sM).view.loc (tV d L) ↦{fullShare} f)
    ∗ (∃ f, (dM).view.loc (tV d L) ↦{fullShare} f)
    ∗ (∃ f, (eM).view.loc (tV d L) ↦{fullShare} f)
    ∗ semVal (tV d L, SemLoc.dma r1.sem) 0
    ∗ semVal (tV d L, SemLoc.dma r2.sem) 0
    ∗ semVal (tV d L, SemLoc.dma r3.sem) 0
    ∗ ∃ W', ⌜∀ p ∈ W', p ∈ W ∨ p.2 = none⌝ ∗ owes (tV d L) O W')

/-! ## The loop over the edges for feature A -/

theorem read_sA (src : IVec BE 32) (k : ℕ) (t : Fin k2_t3_loop.trips) :
    View.readAt (Elt F) (sM).view (Rect.unit (s := S8192) (k2_off4 t) S16.size (k2_off4_inb t)).toLoadRect (chunk 8192 src (8192 * k))
      = grp src (0 + (512 * k + t.val)) :=
  read_group (F := F) (e := .i32) src sM (grp_at k t.val) (chunk 8192 src (8192 * k)) rfl (k2_off4_eq t) (k2_off4_inb t)

theorem read_dA (dst : IVec BE 32) (k : ℕ) (t : Fin k2_t3_loop.trips) :
    View.readAt (Elt F) (dM).view (Rect.unit (s := S8192) (k2_off4 t) S16.size (k2_off4_inb t)).toLoadRect (chunk 8192 dst (8192 * k))
      = grp dst (0 + (512 * k + t.val)) :=
  read_group (F := F) (e := .i32) dst dM (grp_at k t.val) (chunk 8192 dst (8192 * k)) rfl (k2_off4_eq t) (k2_off4_inb t)

theorem read_eA (ex : Vec F BE .f32) (k : ℕ) (t : Fin k2_t3_loop.trips) :
    View.readAt (Elt F) (eM).view (Rect.unit (s := S8192) (k2_off5 t) S16.size (k2_off5_inb t)).toLoadRect (chunk 8192 ex (8192 * k))
      = grp ex (0 + (512 * k + t.val)) :=
  read_group (F := F) (e := .f32) ex eM (grp_at k t.val) (chunk 8192 ex (8192 * k)) rfl (k2_off5_eq t) (k2_off5_inb t)

theorem payA (hs : InRange src) (g : ℕ) {sv : IVec S16 32} {ev : Vec F S16 .f32}
    (h1 : sv = grp src g) (h2 : ev = grp ex g) {i1 : Chk sv} :
    k2_pay4 (loadIdx (((rowM).access (.whole S50176)).read (Elt F) hrow) ![sv] i1) ev = grp (prodV src ex hrow) g := by
  subst h1 h2
  rw [show ((rowM).access (.whole S50176)).read (Elt F) hrow = hrow from Memref.read_access_whole (Elt F) (cc2_scratch0 : Ref sig .scVector) hrow]
  rw [loadIdx_grp (F := F) (e := .f32) hrow hs g i1]
  rfl

abbrev groupBodyA := k2_t3_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9

theorem group_stepA (hs : InRange src) (hd : InRange dst) (k : Nat) (t : Fin k2_t3_loop.trips) (b : BitVec 32) :
    groupInv d L src dst ex hrow k t.val b ⊢ wp frame (wpE (defs₀ (F := F)) 𝒱₀ (tV d L) none) Set.univ
      (groupBodyA L t b) (fun b' => groupInv d L src dst ex hrow k (t.val + 1) b') := by
  unfold groupInv groupBodyA k2_t3_body
  iintro ⟨Hr, Hc, Hs, Hd, He⟩
  have hcs : Chk (grp src (0 + (512 * k + t.val))) := chk_grp hs _
  have hcd : Chk (grp dst (0 + (512 * k + t.val))) := chk_grp hd _
  sl_exec
  rw [wp_assume_of _ _ _ _ (by rw [read_sA (F := F) src k t]; exact hcs)]
  sl_exec
  rw [wp_assume_of _ _ _ _ (by rw [read_dA (F := F) dst k t]; exact hcd)]
  iapply (SparseCore.wp_vectorLoadIdx 𝒱₀ (tV d L) none Set.univ (base := rowM) (S := Finset.univ) (q := fullShare) (Finset.subset_univ _)) $$ Hr; iintro Hr
  sl_exec
  ihave Hc' := (Entails.of_eq (pts_whole (F := F) (tV d L) cc2_scratch1 _).symm) $$ Hc
  iapply (SparseCore.wp_vectorStoreIdx 𝒱₀ (tV d L) none Set.univ (base := accM)) $$ Hc'; iintro Hc'
  sl_step
  isplitl [Hr]; · iexact Hr
  isplitl [Hc']
  · ihave Hc := (Entails.of_eq (pts_whole (F := F) (tV d L) cc2_scratch1 _)) $$ Hc'
    iapply (Entails.of_eq (congrArg (fun f => ((accM).view.loc (tV d L) ↦{fullShare} f : sProp 𝕄))
      (store_acc (F := F) dst (prodV src ex hrow) 0 (512 * k + t.val) (read_dA (F := F) dst k t) (payA (F := F) src ex hrow hs _ (read_sA (F := F) src k t) (read_eA (F := F) ex k t)))))
    iexact Hc
  isplitl [Hs]; · iexact Hs
  isplitl [Hd]; · iexact Hd
  iexact He

abbrev chunkBodyA := k2_t2_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9

theorem chunk_stepA (hs : InRange src) (hd : InRange dst) (q : PosShare TreeShare) (O : CellTallies nD τ sig (HIx 5)) (W : Waits sig (HIx 5))
    (k : Fin k2_t2_loop.trips) (b : BitVec 32) :
    chunkInv d L src dst ex hrow q O W cc2_scoped1 cc2_scoped2 cc2_scoped3 k.val b ⊢ wp frame (wpE (defs₀ (F := F)) 𝒱₀ (tV d L) none) Set.univ
      (chunkBodyA L k b) (fun b' => chunkInv d L src dst ex hrow q O W cc2_scoped1 cc2_scoped2 cc2_scoped3 (k.val + 1) b') := by
  have hk : k.val < 100 := k.isLt
  unfold chunkInv chunkBodyA k2_t2_body
  iintro ⟨Hmw, Hsrc, Hdst, Hex, Hr, Hc, ⟨%fs, Hs⟩, ⟨%fd, Hd⟩, ⟨%fe, He⟩, Hr1, Hr2, Hr3, %W', %hW', HO⟩
  sl_exec (disch := exact View.amount_pos _ _ (show 0 < S8192.numel by decide))
  ihave Hs := (pts_fetched (F := F) (tV d L) cc2_scratch2 fs (w := chunk_stepA.sl.dma0 src k)
    (read_chunk (F := F) (e := .i32) (n := 8192) src srcM (at_le hk) src rfl (k2_off3_eq k) (k2_off3_inb k))) $$ Hs
  ihave Hd := (pts_fetched (F := F) (tV d L) cc2_scratch3 fd (w := chunk_stepA.sl.dma0_1 dst k)
    (read_chunk (F := F) (e := .i32) (n := 8192) dst dstM (at_le hk) dst rfl (k2_off3_eq k) (k2_off3_inb k))) $$ Hd
  ihave He := (pts_fetched (F := F) (tV d L) cc2_scratch4 fe (w := chunk_stepA.sl.dma0_2 ex k)
    (read_chunk (F := F) (e := .f32) (n := 8192) ex exM (at_le hk) ex rfl (k2_off3_eq k) (k2_off3_inb k))) $$ He
  sl_for (groupInv d L src dst ex hrow k.val) $$ [Hr Hc Hs Hd He]
  case region => exact fun t b => group_stepA d L src dst ex hrow hs hd k.val t b
  · unfold groupInv
    isplitl [Hr]; · iexact Hr
    isplitl [Hc]; · iexact Hc
    isplitl [Hs]; · iexact Hs
    isplitl [Hd]; · iexact Hd
    iexact He
  iintro %_ HI
  unfold groupInv
  icases HI with ⟨Hr, Hc, Hs, Hd, He⟩
  sl_exec
  sl_step
  isplitl [Hmw]; · iexact Hmw
  isplitl [Hsrc]; · iexact Hsrc
  isplitl [Hdst]; · iexact Hdst
  isplitl [Hex]; · iexact Hex
  isplitl [Hr]; · iexact Hr
  isplitl [Hc]; · iexact Hc
  isplitl [Hs]; · iexists _; iexact Hs
  isplitl [Hd]; · iexists _; iexact Hd
  isplitl [He]; · iexists _; iexact He
  isplitl [Hr1]; · iexact Hr1
  isplitl [Hr2]; · iexact Hr2
  isplitl [Hr3]; · iexact Hr3
  iexists _; isplitr
  rotate_left
  · iexact HO
  · ipureintro
    exact waits_insert (waits_insert (waits_insert hW'))

/-! ## The loop over the edges for feature B -/

theorem read_sB (src : IVec BE 32) (k : ℕ) (t : Fin k2_t6_loop.trips) :
    View.readAt (Elt F) (sM).view (Rect.unit (s := S8192) (k2_off8 t) S16.size (k2_off8_inb t)).toLoadRect (chunk 8192 src (8192 * k))
      = grp src (0 + (512 * k + t.val)) :=
  read_group (F := F) (e := .i32) src sM (grp_at k t.val) (chunk 8192 src (8192 * k)) rfl (k2_off8_eq t) (k2_off8_inb t)

theorem read_dB (dst : IVec BE 32) (k : ℕ) (t : Fin k2_t6_loop.trips) :
    View.readAt (Elt F) (dM).view (Rect.unit (s := S8192) (k2_off8 t) S16.size (k2_off8_inb t)).toLoadRect (chunk 8192 dst (8192 * k))
      = grp dst (0 + (512 * k + t.val)) :=
  read_group (F := F) (e := .i32) dst dM (grp_at k t.val) (chunk 8192 dst (8192 * k)) rfl (k2_off8_eq t) (k2_off8_inb t)

theorem read_eB (ex : Vec F BE .f32) (k : ℕ) (t : Fin k2_t6_loop.trips) :
    View.readAt (Elt F) (eM).view (Rect.unit (s := S8192) (k2_off9 t) S16.size (k2_off9_inb t)).toLoadRect (chunk 8192 ex (8192 * k))
      = grp ex (0 + (512 * k + t.val)) :=
  read_group (F := F) (e := .f32) ex eM (grp_at k t.val) (chunk 8192 ex (8192 * k)) rfl (k2_off9_eq t) (k2_off9_inb t)

theorem payB (hs : InRange src) (g : ℕ) {sv : IVec S16 32} {ev : Vec F S16 .f32}
    (h1 : sv = grp src g) (h2 : ev = grp ex g) {i1 : Chk sv} :
    k2_pay2 (loadIdx (((rowM).access (.whole S50176)).read (Elt F) hrow) ![sv] i1) ev = grp (prodV src ex hrow) g := by
  subst h1 h2
  rw [show ((rowM).access (.whole S50176)).read (Elt F) hrow = hrow from Memref.read_access_whole (Elt F) (cc2_scratch0 : Ref sig .scVector) hrow]
  rw [loadIdx_grp (F := F) (e := .f32) hrow hs g i1]
  rfl

abbrev groupBodyB := k2_t6_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9

theorem group_stepB (hs : InRange src) (hd : InRange dst) (k : Nat) (t : Fin k2_t6_loop.trips) (b : BitVec 32) :
    groupInv d L src dst ex hrow k t.val b ⊢ wp frame (wpE (defs₀ (F := F)) 𝒱₀ (tV d L) none) Set.univ
      (groupBodyB L t b) (fun b' => groupInv d L src dst ex hrow k (t.val + 1) b') := by
  unfold groupInv groupBodyB k2_t6_body
  iintro ⟨Hr, Hc, Hs, Hd, He⟩
  have hcs : Chk (grp src (0 + (512 * k + t.val))) := chk_grp hs _
  have hcd : Chk (grp dst (0 + (512 * k + t.val))) := chk_grp hd _
  sl_exec
  rw [wp_assume_of _ _ _ _ (by rw [read_sB (F := F) src k t]; exact hcs)]
  sl_exec
  rw [wp_assume_of _ _ _ _ (by rw [read_dB (F := F) dst k t]; exact hcd)]
  iapply (SparseCore.wp_vectorLoadIdx 𝒱₀ (tV d L) none Set.univ (base := rowM) (S := Finset.univ) (q := fullShare) (Finset.subset_univ _)) $$ Hr; iintro Hr
  sl_exec
  ihave Hc' := (Entails.of_eq (pts_whole (F := F) (tV d L) cc2_scratch1 _).symm) $$ Hc
  iapply (SparseCore.wp_vectorStoreIdx 𝒱₀ (tV d L) none Set.univ (base := accM)) $$ Hc'; iintro Hc'
  sl_step
  isplitl [Hr]; · iexact Hr
  isplitl [Hc']
  · ihave Hc := (Entails.of_eq (pts_whole (F := F) (tV d L) cc2_scratch1 _)) $$ Hc'
    iapply (Entails.of_eq (congrArg (fun f => ((accM).view.loc (tV d L) ↦{fullShare} f : sProp 𝕄))
      (store_acc (F := F) dst (prodV src ex hrow) 0 (512 * k + t.val) (read_dB (F := F) dst k t) (payB (F := F) src ex hrow hs _ (read_sB (F := F) src k t) (read_eB (F := F) ex k t)))))
    iexact Hc
  isplitl [Hs]; · iexact Hs
  isplitl [Hd]; · iexact Hd
  iexact He

abbrev chunkBodyB := k2_t5_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9

theorem chunk_stepB (hs : InRange src) (hd : InRange dst) (q : PosShare TreeShare) (O : CellTallies nD τ sig (HIx 5)) (W : Waits sig (HIx 5))
    (k : Fin k2_t5_loop.trips) (b : BitVec 32) :
    chunkInv d L src dst ex hrow q O W cc2_scoped6 cc2_scoped7 cc2_scoped8 k.val b ⊢ wp frame (wpE (defs₀ (F := F)) 𝒱₀ (tV d L) none) Set.univ
      (chunkBodyB L k b) (fun b' => chunkInv d L src dst ex hrow q O W cc2_scoped6 cc2_scoped7 cc2_scoped8 (k.val + 1) b') := by
  have hk : k.val < 100 := k.isLt
  unfold chunkInv chunkBodyB k2_t5_body
  iintro ⟨Hmw, Hsrc, Hdst, Hex, Hr, Hc, ⟨%fs, Hs⟩, ⟨%fd, Hd⟩, ⟨%fe, He⟩, Hr1, Hr2, Hr3, %W', %hW', HO⟩
  sl_exec (disch := exact View.amount_pos _ _ (show 0 < S8192.numel by decide))
  ihave Hs := (pts_fetched (F := F) (tV d L) cc2_scratch2 fs (w := chunk_stepB.sl.dma0 src k)
    (read_chunk (F := F) (e := .i32) (n := 8192) src srcM (at_le hk) src rfl (k2_off7_eq k) (k2_off7_inb k))) $$ Hs
  ihave Hd := (pts_fetched (F := F) (tV d L) cc2_scratch3 fd (w := chunk_stepB.sl.dma0_1 dst k)
    (read_chunk (F := F) (e := .i32) (n := 8192) dst dstM (at_le hk) dst rfl (k2_off7_eq k) (k2_off7_inb k))) $$ Hd
  ihave He := (pts_fetched (F := F) (tV d L) cc2_scratch4 fe (w := chunk_stepB.sl.dma0_2 ex k)
    (read_chunk (F := F) (e := .f32) (n := 8192) ex exM (at_le hk) ex rfl (k2_off7_eq k) (k2_off7_inb k))) $$ He
  sl_for (groupInv d L src dst ex hrow k.val) $$ [Hr Hc Hs Hd He]
  case region => exact fun t b => group_stepB d L src dst ex hrow hs hd k.val t b
  · unfold groupInv
    isplitl [Hr]; · iexact Hr
    isplitl [Hc]; · iexact Hc
    isplitl [Hs]; · iexact Hs
    isplitl [Hd]; · iexact Hd
    iexact He
  iintro %_ HI
  unfold groupInv
  icases HI with ⟨Hr, Hc, Hs, Hd, He⟩
  sl_exec
  sl_step
  isplitl [Hmw]; · iexact Hmw
  isplitl [Hsrc]; · iexact Hsrc
  isplitl [Hdst]; · iexact Hdst
  isplitl [Hex]; · iexact Hex
  isplitl [Hr]; · iexact Hr
  isplitl [Hc]; · iexact Hc
  isplitl [Hs]; · iexists _; iexact Hs
  isplitl [Hd]; · iexists _; iexact Hd
  isplitl [He]; · iexists _; iexact He
  isplitl [Hr1]; · iexact Hr1
  isplitl [Hr2]; · iexact Hr2
  isplitl [Hr3]; · iexact Hr3
  iexists _; isplitr
  rotate_left
  · iexact HO
  · ipureintro
    exact waits_insert (waits_insert (waits_insert hW'))

/-! ## The task -/

/-- A task's scratch buffers and counters. -/
def bl : List (Ref sig .scVector) := [cc2_scratch0, cc2_scratch1, cc2_scratch2, cc2_scratch3, cc2_scratch4]
def sl : List (DmaSem sig) := [cc2_scoped0.sem, cc2_scoped1.sem, cc2_scoped2.sem, cc2_scoped3.sem, cc2_scoped4.sem, cc2_scoped5.sem, cc2_scoped6.sem, cc2_scoped7.sem, cc2_scoped8.sem, cc2_scoped9.sem]

theorem bufs_eq : (bufsAny d (cV L) (jV L) bl : sProp 𝕄) = iprop((∃ f, (rowM).view.loc (tV d L) ↦{fullShare} f) ∗ (∃ f, (accM).view.loc (tV d L) ↦{fullShare} f) ∗ (∃ f, (sM).view.loc (tV d L) ↦{fullShare} f) ∗ (∃ f, (dM).view.loc (tV d L) ↦{fullShare} f) ∗ (∃ f, (eM).view.loc (tV d L) ↦{fullShare} f) ∗ emp) := rfl

theorem sems_eq : (semsZero d (cV L) (jV L) sl : sProp 𝕄) = iprop(semVal (tV d L, SemLoc.dma cc2_scoped0.sem) 0 ∗ semVal (tV d L, SemLoc.dma cc2_scoped1.sem) 0 ∗ semVal (tV d L, SemLoc.dma cc2_scoped2.sem) 0 ∗ semVal (tV d L, SemLoc.dma cc2_scoped3.sem) 0 ∗ semVal (tV d L, SemLoc.dma cc2_scoped4.sem) 0 ∗ semVal (tV d L, SemLoc.dma cc2_scoped5.sem) 0 ∗ semVal (tV d L, SemLoc.dma cc2_scoped6.sem) 0 ∗ semVal (tV d L, SemLoc.dma cc2_scoped7.sem) 0 ∗ semVal (tV d L, SemLoc.dma cc2_scoped8.sem) 0 ∗ semVal (tV d L, SemLoc.dma cc2_scoped9.sem) 0 ∗ emp) := rfl

theorem ins_eq (U : Valuation τ sig (Elt F)) (q : PosShare TreeShare) : (insAt (ins 2) U d q : sProp 𝕄)
    = iprop(((srcM).view.loc (tV d L) ↦{q} U (arr main_v4)) ∗ ((dstM).view.loc (tV d L) ↦{q} U (arr main_v5)) ∗ ((exM).view.loc (tV d L) ↦{q} U (arr main_v15_0)) ∗ ((hM).view.loc (tV d L) ↦{q} U (arr main_v9))) := by
  show bigSep {arr main_v4, arr main_v5, arr main_v15_0, arr main_v9} _ = _
  rw [SparseCore.bigSep_insert' (by decide), SparseCore.bigSep_insert' (by decide), SparseCore.bigSep_insert' (by decide), bigSep_singleton]

theorem tile_num : tileSet (arr main_v16) (L 0).val (L 1).val = rowSet 64 (feat L 0) ∪ rowSet 64 (feat L 1) := by
  have h := wid_lt L
  unfold wid at h
  ext x
  have hx : (x 0).val < 64 := (x 0).isLt
  unfold tileSet rowSet
  rw [Finset.mem_union, Finset.mem_filter, Finset.mem_filter, Finset.mem_filter, ← and_or_left]
  refine and_congr_right fun _ => ?_
  show (x 0).val % 32 = 2 * (L 1).val + (L 0).val ↔ ((x 0).val = feat L 0 ∨ (x 0).val = feat L 1)
  unfold feat
  omega

theorem outs_eq (U : Valuation τ sig (Elt F)) : (tileAt (outs 2) U d (L 0).val (L 1).val : sProp 𝕄)
    ⊣⊢ iprop(((numM).view.loc (tV d L) ↦[rowSet 64 (feat L 0)]{fullShare} U (arr main_v16))
      ∗ ((numM).view.loc (tV d L) ↦[rowSet 64 (feat L 1)]{fullShare} U (arr main_v16))) := by
  have e : (tileAt (outs 2) U d (L 0).val (L 1).val : sProp 𝕄)
      = ((numM).view.loc (tV d L) ↦[rowSet 64 (feat L 0) ∪ rowSet 64 (feat L 1)]{fullShare} U (arr main_v16)) := by
    show bigSep {arr main_v16} _ = _
    rw [bigSep_singleton, tile_num]
  rw [e]
  refine pointsTo_union (ℓ := (numM).view.loc (tV d L)) ?_
  rw [Finset.disjoint_left]
  intro x hx hy
  simp only [rowSet, Finset.mem_filter, Finset.mem_univ, true_and, feat] at hx hy
  omega

variable (H : Vec F BH .f32)

/-- The four arrays a task only reads, each at a share. -/
def insHeld (q : PosShare TreeShare) : sProp 𝕄 :=
  iprop(((srcM).view.loc (tV d L) ↦{q} src) ∗ ((dstM).view.loc (tV d L) ↦{q} dst)
    ∗ ((exM).view.loc (tV d L) ↦{q} ex) ∗ ((hM).view.loc (tV d L) ↦{q} H))

/-- The two rows it writes. -/
def outsHeld (f0 f1 : Buf (Elt F) ((numM).view.loc (tV d L))) : sProp 𝕄 :=
  iprop(((numM).view.loc (tV d L) ↦[rowSet 64 (feat L 0)]{fullShare} f0) ∗ ((numM).view.loc (tV d L) ↦[rowSet 64 (feat L 1)]{fullShare} f1))

set_option maxHeartbeats 2000000 in
theorem task_run (hs : InRange src) (hd : InRange dst) (q : PosShare TreeShare) (O : CellTallies nD τ sig (HIx 5)) (W : Waits sig (HIx 5))
    (f0 f1 : Buf (Elt F) ((numM).view.loc (tV d L))) :
    iprop(MayWaits (tV d L) (none : HIx 5) O ∗ (insHeld d L src dst ex H q ∗ outsHeld d L f0 f1)
        ∗ bufsAny d (cV L) (jV L) bl ∗ semsZero d (cV L) (jV L) sl ∗ owes (tV d L) O W)
      ⊢ wp frame (wpE (defs₀ (F := F)) 𝒱₀ (tV d L) none) Set.univ
          (cc2__sc_m3 L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9)
          fun _ => iprop((insHeld d L src dst ex H q ∗ outsHeld d L (numOf src dst ex H) (numOf src dst ex H))
            ∗ bufsAny d (cV L) (jV L) bl ∗ semsZero d (cV L) (jV L) sl ∗ ∃ W', ⌜∀ p ∈ W', p ∈ W ∨ p.2 = none⌝ ∗ owes (tV d L) O W') := by
  rw [cc2__sc_m3_eq_skeleton]; unfold cc2__sc_m3_skel
  rw [k2_part1_eq_skeleton]; unfold k2_part1_skel
  simp only [bind_assoc]
  unfold insHeld outsHeld
  rw [bufs_eq, sems_eq]
  rw [pts_numK (F := F) d L (off_feat0 L) (k2_off1_inb L 0), pts_numK (F := F) d L (off_feat1 L) (k2_off1_inb L 1)]
  iintro ⟨Hmw, ⟨⟨Hsrc, Hdst, Hex, Hh⟩, Ho0, Ho1⟩, ⟨⟨%fr, Hr⟩, ⟨%fc, Hc⟩, ⟨%fs, Hs⟩, ⟨%fd, Hd⟩, ⟨%fe, He⟩, -⟩, ⟨Hr0, Hr1, Hr2, Hr3, Hr4, Hr5, Hr6, Hr7, Hr8, Hr9, -⟩, HO⟩
  sl_exec (disch := exact View.amount_pos _ _ (show 0 < S50176.numel by decide))
  ihave Hr := (pts_fetched (F := F) (tV d L) cc2_scratch0 _ (w := task_run.sl.dma0 L H)
    (read_row (F := F) (by decide) hM (off_feat0 L) (feat_lt L (r := 0) (by decide)) (k2_off1_inb L 0) H H rfl)) $$ Hr
  ihave Hc := (zeroInv_0 (F := F) d L _ 0#32) $$ Hc
  sl_for (zeroInv (F := F) d L) $$ [Hc]
  case region => exact fun k b => zeroA_step d L k b
  · iexact Hc
  iintro %_ HI
  ihave Hc := (zeroInv_end (F := F) d L (k := k2_t1_loop.trips) rfl dst (prodV src ex (rowOf (m := 64) (Nat.succ_pos 63) H (feat L 0))) 0 _) $$ HI
  sl_exec
  sl_for (chunkInv d L src dst ex (rowOf (m := 64) (Nat.succ_pos 63) H (feat L 0)) q O W cc2_scoped1 cc2_scoped2 cc2_scoped3) $$ [Hmw Hsrc Hdst Hex Hr Hc Hs Hd He Hr1 Hr2 Hr3 HO]
  case region => exact fun k b => chunk_stepA d L src dst ex (rowOf (m := 64) (Nat.succ_pos 63) H (feat L 0)) hs hd q O W k b
  · unfold chunkInv
    isplitl [Hmw]; · iexact Hmw
    isplitl [Hsrc]; · iexact Hsrc
    isplitl [Hdst]; · iexact Hdst
    isplitl [Hex]; · iexact Hex
    isplitl [Hr]; · iexact Hr
    isplitl [Hc]; · iexact Hc
    isplitl [Hs]; · iexists _; iexact Hs
    isplitl [Hd]; · iexists _; iexact Hd
    isplitl [He]; · iexists _; iexact He
    isplitl [Hr1]; · iexact Hr1
    isplitl [Hr2]; · iexact Hr2
    isplitl [Hr3]; · iexact Hr3
    iexists _; isplitr
    rotate_left
    · iexact HO
    · ipureintro
      exact waits_insert fun p hp => .inl hp
  iintro %_ HI
  unfold chunkInv
  icases HI with ⟨Hmw, Hsrc, Hdst, Hex, Hr, Hc, ⟨%gs0, Hs⟩, ⟨%gd0, Hd⟩, ⟨%ge0, He⟩, Hr1, Hr2, Hr3, %gW0, %hgW0, HO⟩
  sl_exec (disch := exact View.amount_pos _ _ (show 0 < S50176.numel by decide))
  ihave Hr := (pts_fetched (F := F) (tV d L) cc2_scratch0 _ (w := task_run.sl.dma0_2 L H)
    (read_row (F := F) (by decide) hM (off_feat1 L) (feat_lt L (r := 1) (by decide)) (k2_off1_inb L 1) H H rfl)) $$ Hr
  ihave Hc := (zeroInv_0 (F := F) d L _ 0#32) $$ Hc
  sl_for (zeroInv (F := F) d L) $$ [Hc]
  case region => exact fun k b => zeroB_step d L k b
  · iexact Hc
  iintro %_ HI
  ihave Hc := (zeroInv_end (F := F) d L (k := k2_t4_loop.trips) rfl dst (prodV src ex (rowOf (m := 64) (Nat.succ_pos 63) H (feat L 1))) 0 _) $$ HI
  sl_exec
  sl_for (chunkInv d L src dst ex (rowOf (m := 64) (Nat.succ_pos 63) H (feat L 1)) q O W cc2_scoped6 cc2_scoped7 cc2_scoped8) $$ [Hmw Hsrc Hdst Hex Hr Hc Hs Hd He Hr6 Hr7 Hr8 HO]
  case region => exact fun k b => chunk_stepB d L src dst ex (rowOf (m := 64) (Nat.succ_pos 63) H (feat L 1)) hs hd q O W k b
  · unfold chunkInv
    isplitl [Hmw]; · iexact Hmw
    isplitl [Hsrc]; · iexact Hsrc
    isplitl [Hdst]; · iexact Hdst
    isplitl [Hex]; · iexact Hex
    isplitl [Hr]; · iexact Hr
    isplitl [Hc]; · iexact Hc
    isplitl [Hs]; · iexists _; iexact Hs
    isplitl [Hd]; · iexists _; iexact Hd
    isplitl [He]; · iexists _; iexact He
    isplitl [Hr6]; · iexact Hr6
    isplitl [Hr7]; · iexact Hr7
    isplitl [Hr8]; · iexact Hr8
    iexists _; isplitr
    rotate_left
    · iexact HO
    · ipureintro
      exact waits_insert (waits_insert hgW0)
  iintro %_ HI
  unfold chunkInv
  icases HI with ⟨Hmw, Hsrc, Hdst, Hex, Hr, Hc, ⟨%gs1, Hs⟩, ⟨%gd1, Hd⟩, ⟨%ge1, He⟩, Hr6, Hr7, Hr8, %gW1, %hgW1, HO⟩
  sl_exec (disch := exact View.amount_pos _ _ (show 0 < S50176.numel by decide))
  sl_step
  ihave Ho0 := (pts_num_written (F := F) d L (off_feat0 L) (feat_lt L (r := 0) (by decide)) (k2_off1_inb L 0) _ (numOf src dst ex H)
    (w := task_run.sl.dma0_1 L src dst ex H) (rowOf_numOf src dst ex H (feat_lt L (r := 0) (by decide))).symm) $$ Ho0
  ihave Ho1 := (pts_num_written (F := F) d L (off_feat1 L) (feat_lt L (r := 1) (by decide)) (k2_off1_inb L 1) _ (numOf src dst ex H)
    (w := task_run.sl.dma0_3 L src dst ex H) (rowOf_numOf src dst ex H (feat_lt L (r := 1) (by decide))).symm) $$ Ho1
  isplitl [Hsrc Hdst Hex Hh Ho0 Ho1]
  · isplitl [Hsrc Hdst Hex Hh]
    · skip
      isplitl [Hsrc]; · iexact Hsrc
      isplitl [Hdst]; · iexact Hdst
      isplitl [Hex]; · iexact Hex
      iexact Hh
    isplitl [Ho0]; · iexact Ho0
    iexact Ho1
  isplitl [Hr Hc Hs Hd He]
  · skip
    isplitl [Hr]; · iexists _; iexact Hr
    isplitl [Hc]; · iexists _; iexact Hc
    isplitl [Hs]; · iexists _; iexact Hs
    isplitl [Hd]; · iexists _; iexact Hd
    isplitl [He]; · iexists _; iexact He
    iempintro
  isplitl [Hr0 Hr1 Hr2 Hr3 Hr4 Hr5 Hr6 Hr7 Hr8 Hr9]
  · skip
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iempintro
  iexists _; isplitr
  rotate_left
  · iexact HO
  · ipureintro
    exact waits_insert hgW1

/-! ## The launch's obligation -/

/-- What the call needs of its operands, and what it makes of them. -/
structure Spec (U U' : Valuation τ sig (Elt F)) : Prop where
  hs : InRange (U (arr main_v4))
  hd : InRange (U (arr main_v5))
  num : U' (arr main_v16) = numOf (F := F) (U (arr main_v4)) (U (arr main_v5)) (U (arr main_v15_0)) (U (arr main_v9))

theorem run_body {U U' : Valuation τ sig (Elt F)} (h : Spec U U') (q : PosShare TreeShare) (O : CellTallies nD τ sig (HIx 5)) (W : Waits sig (HIx 5))
    (hO : ∀ g, O g none = 0) :
    iprop(levAts (K (F := F)).L (K (F := F)).lev ∗ emp ∗ (insAt (ins 2) U d q ∗ tileAt (outs 2) U d (L 0).val (L 1).val)
        ∗ scopedBufs (tV d L) ∗ scopedSems0 (tV d L) ∗ owes (tV d L) O W)
      ⊢ wp frame (wpE (defs₀ (F := F)) 𝒱₀ (tV d L) none) Set.univ
          (cc2__sc_m3 L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9)
          fun _ => iprop((insAt (ins 2) U d q ∗ tileAt (outs 2) U' d (L 0).val (L 1).val) ∗ scopedBufs (tV d L) ∗ scopedSems0 (tV d L)
            ∗ ∃ W', ⌜∀ p ∈ W', p ∈ W ∨ p.2 = none⌝ ∗ owes (tV d L) O W') := by
  refine tile_body d (cV L) (jV L) bl sl (by decide) (by
    intro b hb
    simp only [bl, List.mem_cons, List.not_mem_nil, or_false] at hb
    rcases hb with rfl | rfl | rfl | rfl | rfl <;> exact SparseCore.Cfg.mem_ownRefs_of_owner rfl)
    (by decide) (by decide) _ _ _ O W hO ?_
  rw [ins_eq d L]
  have hr := task_run d L (U (arr main_v4)) (U (arr main_v5)) (U (arr main_v15_0)) (U (arr main_v9)) h.hs h.hd q O W (U (arr main_v16)) (U (arr main_v16))
  unfold insHeld outsHeld at hr
  iintro ⟨Hmw, ⟨HI, HT⟩, HR⟩
  ihave HT := (outs_eq d L U).1 $$ HT
  iapply (wp_wand_r frame (wpE (defs₀ (F := F)) 𝒱₀ (tV d L) none) Set.univ)
  isplitl [Hmw HI HT HR]
  · iapply hr
    isplitl [Hmw]; · iexact Hmw
    isplitl [HI HT]
    · isplitl [HI]; · iexact HI
      iexact HT
    iexact HR
  iintro %_ ⟨⟨HI, HT⟩, HR⟩
  isplitl [HI HT]
  · isplitl [HI]; · iexact HI
    iapply (outs_eq d L U').2
    rw [h.num]
    iexact HT
  iexact HR

end Tile

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2__sc_m3 (coordsV c s) srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc2_scoped0 cc2_scoped1 cc2_scoped2 cc2_scoped3 cc2_scoped4 cc2_scoped5 cc2_scoped6 cc2_scoped7 cc2_scoped8 cc2_scoped9) ⟨⟩ c s := rfl

set_option maxRecDepth 1024 in
/-- The task of every vector subcore meets the launch's obligation. -/
theorem tileObl (C : Calls F) (h : ∀ d, Spec (C.V 2 d) (C.W 2 d)) : (K (F := F)).TileObl (D (F := F)) 𝒱 (P C) v₀ 2 := by
  intro d c i O W hO _ _
  simp only [show (P C).ox = fun _ _ => 0 from rfl, add_zero]
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  have hc : ((K (F := F)).core 2 c).val < grid2.bound 0 ∧ ((K (F := F)).sub 2 i).val < grid2.bound 1 := ⟨c.isLt, i.isLt⟩
  rw [defs₀_vector]; simp only [SparseCore.onTile, hc, and_self, ↓reduceDIte]
  exact (run_body d (coordsV ⟨_, hc.1⟩ ⟨_, hc.2⟩) (h d) (tileShare (Fin.cast (nCore_eq 2) c) (Fin.cast (nSub_eq 2) i)) O W hO).trans
    (wp_mono frame _ _ fun _ => obl_post)

end Cert.Proof.Run.T3

end
-- ==== Proof.Run.T4.lean ====
/-
  One task of the call `_sc_m4`: over its 25600 edges it first adds the source's part of the logit to the edge's and writes the
  sums out, then reads them back, adds the destination's part, takes the weight, writes the weights out, and sums them by
  destination into its own row of partial sums.
-/
module

public import proofs.«01_k».proof.Proof.Run.TileKit

@[expose] public section

noncomputable section

namespace Cert.Proof.Run.T4

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTok shareDrop pointsTo_toks)
open Idealize.ShloMosaic.StableHlo (held held_sub_split held_congr wp_seq seq after)
open Idealize.ShloMosaic.Tactic

variable {F : FTy → Type}

local notation "𝕄" => MT nD τ sig (HIx 5) (Elt F) ℕ UU ℕ

variable [FloatOps F]

/-! ## The task's memrefs -/

abbrev srcM : Memref sig .scVector .hbm S819200 .i32 := Memref.whole main_v4_scv
abbrev dstM : Memref sig .scVector .hbm S819200 .i32 := Memref.whole main_v5_scv
abbrev eM : Memref sig .scVector .hbm S819200 .f32 := Memref.whole main_v7_scv
abbrev asM : Memref sig .scVector .hbm S50176 .f32 := Memref.whole main_v17_scv
abbrev adM : Memref sig .scVector .hbm S50176 .f32 := Memref.whole main_v18_scv
abbrev pM : Memref sig .scVector .hbm S819200 .f32 := Memref.whole main_v19_0_scv
abbrev exM : Memref sig .scVector .hbm S819200 .f32 := Memref.whole main_v19_1_scv
abbrev denM : Memref sig .scVector .hbm S32x50176 .f32 := Memref.whole main_v19_2_scv
abbrev tabM : Memref sig .scVector .vmem S50176 .f32 := Memref.whole cc3_scratch0
abbrev accM : Memref sig .scVector .vmem S50176 .f32 := Memref.whole cc3_scratch1
abbrev iM : Memref sig .scVector .vmem S3200 .i32 := Memref.whole cc3_scratch2
abbrev aM : Memref sig .scVector .vmem S3200 .f32 := Memref.whole cc3_scratch3
abbrev bM : Memref sig .scVector .vmem S3200 .f32 := Memref.whole cc3_scratch4

section Tile

variable (d : Dev nD) (L : grid3.Coords)

abbrev cV (L : grid3.Coords) : Fin τ.nSC := (L 0).castLE hcore3
abbrev jV (L : grid3.Coords) : Fin τ.nSub := (L 1).castLE hsub3
abbrev tV (d : Dev nD) (L : grid3.Coords) : Thread nD τ := V d (cV L) (jV L)

/-- The task's number. -/
abbrev wid (L : grid3.Coords) : ℕ := 2 * (L 1).val + (L 0).val

theorem wid_lt : wid L < 32 := by
  have h0 : (L 0).val < 2 := (L 0).isLt
  have h1 : (L 1).val < 16 := (L 1).isLt
  unfold wid
  omega

/-- The first edge of chunk `k` of the task. -/
abbrev at0 (L : grid3.Coords) (k : ℕ) : ℕ := 25600 * wid L + 3200 * k

theorem at0_le {k : ℕ} (hk : k < 8) : at0 L k + 3200 ≤ 819200 := by
  have := wid_lt L
  unfold at0
  omega

theorem grp_at (k t : ℕ) : 16 * (1600 * wid L + (200 * k + t)) = at0 L k + 16 * t := by
  unfold at0
  omega

theorem off_chunkA (k : Fin k3_t1_loop.trips) : k3_off1 L k = ![at0 L k.val] := by
  rw [k3_off1_eq]
  congr 1
  show 51200 * (L 1).val + 25600 * (L 0).val + 3200 * k.val = 25600 * (2 * (L 1).val + (L 0).val) + 3200 * k.val
  omega

theorem off_chunkB (k : Fin k3_t4_loop.trips) : k3_off5 L k = ![at0 L k.val] := by
  rw [k3_off5_eq]
  congr 1
  show 51200 * (L 1).val + 25600 * (L 0).val + 3200 * k.val = 25600 * (2 * (L 1).val + (L 0).val) + 3200 * k.val
  omega

theorem off_row : k3_off8 L = ![wid L, 0] := k3_off8_eq L

abbrev pK (off : Fin 1 → ℕ) (inb : ∀ a, off a + S3200.size a ≤ S819200.size a) : Memref sig .scVector .hbm S3200 .f32 :=
  (pM).slice (Rect.unit (s := S819200) off S3200.size inb) (fun _ => rfl)

theorem set_pK {off : Fin 1 → ℕ} {B : ℕ} (ho : off = ![B]) (inb : ∀ a, off a + S3200.size a ≤ S819200.size a) :
    (pK off inb).view.set = rangeSet B (B + 3200) := (View.set_slice_whole _ _).trans (rect_range (n := 3200) ho inb)

theorem pts_pK {off : Fin 1 → ℕ} {B : ℕ} (ho : off = ![B]) (inb : ∀ a, off a + S3200.size a ≤ S819200.size a)
    (f : Buf (Elt F) ((pM).view.loc (tV d L))) :
    ((pM).view.loc (tV d L) ↦[rangeSet B (B + 3200)]{fullShare} f : sProp 𝕄)
      = ((pK off inb).view.loc (tV d L) ↦[(pK off inb).view.set]{fullShare} f) := by
  rw [set_pK ho inb]

theorem pts_p_written {off : Fin 1 → ℕ} {B : ℕ} (ho : off = ![B]) (hB : B + 3200 ≤ 819200) (inb : ∀ a, off a + S3200.size a ≤ S819200.size a)
    (f : Buf (Elt F) ((pM).view.loc (tV d L))) (G : Vec F BE .f32) {w : Vec F S3200 .f32} (hw : w = chunk 3200 G B) :
    ((pK off inb).view.loc (tV d L) ↦[(pK off inb).view.set]{fullShare} (pK off inb).view.writes (Elt F) f [⟨Rect.whole S3200, w⟩] : sProp 𝕄)
      ⊢ (pM).view.loc (tV d L) ↦[rangeSet B (B + 3200)]{fullShare} G := by
  rw [pts_pK (F := F) d L ho inb]
  exact pts_written (F := F) (tV d L) (pK off inb).view f G ((read_chunk (F := F) (e := .f32) (n := 3200) G pM hB G rfl ho inb).trans hw.symm)

theorem pts_p_split {lo mid hi : ℕ} (h1 : lo ≤ mid) (h2 : mid ≤ hi) (f : Buf (Elt F) ((pM).view.loc (tV d L))) :
    ((pM).view.loc (tV d L) ↦[rangeSet lo hi]{fullShare} f : sProp 𝕄)
      ⊣⊢ iprop(((pM).view.loc (tV d L) ↦[rangeSet lo mid]{fullShare} f) ∗ ((pM).view.loc (tV d L) ↦[rangeSet mid hi]{fullShare} f)) := by
  rw [rangeSet_split h1 h2]
  exact pointsTo_union (ℓ := (pM).view.loc (tV d L)) (rangeSet_disjoint lo mid hi)

theorem pts_p_none (lo : ℕ) (f g : Buf (Elt F) ((pM).view.loc (tV d L))) :
    ((pM).view.loc (tV d L) ↦[rangeSet lo lo]{fullShare} f : sProp 𝕄) ⊢ (pM).view.loc (tV d L) ↦[rangeSet lo lo]{fullShare} g := by
  refine Entails.of_eq (pointsTo_congr fun i hi => ?_)
  rw [rangeSet_empty] at hi
  exact absurd hi (Finset.notMem_empty i)

abbrev exK (off : Fin 1 → ℕ) (inb : ∀ a, off a + S3200.size a ≤ S819200.size a) : Memref sig .scVector .hbm S3200 .f32 :=
  (exM).slice (Rect.unit (s := S819200) off S3200.size inb) (fun _ => rfl)

theorem set_exK {off : Fin 1 → ℕ} {B : ℕ} (ho : off = ![B]) (inb : ∀ a, off a + S3200.size a ≤ S819200.size a) :
    (exK off inb).view.set = rangeSet B (B + 3200) := (View.set_slice_whole _ _).trans (rect_range (n := 3200) ho inb)

theorem pts_exK {off : Fin 1 → ℕ} {B : ℕ} (ho : off = ![B]) (inb : ∀ a, off a + S3200.size a ≤ S819200.size a)
    (f : Buf (Elt F) ((exM).view.loc (tV d L))) :
    ((exM).view.loc (tV d L) ↦[rangeSet B (B + 3200)]{fullShare} f : sProp 𝕄)
      = ((exK off inb).view.loc (tV d L) ↦[(exK off inb).view.set]{fullShare} f) := by
  rw [set_exK ho inb]

theorem pts_ex_written {off : Fin 1 → ℕ} {B : ℕ} (ho : off = ![B]) (hB : B + 3200 ≤ 819200) (inb : ∀ a, off a + S3200.size a ≤ S819200.size a)
    (f : Buf (Elt F) ((exM).view.loc (tV d L))) (G : Vec F BE .f32) {w : Vec F S3200 .f32} (hw : w = chunk 3200 G B) :
    ((exK off inb).view.loc (tV d L) ↦[(exK off inb).view.set]{fullShare} (exK off inb).view.writes (Elt F) f [⟨Rect.whole S3200, w⟩] : sProp 𝕄)
      ⊢ (exM).view.loc (tV d L) ↦[rangeSet B (B + 3200)]{fullShare} G := by
  rw [pts_exK (F := F) d L ho inb]
  exact pts_written (F := F) (tV d L) (exK off inb).view f G ((read_chunk (F := F) (e := .f32) (n := 3200) G exM hB G rfl ho inb).trans hw.symm)

theorem pts_ex_split {lo mid hi : ℕ} (h1 : lo ≤ mid) (h2 : mid ≤ hi) (f : Buf (Elt F) ((exM).view.loc (tV d L))) :
    ((exM).view.loc (tV d L) ↦[rangeSet lo hi]{fullShare} f : sProp 𝕄)
      ⊣⊢ iprop(((exM).view.loc (tV d L) ↦[rangeSet lo mid]{fullShare} f) ∗ ((exM).view.loc (tV d L) ↦[rangeSet mid hi]{fullShare} f)) := by
  rw [rangeSet_split h1 h2]
  exact pointsTo_union (ℓ := (exM).view.loc (tV d L)) (rangeSet_disjoint lo mid hi)

theorem pts_ex_none (lo : ℕ) (f g : Buf (Elt F) ((exM).view.loc (tV d L))) :
    ((exM).view.loc (tV d L) ↦[rangeSet lo lo]{fullShare} f : sProp 𝕄) ⊢ (exM).view.loc (tV d L) ↦[rangeSet lo lo]{fullShare} g := by
  refine Entails.of_eq (pointsTo_congr fun i hi => ?_)
  rw [rangeSet_empty] at hi
  exact absurd hi (Finset.notMem_empty i)

theorem set_denK {off : Fin 2 → ℕ} {n : ℕ} (ho : off = ![n, 0]) (inb : ∀ a, off a + S1x50176.size a ≤ S32x50176.size a) :
    (rowK denM off inb).view.set = rowSet 32 n := by
  show (((denM).view.slice (Rect.unit (s := S32x50176) off S1x50176.size inb)).reshape S50176 squeezes_S1x50176_S50176.numel_eq).set = _
  rw [View.set_reshape]
  exact (View.set_slice_whole _ _).trans (rect_row (m := 32) ho inb)

theorem pts_denK {off : Fin 2 → ℕ} {n : ℕ} (ho : off = ![n, 0]) (inb : ∀ a, off a + S1x50176.size a ≤ S32x50176.size a)
    (f : Buf (Elt F) ((denM).view.loc (tV d L))) :
    ((denM).view.loc (tV d L) ↦[rowSet 32 n]{fullShare} f : sProp 𝕄)
      = ((rowK denM off inb).view.loc (tV d L) ↦[(rowK denM off inb).view.set]{fullShare} f) := by
  rw [set_denK ho inb]

theorem pts_den_written {off : Fin 2 → ℕ} {n : ℕ} (ho : off = ![n, 0]) (hn : n < 32) (inb : ∀ a, off a + S1x50176.size a ≤ S32x50176.size a)
    (f : Buf (Elt F) ((denM).view.loc (tV d L))) (G : Vec F BP .f32) {w : Vec F S50176 .f32} (hw : w = rowOf (by decide) G n) :
    ((rowK denM off inb).view.loc (tV d L) ↦[(rowK denM off inb).view.set]{fullShare}
        (rowK denM off inb).view.writes (Elt F) f [⟨Rect.whole S50176, w⟩] : sProp 𝕄)
      ⊢ (denM).view.loc (tV d L) ↦[rowSet 32 n]{fullShare} G := by
  rw [pts_denK (F := F) d L ho inb]
  exact pts_written (F := F) (tV d L) (rowK denM off inb).view f G ((read_row (F := F) (by decide) denM ho hn inb G G rfl).trans hw.symm)

abbrev zeroBody := k3_t3_body (F := F) L srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8

/-- After `k` trips the buffer's first `16 * k` elements are zero. -/
def zeroInv (k : Nat) (_ : BitVec 32) : sProp 𝕄 :=
  iprop(∃ f : Vec F S50176 .f32, ⌜∀ j : S50176.Idx, (j 0).val < 16 * k → f j = Scalar.ofBits .f32 0x00000000#32⌝
    ∗ ((accM).view.loc (tV d L) ↦{fullShare} f))

theorem zeroInv_0 (f : Buf (Elt F) ((accM).view.loc (tV d L))) (b : BitVec 32) : (((accM).view.loc (tV d L) ↦{fullShare} f) : sProp 𝕄) ⊢ zeroInv (F := F) d L 0 b := by
  unfold zeroInv
  iintro Hc
  iexists _; isplitr
  rotate_left
  · iexact Hc
  · ipureintro
    intro j hj
    exact absurd hj (by omega)

theorem zeroInv_end {k : ℕ} (hk : k = 3136) (idx : IVec BE 32) (val : Vec F BE .f32) (g : ℕ) (b : BitVec 32) :
    zeroInv (F := F) d L k b ⊢ (accM).view.loc (tV d L) ↦{fullShare} accS idx val g 0 := by
  unfold zeroInv
  iintro ⟨%f, %hf, Hc⟩
  obtain rfl : f = accS idx val g 0 := funext fun j => hf j (by
    have hj : (j 0).val < 50176 := (j 0).isLt
    omega)
  iexact Hc

theorem zero_step (k : Fin k3_t3_loop.trips) (b : BitVec 32) :
    zeroInv (F := F) d L k.val b ⊢ wp frame (wpE (defs₀ (F := F)) 𝒱₀ (tV d L) none) Set.univ
      (zeroBody L k b) (fun b' => zeroInv (F := F) d L (k.val + 1) b') := by
  unfold zeroInv zeroBody k3_t3_body
  iintro ⟨%f, %hf, Hc⟩
  sl_exec
  sl_step
  iexists ((accM).view.writes (Elt F) f [⟨Rect.unit (k3_off4 k) S16.size (k3_off4_inb k), k3_pay2 (F := F)⟩])
  isplitr
  · ipureintro
    exact store_contents accM (fun _ => Scalar.ofBits .f32 0x00000000#32) hf (k3_off4_eq k) (k3_off4_inb k) (k3_pay2 (F := F)) (fun _ _ _ => rfl)
  · iexact Hc

/-- The indexed store with add of a group is the accumulator with the group added. -/
theorem store_acc (dst : IVec BE 32) (val : Vec F BE .f32) (g n : ℕ) {iv : IVec S16 32} {pv : Vec F S16 .f32} (h1 : iv = grp dst (g + n)) (h2 : pv = grp val (g + n))
    {i1 : Chk iv} :
    ((accM).access (.whole S50176)).write (Elt F) (accS dst val g n)
      (storeIdx (((accM).access (.whole S50176)).read (Elt F) (accS dst val g n)) ![iv] pv (fun _ => 1#1) true i1) Finset.univ
      = accS dst val g (n + 1) := by
  subst h1 h2
  refine (Memref.write_access_whole_univ (Elt F) (cc3_scratch1 : Ref sig .scVector) _ _).trans ?_
  rw [show accS dst val g (n + 1) = storeIdx (accS dst val g n) ![grp dst (g + n)] (grp val (g + n)) (fun _ => 1#1) true i1 from addGrp_of i1]
  rw [show ((accM).access (.whole S50176)).read (Elt F) (accS dst val g n) = accS dst val g n from
    Memref.read_access_whole (Elt F) (cc3_scratch1 : Ref sig .scVector) _]

/-! ## The first pass: the source's part and the edge's -/

/-- The sums, and the weights. -/
abbrev pV (src : IVec BE 32) (e : Vec F BE .f32) (sa : Vec F BN .f32) : Vec F BE .f32 := addf (gath sa src) e
abbrev exV (dst : IVec BE 32) (p : Vec F BE .f32) (ad : Vec F BN .f32) : Vec F BE .f32 :=
  actV (Scalar.ofBits .f32 0x42700000#32) (addf p (gath ad dst))

theorem read_iA (src : IVec BE 32) (k : ℕ) (t : Fin k3_t2_loop.trips) :
    View.readAt (Elt F) (iM).view (Rect.unit (s := S3200) (k3_off2 t) S16.size (k3_off2_inb t)).toLoadRect (chunk 3200 src (at0 L k))
      = grp src (1600 * wid L + (200 * k + t.val)) :=
  read_group (F := F) (e := .i32) src iM (grp_at L k t.val) (chunk 3200 src (at0 L k)) rfl (k3_off2_eq t) (k3_off2_inb t)

theorem read_aA (e : Vec F BE .f32) (k : ℕ) (t : Fin k3_t2_loop.trips) :
    View.readAt (Elt F) (aM).view (Rect.unit (s := S3200) (k3_off3 t) S16.size (k3_off3_inb t)).toLoadRect (chunk 3200 e (at0 L k))
      = grp e (1600 * wid L + (200 * k + t.val)) :=
  read_group (F := F) (e := .f32) e aM (grp_at L k t.val) (chunk 3200 e (at0 L k)) rfl (k3_off3_eq t) (k3_off3_inb t)

theorem read_iB (dst : IVec BE 32) (k : ℕ) (t : Fin k3_t5_loop.trips) :
    View.readAt (Elt F) (iM).view (Rect.unit (s := S3200) (k3_off6 t) S16.size (k3_off6_inb t)).toLoadRect (chunk 3200 dst (at0 L k))
      = grp dst (1600 * wid L + (200 * k + t.val)) :=
  read_group (F := F) (e := .i32) dst iM (grp_at L k t.val) (chunk 3200 dst (at0 L k)) rfl (k3_off6_eq t) (k3_off6_inb t)

theorem read_aB (p : Vec F BE .f32) (k : ℕ) (t : Fin k3_t5_loop.trips) :
    View.readAt (Elt F) (aM).view (Rect.unit (s := S3200) (k3_off6 t) S16.size (k3_off6_inb t)).toLoadRect (chunk 3200 p (at0 L k))
      = grp p (1600 * wid L + (200 * k + t.val)) :=
  read_group (F := F) (e := .f32) p aM (grp_at L k t.val) (chunk 3200 p (at0 L k)) rfl (k3_off6_eq t) (k3_off6_inb t)

theorem pay_A (src : IVec BE 32) (e : Vec F BE .f32) (sa : Vec F BN .f32) (hs : InRange src) (g : ℕ) {iv : IVec S16 32} {av : Vec F S16 .f32}
    (h1 : iv = grp src g) (h2 : av = grp e g) {i1 : Chk iv} :
    k3_pay1 (loadIdx (((tabM).access (.whole S50176)).read (Elt F) sa) ![iv] i1) av = grp (pV src e sa) g := by
  subst h1 h2
  rw [show ((tabM).access (.whole S50176)).read (Elt F) sa = sa from Memref.read_access_whole (Elt F) (cc3_scratch0 : Ref sig .scVector) sa]
  rw [loadIdx_grp (F := F) (e := .f32) sa hs g i1]
  rfl

theorem pay_B (dst : IVec BE 32) (p : Vec F BE .f32) (ad : Vec F BN .f32) (hd : InRange dst) (g : ℕ) {iv : IVec S16 32} {av : Vec F S16 .f32}
    (h1 : iv = grp dst g) (h2 : av = grp p g) {i1 : Chk iv} :
    k3_pay3 av (loadIdx (((tabM).access (.whole S50176)).read (Elt F) ad) ![iv] i1) = grp (exV dst p ad) g := by
  subst h1 h2
  rw [show ((tabM).access (.whole S50176)).read (Elt F) ad = ad from Memref.read_access_whole (Elt F) (cc3_scratch0 : Ref sig .scVector) ad]
  rw [loadIdx_grp (F := F) (e := .f32) ad hd g i1]
  rfl

variable (src dst : IVec BE 32) (e p : Vec F BE .f32) (sa ad : Vec F BN .f32)

abbrev groupBodyA := k3_t2_body (F := F) L srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8

def groupInvA (k t : Nat) (_ : BitVec 32) : sProp 𝕄 :=
  iprop(((tabM).view.loc (tV d L) ↦{fullShare} sa)
    ∗ ((iM).view.loc (tV d L) ↦{fullShare} chunk 3200 src (at0 L k))
    ∗ ((aM).view.loc (tV d L) ↦{fullShare} chunk 3200 e (at0 L k))
    ∗ ∃ f : Vec F S3200 .f32, ⌜∀ j : S3200.Idx, (j 0).val < 16 * t → f j = chunk 3200 (pV src e sa) (at0 L k) j⌝
      ∗ ((bM).view.loc (tV d L) ↦{fullShare} f))

theorem group_stepA (hs : InRange src) (k : Nat) (t : Fin k3_t2_loop.trips) (b : BitVec 32) :
    groupInvA d L src e sa k t.val b ⊢ wp frame (wpE (defs₀ (F := F)) 𝒱₀ (tV d L) none) Set.univ
      (groupBodyA L t b) (fun b' => groupInvA d L src e sa k (t.val + 1) b') := by
  unfold groupInvA groupBodyA k3_t2_body
  iintro ⟨Ht, Hi, Ha, %f, %hf, Hb⟩
  have hc : Chk (grp src (1600 * wid L + (200 * k + t.val))) := chk_grp hs _
  sl_exec
  rw [wp_assume_of _ _ _ _ (by rw [read_iA (F := F) L src k t]; exact hc)]
  sl_exec
  iapply (SparseCore.wp_vectorLoadIdx 𝒱₀ (tV d L) none Set.univ (base := tabM) (S := Finset.univ) (q := fullShare) (Finset.subset_univ _)) $$ Ht; iintro Ht
  sl_exec
  sl_step
  isplitl [Ht]; · iexact Ht
  isplitl [Hi]; · iexact Hi
  isplitl [Ha]; · iexact Ha
  iexists _; isplitr
  rotate_left
  · iexact Hb
  · ipureintro
    exact store_contents bM (chunk 3200 (pV src e sa) (at0 L k)) hf (k3_off3_eq t) (k3_off3_inb t) _ fun x j h =>
      (congrFun (pay_A (F := F) src e sa hs _ (read_iA (F := F) L src k t) (read_aA (F := F) L e k t)) x).trans (grp_chunk _ (grp_at L k t.val) x j h)

abbrev chunkBodyA := k3_t1_body (F := F) L srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8

def chunkInvA (q : PosShare TreeShare) (O : CellTallies nD τ sig (HIx 5)) (W : Waits sig (HIx 5)) (f0 : Buf (Elt F) ((pM).view.loc (tV d L)))
    (k : Nat) (_ : BitVec 32) : sProp 𝕄 :=
  iprop(MayWaits (tV d L) (none : HIx 5) O
    ∗ ((srcM).view.loc (tV d L) ↦{q} src)
    ∗ ((eM).view.loc (tV d L) ↦{q} e)
    ∗ ((tabM).view.loc (tV d L) ↦{fullShare} sa)
    ∗ (∃ f, (iM).view.loc (tV d L) ↦{fullShare} f)
    ∗ (∃ f, (aM).view.loc (tV d L) ↦{fullShare} f)
    ∗ (∃ f, (bM).view.loc (tV d L) ↦{fullShare} f)
    ∗ ((pM).view.loc (tV d L) ↦[rangeSet (at0 L 0) (at0 L k)]{fullShare} pV src e sa)
    ∗ ((pM).view.loc (tV d L) ↦[rangeSet (at0 L k) (at0 L 8)]{fullShare} f0)
    ∗ semVal (tV d L, SemLoc.dma cc3_scoped1.sem) 0
    ∗ semVal (tV d L, SemLoc.dma cc3_scoped2.sem) 0
    ∗ semVal (tV d L, SemLoc.dma cc3_scoped3.sem) 0
    ∗ ∃ W', ⌜∀ p ∈ W', p ∈ W ∨ p.2 = none⌝ ∗ owes (tV d L) O W')

theorem chunk_stepA (hs : InRange src) (q : PosShare TreeShare) (O : CellTallies nD τ sig (HIx 5)) (W : Waits sig (HIx 5))
    (f0 : Buf (Elt F) ((pM).view.loc (tV d L))) (k : Fin k3_t1_loop.trips) (b : BitVec 32) :
    chunkInvA d L src e sa q O W f0 k.val b ⊢ wp frame (wpE (defs₀ (F := F)) 𝒱₀ (tV d L) none) Set.univ
      (chunkBodyA L k b) (fun b' => chunkInvA d L src e sa q O W f0 (k.val + 1) b') := by
  have hk : k.val < 8 := k.isLt
  have hm : at0 L (k.val + 1) = at0 L k.val + 3200 := by unfold at0; omega
  unfold chunkInvA chunkBodyA k3_t1_body
  iintro ⟨Hmw, Hsrc, He, Ht, ⟨%fi, Hi⟩, ⟨%fa, Ha⟩, ⟨%fb, Hb⟩, Hlo, Hhi, Hr1, Hr2, Hr3, %W', %hW', HO⟩
  sl_exec (disch := exact View.amount_pos _ _ (show 0 < S3200.numel by decide))
  ihave Hi := (pts_fetched (F := F) (tV d L) cc3_scratch2 fi (w := chunk_stepA.sl.dma0 L src k)
    (read_chunk (F := F) (e := .i32) (n := 3200) src srcM (at0_le L hk) src rfl (off_chunkA L k) (k3_off1_inb L k))) $$ Hi
  ihave Ha := (pts_fetched (F := F) (tV d L) cc3_scratch3 fa (w := chunk_stepA.sl.dma0_1 L e k)
    (read_chunk (F := F) (e := .f32) (n := 3200) e eM (at0_le L hk) e rfl (off_chunkA L k) (k3_off1_inb L k))) $$ Ha
  sl_for (groupInvA d L src e sa k.val) $$ [Ht Hi Ha Hb]
  case region => exact fun t b => group_stepA d L src e sa hs k.val t b
  · unfold groupInvA
    isplitl [Ht]; · iexact Ht
    isplitl [Hi]; · iexact Hi
    isplitl [Ha]; · iexact Ha
    iexists _; isplitr
    rotate_left
    · iexact Hb
    · ipureintro
      intro j hj
      exact absurd hj (by omega)
  iintro %_ HI
  unfold groupInvA
  icases HI with ⟨Ht, Hi, Ha, %fb', %hb', Hb⟩
  obtain rfl : fb' = chunk 3200 (pV src e sa) (at0 L k.val) := funext fun j => hb' j (show (j 0).val < 3200 from (j 0).isLt)
  ihave Hhi := (pts_p_split (F := F) d L (lo := at0 L k.val) (mid := at0 L k.val + 3200) (hi := at0 L 8) (by omega) (by unfold at0; omega) f0).1 $$ Hhi
  icases Hhi with ⟨Hx, Hhi⟩
  ihave Hx := (Entails.of_eq (pts_pK (F := F) d L (off_chunkA L k) (k3_off1_inb L k) f0)) $$ Hx
  sl_exec (disch := exact View.amount_pos _ _ (show 0 < S3200.numel by decide))
  sl_step
  ihave Hx := (pts_p_written (F := F) d L (off_chunkA L k) (at0_le L hk) (k3_off1_inb L k) f0 (pV src e sa) (w := chunk_stepA.sl.dma0_2 L src e sa k) rfl) $$ Hx
  ihave Hlo := (pts_p_split (F := F) d L (lo := at0 L 0) (mid := at0 L k.val) (hi := at0 L k.val + 3200) (by unfold at0; omega) (by omega) (pV src e sa)).2 $$ [Hlo Hx]
  · isplitl [Hlo]; · iexact Hlo
    iexact Hx
  rw [hm]
  isplitl [Hmw]; · iexact Hmw
  isplitl [Hsrc]; · iexact Hsrc
  isplitl [He]; · iexact He
  isplitl [Ht]; · iexact Ht
  isplitl [Hi]; · iexists _; iexact Hi
  isplitl [Ha]; · iexists _; iexact Ha
  isplitl [Hb]; · iexists _; iexact Hb
  isplitl [Hlo]; · iexact Hlo
  isplitl [Hhi]; · iexact Hhi
  isplitl [Hr1]; · iexact Hr1
  isplitl [Hr2]; · iexact Hr2
  isplitl [Hr3]; · iexact Hr3
  iexists _; isplitr
  rotate_left
  · iexact HO
  · ipureintro
    exact waits_insert (waits_insert (waits_insert hW'))

/-! ## The second pass: the weights -/

abbrev groupBodyB := k3_t5_body (F := F) L srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8

def groupInvB (k t : Nat) (_ : BitVec 32) : sProp 𝕄 :=
  iprop(((tabM).view.loc (tV d L) ↦{fullShare} ad)
    ∗ ((accM).view.loc (tV d L) ↦{fullShare} accS dst (exV dst p ad) (1600 * wid L) (200 * k + t))
    ∗ ((iM).view.loc (tV d L) ↦{fullShare} chunk 3200 dst (at0 L k))
    ∗ ((aM).view.loc (tV d L) ↦{fullShare} chunk 3200 p (at0 L k))
    ∗ ∃ f : Vec F S3200 .f32, ⌜∀ j : S3200.Idx, (j 0).val < 16 * t → f j = chunk 3200 (exV dst p ad) (at0 L k) j⌝
      ∗ ((bM).view.loc (tV d L) ↦{fullShare} f))

theorem group_stepB (hd : InRange dst) (k : Nat) (t : Fin k3_t5_loop.trips) (b : BitVec 32) :
    groupInvB d L dst p ad k t.val b ⊢ wp frame (wpE (defs₀ (F := F)) 𝒱₀ (tV d L) none) Set.univ
      (groupBodyB L t b) (fun b' => groupInvB d L dst p ad k (t.val + 1) b') := by
  unfold groupInvB groupBodyB k3_t5_body
  iintro ⟨Ht, Hc, Hi, Ha, %f, %hf, Hb⟩
  have hcd : Chk (grp dst (1600 * wid L + (200 * k + t.val))) := chk_grp hd _
  sl_exec
  rw [wp_assume_of _ _ _ _ (by rw [read_iB (F := F) L dst k t]; exact ⟨hcd, hcd⟩)]
  sl_exec
  iapply (SparseCore.wp_vectorLoadIdx 𝒱₀ (tV d L) none Set.univ (base := tabM) (S := Finset.univ) (q := fullShare) (Finset.subset_univ _)) $$ Ht; iintro Ht
  sl_exec
  ihave Hc' := (Entails.of_eq (pts_whole (F := F) (tV d L) cc3_scratch1 _).symm) $$ Hc
  iapply (SparseCore.wp_vectorStoreIdx 𝒱₀ (tV d L) none Set.univ (base := accM)) $$ Hc'; iintro Hc'
  sl_step
  isplitl [Ht]; · iexact Ht
  isplitl [Hc']
  · ihave Hc := (Entails.of_eq (pts_whole (F := F) (tV d L) cc3_scratch1 _)) $$ Hc'
    iapply (Entails.of_eq (congrArg (fun f => ((accM).view.loc (tV d L) ↦{fullShare} f : sProp 𝕄))
      (store_acc (F := F) dst (exV dst p ad) (1600 * wid L) (200 * k + t.val) (read_iB (F := F) L dst k t) (pay_B (F := F) dst p ad hd _ (read_iB (F := F) L dst k t) (read_aB (F := F) L p k t)))))
    iexact Hc
  isplitl [Hi]; · iexact Hi
  isplitl [Ha]; · iexact Ha
  iexists _; isplitr
  rotate_left
  · iexact Hb
  · ipureintro
    exact store_contents bM (chunk 3200 (exV dst p ad) (at0 L k)) hf (k3_off7_eq t) (k3_off7_inb t) _ fun x j h =>
      (congrFun (pay_B (F := F) dst p ad hd _ (read_iB (F := F) L dst k t) (read_aB (F := F) L p k t)) x).trans (grp_chunk _ (grp_at L k t.val) x j h)

abbrev chunkBodyB := k3_t4_body (F := F) L srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8

def chunkInvB (q : PosShare TreeShare) (O : CellTallies nD τ sig (HIx 5)) (W : Waits sig (HIx 5)) (f0 : Buf (Elt F) ((exM).view.loc (tV d L)))
    (k : Nat) (_ : BitVec 32) : sProp 𝕄 :=
  iprop(MayWaits (tV d L) (none : HIx 5) O
    ∗ ((dstM).view.loc (tV d L) ↦{q} dst)
    ∗ ((tabM).view.loc (tV d L) ↦{fullShare} ad)
    ∗ ((accM).view.loc (tV d L) ↦{fullShare} accS dst (exV dst p ad) (1600 * wid L) (200 * k))
    ∗ (∃ f, (iM).view.loc (tV d L) ↦{fullShare} f)
    ∗ (∃ f, (aM).view.loc (tV d L) ↦{fullShare} f)
    ∗ (∃ f, (bM).view.loc (tV d L) ↦{fullShare} f)
    ∗ ((pM).view.loc (tV d L) ↦[rangeSet (at0 L 0) (at0 L 8)]{fullShare} p)
    ∗ ((exM).view.loc (tV d L) ↦[rangeSet (at0 L 0) (at0 L k)]{fullShare} exV dst p ad)
    ∗ ((exM).view.loc (tV d L) ↦[rangeSet (at0 L k) (at0 L 8)]{fullShare} f0)
    ∗ semVal (tV d L, SemLoc.dma cc3_scoped5.sem) 0
    ∗ semVal (tV d L, SemLoc.dma cc3_scoped6.sem) 0
    ∗ semVal (tV d L, SemLoc.dma cc3_scoped7.sem) 0
    ∗ ∃ W', ⌜∀ p ∈ W', p ∈ W ∨ p.2 = none⌝ ∗ owes (tV d L) O W')

theorem chunk_stepB (hd : InRange dst) (q : PosShare TreeShare) (O : CellTallies nD τ sig (HIx 5)) (W : Waits sig (HIx 5))
    (f0 : Buf (Elt F) ((exM).view.loc (tV d L))) (k : Fin k3_t4_loop.trips) (b : BitVec 32) :
    chunkInvB d L dst p ad q O W f0 k.val b ⊢ wp frame (wpE (defs₀ (F := F)) 𝒱₀ (tV d L) none) Set.univ
      (chunkBodyB L k b) (fun b' => chunkInvB d L dst p ad q O W f0 (k.val + 1) b') := by
  have hk : k.val < 8 := k.isLt
  have hm : at0 L (k.val + 1) = at0 L k.val + 3200 := by unfold at0; omega
  unfold chunkInvB chunkBodyB k3_t4_body
  iintro ⟨Hmw, Hdst, Ht, Hc, ⟨%fi, Hi⟩, ⟨%fa, Ha⟩, ⟨%fb, Hb⟩, Hp, Hlo, Hhi, Hr5, Hr6, Hr7, %W', %hW', HO⟩
  ihave Hp := (pts_p_split (F := F) d L (lo := at0 L 0) (mid := at0 L k.val) (hi := at0 L 8) (by unfold at0; omega) (by unfold at0; omega) p).1 $$ Hp
  icases Hp with ⟨Hp0, Hp⟩
  ihave Hp := (pts_p_split (F := F) d L (lo := at0 L k.val) (mid := at0 L k.val + 3200) (hi := at0 L 8) (by omega) (by unfold at0; omega) p).1 $$ Hp
  icases Hp with ⟨Hp1, Hp2⟩
  ihave Hp1 := (Entails.of_eq (pts_pK (F := F) d L (off_chunkB L k) (k3_off5_inb L k) p)) $$ Hp1
  sl_exec (disch := exact View.amount_pos _ _ (show 0 < S3200.numel by decide))
  ihave Hp1 := (Entails.of_eq (pts_pK (F := F) d L (off_chunkB L k) (k3_off5_inb L k) p).symm) $$ Hp1
  ihave Hp2 := (pts_p_split (F := F) d L (lo := at0 L k.val) (mid := at0 L k.val + 3200) (hi := at0 L 8) (by omega) (by unfold at0; omega) p).2 $$ [Hp1 Hp2]
  · isplitl [Hp1]; · iexact Hp1
    iexact Hp2
  ihave Hp := (pts_p_split (F := F) d L (lo := at0 L 0) (mid := at0 L k.val) (hi := at0 L 8) (by unfold at0; omega) (by unfold at0; omega) p).2 $$ [Hp0 Hp2]
  · isplitl [Hp0]; · iexact Hp0
    iexact Hp2
  ihave Hi := (pts_fetched (F := F) (tV d L) cc3_scratch2 fi (w := chunk_stepB.sl.dma0 L dst k)
    (read_chunk (F := F) (e := .i32) (n := 3200) dst dstM (at0_le L hk) dst rfl (off_chunkB L k) (k3_off5_inb L k))) $$ Hi
  ihave Ha := (pts_fetched (F := F) (tV d L) cc3_scratch3 fa (w := chunk_stepB.sl.dma0_1 L p k)
    (read_chunk (F := F) (e := .f32) (n := 3200) p pM (at0_le L hk) p rfl (off_chunkB L k) (k3_off5_inb L k))) $$ Ha
  sl_for (groupInvB d L dst p ad k.val) $$ [Ht Hc Hi Ha Hb]
  case region => exact fun t b => group_stepB d L dst p ad hd k.val t b
  · unfold groupInvB
    isplitl [Ht]; · iexact Ht
    isplitl [Hc]; · iexact Hc
    isplitl [Hi]; · iexact Hi
    isplitl [Ha]; · iexact Ha
    iexists _; isplitr
    rotate_left
    · iexact Hb
    · ipureintro
      intro j hj
      exact absurd hj (by omega)
  iintro %_ HI
  unfold groupInvB
  icases HI with ⟨Ht, Hc, Hi, Ha, %fb', %hb', Hb⟩
  obtain rfl : fb' = chunk 3200 (exV dst p ad) (at0 L k.val) := funext fun j => hb' j (show (j 0).val < 3200 from (j 0).isLt)
  ihave Hhi := (pts_ex_split (F := F) d L (lo := at0 L k.val) (mid := at0 L k.val + 3200) (hi := at0 L 8) (by omega) (by unfold at0; omega) f0).1 $$ Hhi
  icases Hhi with ⟨Hx, Hhi⟩
  ihave Hx := (Entails.of_eq (pts_exK (F := F) d L (off_chunkB L k) (k3_off5_inb L k) f0)) $$ Hx
  sl_exec (disch := exact View.amount_pos _ _ (show 0 < S3200.numel by decide))
  sl_step
  ihave Hx := (pts_ex_written (F := F) d L (off_chunkB L k) (at0_le L hk) (k3_off5_inb L k) f0 (exV dst p ad) (w := chunk_stepB.sl.dma0_2 L dst p ad k) rfl) $$ Hx
  ihave Hlo := (pts_ex_split (F := F) d L (lo := at0 L 0) (mid := at0 L k.val) (hi := at0 L k.val + 3200) (by unfold at0; omega) (by omega) (exV dst p ad)).2 $$ [Hlo Hx]
  · isplitl [Hlo]; · iexact Hlo
    iexact Hx
  rw [hm]
  isplitl [Hmw]; · iexact Hmw
  isplitl [Hdst]; · iexact Hdst
  isplitl [Ht]; · iexact Ht
  isplitl [Hc]; · iexact Hc
  isplitl [Hi]; · iexists _; iexact Hi
  isplitl [Ha]; · iexists _; iexact Ha
  isplitl [Hb]; · iexists _; iexact Hb
  isplitl [Hp]; · iexact Hp
  isplitl [Hlo]; · iexact Hlo
  isplitl [Hhi]; · iexact Hhi
  isplitl [Hr5]; · iexact Hr5
  isplitl [Hr6]; · iexact Hr6
  isplitl [Hr7]; · iexact Hr7
  iexists _; isplitr
  rotate_left
  · iexact HO
  · ipureintro
    exact waits_insert (waits_insert (waits_insert hW'))

/-! ## The task -/

/-- A task's scratch buffers and counters. -/
def bl : List (Ref sig .scVector) := [cc3_scratch0, cc3_scratch1, cc3_scratch2, cc3_scratch3, cc3_scratch4]
def sl : List (DmaSem sig) := [cc3_scoped0.sem, cc3_scoped1.sem, cc3_scoped2.sem, cc3_scoped3.sem, cc3_scoped4.sem, cc3_scoped5.sem, cc3_scoped6.sem, cc3_scoped7.sem, cc3_scoped8.sem]

theorem bufs_eq : (bufsAny d (cV L) (jV L) bl : sProp 𝕄) = iprop((∃ f, (tabM).view.loc (tV d L) ↦{fullShare} f) ∗ (∃ f, (accM).view.loc (tV d L) ↦{fullShare} f) ∗ (∃ f, (iM).view.loc (tV d L) ↦{fullShare} f) ∗ (∃ f, (aM).view.loc (tV d L) ↦{fullShare} f) ∗ (∃ f, (bM).view.loc (tV d L) ↦{fullShare} f) ∗ emp) := rfl

theorem sems_eq : (semsZero d (cV L) (jV L) sl : sProp 𝕄) = iprop(semVal (tV d L, SemLoc.dma cc3_scoped0.sem) 0 ∗ semVal (tV d L, SemLoc.dma cc3_scoped1.sem) 0 ∗ semVal (tV d L, SemLoc.dma cc3_scoped2.sem) 0 ∗ semVal (tV d L, SemLoc.dma cc3_scoped3.sem) 0 ∗ semVal (tV d L, SemLoc.dma cc3_scoped4.sem) 0 ∗ semVal (tV d L, SemLoc.dma cc3_scoped5.sem) 0 ∗ semVal (tV d L, SemLoc.dma cc3_scoped6.sem) 0 ∗ semVal (tV d L, SemLoc.dma cc3_scoped7.sem) 0 ∗ semVal (tV d L, SemLoc.dma cc3_scoped8.sem) 0 ∗ emp) := rfl

theorem ins_eq (U : Valuation τ sig (Elt F)) (q : PosShare TreeShare) : (insAt (ins 3) U d q : sProp 𝕄)
    = iprop(((srcM).view.loc (tV d L) ↦{q} U (arr main_v4)) ∗ ((dstM).view.loc (tV d L) ↦{q} U (arr main_v5)) ∗ ((eM).view.loc (tV d L) ↦{q} U (arr main_v7)) ∗ ((asM).view.loc (tV d L) ↦{q} U (arr main_v17)) ∗ ((adM).view.loc (tV d L) ↦{q} U (arr main_v18))) := by
  show bigSep {arr main_v4, arr main_v5, arr main_v7, arr main_v17, arr main_v18} _ = _
  rw [SparseCore.bigSep_insert' (by decide), SparseCore.bigSep_insert' (by decide), SparseCore.bigSep_insert' (by decide), SparseCore.bigSep_insert' (by decide), bigSep_singleton]

theorem tile_p : tileSet (arr main_v19_0) (L 0).val (L 1).val = rangeSet (at0 L 0) (at0 L 8) := by
  have h := wid_lt L
  ext x
  have hx : (x 0).val < 819200 := (x 0).isLt
  unfold tileSet rangeSet
  rw [Finset.mem_filter, Finset.mem_filter]
  refine and_congr_right fun _ => ?_
  show (x 0).val / 25600 % 32 = 2 * (L 1).val + (L 0).val ↔ _
  unfold at0
  unfold wid at *
  omega

theorem tile_ex : tileSet (arr main_v19_1) (L 0).val (L 1).val = rangeSet (at0 L 0) (at0 L 8) := by
  have h := wid_lt L
  ext x
  have hx : (x 0).val < 819200 := (x 0).isLt
  unfold tileSet rangeSet
  rw [Finset.mem_filter, Finset.mem_filter]
  refine and_congr_right fun _ => ?_
  show (x 0).val / 25600 % 32 = 2 * (L 1).val + (L 0).val ↔ _
  unfold at0
  unfold wid at *
  omega

theorem tile_den : tileSet (arr main_v19_2) (L 0).val (L 1).val = rowSet 32 (wid L) := by
  ext x
  have hx : (x 0).val < 32 := (x 0).isLt
  unfold tileSet rowSet
  rw [Finset.mem_filter, Finset.mem_filter]
  refine and_congr_right fun _ => ?_
  show (x 0).val % 32 = 2 * (L 1).val + (L 0).val ↔ (x 0).val = 2 * (L 1).val + (L 0).val
  omega

theorem outs_eq (U : Valuation τ sig (Elt F)) : (tileAt (outs 3) U d (L 0).val (L 1).val : sProp 𝕄)
    = iprop(((pM).view.loc (tV d L) ↦[rangeSet (at0 L 0) (at0 L 8)]{fullShare} U (arr main_v19_0)) ∗ ((exM).view.loc (tV d L) ↦[rangeSet (at0 L 0) (at0 L 8)]{fullShare} U (arr main_v19_1)) ∗ ((denM).view.loc (tV d L) ↦[rowSet 32 (wid L)]{fullShare} U (arr main_v19_2))) := by
  show bigSep {arr main_v19_0, arr main_v19_1, arr main_v19_2} _ = _
  rw [SparseCore.bigSep_insert' (by decide), SparseCore.bigSep_insert' (by decide), bigSep_singleton, tile_p, tile_ex, tile_den]

set_option maxHeartbeats 2000000 in
theorem task_run (hs : InRange src) (hd : InRange dst) (q : PosShare TreeShare) (O : CellTallies nD τ sig (HIx 5)) (W : Waits sig (HIx 5))
    (f0 : Buf (Elt F) ((pM).view.loc (tV d L))) (f1 : Buf (Elt F) ((exM).view.loc (tV d L))) (f2 : Buf (Elt F) ((denM).view.loc (tV d L))) :
    iprop(MayWaits (tV d L) (none : HIx 5) O ∗ ((((srcM).view.loc (tV d L) ↦{q} src) ∗ ((dstM).view.loc (tV d L) ↦{q} dst) ∗ ((eM).view.loc (tV d L) ↦{q} e) ∗ ((asM).view.loc (tV d L) ↦{q} sa) ∗ ((adM).view.loc (tV d L) ↦{q} ad))
        ∗ ((pM).view.loc (tV d L) ↦[rangeSet (at0 L 0) (at0 L 8)]{fullShare} f0) ∗ ((exM).view.loc (tV d L) ↦[rangeSet (at0 L 0) (at0 L 8)]{fullShare} f1)
        ∗ ((denM).view.loc (tV d L) ↦[rowSet 32 (wid L)]{fullShare} f2))
        ∗ bufsAny d (cV L) (jV L) bl ∗ semsZero d (cV L) (jV L) sl ∗ owes (tV d L) O W)
      ⊢ wp frame (wpE (defs₀ (F := F)) 𝒱₀ (tV d L) none) Set.univ
          (cc3__sc_m4 L srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8)
          fun _ => iprop(((((srcM).view.loc (tV d L) ↦{q} src) ∗ ((dstM).view.loc (tV d L) ↦{q} dst) ∗ ((eM).view.loc (tV d L) ↦{q} e) ∗ ((asM).view.loc (tV d L) ↦{q} sa) ∗ ((adM).view.loc (tV d L) ↦{q} ad))
            ∗ ((pM).view.loc (tV d L) ↦[rangeSet (at0 L 0) (at0 L 8)]{fullShare} pV src e sa)
            ∗ ((exM).view.loc (tV d L) ↦[rangeSet (at0 L 0) (at0 L 8)]{fullShare} exV dst (pV src e sa) ad)
            ∗ ((denM).view.loc (tV d L) ↦[rowSet 32 (wid L)]{fullShare} partOf dst (exV dst (pV src e sa) ad)))
            ∗ bufsAny d (cV L) (jV L) bl ∗ semsZero d (cV L) (jV L) sl ∗ ∃ W', ⌜∀ p ∈ W', p ∈ W ∨ p.2 = none⌝ ∗ owes (tV d L) O W') := by
  rw [cc3__sc_m4_eq_skeleton]; unfold cc3__sc_m4_skel
  rw [bufs_eq, sems_eq]
  rw [pts_denK (F := F) d L (off_row L) (k3_off8_inb L)]
  iintro ⟨Hmw, ⟨⟨Hsrc, Hdst, He, Has, Had⟩, Hp, Hx, Ho⟩, ⟨⟨%ft, Ht⟩, ⟨%fc, Hc⟩, ⟨%fi, Hi⟩, ⟨%fa, Ha⟩, ⟨%fb, Hb⟩, -⟩, ⟨Hr0, Hr1, Hr2, Hr3, Hr4, Hr5, Hr6, Hr7, Hr8, -⟩, HO⟩
  sl_exec (disch := exact View.amount_pos _ _ (show 0 < S50176.numel by decide))
  ihave Ht := (pts_fetched (F := F) (tV d L) cc3_scratch0 ft (w := task_run.sl.dma0 sa) rfl) $$ Ht
  sl_for (chunkInvA d L src e sa q O W f0) $$ [Hmw Hsrc He Ht Hi Ha Hb Hp Hr1 Hr2 Hr3 HO]
  case region => exact fun k b => chunk_stepA d L src e sa hs q O W f0 k b
  · unfold chunkInvA
    isplitl [Hmw]; · iexact Hmw
    isplitl [Hsrc]; · iexact Hsrc
    isplitl [He]; · iexact He
    isplitl [Ht]; · iexact Ht
    isplitl [Hi]; · iexists _; iexact Hi
    isplitl [Ha]; · iexists _; iexact Ha
    isplitl [Hb]; · iexists _; iexact Hb
    ihave Hp := (pts_p_split (F := F) d L (lo := at0 L 0) (mid := at0 L 0) (hi := at0 L 8) (by omega) (by unfold at0; omega) f0).1 $$ Hp
    icases Hp with ⟨Hp0, Hp⟩
    isplitl [Hp0]
    · iapply (pts_p_none (F := F) d L (at0 L 0) f0 (pV src e sa))
      iexact Hp0
    isplitl [Hp]; · iexact Hp
    isplitl [Hr1]; · iexact Hr1
    isplitl [Hr2]; · iexact Hr2
    isplitl [Hr3]; · iexact Hr3
    iexists _; isplitr
    rotate_left
    · iexact HO
    · ipureintro
      exact waits_insert fun p hp => .inl hp
  iintro %_ HI
  unfold chunkInvA
  icases HI with ⟨Hmw, Hsrc, He, Ht, ⟨%gi, Hi⟩, ⟨%ga, Ha⟩, ⟨%gb, Hb⟩, Hp, Hpx, Hr1, Hr2, Hr3, %gW, %hgW, HO⟩
  sl_exec (disch := exact View.amount_pos _ _ (show 0 < S50176.numel by decide))
  ihave Ht := (pts_fetched (F := F) (tV d L) cc3_scratch0 _ (w := task_run.sl.dma0_1 ad) rfl) $$ Ht
  ihave Hc := (zeroInv_0 (F := F) d L _ 0#32) $$ Hc
  sl_for (zeroInv (F := F) d L) $$ [Hc]
  case region => exact fun k b => zero_step d L k b
  · iexact Hc
  iintro %_ HI
  ihave Hc := (zeroInv_end (F := F) d L (k := k3_t3_loop.trips) rfl dst (exV dst (pV src e sa) ad) (1600 * wid L) _) $$ HI
  sl_exec
  sl_for (chunkInvB d L dst (pV src e sa) ad q O W f1) $$ [Hmw Hdst Ht Hc Hi Ha Hb Hp Hx Hr5 Hr6 Hr7 HO]
  case region => exact fun k b => chunk_stepB d L dst (pV src e sa) ad hd q O W f1 k b
  · unfold chunkInvB
    isplitl [Hmw]; · iexact Hmw
    isplitl [Hdst]; · iexact Hdst
    isplitl [Ht]; · iexact Ht
    isplitl [Hc]; · iexact Hc
    isplitl [Hi]; · iexists _; iexact Hi
    isplitl [Ha]; · iexists _; iexact Ha
    isplitl [Hb]; · iexists _; iexact Hb
    isplitl [Hp]; · iexact Hp
    ihave Hx := (pts_ex_split (F := F) d L (lo := at0 L 0) (mid := at0 L 0) (hi := at0 L 8) (by omega) (by unfold at0; omega) f1).1 $$ Hx
    icases Hx with ⟨Hx0, Hx⟩
    isplitl [Hx0]
    · iapply (pts_ex_none (F := F) d L (at0 L 0) f1 (exV dst (pV src e sa) ad))
      iexact Hx0
    isplitl [Hx]; · iexact Hx
    isplitl [Hr5]; · iexact Hr5
    isplitl [Hr6]; · iexact Hr6
    isplitl [Hr7]; · iexact Hr7
    iexists _; isplitr
    rotate_left
    · iexact HO
    · ipureintro
      exact waits_insert hgW
  iintro %_ HI
  unfold chunkInvB
  icases HI with ⟨Hmw, Hdst, Ht, Hc, ⟨%ui, Hi⟩, ⟨%ua, Ha⟩, ⟨%ub, Hb⟩, Hp, Hlo, Hhi, Hr5, Hr6, Hr7, %uW, %huW, HO⟩
  sl_exec (disch := exact View.amount_pos _ _ (show 0 < S50176.numel by decide))
  sl_step
  ihave Ho := (pts_den_written (F := F) d L (off_row L) (wid_lt L) (k3_off8_inb L) f2 (partOf dst (exV dst (pV src e sa) ad))
    (w := task_run.sl.dma0_2 L src dst e sa ad) (rowOf_partOf dst (exV dst (pV src e sa) ad) (wid_lt L)).symm) $$ Ho
  isplitl [Hsrc Hdst He Has Had Hp Hlo Ho]
  · isplitl [Hsrc Hdst He Has Had]
    · isplitl [Hsrc]; · iexact Hsrc
      isplitl [Hdst]; · iexact Hdst
      isplitl [He]; · iexact He
      isplitl [Has]; · iexact Has
      iexact Had
    isplitl [Hp]; · iexact Hp
    isplitl [Hlo]; · iexact Hlo
    iexact Ho
  isplitl [Ht Hc Hi Ha Hb]
  · skip
    isplitl [Ht]; · iexists _; iexact Ht
    isplitl [Hc]; · iexists _; iexact Hc
    isplitl [Hi]; · iexists _; iexact Hi
    isplitl [Ha]; · iexists _; iexact Ha
    isplitl [Hb]; · iexists _; iexact Hb
    iempintro
  isplitl [Hr0 Hr1 Hr2 Hr3 Hr4 Hr5 Hr6 Hr7 Hr8]
  · skip
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iempintro
  iexists _; isplitr
  rotate_left
  · iexact HO
  · ipureintro
    exact waits_insert huW

/-! ## The launch's obligation -/

/-- What the call needs of its operands, and what it makes of them. -/
structure Spec (U U' : Valuation τ sig (Elt F)) : Prop where
  hs : InRange (U (arr main_v4))
  hd : InRange (U (arr main_v5))
  p : U' (arr main_v19_0) = pV (F := F) (U (arr main_v4)) (U (arr main_v7)) (U (arr main_v17))
  ex : U' (arr main_v19_1) = exV (F := F) (U (arr main_v5)) (pV (F := F) (U (arr main_v4)) (U (arr main_v7)) (U (arr main_v17))) (U (arr main_v18))
  den : U' (arr main_v19_2) = partOf (F := F) (U (arr main_v5))
    (exV (F := F) (U (arr main_v5)) (pV (F := F) (U (arr main_v4)) (U (arr main_v7)) (U (arr main_v17))) (U (arr main_v18)))

theorem run_body {U U' : Valuation τ sig (Elt F)} (h : Spec U U') (q : PosShare TreeShare) (O : CellTallies nD τ sig (HIx 5)) (W : Waits sig (HIx 5))
    (hO : ∀ g, O g none = 0) :
    iprop(levAts (K (F := F)).L (K (F := F)).lev ∗ emp ∗ (insAt (ins 3) U d q ∗ tileAt (outs 3) U d (L 0).val (L 1).val)
        ∗ scopedBufs (tV d L) ∗ scopedSems0 (tV d L) ∗ owes (tV d L) O W)
      ⊢ wp frame (wpE (defs₀ (F := F)) 𝒱₀ (tV d L) none) Set.univ
          (cc3__sc_m4 L srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8)
          fun _ => iprop((insAt (ins 3) U d q ∗ tileAt (outs 3) U' d (L 0).val (L 1).val) ∗ scopedBufs (tV d L) ∗ scopedSems0 (tV d L)
            ∗ ∃ W', ⌜∀ p ∈ W', p ∈ W ∨ p.2 = none⌝ ∗ owes (tV d L) O W') := by
  refine tile_body d (cV L) (jV L) bl sl (by decide) (by
    intro b hb
    simp only [bl, List.mem_cons, List.not_mem_nil, or_false] at hb
    rcases hb with rfl | rfl | rfl | rfl | rfl <;> exact SparseCore.Cfg.mem_ownRefs_of_owner rfl)
    (by decide) (by decide) _ _ _ O W hO ?_
  rw [ins_eq d L, outs_eq d L, outs_eq d L, h.p, h.ex, h.den]
  exact task_run d L _ _ _ _ _ h.hs h.hd q O W _ _ _

end Tile

def coordsV (c : Fin (grid3.bound 0)) (s : Fin (grid3.bound 1)) : grid3.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 3 ()
      = SparseCore.onTile hcore3 hsub3 (fun c s => cc3__sc_m4 (coordsV c s) srcM (Memref.isWhole_whole _) dstM (Memref.isWhole_whole _) eM (Memref.isWhole_whole _) asM (Memref.isWhole_whole _) adM (Memref.isWhole_whole _) pM (Memref.isWhole_whole _) exM (Memref.isWhole_whole _) denM (Memref.isWhole_whole _) tabM (Memref.isWhole_whole _) accM (Memref.isWhole_whole _) iM (Memref.isWhole_whole _) aM (Memref.isWhole_whole _) bM (Memref.isWhole_whole _) cc3_scoped0 cc3_scoped1 cc3_scoped2 cc3_scoped3 cc3_scoped4 cc3_scoped5 cc3_scoped6 cc3_scoped7 cc3_scoped8) ⟨⟩ c s := rfl

set_option maxRecDepth 1024 in
/-- The task of every vector subcore meets the launch's obligation. -/
theorem tileObl (C : Calls F) (h : ∀ d, Spec (C.V 3 d) (C.W 3 d)) : (K (F := F)).TileObl (D (F := F)) 𝒱 (P C) v₀ 3 := by
  intro d c i O W hO _ _
  simp only [show (P C).ox = fun _ _ => 0 from rfl, add_zero]
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  have hc : ((K (F := F)).core 3 c).val < grid3.bound 0 ∧ ((K (F := F)).sub 3 i).val < grid3.bound 1 := ⟨c.isLt, i.isLt⟩
  rw [defs₀_vector]; simp only [SparseCore.onTile, hc, and_self, ↓reduceDIte]
  exact (run_body d (coordsV ⟨_, hc.1⟩ ⟨_, hc.2⟩) (h d) (tileShare (Fin.cast (nCore_eq 3) c) (Fin.cast (nSub_eq 3) i)) O W hO).trans
    (wp_mono frame _ _ fun _ => obl_post)

end Cert.Proof.Run.T4

end
-- ==== Proof.Run.T5.lean ====
/-
  One task of the second call `_sc_m3`, as of the first, over the second layer's weights and features.
-/
module

public import proofs.«01_k».proof.Proof.Run.TileKit

@[expose] public section

noncomputable section

namespace Cert.Proof.Run.T5

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits shareTok shareDrop pointsTo_toks)
open Idealize.ShloMosaic.StableHlo (held held_sub_split held_congr wp_seq seq after)
open Idealize.ShloMosaic.Tactic

variable {F : FTy → Type}

local notation "𝕄" => MT nD τ sig (HIx 5) (Elt F) ℕ UU ℕ

variable [FloatOps F]

/-! ## The task's memrefs -/

abbrev srcM : Memref sig .scVector .hbm S819200 .i32 := Memref.whole main_v4_scv
abbrev dstM : Memref sig .scVector .hbm S819200 .i32 := Memref.whole main_v5_scv
abbrev exM : Memref sig .scVector .hbm S819200 .f32 := Memref.whole main_v19_1_scv
abbrev hM : Memref sig .scVector .hbm S64x50176 .f32 := Memref.whole main_v11_scv
abbrev numM : Memref sig .scVector .hbm S64x50176 .f32 := Memref.whole main_v20_scv
abbrev rowM : Memref sig .scVector .vmem S50176 .f32 := Memref.whole cc4_scratch0
abbrev accM : Memref sig .scVector .vmem S50176 .f32 := Memref.whole cc4_scratch1
abbrev sM : Memref sig .scVector .vmem S8192 .i32 := Memref.whole cc4_scratch2
abbrev dM : Memref sig .scVector .vmem S8192 .i32 := Memref.whole cc4_scratch3
abbrev eM : Memref sig .scVector .vmem S8192 .f32 := Memref.whole cc4_scratch4

section Tile

variable (d : Dev nD) (L : grid4.Coords)

abbrev cV (L : grid4.Coords) : Fin τ.nSC := (L 0).castLE hcore4
abbrev jV (L : grid4.Coords) : Fin τ.nSub := (L 1).castLE hsub4
abbrev tV (d : Dev nD) (L : grid4.Coords) : Thread nD τ := V d (cV L) (jV L)

/-- The task's number. -/
abbrev wid (L : grid4.Coords) : ℕ := 2 * (L 1).val + (L 0).val

theorem wid_lt : wid L < 32 := by
  have h0 : (L 0).val < 2 := (L 0).isLt
  have h1 : (L 1).val < 16 := (L 1).isLt
  unfold wid
  omega

/-- The two features of the task. -/
abbrev feat (L : grid4.Coords) (r : ℕ) : ℕ := 2 * (L 1).val + (L 0).val + 32 * r

theorem feat_lt {r : ℕ} (hr : r < 2) : feat L r < 64 := by
  have := wid_lt L
  unfold wid at this
  unfold feat
  omega

theorem off_feat0 : k4_off1 L 0#32 = ![feat L 0, 0] := k4_off1_eq L 0
theorem off_feat1 : k4_off1 L 32#32 = ![feat L 1, 0] := k4_off1_eq L 1

theorem at_le {k : ℕ} (hk : k < 100) : 8192 * k + 8192 ≤ 819200 := by omega

theorem grp_at (k t : ℕ) : 16 * (0 + (512 * k + t)) = 8192 * k + 16 * t := by omega

theorem set_numK {off : Fin 2 → ℕ} {n : ℕ} (ho : off = ![n, 0]) (inb : ∀ a, off a + S1x50176.size a ≤ S64x50176.size a) :
    (rowK numM off inb).view.set = rowSet 64 n := by
  show (((numM).view.slice (Rect.unit (s := S64x50176) off S1x50176.size inb)).reshape S50176 squeezes_S1x50176_S50176.numel_eq).set = _
  rw [View.set_reshape]
  exact (View.set_slice_whole _ _).trans (rect_row (m := 64) ho inb)

theorem pts_numK {off : Fin 2 → ℕ} {n : ℕ} (ho : off = ![n, 0]) (inb : ∀ a, off a + S1x50176.size a ≤ S64x50176.size a)
    (f : Buf (Elt F) ((numM).view.loc (tV d L))) :
    ((numM).view.loc (tV d L) ↦[rowSet 64 n]{fullShare} f : sProp 𝕄)
      = ((rowK numM off inb).view.loc (tV d L) ↦[(rowK numM off inb).view.set]{fullShare} f) := by
  rw [set_numK ho inb]

theorem pts_num_written {off : Fin 2 → ℕ} {n : ℕ} (ho : off = ![n, 0]) (hn : n < 64) (inb : ∀ a, off a + S1x50176.size a ≤ S64x50176.size a)
    (f : Buf (Elt F) ((numM).view.loc (tV d L))) (G : Vec F BH .f32) {w : Vec F S50176 .f32} (hw : w = rowOf (by decide) G n) :
    ((rowK numM off inb).view.loc (tV d L) ↦[(rowK numM off inb).view.set]{fullShare}
        (rowK numM off inb).view.writes (Elt F) f [⟨Rect.whole S50176, w⟩] : sProp 𝕄)
      ⊢ (numM).view.loc (tV d L) ↦[rowSet 64 n]{fullShare} G := by
  rw [pts_numK (F := F) d L ho inb]
  exact pts_written (F := F) (tV d L) (rowK numM off inb).view f G ((read_row (F := F) (by decide) numM ho hn inb G G rfl).trans hw.symm)

abbrev zeroABody := k4_t1_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9

/-- After `k` trips the buffer's first `16 * k` elements are zero. -/
def zeroInv (k : Nat) (_ : BitVec 32) : sProp 𝕄 :=
  iprop(∃ f : Vec F S50176 .f32, ⌜∀ j : S50176.Idx, (j 0).val < 16 * k → f j = Scalar.ofBits .f32 0x00000000#32⌝
    ∗ ((accM).view.loc (tV d L) ↦{fullShare} f))

theorem zeroInv_0 (f : Buf (Elt F) ((accM).view.loc (tV d L))) (b : BitVec 32) : (((accM).view.loc (tV d L) ↦{fullShare} f) : sProp 𝕄) ⊢ zeroInv (F := F) d L 0 b := by
  unfold zeroInv
  iintro Hc
  iexists _; isplitr
  rotate_left
  · iexact Hc
  · ipureintro
    intro j hj
    exact absurd hj (by omega)

theorem zeroInv_end {k : ℕ} (hk : k = 3136) (idx : IVec BE 32) (val : Vec F BE .f32) (g : ℕ) (b : BitVec 32) :
    zeroInv (F := F) d L k b ⊢ (accM).view.loc (tV d L) ↦{fullShare} accS idx val g 0 := by
  unfold zeroInv
  iintro ⟨%f, %hf, Hc⟩
  obtain rfl : f = accS idx val g 0 := funext fun j => hf j (by
    have hj : (j 0).val < 50176 := (j 0).isLt
    omega)
  iexact Hc

theorem zeroA_step (k : Fin k4_t1_loop.trips) (b : BitVec 32) :
    zeroInv (F := F) d L k.val b ⊢ wp frame (wpE (defs₀ (F := F)) 𝒱₀ (tV d L) none) Set.univ
      (zeroABody L k b) (fun b' => zeroInv (F := F) d L (k.val + 1) b') := by
  unfold zeroInv zeroABody k4_t1_body
  iintro ⟨%f, %hf, Hc⟩
  sl_exec
  sl_step
  iexists ((accM).view.writes (Elt F) f [⟨Rect.unit (k4_off2 k) S16.size (k4_off2_inb k), k4_pay3 (F := F)⟩])
  isplitr
  · ipureintro
    exact store_contents accM (fun _ => Scalar.ofBits .f32 0x00000000#32) hf (k4_off2_eq k) (k4_off2_inb k) (k4_pay3 (F := F)) (fun _ _ _ => rfl)
  · iexact Hc

abbrev zeroBBody := k4_t4_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9

theorem zeroB_step (k : Fin k4_t4_loop.trips) (b : BitVec 32) :
    zeroInv (F := F) d L k.val b ⊢ wp frame (wpE (defs₀ (F := F)) 𝒱₀ (tV d L) none) Set.univ
      (zeroBBody L k b) (fun b' => zeroInv (F := F) d L (k.val + 1) b') := by
  unfold zeroInv zeroBBody k4_t4_body
  iintro ⟨%f, %hf, Hc⟩
  sl_exec
  sl_step
  iexists ((accM).view.writes (Elt F) f [⟨Rect.unit (k4_off6 k) S16.size (k4_off6_inb k), k4_pay1 (F := F)⟩])
  isplitr
  · ipureintro
    exact store_contents accM (fun _ => Scalar.ofBits .f32 0x00000000#32) hf (k4_off6_eq k) (k4_off6_inb k) (k4_pay1 (F := F)) (fun _ _ _ => rfl)
  · iexact Hc

/-- The indexed store with add of a group is the accumulator with the group added. -/
theorem store_acc (dst : IVec BE 32) (val : Vec F BE .f32) (g n : ℕ) {iv : IVec S16 32} {pv : Vec F S16 .f32} (h1 : iv = grp dst (g + n)) (h2 : pv = grp val (g + n))
    {i1 : Chk iv} :
    ((accM).access (.whole S50176)).write (Elt F) (accS dst val g n)
      (storeIdx (((accM).access (.whole S50176)).read (Elt F) (accS dst val g n)) ![iv] pv (fun _ => 1#1) true i1) Finset.univ
      = accS dst val g (n + 1) := by
  subst h1 h2
  refine (Memref.write_access_whole_univ (Elt F) (cc4_scratch1 : Ref sig .scVector) _ _).trans ?_
  rw [show accS dst val g (n + 1) = storeIdx (accS dst val g n) ![grp dst (g + n)] (grp val (g + n)) (fun _ => 1#1) true i1 from addGrp_of i1]
  rw [show ((accM).access (.whole S50176)).read (Elt F) (accS dst val g n) = accS dst val g n from
    Memref.read_access_whole (Elt F) (cc4_scratch1 : Ref sig .scVector) _]

/-- The products along the edges for one feature's row. -/
abbrev prodV (src : IVec BE 32) (ex : Vec F BE .f32) (hrow : Vec F BN .f32) : Vec F BE .f32 := mulf (gath hrow src) ex

variable (src dst : IVec BE 32) (ex : Vec F BE .f32) (hrow : Vec F BN .f32)

/-- Inside chunk `k`, after `t` groups. -/
def groupInv (k t : Nat) (_ : BitVec 32) : sProp 𝕄 :=
  iprop(((rowM).view.loc (tV d L) ↦{fullShare} hrow)
    ∗ ((accM).view.loc (tV d L) ↦{fullShare} accS dst (prodV src ex hrow) 0 (512 * k + t))
    ∗ ((sM).view.loc (tV d L) ↦{fullShare} chunk 8192 src (8192 * k))
    ∗ ((dM).view.loc (tV d L) ↦{fullShare} chunk 8192 dst (8192 * k))
    ∗ ((eM).view.loc (tV d L) ↦{fullShare} chunk 8192 ex (8192 * k)))

/-- After `k` chunks. -/
def chunkInv (q : PosShare TreeShare) (O : CellTallies nD τ sig (HIx 5)) (W : Waits sig (HIx 5)) (r1 r2 r3 : DmaSems sig S_)
    (k : Nat) (_ : BitVec 32) : sProp 𝕄 :=
  iprop(MayWaits (tV d L) (none : HIx 5) O
    ∗ ((srcM).view.loc (tV d L) ↦{q} src)
    ∗ ((dstM).view.loc (tV d L) ↦{q} dst)
    ∗ ((exM).view.loc (tV d L) ↦{q} ex)
    ∗ ((rowM).view.loc (tV d L) ↦{fullShare} hrow)
    ∗ ((accM).view.loc (tV d L) ↦{fullShare} accS dst (prodV src ex hrow) 0 (512 * k))
    ∗ (∃ f, (sM).view.loc (tV d L) ↦{fullShare} f)
    ∗ (∃ f, (dM).view.loc (tV d L) ↦{fullShare} f)
    ∗ (∃ f, (eM).view.loc (tV d L) ↦{fullShare} f)
    ∗ semVal (tV d L, SemLoc.dma r1.sem) 0
    ∗ semVal (tV d L, SemLoc.dma r2.sem) 0
    ∗ semVal (tV d L, SemLoc.dma r3.sem) 0
    ∗ ∃ W', ⌜∀ p ∈ W', p ∈ W ∨ p.2 = none⌝ ∗ owes (tV d L) O W')

/-! ## The loop over the edges for feature A -/

theorem read_sA (src : IVec BE 32) (k : ℕ) (t : Fin k4_t3_loop.trips) :
    View.readAt (Elt F) (sM).view (Rect.unit (s := S8192) (k4_off4 t) S16.size (k4_off4_inb t)).toLoadRect (chunk 8192 src (8192 * k))
      = grp src (0 + (512 * k + t.val)) :=
  read_group (F := F) (e := .i32) src sM (grp_at k t.val) (chunk 8192 src (8192 * k)) rfl (k4_off4_eq t) (k4_off4_inb t)

theorem read_dA (dst : IVec BE 32) (k : ℕ) (t : Fin k4_t3_loop.trips) :
    View.readAt (Elt F) (dM).view (Rect.unit (s := S8192) (k4_off4 t) S16.size (k4_off4_inb t)).toLoadRect (chunk 8192 dst (8192 * k))
      = grp dst (0 + (512 * k + t.val)) :=
  read_group (F := F) (e := .i32) dst dM (grp_at k t.val) (chunk 8192 dst (8192 * k)) rfl (k4_off4_eq t) (k4_off4_inb t)

theorem read_eA (ex : Vec F BE .f32) (k : ℕ) (t : Fin k4_t3_loop.trips) :
    View.readAt (Elt F) (eM).view (Rect.unit (s := S8192) (k4_off5 t) S16.size (k4_off5_inb t)).toLoadRect (chunk 8192 ex (8192 * k))
      = grp ex (0 + (512 * k + t.val)) :=
  read_group (F := F) (e := .f32) ex eM (grp_at k t.val) (chunk 8192 ex (8192 * k)) rfl (k4_off5_eq t) (k4_off5_inb t)

theorem payA (hs : InRange src) (g : ℕ) {sv : IVec S16 32} {ev : Vec F S16 .f32}
    (h1 : sv = grp src g) (h2 : ev = grp ex g) {i1 : Chk sv} :
    k4_pay4 (loadIdx (((rowM).access (.whole S50176)).read (Elt F) hrow) ![sv] i1) ev = grp (prodV src ex hrow) g := by
  subst h1 h2
  rw [show ((rowM).access (.whole S50176)).read (Elt F) hrow = hrow from Memref.read_access_whole (Elt F) (cc4_scratch0 : Ref sig .scVector) hrow]
  rw [loadIdx_grp (F := F) (e := .f32) hrow hs g i1]
  rfl

abbrev groupBodyA := k4_t3_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9

theorem group_stepA (hs : InRange src) (hd : InRange dst) (k : Nat) (t : Fin k4_t3_loop.trips) (b : BitVec 32) :
    groupInv d L src dst ex hrow k t.val b ⊢ wp frame (wpE (defs₀ (F := F)) 𝒱₀ (tV d L) none) Set.univ
      (groupBodyA L t b) (fun b' => groupInv d L src dst ex hrow k (t.val + 1) b') := by
  unfold groupInv groupBodyA k4_t3_body
  iintro ⟨Hr, Hc, Hs, Hd, He⟩
  have hcs : Chk (grp src (0 + (512 * k + t.val))) := chk_grp hs _
  have hcd : Chk (grp dst (0 + (512 * k + t.val))) := chk_grp hd _
  sl_exec
  rw [wp_assume_of _ _ _ _ (by rw [read_sA (F := F) src k t]; exact hcs)]
  sl_exec
  rw [wp_assume_of _ _ _ _ (by rw [read_dA (F := F) dst k t]; exact hcd)]
  iapply (SparseCore.wp_vectorLoadIdx 𝒱₀ (tV d L) none Set.univ (base := rowM) (S := Finset.univ) (q := fullShare) (Finset.subset_univ _)) $$ Hr; iintro Hr
  sl_exec
  ihave Hc' := (Entails.of_eq (pts_whole (F := F) (tV d L) cc4_scratch1 _).symm) $$ Hc
  iapply (SparseCore.wp_vectorStoreIdx 𝒱₀ (tV d L) none Set.univ (base := accM)) $$ Hc'; iintro Hc'
  sl_step
  isplitl [Hr]; · iexact Hr
  isplitl [Hc']
  · ihave Hc := (Entails.of_eq (pts_whole (F := F) (tV d L) cc4_scratch1 _)) $$ Hc'
    iapply (Entails.of_eq (congrArg (fun f => ((accM).view.loc (tV d L) ↦{fullShare} f : sProp 𝕄))
      (store_acc (F := F) dst (prodV src ex hrow) 0 (512 * k + t.val) (read_dA (F := F) dst k t) (payA (F := F) src ex hrow hs _ (read_sA (F := F) src k t) (read_eA (F := F) ex k t)))))
    iexact Hc
  isplitl [Hs]; · iexact Hs
  isplitl [Hd]; · iexact Hd
  iexact He

abbrev chunkBodyA := k4_t2_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9

theorem chunk_stepA (hs : InRange src) (hd : InRange dst) (q : PosShare TreeShare) (O : CellTallies nD τ sig (HIx 5)) (W : Waits sig (HIx 5))
    (k : Fin k4_t2_loop.trips) (b : BitVec 32) :
    chunkInv d L src dst ex hrow q O W cc4_scoped1 cc4_scoped2 cc4_scoped3 k.val b ⊢ wp frame (wpE (defs₀ (F := F)) 𝒱₀ (tV d L) none) Set.univ
      (chunkBodyA L k b) (fun b' => chunkInv d L src dst ex hrow q O W cc4_scoped1 cc4_scoped2 cc4_scoped3 (k.val + 1) b') := by
  have hk : k.val < 100 := k.isLt
  unfold chunkInv chunkBodyA k4_t2_body
  iintro ⟨Hmw, Hsrc, Hdst, Hex, Hr, Hc, ⟨%fs, Hs⟩, ⟨%fd, Hd⟩, ⟨%fe, He⟩, Hr1, Hr2, Hr3, %W', %hW', HO⟩
  sl_exec (disch := exact View.amount_pos _ _ (show 0 < S8192.numel by decide))
  ihave Hs := (pts_fetched (F := F) (tV d L) cc4_scratch2 fs (w := chunk_stepA.sl.dma0 src k)
    (read_chunk (F := F) (e := .i32) (n := 8192) src srcM (at_le hk) src rfl (k4_off3_eq k) (k4_off3_inb k))) $$ Hs
  ihave Hd := (pts_fetched (F := F) (tV d L) cc4_scratch3 fd (w := chunk_stepA.sl.dma0_1 dst k)
    (read_chunk (F := F) (e := .i32) (n := 8192) dst dstM (at_le hk) dst rfl (k4_off3_eq k) (k4_off3_inb k))) $$ Hd
  ihave He := (pts_fetched (F := F) (tV d L) cc4_scratch4 fe (w := chunk_stepA.sl.dma0_2 ex k)
    (read_chunk (F := F) (e := .f32) (n := 8192) ex exM (at_le hk) ex rfl (k4_off3_eq k) (k4_off3_inb k))) $$ He
  sl_for (groupInv d L src dst ex hrow k.val) $$ [Hr Hc Hs Hd He]
  case region => exact fun t b => group_stepA d L src dst ex hrow hs hd k.val t b
  · unfold groupInv
    isplitl [Hr]; · iexact Hr
    isplitl [Hc]; · iexact Hc
    isplitl [Hs]; · iexact Hs
    isplitl [Hd]; · iexact Hd
    iexact He
  iintro %_ HI
  unfold groupInv
  icases HI with ⟨Hr, Hc, Hs, Hd, He⟩
  sl_exec
  sl_step
  isplitl [Hmw]; · iexact Hmw
  isplitl [Hsrc]; · iexact Hsrc
  isplitl [Hdst]; · iexact Hdst
  isplitl [Hex]; · iexact Hex
  isplitl [Hr]; · iexact Hr
  isplitl [Hc]; · iexact Hc
  isplitl [Hs]; · iexists _; iexact Hs
  isplitl [Hd]; · iexists _; iexact Hd
  isplitl [He]; · iexists _; iexact He
  isplitl [Hr1]; · iexact Hr1
  isplitl [Hr2]; · iexact Hr2
  isplitl [Hr3]; · iexact Hr3
  iexists _; isplitr
  rotate_left
  · iexact HO
  · ipureintro
    exact waits_insert (waits_insert (waits_insert hW'))

/-! ## The loop over the edges for feature B -/

theorem read_sB (src : IVec BE 32) (k : ℕ) (t : Fin k4_t6_loop.trips) :
    View.readAt (Elt F) (sM).view (Rect.unit (s := S8192) (k4_off8 t) S16.size (k4_off8_inb t)).toLoadRect (chunk 8192 src (8192 * k))
      = grp src (0 + (512 * k + t.val)) :=
  read_group (F := F) (e := .i32) src sM (grp_at k t.val) (chunk 8192 src (8192 * k)) rfl (k4_off8_eq t) (k4_off8_inb t)

theorem read_dB (dst : IVec BE 32) (k : ℕ) (t : Fin k4_t6_loop.trips) :
    View.readAt (Elt F) (dM).view (Rect.unit (s := S8192) (k4_off8 t) S16.size (k4_off8_inb t)).toLoadRect (chunk 8192 dst (8192 * k))
      = grp dst (0 + (512 * k + t.val)) :=
  read_group (F := F) (e := .i32) dst dM (grp_at k t.val) (chunk 8192 dst (8192 * k)) rfl (k4_off8_eq t) (k4_off8_inb t)

theorem read_eB (ex : Vec F BE .f32) (k : ℕ) (t : Fin k4_t6_loop.trips) :
    View.readAt (Elt F) (eM).view (Rect.unit (s := S8192) (k4_off9 t) S16.size (k4_off9_inb t)).toLoadRect (chunk 8192 ex (8192 * k))
      = grp ex (0 + (512 * k + t.val)) :=
  read_group (F := F) (e := .f32) ex eM (grp_at k t.val) (chunk 8192 ex (8192 * k)) rfl (k4_off9_eq t) (k4_off9_inb t)

theorem payB (hs : InRange src) (g : ℕ) {sv : IVec S16 32} {ev : Vec F S16 .f32}
    (h1 : sv = grp src g) (h2 : ev = grp ex g) {i1 : Chk sv} :
    k4_pay2 (loadIdx (((rowM).access (.whole S50176)).read (Elt F) hrow) ![sv] i1) ev = grp (prodV src ex hrow) g := by
  subst h1 h2
  rw [show ((rowM).access (.whole S50176)).read (Elt F) hrow = hrow from Memref.read_access_whole (Elt F) (cc4_scratch0 : Ref sig .scVector) hrow]
  rw [loadIdx_grp (F := F) (e := .f32) hrow hs g i1]
  rfl

abbrev groupBodyB := k4_t6_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9

theorem group_stepB (hs : InRange src) (hd : InRange dst) (k : Nat) (t : Fin k4_t6_loop.trips) (b : BitVec 32) :
    groupInv d L src dst ex hrow k t.val b ⊢ wp frame (wpE (defs₀ (F := F)) 𝒱₀ (tV d L) none) Set.univ
      (groupBodyB L t b) (fun b' => groupInv d L src dst ex hrow k (t.val + 1) b') := by
  unfold groupInv groupBodyB k4_t6_body
  iintro ⟨Hr, Hc, Hs, Hd, He⟩
  have hcs : Chk (grp src (0 + (512 * k + t.val))) := chk_grp hs _
  have hcd : Chk (grp dst (0 + (512 * k + t.val))) := chk_grp hd _
  sl_exec
  rw [wp_assume_of _ _ _ _ (by rw [read_sB (F := F) src k t]; exact hcs)]
  sl_exec
  rw [wp_assume_of _ _ _ _ (by rw [read_dB (F := F) dst k t]; exact hcd)]
  iapply (SparseCore.wp_vectorLoadIdx 𝒱₀ (tV d L) none Set.univ (base := rowM) (S := Finset.univ) (q := fullShare) (Finset.subset_univ _)) $$ Hr; iintro Hr
  sl_exec
  ihave Hc' := (Entails.of_eq (pts_whole (F := F) (tV d L) cc4_scratch1 _).symm) $$ Hc
  iapply (SparseCore.wp_vectorStoreIdx 𝒱₀ (tV d L) none Set.univ (base := accM)) $$ Hc'; iintro Hc'
  sl_step
  isplitl [Hr]; · iexact Hr
  isplitl [Hc']
  · ihave Hc := (Entails.of_eq (pts_whole (F := F) (tV d L) cc4_scratch1 _)) $$ Hc'
    iapply (Entails.of_eq (congrArg (fun f => ((accM).view.loc (tV d L) ↦{fullShare} f : sProp 𝕄))
      (store_acc (F := F) dst (prodV src ex hrow) 0 (512 * k + t.val) (read_dB (F := F) dst k t) (payB (F := F) src ex hrow hs _ (read_sB (F := F) src k t) (read_eB (F := F) ex k t)))))
    iexact Hc
  isplitl [Hs]; · iexact Hs
  isplitl [Hd]; · iexact Hd
  iexact He

abbrev chunkBodyB := k4_t5_body (F := F) L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9

theorem chunk_stepB (hs : InRange src) (hd : InRange dst) (q : PosShare TreeShare) (O : CellTallies nD τ sig (HIx 5)) (W : Waits sig (HIx 5))
    (k : Fin k4_t5_loop.trips) (b : BitVec 32) :
    chunkInv d L src dst ex hrow q O W cc4_scoped6 cc4_scoped7 cc4_scoped8 k.val b ⊢ wp frame (wpE (defs₀ (F := F)) 𝒱₀ (tV d L) none) Set.univ
      (chunkBodyB L k b) (fun b' => chunkInv d L src dst ex hrow q O W cc4_scoped6 cc4_scoped7 cc4_scoped8 (k.val + 1) b') := by
  have hk : k.val < 100 := k.isLt
  unfold chunkInv chunkBodyB k4_t5_body
  iintro ⟨Hmw, Hsrc, Hdst, Hex, Hr, Hc, ⟨%fs, Hs⟩, ⟨%fd, Hd⟩, ⟨%fe, He⟩, Hr1, Hr2, Hr3, %W', %hW', HO⟩
  sl_exec (disch := exact View.amount_pos _ _ (show 0 < S8192.numel by decide))
  ihave Hs := (pts_fetched (F := F) (tV d L) cc4_scratch2 fs (w := chunk_stepB.sl.dma0 src k)
    (read_chunk (F := F) (e := .i32) (n := 8192) src srcM (at_le hk) src rfl (k4_off7_eq k) (k4_off7_inb k))) $$ Hs
  ihave Hd := (pts_fetched (F := F) (tV d L) cc4_scratch3 fd (w := chunk_stepB.sl.dma0_1 dst k)
    (read_chunk (F := F) (e := .i32) (n := 8192) dst dstM (at_le hk) dst rfl (k4_off7_eq k) (k4_off7_inb k))) $$ Hd
  ihave He := (pts_fetched (F := F) (tV d L) cc4_scratch4 fe (w := chunk_stepB.sl.dma0_2 ex k)
    (read_chunk (F := F) (e := .f32) (n := 8192) ex exM (at_le hk) ex rfl (k4_off7_eq k) (k4_off7_inb k))) $$ He
  sl_for (groupInv d L src dst ex hrow k.val) $$ [Hr Hc Hs Hd He]
  case region => exact fun t b => group_stepB d L src dst ex hrow hs hd k.val t b
  · unfold groupInv
    isplitl [Hr]; · iexact Hr
    isplitl [Hc]; · iexact Hc
    isplitl [Hs]; · iexact Hs
    isplitl [Hd]; · iexact Hd
    iexact He
  iintro %_ HI
  unfold groupInv
  icases HI with ⟨Hr, Hc, Hs, Hd, He⟩
  sl_exec
  sl_step
  isplitl [Hmw]; · iexact Hmw
  isplitl [Hsrc]; · iexact Hsrc
  isplitl [Hdst]; · iexact Hdst
  isplitl [Hex]; · iexact Hex
  isplitl [Hr]; · iexact Hr
  isplitl [Hc]; · iexact Hc
  isplitl [Hs]; · iexists _; iexact Hs
  isplitl [Hd]; · iexists _; iexact Hd
  isplitl [He]; · iexists _; iexact He
  isplitl [Hr1]; · iexact Hr1
  isplitl [Hr2]; · iexact Hr2
  isplitl [Hr3]; · iexact Hr3
  iexists _; isplitr
  rotate_left
  · iexact HO
  · ipureintro
    exact waits_insert (waits_insert (waits_insert hW'))

/-! ## The task -/

/-- A task's scratch buffers and counters. -/
def bl : List (Ref sig .scVector) := [cc4_scratch0, cc4_scratch1, cc4_scratch2, cc4_scratch3, cc4_scratch4]
def sl : List (DmaSem sig) := [cc4_scoped0.sem, cc4_scoped1.sem, cc4_scoped2.sem, cc4_scoped3.sem, cc4_scoped4.sem, cc4_scoped5.sem, cc4_scoped6.sem, cc4_scoped7.sem, cc4_scoped8.sem, cc4_scoped9.sem]

theorem bufs_eq : (bufsAny d (cV L) (jV L) bl : sProp 𝕄) = iprop((∃ f, (rowM).view.loc (tV d L) ↦{fullShare} f) ∗ (∃ f, (accM).view.loc (tV d L) ↦{fullShare} f) ∗ (∃ f, (sM).view.loc (tV d L) ↦{fullShare} f) ∗ (∃ f, (dM).view.loc (tV d L) ↦{fullShare} f) ∗ (∃ f, (eM).view.loc (tV d L) ↦{fullShare} f) ∗ emp) := rfl

theorem sems_eq : (semsZero d (cV L) (jV L) sl : sProp 𝕄) = iprop(semVal (tV d L, SemLoc.dma cc4_scoped0.sem) 0 ∗ semVal (tV d L, SemLoc.dma cc4_scoped1.sem) 0 ∗ semVal (tV d L, SemLoc.dma cc4_scoped2.sem) 0 ∗ semVal (tV d L, SemLoc.dma cc4_scoped3.sem) 0 ∗ semVal (tV d L, SemLoc.dma cc4_scoped4.sem) 0 ∗ semVal (tV d L, SemLoc.dma cc4_scoped5.sem) 0 ∗ semVal (tV d L, SemLoc.dma cc4_scoped6.sem) 0 ∗ semVal (tV d L, SemLoc.dma cc4_scoped7.sem) 0 ∗ semVal (tV d L, SemLoc.dma cc4_scoped8.sem) 0 ∗ semVal (tV d L, SemLoc.dma cc4_scoped9.sem) 0 ∗ emp) := rfl

theorem ins_eq (U : Valuation τ sig (Elt F)) (q : PosShare TreeShare) : (insAt (ins 4) U d q : sProp 𝕄)
    = iprop(((srcM).view.loc (tV d L) ↦{q} U (arr main_v4)) ∗ ((dstM).view.loc (tV d L) ↦{q} U (arr main_v5)) ∗ ((exM).view.loc (tV d L) ↦{q} U (arr main_v19_1)) ∗ ((hM).view.loc (tV d L) ↦{q} U (arr main_v11))) := by
  show bigSep {arr main_v4, arr main_v5, arr main_v19_1, arr main_v11} _ = _
  rw [SparseCore.bigSep_insert' (by decide), SparseCore.bigSep_insert' (by decide), SparseCore.bigSep_insert' (by decide), bigSep_singleton]

theorem tile_num : tileSet (arr main_v20) (L 0).val (L 1).val = rowSet 64 (feat L 0) ∪ rowSet 64 (feat L 1) := by
  have h := wid_lt L
  unfold wid at h
  ext x
  have hx : (x 0).val < 64 := (x 0).isLt
  unfold tileSet rowSet
  rw [Finset.mem_union, Finset.mem_filter, Finset.mem_filter, Finset.mem_filter, ← and_or_left]
  refine and_congr_right fun _ => ?_
  show (x 0).val % 32 = 2 * (L 1).val + (L 0).val ↔ ((x 0).val = feat L 0 ∨ (x 0).val = feat L 1)
  unfold feat
  omega

theorem outs_eq (U : Valuation τ sig (Elt F)) : (tileAt (outs 4) U d (L 0).val (L 1).val : sProp 𝕄)
    ⊣⊢ iprop(((numM).view.loc (tV d L) ↦[rowSet 64 (feat L 0)]{fullShare} U (arr main_v20))
      ∗ ((numM).view.loc (tV d L) ↦[rowSet 64 (feat L 1)]{fullShare} U (arr main_v20))) := by
  have e : (tileAt (outs 4) U d (L 0).val (L 1).val : sProp 𝕄)
      = ((numM).view.loc (tV d L) ↦[rowSet 64 (feat L 0) ∪ rowSet 64 (feat L 1)]{fullShare} U (arr main_v20)) := by
    show bigSep {arr main_v20} _ = _
    rw [bigSep_singleton, tile_num]
  rw [e]
  refine pointsTo_union (ℓ := (numM).view.loc (tV d L)) ?_
  rw [Finset.disjoint_left]
  intro x hx hy
  simp only [rowSet, Finset.mem_filter, Finset.mem_univ, true_and, feat] at hx hy
  omega

variable (H : Vec F BH .f32)

/-- The four arrays a task only reads, each at a share. -/
def insHeld (q : PosShare TreeShare) : sProp 𝕄 :=
  iprop(((srcM).view.loc (tV d L) ↦{q} src) ∗ ((dstM).view.loc (tV d L) ↦{q} dst)
    ∗ ((exM).view.loc (tV d L) ↦{q} ex) ∗ ((hM).view.loc (tV d L) ↦{q} H))

/-- The two rows it writes. -/
def outsHeld (f0 f1 : Buf (Elt F) ((numM).view.loc (tV d L))) : sProp 𝕄 :=
  iprop(((numM).view.loc (tV d L) ↦[rowSet 64 (feat L 0)]{fullShare} f0) ∗ ((numM).view.loc (tV d L) ↦[rowSet 64 (feat L 1)]{fullShare} f1))

set_option maxHeartbeats 2000000 in
theorem task_run (hs : InRange src) (hd : InRange dst) (q : PosShare TreeShare) (O : CellTallies nD τ sig (HIx 5)) (W : Waits sig (HIx 5))
    (f0 f1 : Buf (Elt F) ((numM).view.loc (tV d L))) :
    iprop(MayWaits (tV d L) (none : HIx 5) O ∗ (insHeld d L src dst ex H q ∗ outsHeld d L f0 f1)
        ∗ bufsAny d (cV L) (jV L) bl ∗ semsZero d (cV L) (jV L) sl ∗ owes (tV d L) O W)
      ⊢ wp frame (wpE (defs₀ (F := F)) 𝒱₀ (tV d L) none) Set.univ
          (cc4__sc_m3 L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9)
          fun _ => iprop((insHeld d L src dst ex H q ∗ outsHeld d L (numOf src dst ex H) (numOf src dst ex H))
            ∗ bufsAny d (cV L) (jV L) bl ∗ semsZero d (cV L) (jV L) sl ∗ ∃ W', ⌜∀ p ∈ W', p ∈ W ∨ p.2 = none⌝ ∗ owes (tV d L) O W') := by
  rw [cc4__sc_m3_eq_skeleton]; unfold cc4__sc_m3_skel
  rw [k4_part1_eq_skeleton]; unfold k4_part1_skel
  simp only [bind_assoc]
  unfold insHeld outsHeld
  rw [bufs_eq, sems_eq]
  rw [pts_numK (F := F) d L (off_feat0 L) (k4_off1_inb L 0), pts_numK (F := F) d L (off_feat1 L) (k4_off1_inb L 1)]
  iintro ⟨Hmw, ⟨⟨Hsrc, Hdst, Hex, Hh⟩, Ho0, Ho1⟩, ⟨⟨%fr, Hr⟩, ⟨%fc, Hc⟩, ⟨%fs, Hs⟩, ⟨%fd, Hd⟩, ⟨%fe, He⟩, -⟩, ⟨Hr0, Hr1, Hr2, Hr3, Hr4, Hr5, Hr6, Hr7, Hr8, Hr9, -⟩, HO⟩
  sl_exec (disch := exact View.amount_pos _ _ (show 0 < S50176.numel by decide))
  ihave Hr := (pts_fetched (F := F) (tV d L) cc4_scratch0 _ (w := task_run.sl.dma0 L H)
    (read_row (F := F) (by decide) hM (off_feat0 L) (feat_lt L (r := 0) (by decide)) (k4_off1_inb L 0) H H rfl)) $$ Hr
  ihave Hc := (zeroInv_0 (F := F) d L _ 0#32) $$ Hc
  sl_for (zeroInv (F := F) d L) $$ [Hc]
  case region => exact fun k b => zeroA_step d L k b
  · iexact Hc
  iintro %_ HI
  ihave Hc := (zeroInv_end (F := F) d L (k := k4_t1_loop.trips) rfl dst (prodV src ex (rowOf (m := 64) (Nat.succ_pos 63) H (feat L 0))) 0 _) $$ HI
  sl_exec
  sl_for (chunkInv d L src dst ex (rowOf (m := 64) (Nat.succ_pos 63) H (feat L 0)) q O W cc4_scoped1 cc4_scoped2 cc4_scoped3) $$ [Hmw Hsrc Hdst Hex Hr Hc Hs Hd He Hr1 Hr2 Hr3 HO]
  case region => exact fun k b => chunk_stepA d L src dst ex (rowOf (m := 64) (Nat.succ_pos 63) H (feat L 0)) hs hd q O W k b
  · unfold chunkInv
    isplitl [Hmw]; · iexact Hmw
    isplitl [Hsrc]; · iexact Hsrc
    isplitl [Hdst]; · iexact Hdst
    isplitl [Hex]; · iexact Hex
    isplitl [Hr]; · iexact Hr
    isplitl [Hc]; · iexact Hc
    isplitl [Hs]; · iexists _; iexact Hs
    isplitl [Hd]; · iexists _; iexact Hd
    isplitl [He]; · iexists _; iexact He
    isplitl [Hr1]; · iexact Hr1
    isplitl [Hr2]; · iexact Hr2
    isplitl [Hr3]; · iexact Hr3
    iexists _; isplitr
    rotate_left
    · iexact HO
    · ipureintro
      exact waits_insert fun p hp => .inl hp
  iintro %_ HI
  unfold chunkInv
  icases HI with ⟨Hmw, Hsrc, Hdst, Hex, Hr, Hc, ⟨%gs0, Hs⟩, ⟨%gd0, Hd⟩, ⟨%ge0, He⟩, Hr1, Hr2, Hr3, %gW0, %hgW0, HO⟩
  sl_exec (disch := exact View.amount_pos _ _ (show 0 < S50176.numel by decide))
  ihave Hr := (pts_fetched (F := F) (tV d L) cc4_scratch0 _ (w := task_run.sl.dma0_2 L H)
    (read_row (F := F) (by decide) hM (off_feat1 L) (feat_lt L (r := 1) (by decide)) (k4_off1_inb L 1) H H rfl)) $$ Hr
  ihave Hc := (zeroInv_0 (F := F) d L _ 0#32) $$ Hc
  sl_for (zeroInv (F := F) d L) $$ [Hc]
  case region => exact fun k b => zeroB_step d L k b
  · iexact Hc
  iintro %_ HI
  ihave Hc := (zeroInv_end (F := F) d L (k := k4_t4_loop.trips) rfl dst (prodV src ex (rowOf (m := 64) (Nat.succ_pos 63) H (feat L 1))) 0 _) $$ HI
  sl_exec
  sl_for (chunkInv d L src dst ex (rowOf (m := 64) (Nat.succ_pos 63) H (feat L 1)) q O W cc4_scoped6 cc4_scoped7 cc4_scoped8) $$ [Hmw Hsrc Hdst Hex Hr Hc Hs Hd He Hr6 Hr7 Hr8 HO]
  case region => exact fun k b => chunk_stepB d L src dst ex (rowOf (m := 64) (Nat.succ_pos 63) H (feat L 1)) hs hd q O W k b
  · unfold chunkInv
    isplitl [Hmw]; · iexact Hmw
    isplitl [Hsrc]; · iexact Hsrc
    isplitl [Hdst]; · iexact Hdst
    isplitl [Hex]; · iexact Hex
    isplitl [Hr]; · iexact Hr
    isplitl [Hc]; · iexact Hc
    isplitl [Hs]; · iexists _; iexact Hs
    isplitl [Hd]; · iexists _; iexact Hd
    isplitl [He]; · iexists _; iexact He
    isplitl [Hr6]; · iexact Hr6
    isplitl [Hr7]; · iexact Hr7
    isplitl [Hr8]; · iexact Hr8
    iexists _; isplitr
    rotate_left
    · iexact HO
    · ipureintro
      exact waits_insert (waits_insert hgW0)
  iintro %_ HI
  unfold chunkInv
  icases HI with ⟨Hmw, Hsrc, Hdst, Hex, Hr, Hc, ⟨%gs1, Hs⟩, ⟨%gd1, Hd⟩, ⟨%ge1, He⟩, Hr6, Hr7, Hr8, %gW1, %hgW1, HO⟩
  sl_exec (disch := exact View.amount_pos _ _ (show 0 < S50176.numel by decide))
  sl_step
  ihave Ho0 := (pts_num_written (F := F) d L (off_feat0 L) (feat_lt L (r := 0) (by decide)) (k4_off1_inb L 0) _ (numOf src dst ex H)
    (w := task_run.sl.dma0_1 L src dst ex H) (rowOf_numOf src dst ex H (feat_lt L (r := 0) (by decide))).symm) $$ Ho0
  ihave Ho1 := (pts_num_written (F := F) d L (off_feat1 L) (feat_lt L (r := 1) (by decide)) (k4_off1_inb L 1) _ (numOf src dst ex H)
    (w := task_run.sl.dma0_3 L src dst ex H) (rowOf_numOf src dst ex H (feat_lt L (r := 1) (by decide))).symm) $$ Ho1
  isplitl [Hsrc Hdst Hex Hh Ho0 Ho1]
  · isplitl [Hsrc Hdst Hex Hh]
    · skip
      isplitl [Hsrc]; · iexact Hsrc
      isplitl [Hdst]; · iexact Hdst
      isplitl [Hex]; · iexact Hex
      iexact Hh
    isplitl [Ho0]; · iexact Ho0
    iexact Ho1
  isplitl [Hr Hc Hs Hd He]
  · skip
    isplitl [Hr]; · iexists _; iexact Hr
    isplitl [Hc]; · iexists _; iexact Hc
    isplitl [Hs]; · iexists _; iexact Hs
    isplitl [Hd]; · iexists _; iexact Hd
    isplitl [He]; · iexists _; iexact He
    iempintro
  isplitl [Hr0 Hr1 Hr2 Hr3 Hr4 Hr5 Hr6 Hr7 Hr8 Hr9]
  · skip
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [Hr9]; · iexact Hr9
    iempintro
  iexists _; isplitr
  rotate_left
  · iexact HO
  · ipureintro
    exact waits_insert hgW1

/-! ## The launch's obligation -/

/-- What the call needs of its operands, and what it makes of them. -/
structure Spec (U U' : Valuation τ sig (Elt F)) : Prop where
  hs : InRange (U (arr main_v4))
  hd : InRange (U (arr main_v5))
  num : U' (arr main_v20) = numOf (F := F) (U (arr main_v4)) (U (arr main_v5)) (U (arr main_v19_1)) (U (arr main_v11))

theorem run_body {U U' : Valuation τ sig (Elt F)} (h : Spec U U') (q : PosShare TreeShare) (O : CellTallies nD τ sig (HIx 5)) (W : Waits sig (HIx 5))
    (hO : ∀ g, O g none = 0) :
    iprop(levAts (K (F := F)).L (K (F := F)).lev ∗ emp ∗ (insAt (ins 4) U d q ∗ tileAt (outs 4) U d (L 0).val (L 1).val)
        ∗ scopedBufs (tV d L) ∗ scopedSems0 (tV d L) ∗ owes (tV d L) O W)
      ⊢ wp frame (wpE (defs₀ (F := F)) 𝒱₀ (tV d L) none) Set.univ
          (cc4__sc_m3 L srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9)
          fun _ => iprop((insAt (ins 4) U d q ∗ tileAt (outs 4) U' d (L 0).val (L 1).val) ∗ scopedBufs (tV d L) ∗ scopedSems0 (tV d L)
            ∗ ∃ W', ⌜∀ p ∈ W', p ∈ W ∨ p.2 = none⌝ ∗ owes (tV d L) O W') := by
  refine tile_body d (cV L) (jV L) bl sl (by decide) (by
    intro b hb
    simp only [bl, List.mem_cons, List.not_mem_nil, or_false] at hb
    rcases hb with rfl | rfl | rfl | rfl | rfl <;> exact SparseCore.Cfg.mem_ownRefs_of_owner rfl)
    (by decide) (by decide) _ _ _ O W hO ?_
  rw [ins_eq d L]
  have hr := task_run d L (U (arr main_v4)) (U (arr main_v5)) (U (arr main_v19_1)) (U (arr main_v11)) h.hs h.hd q O W (U (arr main_v20)) (U (arr main_v20))
  unfold insHeld outsHeld at hr
  iintro ⟨Hmw, ⟨HI, HT⟩, HR⟩
  ihave HT := (outs_eq d L U).1 $$ HT
  iapply (wp_wand_r frame (wpE (defs₀ (F := F)) 𝒱₀ (tV d L) none) Set.univ)
  isplitl [Hmw HI HT HR]
  · iapply hr
    isplitl [Hmw]; · iexact Hmw
    isplitl [HI HT]
    · isplitl [HI]; · iexact HI
      iexact HT
    iexact HR
  iintro %_ ⟨⟨HI, HT⟩, HR⟩
  isplitl [HI HT]
  · isplitl [HI]; · iexact HI
    iapply (outs_eq d L U').2
    rw [h.num]
    iexact HT
  iexact HR

end Tile

def coordsV (c : Fin (grid4.bound 0)) (s : Fin (grid4.bound 1)) : grid4.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 4 ()
      = SparseCore.onTile hcore4 hsub4 (fun c s => cc4__sc_m3 (coordsV c s) srcM (Memref.isWhole_whole _) dstM (Memref.isWhole_whole _) exM (Memref.isWhole_whole _) hM (Memref.isWhole_whole _) numM (Memref.isWhole_whole _) rowM (Memref.isWhole_whole _) accM (Memref.isWhole_whole _) sM (Memref.isWhole_whole _) dM (Memref.isWhole_whole _) eM (Memref.isWhole_whole _) cc4_scoped0 cc4_scoped1 cc4_scoped2 cc4_scoped3 cc4_scoped4 cc4_scoped5 cc4_scoped6 cc4_scoped7 cc4_scoped8 cc4_scoped9) ⟨⟩ c s := rfl

set_option maxRecDepth 1024 in
/-- The task of every vector subcore meets the launch's obligation. -/
theorem tileObl (C : Calls F) (h : ∀ d, Spec (C.V 4 d) (C.W 4 d)) : (K (F := F)).TileObl (D (F := F)) 𝒱 (P C) v₀ 4 := by
  intro d c i O W hO _ _
  simp only [show (P C).ox = fun _ _ => 0 from rfl, add_zero]
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  have hc : ((K (F := F)).core 4 c).val < grid4.bound 0 ∧ ((K (F := F)).sub 4 i).val < grid4.bound 1 := ⟨c.isLt, i.isLt⟩
  rw [defs₀_vector]; simp only [SparseCore.onTile, hc, and_self, ↓reduceDIte]
  exact (run_body d (coordsV ⟨_, hc.1⟩ ⟨_, hc.2⟩) (h d) (tileShare (Fin.cast (nCore_eq 4) c) (Fin.cast (nSub_eq 4) i)) O W hO).trans
    (wp_mono frame _ _ fun _ => obl_post)

end Cert.Proof.Run.T5

end
-- ==== Proof.Run.Main.lean ====
/-
  The whole program: the host operations before, between and after the five calls to the SparseCores, and its run, stated with
  the contents of every array at every stage.
-/
module

public import proofs.«01_k».proof.Proof.Run.T1
public import proofs.«01_k».proof.Proof.Run.T2
public import proofs.«01_k».proof.Proof.Run.T3
public import proofs.«01_k».proof.Proof.Run.T4
public import proofs.«01_k».proof.Proof.Run.T5
public import Idealize.ShloMosaic.Lib.Pipeline.Frame

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits)
open Idealize.ShloMosaic.Tactic
open Idealize.ShloMosaic.StableHlo (held held_sub_split held_congr wp_seq seq after after_of_writes_sub forall_writes_sub_of_map)

variable {F : FTy → Type}

local notation "𝕄" => MT nD τ sig (HIx 5) (Elt F) ℕ UU ℕ

variable [FloatOps F]

/-! ## The host operations -/

/-- Before the first call: the two rows of `edge_index`, the paddings of the edges, the features transposed and padded. -/
def preA : List (HloOp τ sig (Elt F)) :=
  [StableHlo.unary main_arg0 main_v0 ((extractStridedSlice S1x800000 ![0, 0] · slices_S2x800000_S1x800000_0_0) : (⟨S2x800000, .i32⟩ : BufTy).Contents (Elt F) → (⟨S1x800000, .i32⟩ : BufTy).Contents (Elt F)),
   StableHlo.reshape main_v0 main_v1 (rfl : (.i32 : EltTy) = .i32) shapeCasts_S1x800000_S800000,
   StableHlo.unary main_arg0 main_v2 ((extractStridedSlice S1x800000 ![1, 0] · slices_S2x800000_S1x800000_1_0) : (⟨S2x800000, .i32⟩ : BufTy).Contents (Elt F) → (⟨S1x800000, .i32⟩ : BufTy).Contents (Elt F)),
   StableHlo.reshape main_v2 main_v3 (rfl : (.i32 : EltTy) = .i32) shapeCasts_S1x800000_S800000,
   StableHlo.nullary main_c (constantI S_ 32 0#32),
   StableHlo.TRef.unary (.of main_c : StableHlo.TRef sig ⟨S_, .i32⟩) main_call0.v0 id,
   StableHlo.TRef.binary (.of main_v1 : StableHlo.TRef sig ⟨S800000, .i32⟩) main_call0.v0 main_call0.v1 (fun x v => pad S819200 ![0] ![19200] ![0] x v pads_S800000_S819200_0192000 h_S_),
   StableHlo.nullary main_c_0 (constantI S_ 32 50000#32),
   StableHlo.TRef.unary (.of main_c_0 : StableHlo.TRef sig ⟨S_, .i32⟩) main_call1.v0 id,
   StableHlo.TRef.binary (.of main_v3 : StableHlo.TRef sig ⟨S800000, .i32⟩) main_call1.v0 main_call1.v1 (fun x v => pad S819200 ![0] ![19200] ![0] x v pads_S800000_S819200_0192000 h_S_),
   StableHlo.nullary main_c_1 (constantI S_ 32 0#32),
   StableHlo.TRef.unary (.of main_c_1 : StableHlo.TRef sig ⟨S_, .i32⟩) main_call2.v0 (sitofp .f32),
   StableHlo.TRef.binary (.of main_arg1 : StableHlo.TRef sig ⟨S800000, .f32⟩) main_call2.v0 main_call2.v1 (fun x v => pad S819200 ![0] ![19200] ![0] x v pads_S800000_S819200_0192000 h_S_),
   StableHlo.nullary main_c_2 (constantI S_ 32 0#32),
   StableHlo.TRef.unary (.of main_c_2 : StableHlo.TRef sig ⟨S_, .i32⟩) main_call3.v0 (sitofp .f32),
   StableHlo.TRef.binary (.of main_arg2 : StableHlo.TRef sig ⟨S800000, .f32⟩) main_call3.v0 main_call3.v1 (fun x v => pad S819200 ![0] ![19200] ![0] x v pads_S800000_S819200_0192000 h_S_),
   StableHlo.unary main_arg5 main_v8 ((transpose S64x50000 [1, 0] · transposes_S50000x64_S64x50000_1_0) : (⟨S50000x64, .f32⟩ : BufTy).Contents (Elt F) → (⟨S64x50000, .f32⟩ : BufTy).Contents (Elt F)),
   StableHlo.nullary main_c_3 (constantI S_ 32 0#32),
   StableHlo.TRef.unary (.of main_c_3 : StableHlo.TRef sig ⟨S_, .i32⟩) main_call4.v0 (sitofp .f32),
   StableHlo.TRef.binary (.of main_v8 : StableHlo.TRef sig ⟨S64x50000, .f32⟩) main_call4.v0 main_call4.v1 (fun x v => pad S64x50176 ![0, 0] ![0, 176] ![0, 0] x v pads_S64x50000_S64x50176_000_01760 h_S_),
   StableHlo.unary main_arg8 main_v10 ((transpose S64x50000 [1, 0] · transposes_S50000x64_S64x50000_1_0) : (⟨S50000x64, .f32⟩ : BufTy).Contents (Elt F) → (⟨S64x50000, .f32⟩ : BufTy).Contents (Elt F)),
   StableHlo.nullary main_c_4 (constantI S_ 32 0#32),
   StableHlo.TRef.unary (.of main_c_4 : StableHlo.TRef sig ⟨S_, .i32⟩) main_call5.v0 (sitofp .f32),
   StableHlo.TRef.binary (.of main_v10 : StableHlo.TRef sig ⟨S64x50000, .f32⟩) main_call5.v0 main_call5.v1 (fun x v => pad S64x50176 ![0, 0] ![0, 176] ![0, 0] x v pads_S64x50000_S64x50176_000_01760 h_S_),
   StableHlo.nullary main_c_5 (constantI S_ 32 0#32),
   StableHlo.TRef.unary (.of main_c_5 : StableHlo.TRef sig ⟨S_, .i32⟩) main_call6.v0 (sitofp .f32),
   StableHlo.TRef.binary (.of main_arg3 : StableHlo.TRef sig ⟨S50000, .f32⟩) main_call6.v0 main_call6.v1 (fun x v => pad S50176 ![0] ![176] ![0] x v pads_S50000_S50176_01760 h_S_)]

/-- Before the second: the destinations' part of the first layer's logit padded. -/
def preB : List (HloOp τ sig (Elt F)) :=
  [StableHlo.nullary main_c_6 (constantI S_ 32 0#32),
   StableHlo.TRef.unary (.of main_c_6 : StableHlo.TRef sig ⟨S_, .i32⟩) main_call7.v0 (sitofp .f32),
   StableHlo.TRef.binary (.of main_arg4 : StableHlo.TRef sig ⟨S50000, .f32⟩) main_call7.v0 main_call7.v1 (fun x v => pad S50176 ![0] ![176] ![0] x v pads_S50000_S50176_01760 h_S_)]

/-- Before the fourth: both parts of the second layer's logit padded. -/
def preC : List (HloOp τ sig (Elt F)) :=
  [StableHlo.nullary main_c_7 (constantI S_ 32 0#32),
   StableHlo.TRef.unary (.of main_c_7 : StableHlo.TRef sig ⟨S_, .i32⟩) main_call8.v0 (sitofp .f32),
   StableHlo.TRef.binary (.of main_arg6 : StableHlo.TRef sig ⟨S50000, .f32⟩) main_call8.v0 main_call8.v1 (fun x v => pad S50176 ![0] ![176] ![0] x v pads_S50000_S50176_01760 h_S_),
   StableHlo.nullary main_c_8 (constantI S_ 32 0#32),
   StableHlo.TRef.unary (.of main_c_8 : StableHlo.TRef sig ⟨S_, .i32⟩) main_call9.v0 (sitofp .f32),
   StableHlo.TRef.binary (.of main_arg7 : StableHlo.TRef sig ⟨S50000, .f32⟩) main_call9.v0 main_call9.v1 (fun x v => pad S50176 ![0] ![176] ![0] x v pads_S50000_S50176_01760 h_S_)]

/-- After the last: the partial sums added up, the padded nodes cut off, the numerators transposed. -/
def post : List (HloOp τ sig (Elt F)) :=
  [StableHlo.nullary main_cst (constant S_ .f32 0x00000000#32),
   StableHlo.binary main_v13_0 main_cst main_v21 ((fun x v => Host.reduceAdd x v reducesTo_S32x50176_S50176_d0 h_S_) : (⟨S32x50176, .f32⟩ : BufTy).Contents (Elt F) → (⟨S_, .f32⟩ : BufTy).Contents (Elt F) → (⟨S50176, .f32⟩ : BufTy).Contents (Elt F)),
   StableHlo.unary main_v21 main_v22 ((extractStridedSlice S50000 ![0] · slices_S50176_S50000_0) : (⟨S50176, .f32⟩ : BufTy).Contents (Elt F) → (⟨S50000, .f32⟩ : BufTy).Contents (Elt F)),
   StableHlo.nullary main_cst_9 (constant S_ .f32 0x00000000#32),
   StableHlo.binary main_v13_1 main_cst_9 main_v23 ((fun x v => Host.reduceAdd x v reducesTo_S32x50176_S50176_d0 h_S_) : (⟨S32x50176, .f32⟩ : BufTy).Contents (Elt F) → (⟨S_, .f32⟩ : BufTy).Contents (Elt F) → (⟨S50176, .f32⟩ : BufTy).Contents (Elt F)),
   StableHlo.unary main_v23 main_v24 ((extractStridedSlice S50000 ![0] · slices_S50176_S50000_0) : (⟨S50176, .f32⟩ : BufTy).Contents (Elt F) → (⟨S50000, .f32⟩ : BufTy).Contents (Elt F)),
   StableHlo.nullary main_cst_10 (constant S_ .f32 0x00000000#32),
   StableHlo.binary main_v13_2 main_cst_10 main_v25 ((fun x v => Host.reduceAdd x v reducesTo_S32x50176_S50176_d0 h_S_) : (⟨S32x50176, .f32⟩ : BufTy).Contents (Elt F) → (⟨S_, .f32⟩ : BufTy).Contents (Elt F) → (⟨S50176, .f32⟩ : BufTy).Contents (Elt F)),
   StableHlo.unary main_v25 main_v26 ((extractStridedSlice S50000 ![0] · slices_S50176_S50000_0) : (⟨S50176, .f32⟩ : BufTy).Contents (Elt F) → (⟨S50000, .f32⟩ : BufTy).Contents (Elt F)),
   StableHlo.nullary main_cst_11 (constant S_ .f32 0x00000000#32),
   StableHlo.binary main_v15_1 main_cst_11 main_v27 ((fun x v => Host.reduceAdd x v reducesTo_S32x50176_S50176_d0 h_S_) : (⟨S32x50176, .f32⟩ : BufTy).Contents (Elt F) → (⟨S_, .f32⟩ : BufTy).Contents (Elt F) → (⟨S50176, .f32⟩ : BufTy).Contents (Elt F)),
   StableHlo.unary main_v27 main_v28 ((extractStridedSlice S50000 ![0] · slices_S50176_S50000_0) : (⟨S50176, .f32⟩ : BufTy).Contents (Elt F) → (⟨S50000, .f32⟩ : BufTy).Contents (Elt F)),
   StableHlo.nullary main_cst_12 (constant S_ .f32 0x00000000#32),
   StableHlo.binary main_v19_2 main_cst_12 main_v29 ((fun x v => Host.reduceAdd x v reducesTo_S32x50176_S50176_d0 h_S_) : (⟨S32x50176, .f32⟩ : BufTy).Contents (Elt F) → (⟨S_, .f32⟩ : BufTy).Contents (Elt F) → (⟨S50176, .f32⟩ : BufTy).Contents (Elt F)),
   StableHlo.unary main_v29 main_v30 ((extractStridedSlice S50000 ![0] · slices_S50176_S50000_0) : (⟨S50176, .f32⟩ : BufTy).Contents (Elt F) → (⟨S50000, .f32⟩ : BufTy).Contents (Elt F)),
   StableHlo.unary main_v16 main_v31 ((extractStridedSlice S64x50000 ![0, 0] · slices_S64x50176_S64x50000_0_0) : (⟨S64x50176, .f32⟩ : BufTy).Contents (Elt F) → (⟨S64x50000, .f32⟩ : BufTy).Contents (Elt F)),
   StableHlo.unary main_v31 main_v32 ((transpose S50000x64 [1, 0] · transposes_S64x50000_S50000x64_1_0) : (⟨S64x50000, .f32⟩ : BufTy).Contents (Elt F) → (⟨S50000x64, .f32⟩ : BufTy).Contents (Elt F)),
   StableHlo.unary main_v20 main_v33 ((extractStridedSlice S64x50000 ![0, 0] · slices_S64x50176_S64x50000_0_0) : (⟨S64x50176, .f32⟩ : BufTy).Contents (Elt F) → (⟨S64x50000, .f32⟩ : BufTy).Contents (Elt F)),
   StableHlo.unary main_v33 main_v34 ((transpose S50000x64 [1, 0] · transposes_S64x50000_S50000x64_1_0) : (⟨S64x50000, .f32⟩ : BufTy).Contents (Elt F) → (⟨S50000x64, .f32⟩ : BufTy).Contents (Elt F))]

theorem main_eq (d : Dev nD) :
    main (F := F) d = seq (preA (F := F)) >>= fun _ => (sc (F := F)).run d 0 >>= fun _ => seq (preB (F := F)) >>= fun _ =>
      (sc (F := F)).run d 1 >>= fun _ => (sc (F := F)).run d 2 >>= fun _ => seq (preC (F := F)) >>= fun _ =>
      (sc (F := F)).run d 3 >>= fun _ => (sc (F := F)).run d 4 >>= fun _ => seq (post (F := F)) >>= fun _ => pure ⟨⟩ := by
  simp only [main, preA, preB, preC, post, fn_pad.body, fn_pad_0.body, fn_pad_1.body, fn_pad_2.body, seq, bind_assoc, pure_bind]

theorem preA_all : (preA (F := F)).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub ..⟩

theorem preA_sub : ∀ op ∈ preA (F := F), op.bufs ⊆ Pipeline.ucRefs τ sig :=
  fun op h => Pipeline.sub_ucRefs op ((List.forall_iff_forall_mem.mp preA_all) op h)

theorem preA_fresh : ∀ op ∈ preA (F := F), op.fresh = ∅ := by
  intro op h
  simp only [preA, List.mem_cons, List.not_mem_nil, or_false] at h
  rcases h with rfl | rfl | rfl | rfl | rfl | rfl | rfl | rfl | rfl | rfl | rfl | rfl | rfl | rfl | rfl | rfl | rfl | rfl | rfl | rfl | rfl | rfl | rfl | rfl | rfl | rfl | rfl <;> rfl

/-- What these operations write; every other array keeps its contents. -/
def preAW : List (Ref sig .tc) := [main_v0, main_v1, main_v2, main_v3, main_c, main_call0_v0, main_v4, main_c_0, main_call1_v0, main_v5, main_c_1, main_call2_v0, main_v6, main_c_2, main_call3_v0, main_v7, main_v8, main_c_3, main_call4_v0, main_v9, main_v10, main_c_4, main_call5_v0, main_v11, main_c_5, main_call6_v0, main_v12]

theorem preA_keep (V : Valuation τ sig (Elt F)) {r : Ref sig .tc} (h : r ∉ preAW) : after preA V (arr r) = V (arr r) :=
  after_of_writes_sub preA V (forall_writes_sub_of_map (W := preAW) rfl) h

theorem preB_all : (preB (F := F)).Forall fun op => op.bufs ⊆ StableHlo.tcRefs τ sig :=
  ⟨StableHlo.nullary_bufs_sub .., StableHlo.unary_bufs_sub .., StableHlo.binary_bufs_sub ..⟩

theorem preB_sub : ∀ op ∈ preB (F := F), op.bufs ⊆ Pipeline.ucRefs τ sig :=
  fun op h => Pipeline.sub_ucRefs op ((List.forall_iff_forall_mem.mp preB_all) op h)

theorem preB_fresh : ∀ op ∈ preB (F := F), op.fresh = ∅ := by
  intro op h
  simp only [preB, List.mem_cons, List.not_mem_nil, or_false] at h
  rcases h with rfl | rfl | rfl <;> rfl

/-- What these operations write; every other array keeps its contents. -/
def preBW : List (Ref sig .tc) := [main_c_6, main_call7_v0, main_v14]

theorem preB_keep (V : Valuation τ sig (Elt F)) {r : Ref sig .tc} (h : r ∉ preBW) : after preB V (arr r) = V (arr r) :=
  after_of_writes_sub preB V (forall_writes_sub_of_map (W := preBW) rfl) h

theorem preC_all : (preC (F := F)).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..⟩

theorem preC_sub : ∀ op ∈ preC (F := F), op.bufs ⊆ Pipeline.ucRefs τ sig :=
  fun op h => Pipeline.sub_ucRefs op ((List.forall_iff_forall_mem.mp preC_all) op h)

theorem preC_fresh : ∀ op ∈ preC (F := F), op.fresh = ∅ := by
  intro op h
  simp only [preC, List.mem_cons, List.not_mem_nil, or_false] at h
  rcases h with rfl | rfl | rfl | rfl | rfl | rfl <;> rfl

/-- What these operations write; every other array keeps its contents. -/
def preCW : List (Ref sig .tc) := [main_c_7, main_call8_v0, main_v17, main_c_8, main_call9_v0, main_v18]

theorem preC_keep (V : Valuation τ sig (Elt F)) {r : Ref sig .tc} (h : r ∉ preCW) : after preC V (arr r) = V (arr r) :=
  after_of_writes_sub preC V (forall_writes_sub_of_map (W := preCW) rfl) h

theorem post_all : (post (F := F)).Forall fun op => op.bufs ⊆ StableHlo.tcRefs τ sig :=
  ⟨StableHlo.nullary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.unary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub ..⟩

theorem post_sub : ∀ op ∈ post (F := F), op.bufs ⊆ Pipeline.ucRefs τ sig :=
  fun op h => Pipeline.sub_ucRefs op ((List.forall_iff_forall_mem.mp post_all) op h)

theorem post_fresh : ∀ op ∈ post (F := F), op.fresh = ∅ := by
  intro op h
  simp only [post, List.mem_cons, List.not_mem_nil, or_false] at h
  rcases h with rfl | rfl | rfl | rfl | rfl | rfl | rfl | rfl | rfl | rfl | rfl | rfl | rfl | rfl | rfl | rfl | rfl | rfl | rfl <;> rfl

/-- What these operations write; every other array keeps its contents. -/
def postW : List (Ref sig .tc) := [main_cst, main_v21, main_v22, main_cst_9, main_v23, main_v24, main_cst_10, main_v25, main_v26, main_cst_11, main_v27, main_v28, main_cst_12, main_v29, main_v30, main_v31, main_v32, main_v33, main_v34]

theorem post_keep (V : Valuation τ sig (Elt F)) {r : Ref sig .tc} (h : r ∉ postW) : after post V (arr r) = V (arr r) :=
  after_of_writes_sub post V (forall_writes_sub_of_map (W := postW) rfl) h

/-! ## What each call makes -/

def call0 (V : Valuation τ sig (Elt F)) : Valuation τ sig (Elt F) :=
  Function.update (Function.update (Function.update (Function.update V (arr main_v13_0)
    (partOf (F := F) (V (arr main_v5)) onesE)) (arr main_v13_1)
    (partOf (F := F) (V (arr main_v5)) (V (arr main_v6)))) (arr main_v13_2)
    (partOf (F := F) (V (arr main_v5)) (V (arr main_v7)))) (arr main_v13_3)
    (T1.pV (F := F) (V (arr main_v4)) (V (arr main_v6)) (V (arr main_v12)))

theorem call0_keep (V : Valuation τ sig (Elt F)) {b : DevRef τ sig} (h : b ∉ outs 0) : call0 V b = V b := by
  simp only [outs, Finset.mem_insert, Finset.mem_singleton, not_or] at h
  unfold call0
  rw [Function.update_of_ne h.2.2.2, Function.update_of_ne h.2.2.1, Function.update_of_ne h.2.1, Function.update_of_ne h.1]

theorem call0_spec (V : Valuation τ sig (Elt F)) (hs : InRange (V (arr main_v4))) (hd : InRange (V (arr main_v5))) : T1.Spec V (call0 V) where
  hs := hs
  hd := hd
  deg := by unfold call0; rw [Function.update_of_ne (by decide), Function.update_of_ne (by decide), Function.update_of_ne (by decide), Function.update_self]
  a1 := by unfold call0; rw [Function.update_of_ne (by decide), Function.update_of_ne (by decide), Function.update_self]
  a2 := by unfold call0; rw [Function.update_of_ne (by decide), Function.update_self]
  p := by unfold call0; rw [Function.update_self]

def call1 (V : Valuation τ sig (Elt F)) : Valuation τ sig (Elt F) :=
  Function.update (Function.update V (arr main_v15_0)
    (T2.exV (F := F) (V (arr main_v5)) (V (arr main_v13_3)) (V (arr main_v14)))) (arr main_v15_1)
    (partOf (F := F) (V (arr main_v5)) (T2.exV (F := F) (V (arr main_v5)) (V (arr main_v13_3)) (V (arr main_v14))))

theorem call1_keep (V : Valuation τ sig (Elt F)) {b : DevRef τ sig} (h : b ∉ outs 1) : call1 V b = V b := by
  simp only [outs, Finset.mem_insert, Finset.mem_singleton, not_or] at h
  unfold call1
  rw [Function.update_of_ne h.2, Function.update_of_ne h.1]

theorem call1_spec (V : Valuation τ sig (Elt F)) (hd : InRange (V (arr main_v5))) : T2.Spec V (call1 V) where
  hd := hd
  ex := by unfold call1; rw [Function.update_of_ne (by decide), Function.update_self]
  den := by unfold call1; rw [Function.update_self]

def call2 (V : Valuation τ sig (Elt F)) : Valuation τ sig (Elt F) :=
  Function.update V (arr main_v16)
    (numOf (F := F) (V (arr main_v4)) (V (arr main_v5)) (V (arr main_v15_0)) (V (arr main_v9)))

theorem call2_keep (V : Valuation τ sig (Elt F)) {b : DevRef τ sig} (h : b ∉ outs 2) : call2 V b = V b := by
  simp only [outs, Finset.mem_insert, Finset.mem_singleton, not_or] at h
  unfold call2
  rw [Function.update_of_ne h]

theorem call2_spec (V : Valuation τ sig (Elt F)) (hs : InRange (V (arr main_v4))) (hd : InRange (V (arr main_v5))) : T3.Spec V (call2 V) where
  hs := hs
  hd := hd
  num := by unfold call2; rw [Function.update_self]

def call3 (V : Valuation τ sig (Elt F)) : Valuation τ sig (Elt F) :=
  Function.update (Function.update (Function.update V (arr main_v19_0)
    (T4.pV (F := F) (V (arr main_v4)) (V (arr main_v7)) (V (arr main_v17)))) (arr main_v19_1)
    (T4.exV (F := F) (V (arr main_v5)) (T4.pV (F := F) (V (arr main_v4)) (V (arr main_v7)) (V (arr main_v17))) (V (arr main_v18)))) (arr main_v19_2)
    (partOf (F := F) (V (arr main_v5)) (T4.exV (F := F) (V (arr main_v5)) (T4.pV (F := F) (V (arr main_v4)) (V (arr main_v7)) (V (arr main_v17))) (V (arr main_v18))))

theorem call3_keep (V : Valuation τ sig (Elt F)) {b : DevRef τ sig} (h : b ∉ outs 3) : call3 V b = V b := by
  simp only [outs, Finset.mem_insert, Finset.mem_singleton, not_or] at h
  unfold call3
  rw [Function.update_of_ne h.2.2, Function.update_of_ne h.2.1, Function.update_of_ne h.1]

theorem call3_spec (V : Valuation τ sig (Elt F)) (hs : InRange (V (arr main_v4))) (hd : InRange (V (arr main_v5))) : T4.Spec V (call3 V) where
  hs := hs
  hd := hd
  p := by unfold call3; rw [Function.update_of_ne (by decide), Function.update_of_ne (by decide), Function.update_self]
  ex := by unfold call3; rw [Function.update_of_ne (by decide), Function.update_self]
  den := by unfold call3; rw [Function.update_self]

def call4 (V : Valuation τ sig (Elt F)) : Valuation τ sig (Elt F) :=
  Function.update V (arr main_v20)
    (numOf (F := F) (V (arr main_v4)) (V (arr main_v5)) (V (arr main_v19_1)) (V (arr main_v11)))

theorem call4_keep (V : Valuation τ sig (Elt F)) {b : DevRef τ sig} (h : b ∉ outs 4) : call4 V b = V b := by
  simp only [outs, Finset.mem_insert, Finset.mem_singleton, not_or] at h
  unfold call4
  rw [Function.update_of_ne h]

theorem call4_spec (V : Valuation τ sig (Elt F)) (hs : InRange (V (arr main_v4))) (hd : InRange (V (arr main_v5))) : T5.Spec V (call4 V) where
  hs := hs
  hd := hd
  num := by unfold call4; rw [Function.update_self]

/-! ## The arrays at each stage -/

variable (m : (ℓ : Loc nD τ sig) → Buf (Elt F) ℓ) (ρ : Dev nD → PrngReg)

/-- At the launch; before the first call; after it; before the second; after it, which is before the third; after the third;
    before the fourth; after it, which is before the fifth; after the fifth; at the end. -/
abbrev U0 (d : Dev nD) : Valuation τ sig (Elt F) := fun b => m (d, b)
def U1 (d : Dev nD) : Valuation τ sig (Elt F) := after preA (U0 m d)
def U2 (d : Dev nD) : Valuation τ sig (Elt F) := call0 (U1 m d)
def U3 (d : Dev nD) : Valuation τ sig (Elt F) := after preB (U2 m d)
def U4 (d : Dev nD) : Valuation τ sig (Elt F) := call1 (U3 m d)
def U5 (d : Dev nD) : Valuation τ sig (Elt F) := call2 (U4 m d)
def U6 (d : Dev nD) : Valuation τ sig (Elt F) := after preC (U5 m d)
def U7 (d : Dev nD) : Valuation τ sig (Elt F) := call3 (U6 m d)
def U8 (d : Dev nD) : Valuation τ sig (Elt F) := call4 (U7 m d)
def U9 (d : Dev nD) : Valuation τ sig (Elt F) := after post (U8 m d)

def C : Calls F where
  V := fun | 0 => U1 m | 1 => U3 m | 2 => U4 m | 3 => U6 m | 4 => U7 m
  W := fun | 0 => U2 m | 1 => U4 m | 2 => U5 m | 3 => U7 m | 4 => U8 m

theorem keeps (q : Fin 5) : (C m).Keeps q := match q with
  | 0 => fun d _ h => call0_keep (U1 m d) h
  | 1 => fun d _ h => call1_keep (U3 m d) h
  | 2 => fun d _ h => call2_keep (U4 m d) h
  | 3 => fun d _ h => call3_keep (U6 m d) h
  | 4 => fun d _ h => call4_keep (U7 m d) h

/-- The ends of the padded edges: every call reads them as the host made them. -/
abbrev src (d : Dev nD) : IVec BE 32 := U1 m d (arr main_v4)
abbrev dst (d : Dev nD) : IVec BE 32 := U1 m d (arr main_v5)

variable {m} in
/-- An array nothing writes before a stage. -/
theorem U3_keep (d : Dev nD) {r : Ref sig .tc} (h0 : arr r ∉ outs 0) (hB : r ∉ preBW) : U3 m d (arr r) = U1 m d (arr r) :=
  (preB_keep _ hB).trans (call0_keep _ h0)
variable {m} in
theorem U5_keep (d : Dev nD) {r : Ref sig .tc} (h1 : arr r ∉ outs 1) (h2 : arr r ∉ outs 2) : U5 m d (arr r) = U3 m d (arr r) :=
  (call2_keep _ h2).trans (call1_keep _ h1)
variable {m} in
theorem U6_keep (d : Dev nD) {r : Ref sig .tc} (h1 : arr r ∉ outs 1) (h2 : arr r ∉ outs 2) (hC : r ∉ preCW) : U6 m d (arr r) = U3 m d (arr r) :=
  (preC_keep _ hC).trans (U5_keep d h1 h2)
variable {m} in
theorem U8_keep (d : Dev nD) {r : Ref sig .tc} (h3 : arr r ∉ outs 3) (h4 : arr r ∉ outs 4) : U8 m d (arr r) = U6 m d (arr r) :=
  (call4_keep _ h4).trans (call3_keep _ h3)

/-- Every end of an edge names a padded node. -/
def Ok (d : Dev nD) : Prop := InRange (src m d) ∧ InRange (dst m d)

variable {m} in
theorem spec0 {d : Dev nD} (h : Ok m d) : T1.Spec (U1 m d) (U2 m d) := call0_spec _ h.1 h.2
variable {m} in
theorem spec1 {d : Dev nD} (h : Ok m d) : T2.Spec (U3 m d) (U4 m d) :=
  call1_spec _ (by rw [U3_keep d (by decide) (by decide)]; exact h.2)
variable {m} in
theorem spec2 {d : Dev nD} (h : Ok m d) : T3.Spec (U4 m d) (U5 m d) :=
  call2_spec _ (by rw [show U4 m d (arr main_v4) = _ from (call1_keep _ (by decide)).trans (U3_keep d (by decide) (by decide))]; exact h.1)
    (by rw [show U4 m d (arr main_v5) = _ from (call1_keep _ (by decide)).trans (U3_keep d (by decide) (by decide))]; exact h.2)
variable {m} in
theorem spec3 {d : Dev nD} (h : Ok m d) : T4.Spec (U6 m d) (U7 m d) :=
  call3_spec _ (by rw [show U6 m d (arr main_v4) = _ from (U6_keep d (by decide) (by decide) (by decide)).trans (U3_keep d (by decide) (by decide))]; exact h.1)
    (by rw [show U6 m d (arr main_v5) = _ from (U6_keep d (by decide) (by decide) (by decide)).trans (U3_keep d (by decide) (by decide))]; exact h.2)
variable {m} in
theorem spec4 {d : Dev nD} (h : Ok m d) : T5.Spec (U7 m d) (U8 m d) :=
  call4_spec _
    (by rw [show U7 m d (arr main_v4) = _ from (call3_keep _ (by decide)).trans ((U6_keep d (by decide) (by decide) (by decide)).trans (U3_keep d (by decide) (by decide)))]; exact h.1)
    (by rw [show U7 m d (arr main_v5) = _ from (call3_keep _ (by decide)).trans ((U6_keep d (by decide) (by decide) (by decide)).trans (U3_keep d (by decide) (by decide)))]; exact h.2)

/-- The arrays the claims name. -/
def claimSet : Finset (DevRef τ sig) :=
  {arr main_arg0, arr main_arg1, arr main_arg2, arr main_arg3, arr main_arg4, arr main_arg5, arr main_arg6, arr main_arg7, arr main_arg8,
    arr main_v22, arr main_v24, arr main_v26, arr main_v28, arr main_v30, arr main_v32, arr main_v34}

theorem claimSet_sub : claimSet ⊆ Pipeline.ucRefs τ sig := by decide

/-! ## The TensorCore's program -/

/-- What the program leaves the claims: the arguments and the results. -/
abbrev FIN (d : Dev nD) : sProp 𝕄 := held (SparseCore.T d) claimSet (U9 m d)

theorem hmain (κ : GSem nD τ sig → ℕ) (d : Dev nD) :
    iprop((K (F := F)).ctx EH (P (C m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 5 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (U0 m d)
    from Pipeline.unscopedBufs_held d (U0 m d), main_eq]
  iintro ⟨#Hctx, Hst, ⟨Hb, Hheld, Hts, -⟩, -⟩
  iapply (wp_seq 𝒱 none Set.univ d (Pipeline.ucRefs τ sig) _ preA preA_sub preA_fresh (U0 m d)) $$ [Hb Hheld]
  · isplitl [Hb]; · iexact Hb
    iexact Hheld
  iintro ⟨Hb, Hheld⟩
  rw [wp_bind]
  iapply (call_step (C m) κ 0 (keeps m 0) d) $$ [Hst Hb Hts Hheld]
  isplitr; · iexact Hctx
  isplitl [Hst]; · iexact Hst
  isplitl [Hheld]; · iexact Hheld
  iintro ⟨Hst, Hheld⟩
  iapply (wp_seq 𝒱 none Set.univ d (Pipeline.ucRefs τ sig) _ preB preB_sub preB_fresh (U2 m d)) $$ [Hb Hheld]
  · isplitl [Hb]; · iexact Hb
    iexact Hheld
  iintro ⟨Hb, Hheld⟩
  rw [wp_bind]
  iapply (call_step (C m) κ 1 (keeps m 1) d) $$ [Hst Hb Hts Hheld]
  isplitr; · iexact Hctx
  isplitl [Hst]; · iexact Hst
  isplitl [Hheld]; · iexact Hheld
  iintro ⟨Hst, Hheld⟩
  rw [wp_bind]
  iapply (call_step (C m) κ 2 (keeps m 2) d) $$ [Hst Hb Hts Hheld]
  isplitr; · iexact Hctx
  isplitl [Hst]; · iexact Hst
  isplitl [Hheld]; · iexact Hheld
  iintro ⟨Hst, Hheld⟩
  iapply (wp_seq 𝒱 none Set.univ d (Pipeline.ucRefs τ sig) _ preC preC_sub preC_fresh (U5 m d)) $$ [Hb Hheld]
  · isplitl [Hb]; · iexact Hb
    iexact Hheld
  iintro ⟨Hb, Hheld⟩
  rw [wp_bind]
  iapply (call_step (C m) κ 3 (keeps m 3) d) $$ [Hst Hb Hts Hheld]
  isplitr; · iexact Hctx
  isplitl [Hst]; · iexact Hst
  isplitl [Hheld]; · iexact Hheld
  iintro ⟨Hst, Hheld⟩
  rw [wp_bind]
  iapply (call_step (C m) κ 4 (keeps m 4) d) $$ [Hst Hb Hts Hheld]
  isplitr; · iexact Hctx
  isplitl [Hst]; · iexact Hst
  isplitl [Hheld]; · iexact Hheld
  iintro ⟨Hst, Hheld⟩
  iapply (wp_seq 𝒱 none Set.univ d (Pipeline.ucRefs τ sig) _ post post_sub post_fresh (U8 m d)) $$ [Hb Hheld]
  · isplitl [Hb]; · iexact Hb
    iexact Hheld
  iintro ⟨Hb, Hheld⟩
  ihave Hheld := (Entails.of_eq (show (held (SparseCore.T d) (Pipeline.ucRefs τ sig) (after post (U8 m d)) : sProp 𝕄)
      = iprop(held (SparseCore.T d) claimSet (U9 m d) ∗ held (SparseCore.T d) (Pipeline.ucRefs τ sig \ claimSet) (U9 m d))
    from held_sub_split _ claimSet_sub _)) $$ Hheld
  icases Hheld with ⟨HF, -⟩
  rw [Prog.pure_eq_ret, wp_ret]; imodintro
  isplitl [Hst]; · iexact Hst
  isplitl [HF]; · iexact HF
  isplitl [Hb]; · iexact Hb
  iexact Hts

/-! ## The launch's resources -/

omit [FloatOps F] in
theorem bigSep_emps {I : Type} (s : Finset I) : (bigSep s fun _ => iprop(emp)) = (iprop(emp) : sProp 𝕄) := bigSep_emp_const s

abbrev u₀ : UU := (initOf (K (F := F)).hsCells (K (F := F)).hsToks, 1)

theorem hu₀ : (ownU (u₀ (F := F)) : sProp 𝕄) ⊢ |={Set.univ}=>
    iprop(BI.own (EH (initOf (K (F := F)).hsCells (K (F := F)).hsToks)) ∗ (bigSep Finset.univ fun _ : Dev nD => iprop(emp))
      ∗ bigSep Finset.univ fun thr : Thread nD τ => bigSep Finset.univ fun q : Fin 5 => (P (C m)).x q thr) := by
  iintro Hu
  ihave H := (ownU_pair _ _) $$ Hu
  icases H with ⟨HH, -⟩
  imodintro
  isplitl [HH]; · iexact HH
  isplitr
  · rw [bigSep_emps]; iempintro
  · unfold P; dsimp only
    rw [show (bigSep Finset.univ fun _ : Thread nD τ => bigSep Finset.univ fun _ : Fin 5 => (iprop(emp) : sProp 𝕄)) = iprop(emp) from by
      rw [bigSep_congr fun _ _ => bigSep_emps _, bigSep_emps]]
    iempintro

/-! ## The run -/

/-- The arguments and the results as the host leaves them. -/
def fq (d : Dev nD) (s' : Phys nD τ sig (Elt F)) : Prop := ∀ b ∈ claimSet, s'.mem.mem (d, b) = U9 m d b

theorem hfin (d : Dev nD) (s' : Phys nD τ sig (Elt F)) : iprop(FIN m d ∗ SI s') ⊢ (⌜fq m d s'⌝ : sProp 𝕄) := by
  have one : ∀ (b : DevRef τ sig) (hb : b ∈ claimSet), iprop(FIN m d ∗ SI s') ⊢ (⌜s'.mem.mem (d, b) = U9 m d b⌝ : sProp 𝕄) := by
    intro b hb
    unfold FIN held
    rw [SparseCore.bigSep_erase' hb]
    iintro ⟨⟨Hx, -⟩, HSI⟩
    ihave H := (SI_pointsTo_agree (st := s') (ℓ := (d, b)) (I := Finset.univ) (q := fullShare) (f := U9 m d b)) $$ [HSI Hx]
    · isplitl [HSI] <;> iassumption
    icases H with %hx
    ipureintro; exact funext fun i => hx i (Finset.mem_univ i)
  exact ((Laws.forall_intro fun b => (Laws.forall_intro fun hb => one b hb).trans Laws.pure_forall.2).trans Laws.pure_forall.2)

def QC : PUnit × MemSt nD τ sig (Elt F) → Prop :=
  fun r => (∀ d : Dev nD, ∀ b ∈ claimSet, r.2.mem (d, b) = U9 m d b) ∧ r.2.sem = fun _ => 0

theorem run_main [∀ e, Nonempty (Elt F e)] (hA : ∀ d, Ok m d) :
    θ_run (defs (F := F)) (threads (F := F)) ⟨m, fun _ => 0, ρ⟩ (QC m) :=
  SparseCore.Cfg.θ_run_sc_quiescent (K := K (F := F)) (D := D (F := F)) (𝒱 := 𝒱) (EH := EH) (P := P (C m)) (A := ∅) facts v₀
    (fun q hq => match q with | 0 => nomatch hq | 1 => nomatch hq | 2 => nomatch hq | 3 => nomatch hq | 4 => nomatch hq)
    (fun q _ => match q with
      | 0 => T1.tileObl (C m) fun d => spec0 (hA d)
      | 1 => T2.tileObl (C m) fun d => spec1 (hA d)
      | 2 => T3.tileObl (C m) fun d => spec2 (hA d)
      | 3 => T4.tileObl (C m) fun d => spec3 (hA d)
      | 4 => T5.tileObl (C m) fun d => spec4 (hA d))
    (fun q _ => SparseCore.Cfg.VecSplit.of_plain (vecSplit (C m) q))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Run.Host.lean ====
/-
  The host's arrays read at an index: what the calls are given, in terms of the program's arguments, what the results hold
  in terms of the calls' results, and that the arguments keep their contents.
-/
module

public import proofs.«01_k».proof.Proof.Run.Main
public import Idealize.ShloMosaic.Lib.KernelVsHost
public import Idealize.ShloMosaic.Lib.ReduceAll
public import proofs.«01_k».proof.Pre_nodes

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (MayWaits)
open Idealize.ShloMosaic.Tactic
open Idealize.ShloMosaic.ValueIdx (ix0 ix1 ix2 eq_ix1 eq_ix2)

variable {F : FTy → Type}

variable [FloatOps F]

open Idealize.ShloMosaic.StableHlo (after)

variable (m : (ℓ : Loc nD τ sig) → Buf (Elt F) ℓ) (d : Dev nD)

/-! ## The operands of the calls -/

/-- An array over the edges padded, an array over the nodes padded, features transposed and padded. -/
abbrev padE {α : Type} (x : S800000.Idx → α) (v : S_.Idx → α) : BE.Idx → α :=
  pad S819200 ![0] ![19200] ![0] x v pads_S800000_S819200_0192000 h_S_
abbrev padN {α : Type} (x : S50000.Idx → α) (v : S_.Idx → α) : BN.Idx → α :=
  pad S50176 ![0] ![176] ![0] x v pads_S50000_S50176_01760 h_S_
abbrev padH {α : Type} (x : S50000x64.Idx → α) (v : S_.Idx → α) : BH.Idx → α :=
  pad S64x50176 ![0, 0] ![0, 176] ![0, 0] (transpose S64x50000 [1, 0] x transposes_S50000x64_S64x50000_1_0) v
    pads_S64x50000_S64x50176_000_01760 h_S_
/-- The two rows of `edge_index`. -/
abbrev row0 (a : IVec S2x800000 32) : IVec S800000 32 :=
  shapeCast S800000 (extractStridedSlice S1x800000 ![0, 0] a slices_S2x800000_S1x800000_0_0) shapeCasts_S1x800000_S800000
abbrev row1 (a : IVec S2x800000 32) : IVec S800000 32 :=
  shapeCast S800000 (extractStridedSlice S1x800000 ![1, 0] a slices_S2x800000_S1x800000_1_0) shapeCasts_S1x800000_S800000

theorem src_read : U1 m d (arr main_v4) = padE (row0 (m (d, arr main_arg0))) (constantI S_ 32 0#32) := by
  unfold U1 preA
  after_results
  rfl

theorem dst_read : U1 m d (arr main_v5) = padE (row1 (m (d, arr main_arg0))) (constantI S_ 32 50000#32) := by
  unfold U1 preA
  after_results
  rfl

theorem e1_read : U1 m d (arr main_v6) = padE (m (d, arr main_arg1) : Vec F S800000 .f32) (sitofp .f32 (constantI S_ 32 0#32)) := by
  unfold U1 preA
  after_results
  rfl

theorem e2_read : U1 m d (arr main_v7) = padE (m (d, arr main_arg2) : Vec F S800000 .f32) (sitofp .f32 (constantI S_ 32 0#32)) := by
  unfold U1 preA
  after_results
  rfl

theorem h1_read : U1 m d (arr main_v9) = padH (m (d, arr main_arg5) : Vec F S50000x64 .f32) (sitofp .f32 (constantI S_ 32 0#32)) := by
  unfold U1 preA
  after_results
  rfl

theorem h2_read : U1 m d (arr main_v11) = padH (m (d, arr main_arg8) : Vec F S50000x64 .f32) (sitofp .f32 (constantI S_ 32 0#32)) := by
  unfold U1 preA
  after_results
  rfl

theorem sa1_read : U1 m d (arr main_v12) = padN (m (d, arr main_arg3) : Vec F S50000 .f32) (sitofp .f32 (constantI S_ 32 0#32)) := by
  unfold U1 preA
  after_results
  rfl

theorem ad1_read : U3 m d (arr main_v14) = padN (m (d, arr main_arg4) : Vec F S50000 .f32) (sitofp .f32 (constantI S_ 32 0#32)) := by
  have e : U2 m d (arr main_arg4) = m (d, arr main_arg4) := (call0_keep (U1 m d) (by decide)).trans (preA_keep (U0 m d) (by decide))
  unfold U3 preB
  after_results
  rw [e]
  rfl

theorem sa2_read : U6 m d (arr main_v17) = padN (m (d, arr main_arg6) : Vec F S50000 .f32) (sitofp .f32 (constantI S_ 32 0#32)) := by
  have e : U5 m d (arr main_arg6) = m (d, arr main_arg6) := (U5_keep d (by decide) (by decide)).trans ((U3_keep d (by decide) (by decide)).trans (preA_keep (U0 m d) (by decide)))
  unfold U6 preC
  after_results
  rw [e]
  rfl

theorem ad2_read : U6 m d (arr main_v18) = padN (m (d, arr main_arg7) : Vec F S50000 .f32) (sitofp .f32 (constantI S_ 32 0#32)) := by
  have e : U5 m d (arr main_arg7) = m (d, arr main_arg7) := (U5_keep d (by decide) (by decide)).trans ((U3_keep d (by decide) (by decide)).trans (preA_keep (U0 m d) (by decide)))
  unfold U6 preC
  after_results
  rw [e]
  rfl

omit [FloatOps F] in
theorem row0_apply (a : IVec S2x800000 32) (k : Fin 800000) :
    row0 a (ix1 k) = a (ix2 0 k) := by
  unfold row0
  rw [shapeCast_apply _ _ _ (ix2 0 k) (by rw [Shape.rowMajor_val_two, Shape.rowMajor_val_one]; show 0 * 800000 + k.val = k.val; omega),
    extractStridedSlice_apply _ _ _ _ (ix2 0 k) (fun b => by
      match b with
      | ⟨0, _⟩ => rfl
      | ⟨1, _⟩ => exact (Nat.zero_add _).symm)]

omit [FloatOps F] in
theorem row1_apply (a : IVec S2x800000 32) (k : Fin 800000) :
    row1 a (ix1 k) = a (ix2 1 k) := by
  unfold row1
  rw [shapeCast_apply _ _ _ (ix2 0 k) (by rw [Shape.rowMajor_val_two, Shape.rowMajor_val_one]; show 0 * 800000 + k.val = k.val; omega),
    extractStridedSlice_apply _ _ _ _ (ix2 1 k) (fun b => by
      match b with
      | ⟨0, _⟩ => rfl
      | ⟨1, _⟩ => exact (Nat.zero_add _).symm)]

omit [FloatOps F] in
/-- A padded edge array holds the edge's own element below 800000 … -/
theorem pad_in {α : Type} (x : S800000.Idx → α) (v : S_.Idx → α) (k : Fin 800000) :
    padE x v (edgeIx k.val) = x (ix1 k) := by
  refine pad_apply_of_inside _ _ _ _ _ _ _ _ _ fun a => ?_
  match a with
  | ⟨0, _⟩ =>
    show k.val % 819200 = 0 + k.val * (0 + 1)
    have := k.isLt
    omega

omit [FloatOps F] in
/-- … and the padding from 800000 on. -/
theorem pad_out {α : Type} (x : S800000.Idx → α) (v : S_.Idx → α) (j : BE.Idx) (hk : 800000 ≤ (j 0).val) :
    padE x v j = v (Shape.Idx.first h_S_) := by
  refine pad_apply_of_not_inside _ _ _ _ _ _ _ _ (0 : Fin 1) fun h => ?_
  have h2 : ((j 0).val - 0) / (0 + 1) < 800000 := h.2.2
  omega

omit [FloatOps F] in
/-- A padded node array holds the node's own element below 50000. -/
theorem padN_in {α : Type} (x : S50000.Idx → α) (v : S_.Idx → α) (n : Fin 50000) : padN x v (nodeAt n.val) = x (ix1 n) := by
  refine pad_apply_of_inside _ _ _ _ _ _ _ _ _ fun a => ?_
  match a with
  | ⟨0, _⟩ =>
    show n.val % 50176 = 0 + n.val * (0 + 1)
    have := n.isLt
    omega

omit [FloatOps F] in
/-- The padded features: feature `f` of node `n`. -/
theorem padH_in {α : Type} (x : S50000x64.Idx → α) (v : S_.Idx → α) (f : Fin 64) (n : Fin 50000) (n' : Fin 50176) (hn : n'.val = n.val) :
    padH x v (ix2 f n') = x (ix2 n f) := by
  refine (pad_apply_of_inside _ _ _ _ _ _ _ _ (ix2 f n) fun a => ?_).trans ?_
  · match a with
    | ⟨0, _⟩ => show f.val = 0 + f.val * (0 + 1); omega
    | ⟨1, _⟩ => show n'.val = 0 + n.val * (0 + 1); omega
  · exact transpose_apply _ _ _ _ (ix2 n f) fun b => by
      match b with
      | ⟨0, _⟩ => rfl
      | ⟨1, _⟩ => rfl

theorem src_in (k : Fin 800000) : src m d (edgeIx k.val) = (m (d, arr main_arg0) : IVec S2x800000 32) (ix2 0 k) := by
  refine (congrFun (src_read m d) _).trans ?_
  exact (pad_in _ _ k).trans (row0_apply _ k)

theorem dst_in (k : Fin 800000) : dst m d (edgeIx k.val) = (m (d, arr main_arg0) : IVec S2x800000 32) (ix2 1 k) := by
  refine (congrFun (dst_read m d) _).trans ?_
  exact (pad_in _ _ k).trans (row1_apply _ k)

theorem src_out (j : BE.Idx) (hk : 800000 ≤ (j 0).val) : src m d j = 0#32 := by
  refine (congrFun (src_read m d) _).trans ?_
  exact pad_out _ _ j hk

theorem dst_out (j : BE.Idx) (hk : 800000 ≤ (j 0).val) : dst m d j = 50000#32 := by
  refine (congrFun (dst_read m d) _).trans ?_
  exact pad_out _ _ j hk

/-! ## At the end -/

theorem keep_arg0 : U9 m d (arr main_arg0) = m (d, arr main_arg0) :=
  (post_keep (U8 m d) (by decide)).trans ((U8_keep d (by decide) (by decide)).trans ((U6_keep d (by decide) (by decide) (by decide)).trans
    ((U3_keep d (by decide) (by decide)).trans (preA_keep (U0 m d) (by decide)))))

theorem keep_arg1 : U9 m d (arr main_arg1) = m (d, arr main_arg1) :=
  (post_keep (U8 m d) (by decide)).trans ((U8_keep d (by decide) (by decide)).trans ((U6_keep d (by decide) (by decide) (by decide)).trans
    ((U3_keep d (by decide) (by decide)).trans (preA_keep (U0 m d) (by decide)))))

theorem keep_arg2 : U9 m d (arr main_arg2) = m (d, arr main_arg2) :=
  (post_keep (U8 m d) (by decide)).trans ((U8_keep d (by decide) (by decide)).trans ((U6_keep d (by decide) (by decide) (by decide)).trans
    ((U3_keep d (by decide) (by decide)).trans (preA_keep (U0 m d) (by decide)))))

theorem keep_arg3 : U9 m d (arr main_arg3) = m (d, arr main_arg3) :=
  (post_keep (U8 m d) (by decide)).trans ((U8_keep d (by decide) (by decide)).trans ((U6_keep d (by decide) (by decide) (by decide)).trans
    ((U3_keep d (by decide) (by decide)).trans (preA_keep (U0 m d) (by decide)))))

theorem keep_arg4 : U9 m d (arr main_arg4) = m (d, arr main_arg4) :=
  (post_keep (U8 m d) (by decide)).trans ((U8_keep d (by decide) (by decide)).trans ((U6_keep d (by decide) (by decide) (by decide)).trans
    ((U3_keep d (by decide) (by decide)).trans (preA_keep (U0 m d) (by decide)))))

theorem keep_arg5 : U9 m d (arr main_arg5) = m (d, arr main_arg5) :=
  (post_keep (U8 m d) (by decide)).trans ((U8_keep d (by decide) (by decide)).trans ((U6_keep d (by decide) (by decide) (by decide)).trans
    ((U3_keep d (by decide) (by decide)).trans (preA_keep (U0 m d) (by decide)))))

theorem keep_arg6 : U9 m d (arr main_arg6) = m (d, arr main_arg6) :=
  (post_keep (U8 m d) (by decide)).trans ((U8_keep d (by decide) (by decide)).trans ((U6_keep d (by decide) (by decide) (by decide)).trans
    ((U3_keep d (by decide) (by decide)).trans (preA_keep (U0 m d) (by decide)))))

theorem keep_arg7 : U9 m d (arr main_arg7) = m (d, arr main_arg7) :=
  (post_keep (U8 m d) (by decide)).trans ((U8_keep d (by decide) (by decide)).trans ((U6_keep d (by decide) (by decide) (by decide)).trans
    ((U3_keep d (by decide) (by decide)).trans (preA_keep (U0 m d) (by decide)))))

theorem keep_arg8 : U9 m d (arr main_arg8) = m (d, arr main_arg8) :=
  (post_keep (U8 m d) (by decide)).trans ((U8_keep d (by decide) (by decide)).trans ((U6_keep d (by decide) (by decide) (by decide)).trans
    ((U3_keep d (by decide) (by decide)).trans (preA_keep (U0 m d) (by decide)))))

/-- The weights of the two layers: each logit is the source's part, the edge's and the destination's. -/
def ex1 : Vec F BE .f32 :=
  actV (Scalar.ofBits .f32 0x42700000#32) (addf (addf (gath (U1 m d (arr main_v12)) (src m d)) (U1 m d (arr main_v6))) (gath (U3 m d (arr main_v14)) (dst m d)))
def ex2 : Vec F BE .f32 :=
  actV (Scalar.ofBits .f32 0x42700000#32) (addf (addf (gath (U6 m d (arr main_v17)) (src m d)) (U1 m d (arr main_v7))) (gath (U6 m d (arr main_v18)) (dst m d)))

variable {m d} (h : Ok m d)
include h

theorem at_deg : U8 m d (arr main_v13_0) = partOf (F := F) (dst m d) onesE :=
  (U8_keep d (by decide) (by decide)).trans ((U6_keep d (by decide) (by decide) (by decide)).trans ((preB_keep _ (by decide)).trans (spec0 h).deg))
theorem at_a1 : U8 m d (arr main_v13_1) = partOf (F := F) (dst m d) (U1 m d (arr main_v6)) :=
  (U8_keep d (by decide) (by decide)).trans ((U6_keep d (by decide) (by decide) (by decide)).trans ((preB_keep _ (by decide)).trans (spec0 h).a1))
theorem at_a2 : U8 m d (arr main_v13_2) = partOf (F := F) (dst m d) (U1 m d (arr main_v7)) :=
  (U8_keep d (by decide) (by decide)).trans ((U6_keep d (by decide) (by decide) (by decide)).trans ((preB_keep _ (by decide)).trans (spec0 h).a2))

theorem at_ex1 : T2.exV (F := F) (U3 m d (arr main_v5)) (U3 m d (arr main_v13_3)) (U3 m d (arr main_v14)) = ex1 m d := by
  rw [show U3 m d (arr main_v5) = dst m d from U3_keep d (by decide) (by decide),
    show U3 m d (arr main_v13_3) = _ from (preB_keep _ (by decide)).trans (spec0 h).p]
  rfl

theorem at_den1 : U8 m d (arr main_v15_1) = partOf (F := F) (dst m d) (ex1 m d) := by
  refine (U8_keep d (by decide) (by decide)).trans ((preC_keep _ (by decide)).trans ((call2_keep _ (by decide)).trans ((spec1 h).den.trans ?_)))
  rw [at_ex1 h, show U3 m d (arr main_v5) = dst m d from U3_keep d (by decide) (by decide)]

theorem at_num1 : U8 m d (arr main_v16) = numOf (F := F) (src m d) (dst m d) (ex1 m d) (U1 m d (arr main_v9)) := by
  refine (U8_keep d (by decide) (by decide)).trans ((preC_keep _ (by decide)).trans ((spec2 h).num.trans ?_))
  rw [show U4 m d (arr main_v4) = src m d from (call1_keep _ (by decide)).trans (U3_keep d (by decide) (by decide)),
    show U4 m d (arr main_v5) = dst m d from (call1_keep _ (by decide)).trans (U3_keep d (by decide) (by decide)),
    show U4 m d (arr main_v9) = U1 m d (arr main_v9) from (call1_keep _ (by decide)).trans (U3_keep d (by decide) (by decide)),
    (spec1 h).ex, at_ex1 h]

theorem at_ex2 : T4.exV (F := F) (U6 m d (arr main_v5)) (T4.pV (F := F) (U6 m d (arr main_v4)) (U6 m d (arr main_v7)) (U6 m d (arr main_v17))) (U6 m d (arr main_v18)) = ex2 m d := by
  rw [show U6 m d (arr main_v5) = dst m d from (U6_keep d (by decide) (by decide) (by decide)).trans (U3_keep d (by decide) (by decide)),
    show U6 m d (arr main_v4) = src m d from (U6_keep d (by decide) (by decide) (by decide)).trans (U3_keep d (by decide) (by decide)),
    show U6 m d (arr main_v7) = U1 m d (arr main_v7) from (U6_keep d (by decide) (by decide) (by decide)).trans (U3_keep d (by decide) (by decide))]
  rfl

theorem at_den2 : U8 m d (arr main_v19_2) = partOf (F := F) (dst m d) (ex2 m d) := by
  refine (call4_keep _ (by decide)).trans ((spec3 h).den.trans ?_)
  rw [at_ex2 h, show U6 m d (arr main_v5) = dst m d from (U6_keep d (by decide) (by decide) (by decide)).trans (U3_keep d (by decide) (by decide))]

theorem at_num2 : U8 m d (arr main_v20) = numOf (F := F) (src m d) (dst m d) (ex2 m d) (U1 m d (arr main_v11)) := by
  refine (spec4 h).num.trans ?_
  rw [show U7 m d (arr main_v4) = src m d from (call3_keep _ (by decide)).trans ((U6_keep d (by decide) (by decide) (by decide)).trans (U3_keep d (by decide) (by decide))),
    show U7 m d (arr main_v5) = dst m d from (call3_keep _ (by decide)).trans ((U6_keep d (by decide) (by decide) (by decide)).trans (U3_keep d (by decide) (by decide))),
    show U7 m d (arr main_v11) = U1 m d (arr main_v11) from (call3_keep _ (by decide)).trans ((U6_keep d (by decide) (by decide) (by decide)).trans (U3_keep d (by decide) (by decide))),
    (spec3 h).ex, at_ex2 h]

omit h

/-- The partial sums added up and cut to the nodes; the numerators cut and transposed. -/
abbrev sumN (x : Vec F BP .f32) : Vec F S50000 .f32 :=
  extractStridedSlice S50000 ![0] (Host.reduceAdd x (constant S_ .f32 0x00000000#32) reducesTo_S32x50176_S50176_d0 h_S_ : Vec F S50176 .f32) slices_S50176_S50000_0
abbrev cutH (x : Vec F BH .f32) : Vec F S50000x64 .f32 :=
  transpose S50000x64 [1, 0] (extractStridedSlice S64x50000 ![0, 0] x slices_S64x50176_S64x50000_0_0) transposes_S64x50000_S50000x64_1_0

theorem cutH_apply (x : Vec F BH .f32) (n : Fin 50000) (f : Fin 64) (n' : Fin 50176) (hn : n'.val = n.val) : cutH x (ix2 n f) = x (ix2 f n') := by
  unfold cutH
  rw [transpose_apply _ _ _ _ (ix2 f n) (fun b => by
      match b with
      | ⟨0, _⟩ => rfl
      | ⟨1, _⟩ => rfl)]
  exact extractStridedSlice_apply _ _ _ _ _ fun b => by
    match b with
    | ⟨0, _⟩ => exact (Nat.zero_add _).symm
    | ⟨1, _⟩ => exact hn.trans (Nat.zero_add _).symm

theorem res_deg (h : Ok m d) : U9 m d (arr main_v22) = sumN (F := F) (partOf (dst m d) onesE) := by
  rw [← at_deg h]
  unfold U9 post
  after_results

theorem res_a1 (h : Ok m d) : U9 m d (arr main_v24) = sumN (F := F) (partOf (dst m d) (U1 m d (arr main_v6))) := by
  rw [← at_a1 h]
  unfold U9 post
  after_results

theorem res_a2 (h : Ok m d) : U9 m d (arr main_v26) = sumN (F := F) (partOf (dst m d) (U1 m d (arr main_v7))) := by
  rw [← at_a2 h]
  unfold U9 post
  after_results

theorem res_den1 (h : Ok m d) : U9 m d (arr main_v28) = sumN (F := F) (partOf (dst m d) (ex1 m d)) := by
  rw [← at_den1 h]
  unfold U9 post
  after_results

theorem res_num1 (h : Ok m d) : U9 m d (arr main_v32) = cutH (F := F) (numOf (src m d) (dst m d) (ex1 m d) (U1 m d (arr main_v9))) := by
  rw [← at_num1 h]
  unfold U9 post
  after_results

theorem res_den2 (h : Ok m d) : U9 m d (arr main_v30) = sumN (F := F) (partOf (dst m d) (ex2 m d)) := by
  rw [← at_den2 h]
  unfold U9 post
  after_results

theorem res_num2 (h : Ok m d) : U9 m d (arr main_v34) = cutH (F := F) (numOf (src m d) (dst m d) (ex2 m d) (U1 m d (arr main_v11))) := by
  rw [← at_num2 h]
  unfold U9 post
  after_results

/-! ## The precondition -/

/-- Under the precondition every word of `edge_index` is below 50000. -/
theorem words_lt [Cert.Pre_nodes.Facts] {a0 : IVec S2x800000 32} {a1 a2 : Vec F S800000 .f32} {a3 a4 : Vec F S50000 .f32}
    {a5 : Vec F S50000x64 .f32} {a6 a7 : Vec F S50000 .f32} {a8 : Vec F S50000x64 .f32}
    (h : Cert.Pre_nodes.fn a0 a1 a2 a3 a4 a5 a6 a7 a8 = fun _ => 1#1) (i : S2x800000.Idx) : (a0 i).toNat < 50000 := by
  have e := congrFun h ix0
  dsimp only [Cert.Pre_nodes.fn] at e
  have e := Host.reduce_andi_all _ _ _ _ _ e i
  have hand : ∀ p q : Bool, IntOp.andi (BitVec.ofBool p) (BitVec.ofBool q) = BitVec.ofBool (p && q) := by decide
  have hone : ∀ p : Bool, (BitVec.ofBool p = 1#1) ↔ p = true := by decide
  simp only [andi, cmpi, IntOp.cmpi, hand, hone, Bool.and_eq_true, BitVec.sle_eq_decide, BitVec.slt_eq_decide,
    decide_eq_true_eq, broadcastInDim, constantI, BitVec.toInt_eq_toNat_cond, BitVec.toNat_ofNat, Nat.reducePow, Nat.reduceMod] at e
  omega

/-- So every index the calls are given names a padded node. -/
theorem all_ok (h : ∀ i, ((m (d, arr main_arg0) : IVec S2x800000 32) i).toNat < 50000) : Ok m d := by
  have key : ∀ j : BE.Idx, (j 0).val < 800000 → ∃ k : Fin 800000, j = edgeIx k.val := fun j hj => ⟨⟨(j 0).val, hj⟩, by
    funext a
    obtain rfl : a = 0 := Subsingleton.elim _ _
    exact Fin.ext (Nat.mod_eq_of_lt (j 0).isLt).symm⟩
  refine ⟨fun j => ?_, fun j => ?_⟩
  · by_cases hj : (j 0).val < 800000
    · obtain ⟨k, rfl⟩ := key j hj
      rw [src_in]
      exact (h _).trans (by decide)
    · rw [src_out m d j (by omega)]
      decide
  · by_cases hj : (j 0).val < 800000
    · obtain ⟨k, rfl⟩ := key j hj
      rw [dst_in]
      exact (h _).trans (by decide)
    · rw [dst_out m d j (by omega)]
      decide

end Cert.Proof.Run

end
-- ==== Proof.Sum.lean ====
/-
  Over the extended reals, an accumulated row is a sum over the edges, the partial rows add up to the whole sum, and the
  reference's scatters are the same sums.
-/
module

public import proofs.«01_k».proof.Proof.Value
public import Idealize.ShloMosaic.PureOps.Ideal
public import Idealize.ShloMosaic.PureOps.Ideal.Laws
public import Idealize.ShloMosaic.Lib.ValueIdxCore
public import Idealize.ShloMosaic.Lib.KernelVsHost
public import Idealize.ShloMosaic.Lib.Routing.Ops

@[expose] public section

noncomputable section

namespace Cert.Proof

open Idealize.ShloMosaic Idealize.SL.Sem
open Idealize.ShloMosaic.ValueIdx (ix1 ix2 eq_ix1 eq_ix2 sum_idx2)

/-- What both programs compute of a quantity `v` of the edges: at node `n`, its sum over the edges ending at `n`. -/
def total (a0 : IVec ⟨2, ![2, 800000]⟩ 32) (v : Fin 800000 → EReal) (n : ℕ) : EReal :=
  ∑ e : Fin 800000, if (a0 (ix2 1 e)).toNat = n then v e else 0

theorem total_congr (a0 : IVec ⟨2, ![2, 800000]⟩ 32) {v w : Fin 800000 → EReal} (h : ∀ e, v e = w e) (n : ℕ) :
    total a0 v n = total a0 w n := by rw [funext h]

/-! ## An accumulated row -/

/-- What edge `k` adds to node `n`: its value if it ends at `n`. -/
def edgeTerm (idx : IVec BE 32) (val : Vec Ideal BE .f32) (n k : ℕ) : EReal :=
  if (idx (edgeIx k)).toNat = n then (val (edgeIx k) : EReal) else 0

/-- One indexed store with add, over the extended reals: entry `j` gains the values of the lanes whose index is `j`. -/
theorem storeIdx_add_apply (f : Vec Ideal BN .f32) (dv : IVec B16 32) (w : Vec Ideal B16 .f32)
    (h : ∀ (a : Fin BN.rank) (x : B16.Idx), ((![dv] : Fin BN.rank → IVec B16 32) a x).toNat < BN.size a) (j : BN.Idx) :
    (storeIdx f ![dv] w (fun _ => 1#1) true h j : EReal)
      = (f j : EReal) + ∑ l : Fin 16, if (dv (ix1 l)).toNat = (j 0).val then (w (ix1 l) : EReal) else 0 := by
  rw [Fin.sum_univ_def]
  unfold storeIdx
  show (List.foldl _ f (List.finRange 16) j : EReal) = _
  generalize List.finRange 16 = L
  induction L generalizing f with
  | nil => exact (add_zero _).symm
  | cons a L ih =>
    rw [List.map_cons, List.sum_cons, ← add_assoc]
    refine (ih _).trans (congrArg (· + _) ?_)
    have hl : (Shape.ofLane a : B16.Idx) = ix1 a := by
      funext b
      obtain rfl : b = 0 := Subsingleton.elim _ _
      rfl
    by_cases e : (dv (ix1 a)).toNat = (j 0).val
    · have hj : idxAt ![dv] h (ix1 a) = j := by
        funext b
        obtain rfl : b = 0 := Subsingleton.elim _ _
        exact Fin.ext e
      rw [if_pos e]
      dsimp only
      rw [hl, if_pos (show (1#1 : BitVec 1) = 1 from rfl), hj, if_pos fun _ => rfl]
      simp
    · rw [if_neg e]
      dsimp only
      rw [hl, if_pos (show (1#1 : BitVec 1) = 1 from rfl), if_neg (fun hh => e (hh 0).symm), add_zero]

/-- After `n` groups from group `g` on a row holds, at each node, the sum of what their edges add. -/
theorem accS_eq_sum (idx : IVec BE 32) (val : Vec Ideal BE .f32) (hd : InRange idx) (g n : ℕ) (j : BN.Idx) :
    (accS idx val g n j : EReal) = ∑ k ∈ Finset.range (16 * n), edgeTerm idx val (j 0).val (16 * g + k) := by
  induction n with
  | zero =>
    rw [Nat.mul_zero, Finset.sum_range_zero]
    show (FloatOps.ofBits (F := Ideal) .f32 0x00000000#32 : EReal) = 0
    simp
  | succ n ih =>
    show (addGrp (accS idx val g n) (grp idx (g + n)) (grp val (g + n)) j : EReal) = _
    rw [addGrp_of (chk_grp hd (g + n))]
    refine (storeIdx_add_apply _ _ _ (chk_grp hd (g + n)) j).trans ?_
    rw [ih, show 16 * (n + 1) = 16 * n + 16 from by omega,
      Finset.sum_range_add, Finset.sum_range (n := 16)]
    refine congrArg (_ + ·) (Finset.sum_congr rfl fun l _ => ?_)
    rw [← Nat.add_assoc, ← Nat.mul_add]
    rfl

/-- Blocks of `b` terms each add up to all the terms. -/
theorem sum_blocks (t : ℕ → EReal) (b w : ℕ) :
    ∑ k ∈ Finset.range (b * w), t k = ∑ i ∈ Finset.range w, ∑ k ∈ Finset.range b, t (b * i + k) := by
  induction w with
  | zero => simp
  | succ w ih => rw [Nat.mul_succ, Finset.sum_range_add, ih, Finset.sum_range_succ]

/-- Terms that vanish from 800000 on. -/
theorem sum_edges (t : ℕ → EReal) (h : ∀ k, 800000 ≤ k → k < 819200 → t k = 0) :
    ∑ k ∈ Finset.range 819200, t k = ∑ e : Fin 800000, t e.val := by
  rw [show 819200 = 800000 + 19200 from rfl, Finset.sum_range_add, Finset.sum_range (n := 800000),
    Finset.sum_eq_zero (s := Finset.range 19200), add_zero]
  intro k hk
  have hk := Finset.mem_range.mp hk
  exact h _ (by omega) (by omega)

/-- The edges from 800000 on end at no node below 50000. -/
def Padded (idx : IVec BE 32) : Prop := ∀ k, 800000 ≤ k → k < 819200 → (idx (edgeIx k)).toNat = 50000

theorem edges_of_padded {idx : IVec BE 32} (hp : Padded idx) (val : Vec Ideal BE .f32) {n : ℕ} (hn : n < 50000) :
    ∑ k ∈ Finset.range 819200, edgeTerm idx val n k = ∑ e : Fin 800000, edgeTerm idx val n e.val :=
  sum_edges _ fun k h1 h2 => by
    unfold edgeTerm
    rw [if_neg]
    rw [hp k h1 h2]
    omega

/-- The 32 partial rows at a node add up to the sum over the edges. -/
theorem partOf_sum (idx : IVec BE 32) (val : Vec Ideal BE .f32) (hd : InRange idx) (hp : Padded idx) (n : Fin 50176) (hn : n.val < 50000) :
    ∑ w : Fin 32, (partOf idx val (ix2 w n) : EReal) = ∑ e : Fin 800000, edgeTerm idx val n.val e.val := by
  rw [← edges_of_padded hp val hn, show 819200 = 25600 * 32 from rfl, sum_blocks, Finset.sum_range (n := 32)]
  refine Finset.sum_congr rfl fun w _ => ?_
  refine (accS_eq_sum idx val hd (1600 * w.val) 1600 (nodeIx (ix2 w n))).trans ?_
  show ∑ k ∈ Finset.range 25600, edgeTerm idx val n.val (16 * (1600 * w.val) + k) = _
  refine Finset.sum_congr rfl fun k _ => ?_
  rw [← Nat.mul_assoc]

/-- Feature `f`, node `n` of the numerators. -/
theorem numOf_sum (src dst : IVec BE 32) (ex : Vec Ideal BE .f32) (H : Vec Ideal BH .f32) (hd : InRange dst) (hp : Padded dst)
    (f : Fin 64) (n : Fin 50176) (hn : n.val < 50000) :
    (numOf src dst ex H (ix2 f n) : EReal)
      = ∑ e : Fin 800000, edgeTerm dst (mulf (F := Ideal) (φ := .f32) (gath (rowOf (by decide) H f.val) src) ex : FVec Ideal BE .f32) n.val e.val := by
  rw [← edges_of_padded hp _ hn]
  refine (accS_eq_sum dst (mulf (F := Ideal) (φ := .f32) (gath (rowOf (by decide) H f.val) src) ex) hd 0 51200 (nodeIx (ix2 f n))).trans ?_
  refine Finset.sum_congr rfl fun k _ => ?_
  rw [Nat.mul_zero, Nat.zero_add]
  rfl

/-! ## The reference's scatter of rows -/

/-- Row `e` of the updates lands, at its place `f'`, on place `f` of row `n` exactly when its index word, read signed, is
    `n` and `f'` is `f`. -/
theorem row_lands {E N W : ℕ} (d : ScatterDims ⟨2, ![N, W]⟩ ⟨2, ![E, 1]⟩ ⟨2, ![E, W]⟩) (huw : d.updateWindowDims = [1])
    (hiw : d.insertedWindowDims = [0]) (hsd : d.scatterDimsToOperandDims = [0]) (hiv : d.indexVectorDim = 1)
    (idx : IVec ⟨2, ![E, 1]⟩ 32) (e : Fin E) (f' f : Fin W) (n : Fin N) :
    d.resultIdx? (ix2 e f') idx = some (ix2 n f) ↔ (idx (ix2 e 0)).toInt = (n.val : ℤ) ∧ f' = f := by
  have hm0 : (0 : Fin 2) ∈ d.scatterDimsToOperandDims := by rw [hsd]; exact List.mem_singleton.2 rfl
  have hm1 : (1 : Fin 2) ∉ d.scatterDimsToOperandDims := by
    rw [hsd]
    exact fun h => Nat.one_ne_zero (congrArg Fin.val (List.mem_singleton.1 h))
  -- the updates' axis 0 counts rows, their axis 1 places in a row
  have c0 : ∀ X : Fin 2, X ∈ d.uScatter → (ix2 e f' X).val = e.val := fun X hX => by
    have h : X ∉ d.updateWindowDims := of_decide_eq_true (List.mem_filter.1 hX).2
    rw [huw] at h
    match X with
    | ⟨0, _⟩ => rfl
    | ⟨1, _⟩ => exact absurd (List.mem_singleton.2 rfl) h
  have c1 : ∀ X : Fin 2, X ∈ d.updateWindowDims → (ix2 e f' X).val = f'.val := fun X hX => by
    rw [huw] at hX
    rw [List.mem_singleton.1 hX]
    rfl
  have k0 : (0 : Fin 2) ∉ d.sKept := fun h => (of_decide_eq_true (List.mem_filter.1 h).2) (by rw [hiw]; exact List.mem_singleton.2 rfl)
  have k1 : (1 : Fin 2) ∈ d.sKept := List.mem_filter.2 ⟨List.mem_finRange _, decide_eq_true (by
    rw [hiw]
    exact fun h => Nat.one_ne_zero (congrArg Fin.val (List.mem_singleton.1 h)))⟩
  -- the start is the index word on the rows' axis, zero along a row
  have s1 : d.start (ix2 e f') idx 1 = 0 := by
    unfold ScatterDims.start
    rw [dif_neg hm1]
  have s0 : d.start (ix2 e f') idx 0 = (idx (ix2 e 0)).toInt := by
    unfold ScatterDims.start
    rw [dif_pos hm0]
    refine congrArg (fun i => (idx i).toInt) (funext fun b => Fin.ext ?_)
    match b with
    | ⟨0, _⟩ =>
      unfold ScatterDims.siIdx
      rw [dif_neg (by rw [hiv]; exact Nat.zero_ne_one)]
      exact c0 _ (List.getElem_mem _)
    | ⟨1, _⟩ =>
      unfold ScatterDims.siIdx
      rw [dif_pos (by rw [hiv])]
      show List.idxOf (0 : Fin 2) d.scatterDimsToOperandDims = 0
      rw [hsd]; simp
  -- the window is the place in the row, and nothing on the rows' axis
  have w0 : d.window (ix2 e f') 0 = 0 := by
    unfold ScatterDims.window
    rw [dif_neg k0]
  have w1 : d.window (ix2 e f') 1 = f'.val := by
    unfold ScatterDims.window
    rw [dif_pos k1]
    exact c1 _ (List.getElem_mem _)
  have t0 : d.start (ix2 e f') idx 0 + (d.window (ix2 e f') 0 : ℤ) = (idx (ix2 e 0)).toInt := by rw [s0, w0]; simp
  have t1 : d.start (ix2 e f') idx 1 + (d.window (ix2 e f') 1 : ℤ) = (f'.val : ℤ) := by rw [s1, w1]; simp
  constructor
  · intro h
    unfold ScatterDims.resultIdx? at h
    split at h
    · next hin =>
      have h' := Option.some.inj h
      have e0 : (d.start (ix2 e f') idx 0 + (d.window (ix2 e f') 0 : ℤ)).toNat = n.val := congrArg Fin.val (congrFun h' 0)
      have e1 : (d.start (ix2 e f') idx 1 + (d.window (ix2 e f') 1 : ℤ)).toNat = f.val := congrArg Fin.val (congrFun h' 1)
      have p0 := (hin 0).1
      rw [t0] at e0 p0
      rw [t1] at e1
      exact ⟨by omega, Fin.ext (by omega)⟩
    · cases h
  · rintro ⟨h0, rfl⟩
    have hn := n.isLt
    have hf := f'.isLt
    unfold ScatterDims.resultIdx?
    rw [dif_pos]
    · refine congrArg some (funext fun a => Fin.ext ?_)
      match a with
      | ⟨0, _⟩ =>
        show (d.start (ix2 e f') idx 0 + (d.window (ix2 e f') 0 : ℤ)).toNat = n.val
        rw [t0]; omega
      | ⟨1, _⟩ =>
        show (d.start (ix2 e f') idx 1 + (d.window (ix2 e f') 1 : ℤ)).toNat = f'.val
        rw [t1]; omega
    · intro a
      match a with
      | ⟨0, _⟩ =>
        show 0 ≤ d.start (ix2 e f') idx 0 + (d.window (ix2 e f') 0 : ℤ) ∧ d.start (ix2 e f') idx 0 + (d.window (ix2 e f') 0 : ℤ) < (N : ℤ)
        rw [t0]; omega
      | ⟨1, _⟩ =>
        show 0 ≤ d.start (ix2 e f') idx 1 + (d.window (ix2 e f') 1 : ℤ) ∧ d.start (ix2 e f') idx 1 + (d.window (ix2 e f') 1 : ℤ) < (W : ℤ)
        rw [t1]; omega

/-- A scatter of rows with add, over the extended reals: place `f` of row `n` gains place `f` of every update row whose
    index is `n`. -/
theorem scatterRows_apply {E N W : ℕ} (d : ScatterDims ⟨2, ![N, W]⟩ ⟨2, ![E, 1]⟩ ⟨2, ![E, W]⟩) (huw : d.updateWindowDims = [1])
    (hiw : d.insertedWindowDims = [0]) (hsd : d.scatterDimsToOperandDims = [0]) (hiv : d.indexVectorDim = 1)
    (x : Vec Ideal ⟨2, ![N, W]⟩ .f32) (idx : IVec ⟨2, ![E, 1]⟩ 32) (u : Vec Ideal ⟨2, ![E, W]⟩ .f32) (n : Fin N) (f : Fin W) :
    (Host.scatterAdd (F := Ideal) (φ := .f32) d x idx u (ix2 n f) : EReal)
      = (x (ix2 n f) : EReal) + ∑ e : Fin E, if (idx (ix2 e 0)).toInt = (n.val : ℤ) then (u (ix2 e f) : EReal) else 0 := by
  show (x (ix2 n f) : EReal) + ∑ j ∈ Finset.univ.filter (fun j => d.resultIdx? j idx = some (ix2 n f)), (u j : EReal) = _
  refine congrArg ((x (ix2 n f) : EReal) + ·) ?_
  rw [Finset.sum_filter, sum_idx2]
  refine Finset.sum_congr rfl fun e _ => ?_
  simp only [row_lands d huw hiw hsd hiv idx e _ f n]
  by_cases h : (idx (ix2 e 0)).toInt = (n.val : ℤ)
  · simp [h]
  · simp [h]

/-! ## The reference's scatter of numbers -/

/-- Update `e` lands on entry `n` exactly when its index word, read signed, is `n`. -/
theorem entry_lands {E N : ℕ} (d : ScatterDims ⟨1, ![N]⟩ ⟨2, ![E, 1]⟩ ⟨1, ![E]⟩)
    (hiw : d.insertedWindowDims = [0]) (hsd : d.scatterDimsToOperandDims = [0]) (hiv : d.indexVectorDim = 1)
    (idx : IVec ⟨2, ![E, 1]⟩ 32) (e : Fin E) (n : Fin N) :
    d.resultIdx? (ix1 e) idx = some (ix1 n) ↔ (idx (ix2 e 0)).toInt = (n.val : ℤ) := by
  have hm0 : (0 : Fin 1) ∈ d.scatterDimsToOperandDims := by rw [hsd]; exact List.mem_singleton.2 rfl
  have k0 : (0 : Fin 1) ∉ d.sKept := fun h => (of_decide_eq_true (List.mem_filter.1 h).2) (by rw [hiw]; exact List.mem_singleton.2 rfl)
  have c0 : ∀ X : Fin 1, (ix1 e X).val = e.val := fun X => by
    obtain rfl : X = 0 := Subsingleton.elim _ _
    rfl
  have s0 : d.start (ix1 e) idx 0 = (idx (ix2 e 0)).toInt := by
    unfold ScatterDims.start
    rw [dif_pos hm0]
    refine congrArg (fun i => (idx i).toInt) (funext fun b => Fin.ext ?_)
    match b with
    | ⟨0, _⟩ =>
      unfold ScatterDims.siIdx
      rw [dif_neg (by rw [hiv]; exact Nat.zero_ne_one)]
      exact c0 _
    | ⟨1, _⟩ =>
      unfold ScatterDims.siIdx
      rw [dif_pos (by rw [hiv])]
      show List.idxOf (0 : Fin 1) d.scatterDimsToOperandDims = 0
      rw [hsd]; simp
  have w0 : d.window (ix1 e) 0 = 0 := by
    unfold ScatterDims.window
    rw [dif_neg k0]
  have t0 : d.start (ix1 e) idx 0 + (d.window (ix1 e) 0 : ℤ) = (idx (ix2 e 0)).toInt := by rw [s0, w0]; simp
  constructor
  · intro h
    unfold ScatterDims.resultIdx? at h
    split at h
    · next hin =>
      have h' := Option.some.inj h
      have e0 : (d.start (ix1 e) idx 0 + (d.window (ix1 e) 0 : ℤ)).toNat = n.val := congrArg Fin.val (congrFun h' 0)
      have p0 := (hin 0).1
      rw [t0] at e0 p0
      omega
    · cases h
  · intro h0
    have hn := n.isLt
    unfold ScatterDims.resultIdx?
    rw [dif_pos]
    · refine congrArg some (funext fun a => Fin.ext ?_)
      match a with
      | ⟨0, _⟩ =>
        show (d.start (ix1 e) idx 0 + (d.window (ix1 e) 0 : ℤ)).toNat = n.val
        rw [t0]; omega
    · intro a
      match a with
      | ⟨0, _⟩ =>
        show 0 ≤ d.start (ix1 e) idx 0 + (d.window (ix1 e) 0 : ℤ) ∧ d.start (ix1 e) idx 0 + (d.window (ix1 e) 0 : ℤ) < (N : ℤ)
        rw [t0]; omega

/-- The one-axis indices, counted by their coordinate. -/
theorem sum_one {E : ℕ} (f : (⟨1, ![E]⟩ : Shape).Idx → EReal) : ∑ i, f i = ∑ e : Fin E, f (ix1 e) :=
  (Equiv.sum_comp (⟨fun e => ix1 e, fun i => i 0, fun _ => rfl, fun i => (eq_ix1 i).symm⟩ : Fin E ≃ (⟨1, ![E]⟩ : Shape).Idx) f).symm

/-- A scatter of numbers with add, over the extended reals: entry `n` gains every update whose index is `n`. -/
theorem scatter_apply {E N : ℕ} (d : ScatterDims ⟨1, ![N]⟩ ⟨2, ![E, 1]⟩ ⟨1, ![E]⟩)
    (hiw : d.insertedWindowDims = [0]) (hsd : d.scatterDimsToOperandDims = [0]) (hiv : d.indexVectorDim = 1)
    (x : Vec Ideal ⟨1, ![N]⟩ .f32) (idx : IVec ⟨2, ![E, 1]⟩ 32) (u : Vec Ideal ⟨1, ![E]⟩ .f32) (n : Fin N) :
    (Host.scatterAdd (F := Ideal) (φ := .f32) d x idx u (ix1 n) : EReal)
      = (x (ix1 n) : EReal) + ∑ e : Fin E, if (idx (ix2 e 0)).toInt = (n.val : ℤ) then (u (ix1 e) : EReal) else 0 := by
  show (x (ix1 n) : EReal) + ∑ j ∈ Finset.univ.filter (fun j => d.resultIdx? j idx = some (ix1 n)), (u j : EReal) = _
  refine congrArg ((x (ix1 n) : EReal) + ·) ?_
  rw [Finset.sum_filter, sum_one]
  refine Finset.sum_congr rfl fun e _ => ?_
  exact if_congr (entry_lands d hiw hsd hiv idx e n) rfl rfl

end Cert.Proof

end
-- ==== Proof.Edges.lean ====
/-
  Over the extended reals: the logit and the weight of an edge, as the reference's operations (a precondition's too) make
  them, and as the kernel's do.
-/
module

public import proofs.«01_k».proof.Proof.Sum
public import Idealize.ShloMosaic.Lib.Routing.OpsSet

@[expose] public section

noncomputable section

namespace Cert.Proof

open Idealize.ShloMosaic Idealize.SL.Sem
open Idealize.ShloMosaic.ValueIdx (ix0 ix1 ix2)

/-- A number, the edges' ends, one of their rows, the edges, the edges as a column, the nodes. -/
abbrev X0 : Shape := ⟨0, ![]⟩
abbrev X2 : Shape := ⟨2, ![2, 800000]⟩
abbrev XR : Shape := ⟨2, ![1, 800000]⟩
abbrev XE : Shape := ⟨1, ![800000]⟩
abbrev XC : Shape := ⟨2, ![800000, 1]⟩
abbrev XN : Shape := ⟨1, ![50000]⟩

/-- The logit of edge `e`: the source's part, the destination's and the edge's. -/
def logit (a0 : IVec X2 32) (h : ∀ i, (a0 i).toNat < 50000) (ae : FVec Ideal XE .f32) (sa ad : FVec Ideal XN .f32) (e : Fin 800000) : EReal :=
  ((sa (ix1 ⟨(a0 (ix2 0 e)).toNat, h _⟩) : EReal) + (ad (ix1 ⟨(a0 (ix2 1 e)).toNat, h _⟩) : EReal)) + (ae (ix1 e) : EReal)

/-- The logit with the slope below zero. -/
def leaky (a : EReal) : EReal := if 0 < a then a else Ideal.ofBits .f32 0x3E4CCCCD#32 * a

/-- The weight of a logit. -/
def weight (a : EReal) : EReal := Ideal.exp (leaky a)

/-- The bound: sixty. -/
def cap : EReal := Ideal.ofBits .f32 0x42700000#32

theorem cap_nonneg : (0 : EReal) ≤ cap := by
  have e : cap = ((60 : ℝ) : EReal) := by
    unfold cap
    simp [Ideal.ofBits, Ideal.ieee, -EReal.coe_mul]
    norm_num
  rw [e]
  exact_mod_cast (by norm_num : (0 : ℝ) ≤ 60)

theorem slope_nonneg : (0 : EReal) ≤ Ideal.ofBits .f32 0x3E4CCCCD#32 := by
  have e : Ideal.ofBits .f32 0x3E4CCCCD#32 = ((13421773 / 67108864 : ℝ) : EReal) := by
    simp [Ideal.ofBits, Ideal.ieee, -EReal.coe_mul]
    norm_num
  rw [e]
  exact_mod_cast (by norm_num : (0 : ℝ) ≤ 13421773 / 67108864)

theorem leaky_le {a : EReal} (h : a ≤ cap) : leaky a ≤ cap := by
  unfold leaky
  split
  · exact h
  · next h0 =>
    exact (mul_nonpos_of_nonneg_of_nonpos slope_nonneg (not_lt.mp h0)).trans cap_nonneg

theorem select_leaky (a z : EReal) (hz : z = 0) :
    Scalar.select (Ideal.cmp .ogt a z) a (Ideal.ofBits .f32 0x3E4CCCCD#32 * a) = leaky a := by
  subst hz
  unfold Scalar.select leaky Ideal.cmp
  by_cases h : (0 : EReal) < a
  · simp [h]
  · simp [h]

/-- The kernel's weight, where the logit is at most sixty. -/
theorem actV_apply {s : Shape} (a : FVec Ideal s .f32) (i : s.Idx) (h : (a i : EReal) ≤ cap) :
    (actV (F := Ideal) (Scalar.ofBits .f32 0x42700000#32) a i : EReal) = weight (a i) := by
  show Ideal.exp (min (Scalar.select (Ideal.cmp .ogt (a i) (Ideal.ofBits .f32 0x00000000#32)) (a i : EReal) (Ideal.ofBits .f32 0x3E4CCCCD#32 * (a i : EReal))) cap) = _
  rw [select_leaky _ _ Ideal.ofBits_zero_f32, min_eq_left (leaky_le h)]
  rfl

/-! ## The reference's operations -/

section
variable (hs0 : X2.Slices ![0, 0] XR) (hs1 : X2.Slices ![1, 0] XR) (hc : XR.ShapeCasts XE)
  (hb : X0.BroadcastsInDim XE (![] : Fin 0 → Fin XE.rank)) (hcol : XE.BroadcastsInDim XC (![0] : Fin 1 → Fin XC.rank))
  (d : GatherDims XN XC XE)

/-- The two rows of `edge_index`. -/
def srcOf (a0 : IVec X2 32) : IVec XE 32 := shapeCast XE (extractStridedSlice XR ![0, 0] a0 hs0) hc
def dstOf (a0 : IVec X2 32) : IVec XE 32 := shapeCast XE (extractStridedSlice XR ![1, 0] a0 hs1) hc

/-- Indices as a gather takes them: a negative one counts from the end; as a column. -/
def colOf (x : IVec XE 32) : IVec XC 32 :=
  broadcastInDim XC ![0] hcol (select (cmpi .slt x (broadcastInDim XE ![] hb (constantI X0 32 0#32)))
    (addi x (broadcastInDim XE ![] hb (constantI X0 32 50000#32))) x)

/-- The logits. -/
def logitV (a0 : IVec X2 32) (ae : FVec Ideal XE .f32) (sa ad : FVec Ideal XN .f32) : FVec Ideal XE .f32 :=
  addf (addf (Host.gather d sa (colOf hb hcol (srcOf hs0 hc a0))) (Host.gather d ad (colOf hb hcol (dstOf hs1 hc a0)))) ae

/-- The weights. -/
def weightV (a : FVec Ideal XE .f32) : FVec Ideal XE .f32 :=
  Host.exp (select (cmpf .ogt a (broadcastInDim XE ![] hb (constant X0 .f32 0x00000000#32))) a
    (mulf (broadcastInDim XE ![] hb (constant X0 .f32 0x3E4CCCCD#32)) a))

theorem srcOf_apply (a0 : IVec X2 32) (e : Fin 800000) : srcOf hs0 hc a0 (ix1 e) = a0 (ix2 0 e) := by
  unfold srcOf
  rw [shapeCast_apply _ _ _ (ix2 0 e) (by rw [Shape.rowMajor_val_two, Shape.rowMajor_val_one]; show 0 * 800000 + e.val = e.val; omega),
    extractStridedSlice_apply _ _ _ _ (ix2 0 e) (fun b => by
      match b with
      | ⟨0, _⟩ => rfl
      | ⟨1, _⟩ => exact (Nat.zero_add _).symm)]

theorem dstOf_apply (a0 : IVec X2 32) (e : Fin 800000) : dstOf hs1 hc a0 (ix1 e) = a0 (ix2 1 e) := by
  unfold dstOf
  rw [shapeCast_apply _ _ _ (ix2 0 e) (by rw [Shape.rowMajor_val_two, Shape.rowMajor_val_one]; show 0 * 800000 + e.val = e.val; omega),
    extractStridedSlice_apply _ _ _ _ (ix2 1 e) (fun b => by
      match b with
      | ⟨0, _⟩ => rfl
      | ⟨1, _⟩ => exact (Nat.zero_add _).symm)]

/-- An edge array spread to a column holds the edge's element. -/
theorem column_apply {α : Type} (x : XE.Idx → α) (e : Fin 800000) : broadcastInDim XC ![0] hcol x (ix2 e 0) = x (ix1 e) :=
  broadcastInDim_apply _ _ _ _ (ix1 e) fun a => by
    obtain rfl : a = 0 := Subsingleton.elim _ _
    rfl

/-- A word below 50000 is not negative. -/
theorem toInt_eq {w : BitVec 32} (h : w.toNat < 50000) : w.toInt = (w.toNat : ℤ) := by
  rw [BitVec.toInt_eq_toNat_cond, if_pos (by omega)]

theorem colOf_apply (x : IVec XE 32) (e : Fin 800000) (h : (x (ix1 e)).toNat < 50000) :
    colOf hb hcol x (ix2 e 0) = BitVec.ofNat 32 (x (ix1 e)).toNat := by
  unfold colOf
  rw [column_apply]
  show (if IntOp.cmpi .slt (x (ix1 e)) 0#32 = 1 then _ else x (ix1 e)) = _
  rw [if_neg, BitVec.ofNat_toNat, BitVec.setWidth_eq]
  have hw := toInt_eq h
  have : ¬ (x (ix1 e)).toInt < 0 := by omega
  simp [IntOp.cmpi, BitVec.slt_eq_decide, this]

theorem colOf_src (a0 : IVec X2 32) (h : ∀ i, (a0 i).toNat < 50000) (e : Fin 800000) :
    colOf hb hcol (srcOf hs0 hc a0) (ix2 e 0) = BitVec.ofNat 32 (a0 (ix2 0 e)).toNat := by
  rw [colOf_apply hb hcol _ e (by rw [srcOf_apply]; exact h _), srcOf_apply]

theorem colOf_dst (a0 : IVec X2 32) (h : ∀ i, (a0 i).toNat < 50000) (e : Fin 800000) :
    colOf hb hcol (dstOf hs1 hc a0) (ix2 e 0) = BitVec.ofNat 32 (a0 (ix2 1 e)).toNat := by
  rw [colOf_apply hb hcol _ e (by rw [dstOf_apply]; exact h _), dstOf_apply]

theorem logitV_apply (hd1 : d.collapsedSliceDims = [0]) (hd2 : d.operandBatchingDims = []) (hd3 : d.startIndexMap = [0]) (hd4 : d.indexVectorDim = 1)
    (a0 : IVec X2 32) (h : ∀ i, (a0 i).toNat < 50000) (ae : FVec Ideal XE .f32) (sa ad : FVec Ideal XN .f32) (e : Fin 800000) :
    (logitV hs0 hs1 hc hb hcol d a0 ae sa ad (ix1 e) : EReal) = logit a0 h ae sa ad e := by
  show ((Host.gather d sa _ (ix1 e) : EReal) + (Host.gather d ad _ (ix1 e) : EReal)) + (ae (ix1 e) : EReal) = _
  rw [Routing.gather_take1 d hd1 hd2 hd3 hd4 sa _ e ⟨(a0 (ix2 0 e)).toNat, h _⟩ (colOf_src hs0 hc hb hcol a0 h e) (by norm_num),
    Routing.gather_take1 d hd1 hd2 hd3 hd4 ad _ e ⟨(a0 (ix2 1 e)).toNat, h _⟩ (colOf_dst hs1 hc hb hcol a0 h e) (by norm_num)]
  rfl

theorem weightV_apply (a : FVec Ideal XE .f32) (e : Fin 800000) : (weightV hb a (ix1 e) : EReal) = weight (a (ix1 e)) := by
  show Ideal.exp (Scalar.select (Ideal.cmp .ogt (a (ix1 e)) (Ideal.ofBits .f32 0x00000000#32)) (a (ix1 e) : EReal) (Ideal.ofBits .f32 0x3E4CCCCD#32 * (a (ix1 e) : EReal))) = _
  rw [select_leaky _ _ Ideal.ofBits_zero_f32]
  rfl

end

end Cert.Proof

end
-- ==== Proof.Run.Value.lean ====
/-
  The kernel's seven results over the extended reals, read at an index.
-/
module

public import proofs.«01_k».proof.Proof.Run.Host
public import proofs.«01_k».proof.Proof.Edges
public import Idealize.ShloMosaic.Lib.Pointwise.Reduce

@[expose] public section

noncomputable section

namespace Cert.Proof.Run

open Cert.KernelIdeal Cert.KernelIdeal.Gen

open Idealize.ShloMosaic Idealize.SL.Sem

variable (m : (ℓ : Loc nD τ sig) → Buf (Elt Ideal) ℓ) (d : Dev nD)

/-- The program's nine arguments on device `d`. -/
abbrev a0 : IVec S2x800000 32 := m (d, arr main_arg0)
abbrev a1 : FVec Ideal S800000 .f32 := m (d, arr main_arg1)
abbrev a2 : FVec Ideal S800000 .f32 := m (d, arr main_arg2)
abbrev a3 : FVec Ideal S50000 .f32 := m (d, arr main_arg3)
abbrev a4 : FVec Ideal S50000 .f32 := m (d, arr main_arg4)
abbrev a5 : FVec Ideal S50000x64 .f32 := m (d, arr main_arg5)
abbrev a6 : FVec Ideal S50000 .f32 := m (d, arr main_arg6)
abbrev a7 : FVec Ideal S50000 .f32 := m (d, arr main_arg7)
abbrev a8 : FVec Ideal S50000x64 .f32 := m (d, arr main_arg8)

variable {m d} (h : ∀ i, (a0 m d i).toNat < 50000)
include h

theorem padded : Padded (dst m d) := fun k h1 h2 => by
  rw [dst_out m d (edgeIx k) (by show 800000 ≤ k % 819200; omega)]
  rfl

/-- The partial sums of a quantity of the edges, added up, are its totals. -/
theorem sumN_apply (val : FVec Ideal BE .f32) (v : Fin 800000 → EReal) (hv : ∀ e : Fin 800000, (val (edgeIx e.val) : EReal) = v e) (n : Fin 50000) :
    (sumN (F := Ideal) (partOf (F := Ideal) (dst m d) val) (ValueIdx.ix1 n) : EReal) = total (a0 m d) v n.val := by
  have hn := n.isLt
  unfold sumN
  rw [extractStridedSlice_apply _ _ _ _ (ValueIdx.ix1 (⟨n.val, by omega⟩ : Fin 50176)) (fun b => by
    obtain rfl : b = 0 := Subsingleton.elim _ _
    exact (Nat.zero_add _).symm)]
  refine (Ideal.hostReduceAdd_r2_a0 reducesTo_S32x50176_S50176_d0 _ _ _).trans ?_
  have hz : (constant (F := Ideal) S_ .f32 0x00000000#32 (Shape.Idx.first h_S_) : EReal) = 0 := by
    show (FloatOps.ofBits (F := Ideal) .f32 0x00000000#32 : EReal) = 0
    simp
  refine (congrArg (· + _) hz).trans ((zero_add _).trans ?_)
  refine (partOf_sum (dst m d) val (all_ok h).2 (padded h) (⟨n.val, by omega⟩ : Fin 50176) hn).trans ?_
  refine Finset.sum_congr rfl fun e _ => ?_
  unfold edgeTerm
  rw [dst_in, hv]

/-- The numerators of a layer are the totals of the sources' features times the weights. -/
theorem cutH_num (ex : FVec Ideal BE .f32) (H : FVec Ideal BH .f32) (A : FVec Ideal S50000x64 .f32) (v : Fin 800000 → EReal)
    (hv : ∀ e : Fin 800000, (ex (edgeIx e.val) : EReal) = v e)
    (hH : ∀ (f : Fin 64) (n : Fin 50000) (n' : Fin 50176), n'.val = n.val → H (ValueIdx.ix2 f n') = A (ValueIdx.ix2 n f)) (n : Fin 50000) (f : Fin 64) :
    (cutH (F := Ideal) (numOf (F := Ideal) (src m d) (dst m d) ex H) (ValueIdx.ix2 n f) : EReal)
      = total (a0 m d) (fun e => (A (ValueIdx.ix2 ⟨(a0 m d (ValueIdx.ix2 0 e)).toNat, h _⟩ f) : EReal) * v e) n.val := by
  have hn := n.isLt
  rw [cutH_apply (F := Ideal) _ n f (⟨n.val, by omega⟩ : Fin 50176) rfl]
  refine (numOf_sum (src m d) (dst m d) ex H (all_ok h).2 (padded h) f (⟨n.val, by omega⟩ : Fin 50176) hn).trans ?_
  refine Finset.sum_congr rfl fun e _ => ?_
  unfold edgeTerm
  rw [dst_in]
  refine if_congr Iff.rfl ?_ rfl
  show (H (rowIx 64 _ f.val (nodeAt (src m d (edgeIx e.val)).toNat)) : EReal) * (ex (edgeIx e.val) : EReal) = _
  rw [hv, src_in]
  refine congrArg (· * v e) ?_
  have hw := h (ValueIdx.ix2 0 e)
  have hi : rowIx 64 (by decide) f.val (nodeAt (a0 m d (ValueIdx.ix2 0 e)).toNat) = ValueIdx.ix2 f (⟨(a0 m d (ValueIdx.ix2 0 e)).toNat, by omega⟩ : Fin 50176) := by
    funext a
    match a with
    | ⟨0, _⟩ => exact Fin.ext (Nat.mod_eq_of_lt f.isLt)
    | ⟨1, _⟩ => exact Fin.ext (Nat.mod_eq_of_lt (by omega))
  rw [hi]
  exact hH f ⟨_, hw⟩ _ rfl

omit h in
theorem ones_at (e : Fin 800000) : (onesE (F := Ideal) (edgeIx e.val) : EReal) = Ideal.ofBits .f32 0x3F800000#32 := rfl

omit h in
theorem e1_at (e : Fin 800000) : (U1 m d (arr main_v6) : FVec Ideal BE .f32) (edgeIx e.val) = a1 m d (ValueIdx.ix1 e) :=
  (congrFun (e1_read m d) _).trans (pad_in _ _ e)
omit h in
theorem e2_at (e : Fin 800000) : (U1 m d (arr main_v7) : FVec Ideal BE .f32) (edgeIx e.val) = a2 m d (ValueIdx.ix1 e) :=
  (congrFun (e2_read m d) _).trans (pad_in _ _ e)
omit h in
theorem h1_at (f : Fin 64) (n : Fin 50000) (n' : Fin 50176) (hn : n'.val = n.val) : (U1 m d (arr main_v9) : FVec Ideal BH .f32) (ValueIdx.ix2 f n') = a5 m d (ValueIdx.ix2 n f) :=
  (congrFun (h1_read m d) _).trans (padH_in _ _ f n n' hn)
omit h in
theorem h2_at (f : Fin 64) (n : Fin 50000) (n' : Fin 50176) (hn : n'.val = n.val) : (U1 m d (arr main_v11) : FVec Ideal BH .f32) (ValueIdx.ix2 f n') = a8 m d (ValueIdx.ix2 n f) :=
  (congrFun (h2_read m d) _).trans (padH_in _ _ f n n' hn)

/-- A padded node array gathered at an edge's source, and at its destination. -/
theorem gath_src (t : FVec Ideal BN .f32) (x : FVec Ideal S50000 .f32) (v : S_.Idx → Ideal .f32) (ht : t = padN x v) (e : Fin 800000) :
    gath t (src m d) (edgeIx e.val) = x (ValueIdx.ix1 ⟨(a0 m d (ValueIdx.ix2 0 e)).toNat, h _⟩) := by
  subst ht
  show padN x v (nodeAt (src m d (edgeIx e.val)).toNat) = _
  rw [src_in]
  exact padN_in x v ⟨_, h _⟩
theorem gath_dst (t : FVec Ideal BN .f32) (x : FVec Ideal S50000 .f32) (v : S_.Idx → Ideal .f32) (ht : t = padN x v) (e : Fin 800000) :
    gath t (dst m d) (edgeIx e.val) = x (ValueIdx.ix1 ⟨(a0 m d (ValueIdx.ix2 1 e)).toNat, h _⟩) := by
  subst ht
  show padN x v (nodeAt (dst m d (edgeIx e.val)).toNat) = _
  rw [dst_in]
  exact padN_in x v ⟨_, h _⟩

omit h in
/-- The kernel's order of the sum and the reference's. -/
theorem order (a b c : EReal) : (a + c) + b = (a + b) + c := by rw [add_assoc, add_comm c b, ← add_assoc]

theorem ex1_at (hc : ∀ e, logit (a0 m d) h (a1 m d) (a3 m d) (a4 m d) e ≤ cap) (e : Fin 800000) :
    (ex1 m d (edgeIx e.val) : EReal) = weight (logit (a0 m d) h (a1 m d) (a3 m d) (a4 m d) e) := by
  have hl : (addf (F := Ideal) (φ := .f32) (addf (F := Ideal) (φ := .f32) (gath (U1 m d (arr main_v12)) (src m d)) (U1 m d (arr main_v6)))
      (gath (U3 m d (arr main_v14)) (dst m d)) (edgeIx e.val) : EReal) = logit (a0 m d) h (a1 m d) (a3 m d) (a4 m d) e := by
    show ((gath (U1 m d (arr main_v12)) (src m d) (edgeIx e.val) : EReal) + ((U1 m d (arr main_v6) : FVec Ideal BE .f32) (edgeIx e.val) : EReal))
      + (gath (U3 m d (arr main_v14)) (dst m d) (edgeIx e.val) : EReal) = _
    refine (order _ _ _).trans ?_
    refine congrArg₂ (· + ·) (congrArg₂ (· + ·) ?_ ?_) ?_
    · exact gath_src h _ _ _ (sa1_read m d) e
    · exact gath_dst h _ _ _ (ad1_read m d) e
    · exact e1_at e
  unfold ex1
  rw [actV_apply _ _ (hl.trans_le (hc e)), hl]

theorem ex2_at (hc : ∀ e, logit (a0 m d) h (a2 m d) (a6 m d) (a7 m d) e ≤ cap) (e : Fin 800000) :
    (ex2 m d (edgeIx e.val) : EReal) = weight (logit (a0 m d) h (a2 m d) (a6 m d) (a7 m d) e) := by
  have hl : (addf (F := Ideal) (φ := .f32) (addf (F := Ideal) (φ := .f32) (gath (U6 m d (arr main_v17)) (src m d)) (U1 m d (arr main_v7)))
      (gath (U6 m d (arr main_v18)) (dst m d)) (edgeIx e.val) : EReal) = logit (a0 m d) h (a2 m d) (a6 m d) (a7 m d) e := by
    show ((gath (U6 m d (arr main_v17)) (src m d) (edgeIx e.val) : EReal) + ((U1 m d (arr main_v7) : FVec Ideal BE .f32) (edgeIx e.val) : EReal))
      + (gath (U6 m d (arr main_v18)) (dst m d) (edgeIx e.val) : EReal) = _
    refine (order _ _ _).trans ?_
    refine congrArg₂ (· + ·) (congrArg₂ (· + ·) ?_ ?_) ?_
    · exact gath_src h _ _ _ (sa2_read m d) e
    · exact gath_dst h _ _ _ (ad2_read m d) e
    · exact e2_at e
  unfold ex2
  rw [actV_apply _ _ (hl.trans_le (hc e)), hl]

end Cert.Proof.Run

end
-- ==== Proof.RefValue.lean ====
/-
  The reference's seven results read at an index: each is the sum, over the edges ending at a node, of a quantity of the
  edges.
-/
module

public import proofs.«01_k».proof.Proof.Gen.ReferenceIdeal.Run
public import proofs.«01_k».proof.Proof.Edges

@[expose] public section

noncomputable section

namespace Cert.Proof.Ref

open Cert.ReferenceIdeal Cert.ReferenceIdeal.Gen Idealize.ShloMosaic Idealize.SL.Sem
open Idealize.ShloMosaic.ValueIdx (ix0 ix1 ix2)

/-- Numbers of the edges added at the edges' destinations, from zero. -/
def sumAt (a0 : IVec S2x800000 32) (u : FVec Ideal S800000 .f32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (dstOf slices_S2x800000_S1x800000_1_0 shapeCasts_S1x800000_S800000 a0)) u

/-- Rows of the edges added at the edges' destinations, from zero. -/
def rowsAt (a0 : IVec S2x800000 32) (u : FVec Ideal S800000x64 .f32) : FVec Ideal S50000x64 .f32 :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dstOf slices_S2x800000_S1x800000_1_0 shapeCasts_S1x800000_S800000 a0)) u

/-- The ones. -/
def ones : FVec Ideal S800000 .f32 := broadcastInDim S800000 ![] bcast_S_S800000 (constant S_ .f32 0x3F800000#32)

/-- The weights of a layer. -/
def exOf (a0 : IVec S2x800000 32) (ae : FVec Ideal S800000 .f32) (sa ad : FVec Ideal S50000 .f32) : FVec Ideal S800000 .f32 :=
  weightV bcast_S_S800000 (logitV slices_S2x800000_S1x800000_0_0 slices_S2x800000_S1x800000_1_0 shapeCasts_S1x800000_S800000
    bcast_S_S800000 bcast_S800000_S800000x1_0 gather_S50000_S800000x1_S800000_n_0_n_n_0_1_1 a0 ae sa ad)

/-- The sources' features times the weights. -/
def prodOf (a0 : IVec S2x800000 32) (w : FVec Ideal S800000 .f32) (H : FVec Ideal S50000x64 .f32) : FVec Ideal S800000x64 .f32 :=
  mulf (Host.gather gather_S50000x64_S800000x1_S800000x64_1_0_n_n_0_1_164 H
      (colOf bcast_S_S800000 bcast_S800000_S800000x1_0 (srcOf slices_S2x800000_S1x800000_0_0 shapeCasts_S1x800000_S800000 a0)))
    (broadcastInDim S800000x64 ![0, 1] bcast_S800000x1_S800000x64_0_1 (broadcastInDim S800000x1 ![0] bcast_S800000_S800000x1_0 w))

theorem sumAt_apply (a0 : IVec S2x800000 32) (h : ∀ i, (a0 i).toNat < 50000) (u : FVec Ideal S800000 .f32) (n : Fin 50000) :
    (sumAt a0 u (ix1 n) : EReal) = total a0 (fun e => u (ix1 e)) n.val := by
  unfold sumAt
  rw [scatter_apply _ rfl rfl rfl]
  have hz : (broadcastInDim S50000 ![] bcast_S_S50000 (constant (F := Ideal) S_ .f32 0x00000000#32) (ix1 n) : EReal) = 0 := by
    show (FloatOps.ofBits (F := Ideal) .f32 0x00000000#32 : EReal) = 0
    simp
  refine (congrArg (· + _) hz).trans ((zero_add _).trans (Finset.sum_congr rfl fun e _ => ?_))
  rw [column_apply, dstOf_apply, toInt_eq (h _)]
  exact if_congr Nat.cast_inj rfl rfl

theorem rowsAt_apply (a0 : IVec S2x800000 32) (h : ∀ i, (a0 i).toNat < 50000) (u : FVec Ideal S800000x64 .f32) (n : Fin 50000) (f : Fin 64) :
    (rowsAt a0 u (ix2 n f) : EReal) = total a0 (fun e => u (ix2 e f)) n.val := by
  unfold rowsAt
  rw [scatterRows_apply _ rfl rfl rfl rfl]
  have hz : (broadcastInDim S50000x64 ![] bcast_S_S50000x64 (constant (F := Ideal) S_ .f32 0x00000000#32) (ix2 n f) : EReal) = 0 := by
    show (FloatOps.ofBits (F := Ideal) .f32 0x00000000#32 : EReal) = 0
    simp
  refine (congrArg (· + _) hz).trans ((zero_add _).trans (Finset.sum_congr rfl fun e _ => ?_))
  rw [column_apply, dstOf_apply, toInt_eq (h _)]
  exact if_congr Nat.cast_inj rfl rfl

theorem exOf_apply (a0 : IVec S2x800000 32) (h : ∀ i, (a0 i).toNat < 50000) (ae : FVec Ideal S800000 .f32) (sa ad : FVec Ideal S50000 .f32)
    (e : Fin 800000) : (exOf a0 ae sa ad (ix1 e) : EReal) = weight (logit a0 h ae sa ad e) := by
  unfold exOf
  rw [weightV_apply, logitV_apply _ _ _ _ _ _ rfl rfl rfl rfl a0 h]

theorem prodOf_apply (a0 : IVec S2x800000 32) (h : ∀ i, (a0 i).toNat < 50000) (w : FVec Ideal S800000 .f32) (H : FVec Ideal S50000x64 .f32)
    (e : Fin 800000) (f : Fin 64) :
    (prodOf a0 w H (ix2 e f) : EReal) = (H (ix2 ⟨(a0 (ix2 0 e)).toNat, h _⟩ f) : EReal) * (w (ix1 e) : EReal) := by
  show (Host.gather _ H _ (ix2 e f) : EReal) * (broadcastInDim S800000x64 ![0, 1] bcast_S800000x1_S800000x64_0_1 (broadcastInDim S800000x1 ![0] bcast_S800000_S800000x1_0 w) (ix2 e f) : EReal) = _
  rw [Routing.gather_row gather_S50000x64_S800000x1_S800000x64_1_0_n_n_0_1_164 rfl rfl rfl rfl rfl H _ e f ⟨(a0 (ix2 0 e)).toNat, h _⟩
    (colOf_src _ _ _ _ a0 h e) (by norm_num)]
  refine congrArg (_ * ·) ?_
  rw [broadcastInDim_apply _ _ _ _ (ix2 e 0) (fun a => by
    match a with
    | ⟨0, _⟩ => rfl
    | ⟨1, _⟩ => rfl), column_apply]

/-! ## The composed results are these -/

variable (m : (ℓ : Loc nD τ sig) → Buf (Elt Ideal) ℓ) (c : Dev nD)

theorem den1_eq : Value.res_main_v60 m c = sumAt (m ((c.tc : Thread nD τ).loc main_arg0))
    (exOf (m ((c.tc : Thread nD τ).loc main_arg0)) (m ((c.tc : Thread nD τ).loc main_arg1)) (m ((c.tc : Thread nD τ).loc main_arg3)) (m ((c.tc : Thread nD τ).loc main_arg4))) := rfl

theorem num1_eq : Value.res_main_v73 m c = rowsAt (m ((c.tc : Thread nD τ).loc main_arg0)) (prodOf (m ((c.tc : Thread nD τ).loc main_arg0))
    (exOf (m ((c.tc : Thread nD τ).loc main_arg0)) (m ((c.tc : Thread nD τ).loc main_arg1)) (m ((c.tc : Thread nD τ).loc main_arg3)) (m ((c.tc : Thread nD τ).loc main_arg4)))
    (m ((c.tc : Thread nD τ).loc main_arg5))) := rfl

theorem den2_eq : Value.res_main_v76 m c = sumAt (m ((c.tc : Thread nD τ).loc main_arg0))
    (exOf (m ((c.tc : Thread nD τ).loc main_arg0)) (m ((c.tc : Thread nD τ).loc main_arg2)) (m ((c.tc : Thread nD τ).loc main_arg6)) (m ((c.tc : Thread nD τ).loc main_arg7))) := rfl

theorem num2_eq : Value.res_main_v89 m c = rowsAt (m ((c.tc : Thread nD τ).loc main_arg0)) (prodOf (m ((c.tc : Thread nD τ).loc main_arg0))
    (exOf (m ((c.tc : Thread nD τ).loc main_arg0)) (m ((c.tc : Thread nD τ).loc main_arg2)) (m ((c.tc : Thread nD τ).loc main_arg6)) (m ((c.tc : Thread nD τ).loc main_arg7)))
    (m ((c.tc : Thread nD τ).loc main_arg8))) := rfl

end Cert.Proof.Ref

end
-- ==== Proof.Unclamped.lean ====
/-
  What the precondition says: every end of every edge names a node, and no edge's logit is above sixty.
-/
module

public import proofs.«01_k».proof.Pre_unclamped
public import proofs.«01_k».proof.Proof.Edges
public import Idealize.ShloMosaic.Lib.ReduceAll

@[expose] public section

noncomputable section

namespace Cert.Proof.Unclamped

open Cert.Pre_unclamped Idealize.ShloMosaic Idealize.SL.Sem
open Idealize.ShloMosaic.ValueIdx (ix0 ix1 ix2)

variable [Facts] {a0 : IVec S2x800000 32} {a1 a2 : FVec Ideal S800000 .f32} {a3 a4 : FVec Ideal S50000 .f32}
  {a5 : FVec Ideal S50000x64 .f32} {a6 a7 : FVec Ideal S50000 .f32} {a8 : FVec Ideal S50000x64 .f32}

/-- The logits as the precondition makes them. -/
def lg (a0 : IVec S2x800000 32) (ae : FVec Ideal S800000 .f32) (sa ad : FVec Ideal S50000 .f32) : FVec Ideal S800000 .f32 :=
  logitV Facts.slices_S2x800000_S1x800000_0_0 Facts.slices_S2x800000_S1x800000_1_0 Facts.shapeCasts_S1x800000_S800000
    Facts.bcast_S_S800000 Facts.bcast_S800000_S800000x1_0 gather_S50000_S800000x1_S800000_n_0_n_n_0_1_1 a0 ae sa ad

/-- Its three parts. -/
theorem parts (h : fn (F := Ideal) a0 a1 a2 a3 a4 a5 a6 a7 a8 = fun _ => 1#1) :
    Host.reduce IntOp.andi (andi (cmpi .sge a0 (broadcastInDim S2x800000 ![] Facts.bcast_S_S2x800000 (constantI S_ 32 0#32)))
        (cmpi .slt a0 (broadcastInDim S2x800000 ![] Facts.bcast_S_S2x800000 (constantI S_ 32 50000#32)))) (constantI S_ 1 1#1)
        Facts.reducesTo_S2x800000_S_d0_1 Facts.h_S_ ix0 = 1#1
      ∧ Host.reduce IntOp.andi (cmpf .ole (lg a0 a1 a3 a4) (broadcastInDim S800000 ![] Facts.bcast_S_S800000 (constant S_ .f32 0x42700000#32)))
          (constantI S_ 1 1#1) Facts.reducesTo_S800000_S_d0 Facts.h_S_ ix0 = 1#1
      ∧ Host.reduce IntOp.andi (cmpf .ole (lg a0 a2 a6 a7) (broadcastInDim S800000 ![] Facts.bcast_S_S800000 (constant S_ .f32 0x42700000#32)))
          (constantI S_ 1 1#1) Facts.reducesTo_S800000_S_d0 Facts.h_S_ ix0 = 1#1 := by
  have hand : ∀ p q : BitVec 1, IntOp.andi p q = 1#1 → p = 1#1 ∧ q = 1#1 := by decide
  have e := congrFun h ix0
  obtain ⟨e1, e3⟩ := hand _ _ e
  obtain ⟨e1, e2⟩ := hand _ _ e1
  exact ⟨e1, e2, e3⟩

theorem words_lt (h : fn (F := Ideal) a0 a1 a2 a3 a4 a5 a6 a7 a8 = fun _ => 1#1) (i : S2x800000.Idx) : (a0 i).toNat < 50000 := by
  have e := Host.reduce_andi_all _ _ _ _ _ (parts h).1 i
  have hand : ∀ p q : Bool, IntOp.andi (BitVec.ofBool p) (BitVec.ofBool q) = BitVec.ofBool (p && q) := by decide
  have hone : ∀ p : Bool, (BitVec.ofBool p = 1#1) ↔ p = true := by decide
  simp only [andi, cmpi, IntOp.cmpi, hand, hone, Bool.and_eq_true, BitVec.sle_eq_decide, BitVec.slt_eq_decide,
    decide_eq_true_eq, broadcastInDim, constantI, BitVec.toInt_eq_toNat_cond, BitVec.toNat_ofNat, Nat.reducePow, Nat.reduceMod] at e
  omega

/-- One comparison read. -/
theorem le_cap (hw : ∀ i, (a0 i).toNat < 50000) {ae : FVec Ideal S800000 .f32} {sa ad : FVec Ideal S50000 .f32}
    (h : Host.reduce IntOp.andi (cmpf .ole (lg a0 ae sa ad) (broadcastInDim S800000 ![] Facts.bcast_S_S800000 (constant S_ .f32 0x42700000#32)))
      (constantI S_ 1 1#1) Facts.reducesTo_S800000_S_d0 Facts.h_S_ ix0 = 1#1) (e : Fin 800000) : logit a0 hw ae sa ad e ≤ cap := by
  have h1 : Ideal.cmp .ole (lg a0 ae sa ad (ix1 e)) cap = 1#1 := Host.reduce_andi_all _ _ _ _ _ h (ix1 e)
  have h2 : (lg a0 ae sa ad (ix1 e) : EReal) = logit a0 hw ae sa ad e := by
    unfold lg
    exact logitV_apply _ _ _ _ _ _ rfl rfl rfl rfl a0 hw ae sa ad e
  rw [h2] at h1
  have hone : ∀ p : Bool, (BitVec.ofBool p = 1#1) ↔ p = true := by decide
  exact of_decide_eq_true ((hone _).1 h1)

theorem layer1 (h : fn (F := Ideal) a0 a1 a2 a3 a4 a5 a6 a7 a8 = fun _ => 1#1) (e : Fin 800000) : logit a0 (words_lt h) a1 a3 a4 e ≤ cap :=
  le_cap (words_lt h) (parts h).2.1 e

theorem layer2 (h : fn (F := Ideal) a0 a1 a2 a3 a4 a5 a6 a7 a8 = fun _ => 1#1) (e : Fin 800000) : logit a0 (words_lt h) a2 a6 a7 e ≤ cap :=
  le_cap (words_lt h) (parts h).2.2 e

end Cert.Proof.Unclamped

end
-- ==== Proof.FinishPoint.lean ====
/-
  The last dense stage at one node: what the kernel computes there, and that the reference computes the same.
-/
module

public import proofs.«01_k».proof.Proof.Gen.FinishIdeal.Skeleton
public import proofs.«01_k».proof.Proof.Gen.FinishReferenceIdeal.Read
public import Idealize.ShloMosaic.Lib.Pointwise

@[expose] public section

namespace Cert.Proof.FinishPoint

open Idealize.ShloMosaic Idealize.ShloMosaic.TcCoe Idealize.SL.Sem

set_option maxRecDepth 16384

/-- The leaky activation, slope one hundredth. -/
noncomputable def act (v : EReal) : EReal := if 0 < v then v else Ideal.ofBits .f32 0x3C23D70A#32 * v

/-- One feature of a node after the second layer's softmax average, bias and activation. -/
noncomputable def hidden (num h e den b : EReal) : EReal :=
  act (Ideal.div (num + e * h) (den + e + Ideal.ofBits .f32 0x24E69595#32) + b)

/-- The result of one node: the two dense layers over its features, then the mask. -/
noncomputable def node (num h : Fin 64 → EReal) (den : Fin 32 → EReal) (e mask : EReal) (b : Fin 64 → EReal) (W1 : Fin 64 → Fin 32 → EReal)
    (b1 : Fin 32 → EReal) (W2 : Fin 32 → EReal) (b2 : EReal) : EReal :=
  (∑ q, act ((∑ f, hidden (num f) (h f) e (∑ w, den w) (b f) * W1 f q) + b1 q) * W2 q + b2) * mask

section Kernel
open Cert.FinishIdeal Cert.FinishIdeal.Gen
variable [Cert.FinishIdeal.Facts]

theorem pay2_apply (den : FVec Ideal S32x50176 .f32) (e : FVec Ideal S1x50176 .f32) (num h : FVec Ideal S64x50176 .f32) (b : FVec Ideal S64x1 .f32)
    (W1 : FVec Ideal S32x64 .f32) (b1 : FVec Ideal S32x1 .f32) (q : Fin 32) (n : Fin 50176) :
    k0_pay2 (F := Ideal) den e num e h b W1 b1 (ix2 q n)
      = (∑ f : Fin 64, hidden (num (ix2 f n)) (h (ix2 f n)) (e (ix2 0 n)) (∑ w : Fin 32, den (ix2 w n)) (b (ix2 f 0)) * W1 (ix2 q f)) + b1 (ix2 q 0) := by
  unfold hidden act
  pointwise! [k0_pay2]

theorem pay_apply (den : FVec Ideal S32x50176 .f32) (e : FVec Ideal S1x50176 .f32) (num h : FVec Ideal S64x50176 .f32) (b : FVec Ideal S64x1 .f32)
    (W1 : FVec Ideal S32x64 .f32) (b1 : FVec Ideal S32x1 .f32) (W2 : FVec Ideal S1x32 .f32) (b2 : FVec Ideal S1x1 .f32) (mask : FVec Ideal S1x50176 .f32) (n : Fin 50176) :
    k0_pay1 (F := Ideal) (k0_pay2 (F := Ideal) den e num e h b W1 b1) (k0_pay3 (F := Ideal) den e num e h b W1 b1) W2 b2 mask (ix2 0 n)
      = node (fun f => num (ix2 f n)) (fun f => h (ix2 f n)) (fun w => den (ix2 w n)) (e (ix2 0 n)) (mask (ix2 0 n))
          (fun f => b (ix2 f 0)) (fun f q => W1 (ix2 q f)) (fun q => b1 (ix2 q 0)) (fun q => W2 (ix2 0 q)) (b2 (ix2 0 0)) := by
  have key := fun q => pay2_apply den e num h b W1 b1 q n
  unfold k0_pay3
  generalize k0_pay2 (F := Ideal) den e num e h b W1 b1 = y at key ⊢
  unfold node act
  pointwise! [k0_pay1, key]

end Kernel

section Reference
open Cert.FinishReferenceIdeal Cert.FinishReferenceIdeal.Read
variable [Cert.FinishReferenceIdeal.Facts]

theorem ref_apply (num h : FVec Ideal S50000x64 .f32) (den : FVec Ideal S32x50000 .f32) (e mask : FVec Ideal S50000 .f32) (b : FVec Ideal S64 .f32)
    (W1 : FVec Ideal S64x32 .f32) (b1 : FVec Ideal S32 .f32) (W2 : FVec Ideal S32x1 .f32) (b2 : FVec Ideal S1 .f32) (n : Fin 50000) :
    val_main_v33 (F := Ideal) num h den e mask b W1 b1 W2 b2 (ix1 n)
      = node (fun f => num (ix2 n f)) (fun f => h (ix2 n f)) (fun w => den (ix2 w n)) (e (ix1 n)) (mask (ix1 n))
          (fun f => b (ix1 f)) (fun f q => W1 (ix2 f q)) (fun q => b1 (ix1 q)) (fun q => W2 (ix2 q 0)) (b2 (ix1 0)) := by
  unfold node hidden act
  pointwise! [val_main_cst, val_main_v0, val_main_v1, val_main_v2, val_main_v3, val_main_v4, val_main_v5, val_main_cst_0, val_main_v6, val_main_v7, val_main_v8, val_main_v9, val_main_v10, val_main_v11, val_main_v12, val_main_v13, val_main_cst_1, val_main_v14, val_main_v15, val_main_cst_2, val_main_v16, val_main_v17, val_main_v18, val_main_v19, val_main_v20, val_main_v21, val_main_v22, val_main_cst_3, val_main_v23, val_main_v24, val_main_cst_4, val_main_v25, val_main_v26, val_main_v27, val_main_v28, val_main_v29, val_main_v30, val_main_v31, val_main_v32, val_main_v33]

end Reference

end Cert.Proof.FinishPoint
-- ==== Proof.FinishValue.lean ====
/-
  The last dense stage agrees with the reference: on the nodes by `FinishPoint`, on the padding both are zero.
-/
module

public import proofs.«01_k».proof.Defs
public import proofs.«01_k».proof.Proof.FinishPoint
public import proofs.«01_k».proof.Proof.Gen.FinishIdeal.Value
public import proofs.«01_k».proof.Proof.Gen.FinishReferenceIdeal.Run
public import Idealize.ShloMosaic.Lib.Pipeline.ValueKit
public import Idealize.ShloMosaic.Lib.Claim

@[expose] public section

noncomputable section

namespace Cert.Proof.FinishValue

open Idealize.ShloMosaic Idealize.ShloMosaic.TcCoe Idealize.SL.Sem
open Idealize.ShloMosaic.Pipeline (Dat)
open Cert.FinishIdeal Cert.FinishIdeal.Gen Cert.FinishIdeal.Value Cert.Proof.FinishPoint

set_option maxRecDepth 16384

variable (m : (ℓ : Loc nD τ sig) → Buf (Elt Ideal) ℓ)

/-- The integer zero as a real. -/
theorem zero_int : (FloatOps.sitofp .f32 (0#32) : Ideal .f32) = (0 : EReal) := by
  show (((0#32).toInt : ℝ) : EReal) = 0
  simp

/-- Every operand is staged whole. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

theorem iblk0 (c : Dev nD) : iblk m c 0 t0_0 = V m c main_v1 := by blk_ext! [iblk, idx t0_0]
theorem iblk1 (c : Dev nD) : iblk m c 1 t0_0 = V m c main_v3 := by blk_ext! [iblk, idx t0_0]
theorem iblk2 (c : Dev nD) : iblk m c 2 t0_0 = V m c main_v4 := by blk_ext! [iblk, idx t0_0]
theorem iblk3 (c : Dev nD) : iblk m c 3 t0_0 = V m c main_v6 := by blk_ext! [iblk, idx t0_0]
theorem iblk4 (c : Dev nD) : iblk m c 4 t0_0 = V m c main_v8 := by blk_ext! [iblk, idx t0_0]
theorem iblk5 (c : Dev nD) : iblk m c 5 t0_0 = V m c main_v9 := by blk_ext! [iblk, idx t0_0]
theorem iblk6 (c : Dev nD) : iblk m c 6 t0_0 = V m c main_v10 := by blk_ext! [iblk, idx t0_0]
theorem iblk7 (c : Dev nD) : iblk m c 7 t0_0 = V m c main_v11 := by blk_ext! [iblk, idx t0_0]
theorem iblk8 (c : Dev nD) : iblk m c 8 t0_0 = V m c main_v12 := by blk_ext! [iblk, idx t0_0]
theorem iblk9 (c : Dev nD) : iblk m c 9 t0_0 = V m c main_v13 := by blk_ext! [iblk, idx t0_0]

/-- The result array: the body's payload over the whole operand arrays. -/
theorem final (c : Dev nD) : (dats m 0 c).arrAt 10 cfg0.N
    = k0_pay1 (F := Ideal) (k0_pay2 (F := Ideal) (V m c main_v4) (V m c main_v6) (V m c main_v1) (V m c main_v6) (V m c main_v3) (V m c main_v9) (V m c main_v10) (V m c main_v11))
        (k0_pay3 (F := Ideal) (V m c main_v4) (V m c main_v6) (V m c main_v1) (V m c main_v6) (V m c main_v3) (V m c main_v9) (V m c main_v10) (V m c main_v11))
        (V m c main_v12) (V m c main_v13) (V m c main_v8) := by
  refine (dats m 0 c).arrAt_eq_of_after_last 10 t0_0 (by decide +kernel) _ fun j => ?_
  blk_simp
  rw [after0_10]
  frame_out
  rw [iblk0, iblk1, iblk2, iblk3, iblk4, iblk5, iblk6, iblk7, iblk8, iblk9]

/-! ## The operand arrays the host prepares, read at an index -/

/-- The numerators: transposed, nodes padded. -/
theorem v1_in (c : Dev nD) (f : Fin 64) (n : Fin 50000) :
    V m c main_v1 (ix2 f ⟨n.val, by have := n.isLt; omega⟩) = (m ((c.tc : Thread nD τ).loc main_arg0) : FVec Ideal S50000x64 .f32) (ix2 n f) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The features: transposed, nodes padded. -/
theorem v3_in (c : Dev nD) (f : Fin 64) (n : Fin 50000) :
    V m c main_v3 (ix2 f ⟨n.val, by have := n.isLt; omega⟩) = (m ((c.tc : Thread nD τ).loc main_arg1) : FVec Ideal S50000x64 .f32) (ix2 n f) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The partial denominators, nodes padded. -/
theorem v4_in (c : Dev nD) (w : Fin 32) (n : Fin 50000) :
    V m c main_v4 (ix2 w ⟨n.val, by have := n.isLt; omega⟩) = (m ((c.tc : Thread nD τ).loc main_arg2) : FVec Ideal S32x50000 .f32) (ix2 w n) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The self-loop weights, nodes padded. -/
theorem v6_in (c : Dev nD) (n : Fin 50000) :
    V m c main_v6 (ix2 0 ⟨n.val, by have := n.isLt; omega⟩) = (m ((c.tc : Thread nD τ).loc main_arg3) : FVec Ideal S50000 .f32) (ix1 n) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The mask, nodes padded. -/
theorem v8_in (c : Dev nD) (n : Fin 50000) :
    V m c main_v8 (ix2 0 ⟨n.val, by have := n.isLt; omega⟩) = (m ((c.tc : Thread nD τ).loc main_arg4) : FVec Ideal S50000 .f32) (ix1 n) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The mask is zero on the padding. -/
theorem v8_out (c : Dev nD) (n : Fin 50176) (hn : ¬ n.val < 50000) :
    V m c main_v8 (ix2 0 n) = (0 : EReal) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise
  refine (dif_neg hn).trans ?_
  exact zero_int

/-- The second layer's bias as a column. -/
theorem v9_read (c : Dev nD) (f : Fin 64) :
    V m c main_v9 (ix2 f 0) = (m ((c.tc : Thread nD τ).loc main_arg5) : FVec Ideal S64 .f32) (ix1 f) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The first dense layer's weights, transposed. -/
theorem v10_read (c : Dev nD) (q : Fin 32) (f : Fin 64) :
    V m c main_v10 (ix2 q f) = (m ((c.tc : Thread nD τ).loc main_arg6) : FVec Ideal S64x32 .f32) (ix2 f q) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  pointwise

/-- The first dense layer's bias as a column. -/
theorem v11_read (c : Dev nD) (q : Fin 32) :
    V m c main_v11 (ix2 q 0) = (m ((c.tc : Thread nD τ).loc main_arg7) : FVec Ideal S32 .f32) (ix1 q) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The second dense layer's weights, transposed. -/
theorem v12_read (c : Dev nD) (q : Fin 32) :
    V m c main_v12 (ix2 0 q) = (m ((c.tc : Thread nD τ).loc main_arg8) : FVec Ideal S32x1 .f32) (ix2 q 0) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  pointwise

/-- The second dense layer's bias. -/
theorem v13_read (c : Dev nD) :
    V m c main_v13 (ix2 0 0) = (m ((c.tc : Thread nD τ).loc main_arg9) : FVec Ideal S1 .f32) (ix1 0) := by
  unfold V
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  simp only [StableHlo.TRef.toBuf, StableHlo.TRef.ofBuf, cast_eq]
  pointwise

/-- The result at a node. -/
theorem result_in (c : Dev nD) (n : Fin 50000) :
    (dats m 0 c).arrAt 10 cfg0.N (ix2 0 ⟨n.val, by have := n.isLt; omega⟩)
      = node (fun f => (m ((c.tc : Thread nD τ).loc main_arg0) : FVec Ideal S50000x64 .f32) (ix2 n f)) (fun f => (m ((c.tc : Thread nD τ).loc main_arg1) : FVec Ideal S50000x64 .f32) (ix2 n f))
          (fun w => (m ((c.tc : Thread nD τ).loc main_arg2) : FVec Ideal S32x50000 .f32) (ix2 w n)) ((m ((c.tc : Thread nD τ).loc main_arg3) : FVec Ideal S50000 .f32) (ix1 n))
          ((m ((c.tc : Thread nD τ).loc main_arg4) : FVec Ideal S50000 .f32) (ix1 n)) (fun f => (m ((c.tc : Thread nD τ).loc main_arg5) : FVec Ideal S64 .f32) (ix1 f))
          (fun f q => (m ((c.tc : Thread nD τ).loc main_arg6) : FVec Ideal S64x32 .f32) (ix2 f q)) (fun q => (m ((c.tc : Thread nD τ).loc main_arg7) : FVec Ideal S32 .f32) (ix1 q))
          (fun q => (m ((c.tc : Thread nD τ).loc main_arg8) : FVec Ideal S32x1 .f32) (ix2 q 0)) ((m ((c.tc : Thread nD τ).loc main_arg9) : FVec Ideal S1 .f32) (ix1 0)) := by
  rw [final m c]
  refine (pay_apply _ _ _ _ _ _ _ _ _ _ _).trans ?_
  rw [v6_in, v8_in, v13_read, funext fun f => v1_in m c f n, funext fun f => v3_in m c f n, funext fun w => v4_in m c w n, funext fun f => v9_read m c f,
    funext fun f => funext fun q => v10_read m c q f, funext fun q => v11_read m c q, funext fun q => v12_read m c q]

/-- The result on the padding: the mask there is zero. -/
theorem result_out (c : Dev nD) (n : Fin 50176) (hn : ¬ n.val < 50000) : (dats m 0 c).arrAt 10 cfg0.N (ix2 0 n) = (0 : EReal) := by
  rw [final m c]
  refine (pay_apply _ _ _ _ _ _ _ _ _ _ _).trans ?_
  rw [v8_out m c n hn]
  exact mul_zero _

end Cert.Proof.FinishValue

namespace Cert.Proof.FinishValue

open Idealize.ShloMosaic Idealize.ShloMosaic.TcCoe Idealize.SL.Sem

set_option maxRecDepth 16384

/-- Two rows equal at every column are equal. -/
theorem row_ext {f g : FVec Ideal ⟨2, ![1, 50176]⟩ .f32} (h : ∀ n : Fin 50176, f (ix2 0 n) = g (ix2 0 n)) : f = g := by
  funext j
  have e : j = ix2 0 (j 1) := (eq_ix2 j).trans (congrArg (fun a : Fin 1 => (ix2 a (j 1) : (⟨2, ![1, 50176]⟩ : Shape).Idx)) (Subsingleton.elim (α := Fin 1) _ _))
  rw [e]
  exact h (j 1)

section Reference
open Cert.FinishReferenceIdeal Cert.FinishReferenceIdeal.Read
variable [Cert.FinishReferenceIdeal.Facts]

/-- The reference's padded row at an index. -/
theorem ref_row (num h : FVec Ideal S50000x64 .f32) (den : FVec Ideal S32x50000 .f32) (e mask : FVec Ideal S50000 .f32) (b : FVec Ideal S64 .f32)
    (W1 : FVec Ideal S64x32 .f32) (b1 : FVec Ideal S32 .f32) (W2 : FVec Ideal S32x1 .f32) (b2 : FVec Ideal S1 .f32) (n : Fin 50176) :
    val_main_v35 (F := Ideal) num h den e mask b W1 b1 W2 b2 (ix2 0 n)
      = if hn : n.val < 50000 then val_main_v33 (F := Ideal) num h den e mask b W1 b1 W2 b2 (ix1 ⟨n.val, hn⟩) else (0 : EReal) := by
  unfold val_main_v35 val_main_v34
  generalize val_main_v33 (F := Ideal) num h den e mask b W1 b1 W2 b2 = y
  pointwise [val_main_call2_v0, val_main_c]
  rw [zero_int]

end Reference

/-- The last dense stages: the kernel's result is the reference's. -/
theorem algebraic : Cert.algebraic_FinishIdeal_FinishReferenceIdeal := by
  pair_intro
  · run_from Cert.FinishIdeal.Value.run_blocks m g
  · refine (θ_run Cert.FinishReferenceIdeal.defs _ _).mono (fun r h c => ⟨(h c).1.trans ?_, (h c).2⟩) (Cert.FinishReferenceIdeal.Value.run m' g')
    obtain ⟨h0, h1, h2, h3, h4, h5, h6, h7, h8, h9⟩ := hagree c
    refine (Cert.FinishReferenceIdeal.Read.val_main_v35_eq m' c).trans ?_
    rw [h0, h1, h2, h3, h4, h5, h6, h7, h8, h9]
    refine row_ext fun n => (ref_row _ _ _ _ _ _ _ _ _ _ n).trans ?_
    by_cases hn : n.val < 50000
    · rw [dif_pos hn]
      exact (FinishPoint.ref_apply _ _ _ _ _ _ _ _ _ _ ⟨n.val, hn⟩).trans (result_in m c ⟨n.val, hn⟩).symm
    · rw [dif_neg hn]
      exact (result_out m c n hn).symm

end Cert.Proof.FinishValue
-- ==== Proof.EdgeWeights.lean ====
/-
  What the second precondition says, and the one law of arithmetic it is there for: of numbers, a weighted sum of two terms is the
  two weighted sums.
-/
module

public import proofs.«01_k».proof.Pre_finite_edges
public import Idealize.ShloMosaic.Lib.ReduceAll
public import Idealize.ShloMosaic.Lib.ValueIdx

@[expose] public section

noncomputable section

namespace Cert.Proof.EdgeWeights

open Idealize.ShloMosaic Idealize.SL.Sem
open Idealize.ShloMosaic.ValueIdx (ix0)

/-- A value that is a number. -/
def IsNumber (v : EReal) : Prop := ∃ r : ℝ, v = r

/-- The sum of numbers is the number their sum is. -/
theorem sum_coe {n : ℕ} (f : Fin n → ℝ) : ∑ k, (f k : EReal) = ((∑ k, f k : ℝ) : EReal) := by
  induction n with
  | zero => simp
  | succ n ih => rw [Fin.sum_univ_succ, Fin.sum_univ_succ, ih, EReal.coe_add]

/-- Of numbers, weighing the combination is combining the weighed. -/
theorem combine {n : ℕ} {a b : EReal} {u v w : Fin n → EReal} (ha : IsNumber a) (hb : IsNumber b) (hu : ∀ k, IsNumber (u k))
    (hv : ∀ k, IsNumber (v k)) (hw : ∀ k, IsNumber (w k)) :
    ∑ k, (a * u k + b * v k) * w k = a * ∑ k, u k * w k + b * ∑ k, v k * w k := by
  obtain ⟨a, rfl⟩ := ha
  obtain ⟨b, rfl⟩ := hb
  choose u' hu using hu
  choose v' hv using hv
  choose w' hw using hw
  simp only [hu, hv, hw, ← EReal.coe_mul, ← EReal.coe_add, sum_coe]
  refine congrArg _ ?_
  rw [Finset.mul_sum, Finset.mul_sum, ← Finset.sum_add_distrib]
  exact Finset.sum_congr rfl fun k _ => by ring

/-- A value below infinity in magnitude is a number. -/
theorem of_abs_lt {v : EReal} (h : Ideal.cmp .olt (max v (-v)) (Ideal.ofBits .f32 0x7F800000#32) = 1#1) : IsNumber v := by
  have htop : Ideal.ofBits .f32 0x7F800000#32 = ⊤ := by simp [Ideal.ofBits, Ideal.ieee]
  have hone : ∀ p : Bool, (BitVec.ofBool p = 1#1) ↔ p = true := by decide
  rw [htop] at h
  have h2 : max v (-v) < ⊤ := of_decide_eq_true ((hone _).1 h)
  induction v with
  | bot => simp at h2
  | coe r => exact ⟨r, rfl⟩
  | top => simp at h2

open Cert.Pre_finite_edges

variable [Facts] {a0 : FVec Ideal S50000x2 .f32} {a1 : FVec Ideal S800000x2 .f32} {a2 : FVec Ideal S2x64 .f32} {a3 a4 : FVec Ideal S64 .f32}
  {a5 : FVec Ideal S2x64 .f32} {a6 : FVec Ideal S64 .f32} {a7 : FVec Ideal S2x64 .f32} {a8 : FVec Ideal S64 .f32}

/-- The edges' features and every weight that multiplies them are numbers. -/
theorem numbers (h : fn (F := Ideal) a0 a1 a2 a3 a4 a5 a6 a7 a8 = fun _ => 1#1) :
    (∀ i, IsNumber (a1 i)) ∧ (∀ i, IsNumber (a5 i)) ∧ (∀ i, IsNumber (a6 i)) ∧ (∀ i, IsNumber (a7 i)) ∧ ∀ i, IsNumber (a8 i) := by
  have hand : ∀ p q : BitVec 1, IntOp.andi p q = 1#1 → p = 1#1 ∧ q = 1#1 := by decide
  have e := congrFun h ix0
  obtain ⟨e, e8⟩ := hand _ _ e
  obtain ⟨e, e7⟩ := hand _ _ e
  obtain ⟨e, e6⟩ := hand _ _ e
  obtain ⟨e1, e5⟩ := hand _ _ e
  exact ⟨fun i => of_abs_lt (Host.reduce_andi_all _ _ _ _ _ e1 i), fun i => of_abs_lt (Host.reduce_andi_all _ _ _ _ _ e5 i),
    fun i => of_abs_lt (Host.reduce_andi_all _ _ _ _ _ e6 i), fun i => of_abs_lt (Host.reduce_andi_all _ _ _ _ _ e7 i),
    fun i => of_abs_lt (Host.reduce_andi_all _ _ _ _ _ e8 i)⟩

end Cert.Proof.EdgeWeights

end
-- ==== Proof.ProjectValue.lean ====
/-
  The first dense stage: the nodes' features, their two logit terms, and the edges' two logit terms, read off the operand arrays the
  host prepares.
-/
module

public import proofs.«01_k».proof.Defs
public import proofs.«01_k».proof.Proof.EdgeWeights
public import proofs.«01_k».proof.Proof.Gen.ProjectIdeal.Frame
public import Idealize.ShloMosaic.Lib.Pipeline.Value
public import Idealize.ShloMosaic.Lib.Pipeline.ValueKit
public import Idealize.ShloMosaic.Lib.Claim
public import Idealize.ShloMosaic.Lib.Pointwise

@[expose] public section

noncomputable section

namespace Cert.Proof.ProjectValue

open Idealize.ShloMosaic Idealize.ShloMosaic.TcCoe Idealize.SL.Sem
open Idealize.ShloMosaic.Pipeline (Dat)
open Cert.ProjectIdeal Cert.ProjectIdeal.Gen

set_option maxRecDepth 16384

variable (m : (ℓ : Loc nD τ sig) → Buf (Elt Ideal) ℓ)

/-- The integer zero as a real. -/
theorem zero_int : (FloatOps.sitofp .f32 (0#32) : Ideal .f32) = (0 : EReal) := by
  show (((0#32).toInt : ℝ) : EReal) = 0
  simp

/-- Every operand and result is staged whole. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] :=
  (by decide +kernel : ∀ t : Fin grid0.N, _)

theorem iblk0 (c : Dev nD) : iblk m c 0 t0_0 = V m c main_v1 := by blk_ext! [iblk, idx t0_0]
theorem iblk1 (c : Dev nD) : iblk m c 1 t0_0 = V m c main_v5 := by blk_ext! [iblk, idx t0_0]
theorem iblk2 (c : Dev nD) : iblk m c 2 t0_0 = V m c main_v9 := by blk_ext! [iblk, idx t0_0]
theorem iblk3 (c : Dev nD) : iblk m c 3 t0_0 = V m c main_v15 := by blk_ext! [iblk, idx t0_0]
theorem iblk4 (c : Dev nD) : iblk m c 4 t0_0 = V m c main_v16 := by blk_ext! [iblk, idx t0_0]
theorem iblk5 (c : Dev nD) : iblk m c 5 t0_0 = V m c main_v17 := by blk_ext! [iblk, idx t0_0]
theorem iblk6 (c : Dev nD) : iblk m c 6 t0_0 = V m c main_v14 := by blk_ext! [iblk, idx t0_0]

/-! ## What each result holds, of the operand arrays -/

/-- A feature of a node: the node's two inputs weighted. -/
def feat (x : FVec Ideal S2x50176 .f32) (w : FVec Ideal S64x2 .f32) (f : Fin 64) (n : Fin 50176) : EReal :=
  w (ix2 f 0) * x (ix2 0 n) + w (ix2 f 1) * x (ix2 1 n)

/-- The features. -/
def feats (x : FVec Ideal S2x50176 .f32) (w : FVec Ideal S64x2 .f32) : FVec Ideal S64x50176 .f32 := fun j => feat x w (j 0) (j 1)

/-- A logit term of the nodes: the features weighted. -/
def terms (x : FVec Ideal S2x50176 .f32) (w : FVec Ideal S64x2 .f32) (a : FVec Ideal S64x1 .f32) : FVec Ideal S1x50176 .f32 := fun j =>
  ∑ f : Fin 64, feat x w f (j 1) * a (ix2 f 0)

/-- A logit term of the edges: the edge's two inputs weighted by row `l` of the weights. -/
def edges (x y : FVec Ideal S1600x512 .f32) (w : FVec Ideal S2x2 .f32) (l : Fin 2) : FVec Ideal S1600x512 .f32 := fun j =>
  x j * w (ix2 l 0) + y j * w (ix2 l 1)

theorem final7 (c : Dev nD) : (dats m 0 c).arrAt 7 cfg0.N = feats (V m c main_v1) (V m c main_v15) := by
  refine (dats m 0 c).arrAt_eq_of_after_last 7 t0_0 (by decide +kernel) _ fun j => ?_
  blk_simp
  rw [after0_7]
  frame_out
  pointwise! [k0_pay4, feats, feat, iblk0, iblk1, iblk2, iblk3, iblk4, iblk5, iblk6]

theorem final8 (c : Dev nD) : (dats m 0 c).arrAt 8 cfg0.N = terms (V m c main_v1) (V m c main_v15) (V m c main_v16) := by
  refine (dats m 0 c).arrAt_eq_of_after_last 8 t0_0 (by decide +kernel) _ fun j => ?_
  blk_simp
  rw [after0_8]
  frame_out
  pointwise! [k0_pay5, k0_pay4, terms, feat, iblk0, iblk1, iblk2, iblk3, iblk4, iblk5, iblk6]

theorem final9 (c : Dev nD) : (dats m 0 c).arrAt 9 cfg0.N = terms (V m c main_v1) (V m c main_v15) (V m c main_v17) := by
  refine (dats m 0 c).arrAt_eq_of_after_last 9 t0_0 (by decide +kernel) _ fun j => ?_
  blk_simp
  rw [after0_9]
  frame_out
  pointwise! [k0_pay6, k0_pay4, terms, feat, iblk0, iblk1, iblk2, iblk3, iblk4, iblk5, iblk6]

theorem final10 (c : Dev nD) : (dats m 0 c).arrAt 10 cfg0.N = edges (V m c main_v5) (V m c main_v9) (V m c main_v14) 0 := by
  refine (dats m 0 c).arrAt_eq_of_after_last 10 t0_0 (by decide +kernel) _ fun j => ?_
  blk_simp
  rw [after0_10]
  frame_out
  pointwise! [k0_pay2, k0_pay1, k0_pay7, k0_pay8, k0_pay9, k0_pay10, edges, iblk0, iblk1, iblk2, iblk3, iblk4, iblk5, iblk6]

theorem final11 (c : Dev nD) : (dats m 0 c).arrAt 11 cfg0.N = edges (V m c main_v5) (V m c main_v9) (V m c main_v14) 1 := by
  refine (dats m 0 c).arrAt_eq_of_after_last 11 t0_0 (by decide +kernel) _ fun j => ?_
  blk_simp
  rw [after0_11]
  frame_out
  pointwise! [k0_pay3, k0_pay1, k0_pay7, k0_pay8, k0_pay9, k0_pay10, edges, iblk0, iblk1, iblk2, iblk3, iblk4, iblk5, iblk6]

/-- A layer's edge weights folded into its attention vector. -/
def folded (w : FVec Ideal S2x64 .f32) (a : FVec Ideal S64 .f32) (k : Fin 2) : EReal := ∑ f : Fin 64, w (ix2 k f) * a (ix1 f)

/-! ## The operand arrays the host prepares, read at an index -/

/-- The nodes' inputs: transposed, nodes padded. -/
theorem v1_in (c : Dev nD) (k : Fin 2) (n : Fin 50000) :
    V m c main_v1 (ix2 k ⟨n.val, by have := n.isLt; omega⟩) = (m ((c.tc : Thread nD τ).loc main_arg0) : FVec Ideal S50000x2 .f32) (ix2 n k) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise

/-- They are zero on the padding. -/
theorem v1_out (c : Dev nD) (k : Fin 2) (n : Fin 50176) (hn : ¬ n.val < 50000) :
    V m c main_v1 (ix2 k n) = (0 : EReal) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise
  exact (dif_neg hn).trans zero_int

/-- The edges' input 0, edges padded and cut into rows. -/
theorem v5_in (c : Dev nD) (r : Fin 1600) (l : Fin 512) (he : r.val * 512 + l.val < 800000) :
    V m c main_v5 (ix2 r l) = (m ((c.tc : Thread nD τ).loc main_arg1) : FVec Ideal S800000x2 .f32) (ix2 ⟨r.val * 512 + l.val, he⟩ 0) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise
  exact dif_pos he

/-- It is zero on the padding. -/
theorem v5_out (c : Dev nD) (r : Fin 1600) (l : Fin 512) (he : ¬ r.val * 512 + l.val < 800000) :
    V m c main_v5 (ix2 r l) = (0 : EReal) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise
  exact (dif_neg he).trans zero_int

/-- The edges' input 1, edges padded and cut into rows. -/
theorem v9_in (c : Dev nD) (r : Fin 1600) (l : Fin 512) (he : r.val * 512 + l.val < 800000) :
    V m c main_v9 (ix2 r l) = (m ((c.tc : Thread nD τ).loc main_arg1) : FVec Ideal S800000x2 .f32) (ix2 ⟨r.val * 512 + l.val, he⟩ 1) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise
  exact dif_pos he

/-- It is zero on the padding. -/
theorem v9_out (c : Dev nD) (r : Fin 1600) (l : Fin 512) (he : ¬ r.val * 512 + l.val < 800000) :
    V m c main_v9 (ix2 r l) = (0 : EReal) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise
  exact (dif_neg he).trans zero_int

/-- The nodes' weights, transposed. -/
theorem v15_read (c : Dev nD) (f : Fin 64) (k : Fin 2) :
    V m c main_v15 (ix2 f k) = (m ((c.tc : Thread nD τ).loc main_arg2) : FVec Ideal S2x64 .f32) (ix2 k f) := by
  unfold V
  simp only [hostOps0, hostOps0_1, hostOps0_2, hostOps0_3, hostOps0_4, hostOps0_5, hostOps0_6, List.flatten_cons, List.flatten_nil, List.append_nil, List.cons_append, List.nil_append]
  after_results
  pointwise

/-- The first attention vector as a column. -/
theorem v16_read (c : Dev nD) (f : Fin 64) :
    V m c main_v16 (ix2 f 0) = (m ((c.tc : Thread nD τ).loc main_arg3) : FVec Ideal S64 .f32) (ix1 f) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise

/-- The second attention vector as a column. -/
theorem v17_read (c : Dev nD) (f : Fin 64) :
    V m c main_v17 (ix2 f 0) = (m ((c.tc : Thread nD τ).loc main_arg4) : FVec Ideal S64 .f32) (ix1 f) := by
  unfold V
  simp only [hostOps0, hostOps0_1, hostOps0_2, hostOps0_3, hostOps0_4, hostOps0_5, hostOps0_6, List.flatten_cons, List.flatten_nil, List.append_nil, List.cons_append, List.nil_append]
  after_results
  simp only [StableHlo.TRef.toBuf, StableHlo.TRef.ofBuf, cast_eq]
  pointwise

/-- Layer 1's edge weights, folded into its attention vector. -/
theorem v14_row0 (c : Dev nD) (k : Fin 2) :
    V m c main_v14 (ix2 0 k) = folded (m ((c.tc : Thread nD τ).loc main_arg5) : FVec Ideal S2x64 .f32) (m ((c.tc : Thread nD τ).loc main_arg6) : FVec Ideal S64 .f32) k := by
  unfold V
  simp only [hostOps0, hostOps0_1, hostOps0_2, hostOps0_3, hostOps0_4, hostOps0_5, hostOps0_6, List.flatten_cons, List.flatten_nil, List.append_nil, List.cons_append, List.nil_append]
  after_results
  pointwise
  rfl

/-- Layer 2's edge weights, folded into its attention vector. -/
theorem v14_row1 (c : Dev nD) (k : Fin 2) :
    V m c main_v14 (ix2 1 k) = folded (m ((c.tc : Thread nD τ).loc main_arg7) : FVec Ideal S2x64 .f32) (m ((c.tc : Thread nD τ).loc main_arg8) : FVec Ideal S64 .f32) k := by
  unfold V
  simp only [hostOps0, hostOps0_1, hostOps0_2, hostOps0_3, hostOps0_4, hostOps0_5, hostOps0_6, List.flatten_cons, List.flatten_nil, List.append_nil, List.cons_append, List.nil_append]
  after_results
  pointwise
  rfl

end Cert.Proof.ProjectValue

end
-- ==== Proof.ProjectEq.lean ====
/-
  The first dense stage agrees with the reference.  The features and the nodes' logit terms agree as they stand; the edges' logit
  terms weigh the edge's two inputs by weights folded beforehand, which for numbers is the same.
-/
module

public import proofs.«01_k».proof.Proof.ProjectValue
public import proofs.«01_k».proof.Proof.Gen.Pre_finite_edges
public import proofs.«01_k».proof.Proof.Gen.ProjectReferenceIdeal.Run
public import proofs.«01_k».proof.Proof.Gen.ProjectReferenceIdeal.Read

@[expose] public section

noncomputable section

namespace Cert.Proof.ProjectValue

open Idealize.ShloMosaic Idealize.ShloMosaic.TcCoe Idealize.SL.Sem

set_option maxRecDepth 16384

/-- Two matrices equal at every entry are equal. -/
theorem mat_ext {p q : ℕ} {f g : FVec Ideal ⟨2, ![p, q]⟩ .f32} (h : ∀ (a : Fin p) (b : Fin q), f (ix2 a b) = g (ix2 a b)) : f = g := by
  funext j
  rw [eq_ix2 j]
  exact h (j 0) (j 1)

/-- The reference's feature of a node. -/
def refFeat (x : FVec Ideal ⟨2, ![50000, 2]⟩ .f32) (w : FVec Ideal ⟨2, ![2, 64]⟩ .f32) (n : Fin 50000) (f : Fin 64) : EReal := ∑ k : Fin 2, x (ix2 n k) * w (ix2 k f)

theorem edges_apply (x y : FVec Ideal ⟨2, ![1600, 512]⟩ .f32) (w : FVec Ideal ⟨2, ![2, 2]⟩ .f32) (l : Fin 2) (r : Fin 1600) (q : Fin 512) :
    edges x y w l (ix2 r q) = x (ix2 r q) * w (ix2 l 0) + y (ix2 r q) * w (ix2 l 1) := rfl

section Kernel
open Cert.ProjectIdeal Cert.ProjectIdeal.Gen

variable (m : (ℓ : Loc nD τ sig) → Buf (Elt Ideal) ℓ) (ρ : Dev nD → PrngReg)

theorem kept0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)
theorem kept1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
theorem kept2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
theorem kept3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
theorem kept4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)
theorem kept5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_main_arg5 m c)
theorem kept6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)
theorem kept7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)
theorem kept8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

/-- A feature of a node. -/
theorem feat_in (c : Dev nD) (f : Fin 64) (n : Fin 50000) : feat (V m c main_v1) (V m c main_v15) f ⟨n.val, by have := n.isLt; omega⟩
    = refFeat (m ((c.tc : Thread nD τ).loc main_arg0) : FVec Ideal S50000x2 .f32) (m ((c.tc : Thread nD τ).loc main_arg2) : FVec Ideal S2x64 .f32) n f := by
  unfold feat refFeat
  rw [v1_in, v1_in, v15_read, v15_read, Fin.sum_univ_two]
  exact congrArg₂ (fun a b : EReal => a + b) (mul_comm _ _) (mul_comm _ _)

/-- On the padding it is zero. -/
theorem feat_out (c : Dev nD) (f : Fin 64) (n : Fin 50176) (hn : ¬ n.val < 50000) : feat (V m c main_v1) (V m c main_v15) f n = 0 := by
  unfold feat
  rw [v1_out m c 0 n hn, v1_out m c 1 n hn]
  exact (congrArg₂ (fun a b : EReal => a + b) (mul_zero _) (mul_zero _)).trans (add_zero _)

end Kernel

section Reference
open Cert.ProjectReferenceIdeal Cert.ProjectReferenceIdeal.Read
variable [Cert.ProjectReferenceIdeal.Facts]

theorem ref_feats (x : FVec Ideal S50000x2 .f32) (w : FVec Ideal S2x64 .f32) (f : Fin 64) (n : Fin 50176) :
    val_main_v2 (F := Ideal) x w (ix2 f n) = if hn : n.val < 50000 then refFeat x w ⟨n.val, hn⟩ f else (0 : EReal) := by
  unfold refFeat
  pointwise [val_main_v2, val_main_v1, val_main_v0, val_main_call0_v0, val_main_c]
  rw [zero_int]

theorem ref_terms5 (x : FVec Ideal S50000x2 .f32) (w : FVec Ideal S2x64 .f32) (a : FVec Ideal S64 .f32) (n : Fin 50176) :
    val_main_v5 (F := Ideal) x w a (ix2 0 n) = if hn : n.val < 50000 then ∑ f : Fin 64, refFeat x w ⟨n.val, hn⟩ f * a (ix1 f) else (0 : EReal) := by
  unfold refFeat
  pointwise [val_main_v5, val_main_v4, val_main_v3, val_main_v0, val_main_call1_v0, val_main_c_0]
  rw [zero_int]

theorem ref_terms8 (x : FVec Ideal S50000x2 .f32) (w : FVec Ideal S2x64 .f32) (a : FVec Ideal S64 .f32) (n : Fin 50176) :
    val_main_v8 (F := Ideal) x w a (ix2 0 n) = if hn : n.val < 50000 then ∑ f : Fin 64, refFeat x w ⟨n.val, hn⟩ f * a (ix1 f) else (0 : EReal) := by
  unfold refFeat
  pointwise [val_main_v8, val_main_v7, val_main_v6, val_main_v0, val_main_call2_v0, val_main_c_1]
  rw [zero_int]

/-- The reference's logit term of an edge. -/
def refEdge (e : FVec Ideal S800000x2 .f32) (w : FVec Ideal S2x64 .f32) (a : FVec Ideal S64 .f32) (k : Fin 800000) : EReal :=
  ∑ f : Fin 64, (∑ l : Fin 2, e (ix2 k l) * w (ix2 l f)) * a (ix1 f)

theorem ref_edges12 (e : FVec Ideal S800000x2 .f32) (w : FVec Ideal S2x64 .f32) (a : FVec Ideal S64 .f32) (r : Fin 1600) (l : Fin 512) :
    val_main_v12 (F := Ideal) e w a (ix2 r l) = if he : r.val * 512 + l.val < 800000 then refEdge e w a ⟨r.val * 512 + l.val, he⟩ else (0 : EReal) := by
  unfold refEdge
  pointwise [val_main_v12, val_main_v11, val_main_v10, val_main_v9, val_main_call3_v0, val_main_c_2]
  rw [zero_int]

theorem ref_edges16 (e : FVec Ideal S800000x2 .f32) (w : FVec Ideal S2x64 .f32) (a : FVec Ideal S64 .f32) (r : Fin 1600) (l : Fin 512) :
    val_main_v16 (F := Ideal) e w a (ix2 r l) = if he : r.val * 512 + l.val < 800000 then refEdge e w a ⟨r.val * 512 + l.val, he⟩ else (0 : EReal) := by
  unfold refEdge
  pointwise [val_main_v16, val_main_v15, val_main_v14, val_main_v13, val_main_call4_v0, val_main_c_3]
  rw [zero_int]

/-- For numbers, folding the weights first changes nothing. -/
theorem refEdge_eq (e : FVec Ideal S800000x2 .f32) (w : FVec Ideal S2x64 .f32) (a : FVec Ideal S64 .f32) (he : ∀ i, EdgeWeights.IsNumber (e i))
    (hw : ∀ i, EdgeWeights.IsNumber (w i)) (ha : ∀ i, EdgeWeights.IsNumber (a i)) (k : Fin 800000) :
    refEdge e w a k = e (ix2 k 0) * folded w a 0 + e (ix2 k 1) * folded w a 1 := by
  refine (Finset.sum_congr rfl fun f _ => ?_).trans (EdgeWeights.combine (u := fun f => w (ix2 0 f)) (v := fun f => w (ix2 1 f)) (w := fun f => a (ix1 f))
    (he (ix2 k 0)) (he (ix2 k 1)) (fun f => hw (ix2 0 f)) (fun f => hw (ix2 1 f)) fun f => ha (ix1 f))
  rw [Fin.sum_univ_two]

end Reference

section Both
open Cert.ProjectIdeal Cert.ProjectIdeal.Gen

variable (m : (ℓ : Loc nD τ sig) → Buf (Elt Ideal) ℓ)

theorem feats_eq (c : Dev nD) : Cert.ProjectReferenceIdeal.Read.val_main_v2 (F := Ideal) (m ((c.tc : Thread nD τ).loc main_arg0) : FVec Ideal S50000x2 .f32) (m ((c.tc : Thread nD τ).loc main_arg2) : FVec Ideal S2x64 .f32)
    = feats (V m c main_v1) (V m c main_v15) :=
  mat_ext fun f n => (ref_feats _ _ f n).trans (by
    show _ = feat (V m c main_v1) (V m c main_v15) f n
    by_cases hn : n.val < 50000
    · rw [dif_pos hn]
      exact (feat_in m c f ⟨n.val, hn⟩).symm
    · rw [dif_neg hn, feat_out m c f n hn])

theorem terms_v5 (c : Dev nD) : Cert.ProjectReferenceIdeal.Read.val_main_v5 (F := Ideal) (m ((c.tc : Thread nD τ).loc main_arg0) : FVec Ideal S50000x2 .f32) (m ((c.tc : Thread nD τ).loc main_arg2) : FVec Ideal S2x64 .f32) (m ((c.tc : Thread nD τ).loc main_arg3) : FVec Ideal S64 .f32)
    = terms (V m c main_v1) (V m c main_v15) (V m c main_v16) :=
  mat_ext fun z n => by
    obtain rfl : z = 0 := Subsingleton.elim _ _
    refine (ref_terms5 _ _ _ n).trans ?_
    show _ = ∑ f : Fin 64, feat (V m c main_v1) (V m c main_v15) f n * (V m c main_v16 : FVec Ideal S64x1 .f32) (ix2 f 0)
    by_cases hn : n.val < 50000
    · rw [dif_pos hn]
      refine Finset.sum_congr rfl fun f _ => ?_
      rw [v16_read, feat_in m c f ⟨n.val, hn⟩]
    · rw [dif_neg hn]
      refine (Finset.sum_eq_zero fun f _ => ?_).symm
      rw [feat_out m c f n hn, zero_mul]

theorem terms_v8 (c : Dev nD) : Cert.ProjectReferenceIdeal.Read.val_main_v8 (F := Ideal) (m ((c.tc : Thread nD τ).loc main_arg0) : FVec Ideal S50000x2 .f32) (m ((c.tc : Thread nD τ).loc main_arg2) : FVec Ideal S2x64 .f32) (m ((c.tc : Thread nD τ).loc main_arg4) : FVec Ideal S64 .f32)
    = terms (V m c main_v1) (V m c main_v15) (V m c main_v17) :=
  mat_ext fun z n => by
    obtain rfl : z = 0 := Subsingleton.elim _ _
    refine (ref_terms8 _ _ _ n).trans ?_
    show _ = ∑ f : Fin 64, feat (V m c main_v1) (V m c main_v15) f n * (V m c main_v17 : FVec Ideal S64x1 .f32) (ix2 f 0)
    by_cases hn : n.val < 50000
    · rw [dif_pos hn]
      refine Finset.sum_congr rfl fun f _ => ?_
      rw [v17_read, feat_in m c f ⟨n.val, hn⟩]
    · rw [dif_neg hn]
      refine (Finset.sum_eq_zero fun f _ => ?_).symm
      rw [feat_out m c f n hn, zero_mul]

theorem edges_v12 (c : Dev nD) (he : ∀ i, EdgeWeights.IsNumber ((m ((c.tc : Thread nD τ).loc main_arg1) : FVec Ideal S800000x2 .f32) i)) (hw : ∀ i, EdgeWeights.IsNumber ((m ((c.tc : Thread nD τ).loc main_arg5) : FVec Ideal S2x64 .f32) i)) (ha : ∀ i, EdgeWeights.IsNumber ((m ((c.tc : Thread nD τ).loc main_arg6) : FVec Ideal S64 .f32) i)) :
    Cert.ProjectReferenceIdeal.Read.val_main_v12 (F := Ideal) (m ((c.tc : Thread nD τ).loc main_arg1) : FVec Ideal S800000x2 .f32) (m ((c.tc : Thread nD τ).loc main_arg5) : FVec Ideal S2x64 .f32) (m ((c.tc : Thread nD τ).loc main_arg6) : FVec Ideal S64 .f32) = edges (V m c main_v5) (V m c main_v9) (V m c main_v14) 0 :=
  mat_ext fun r l => by
    refine (ref_edges12 _ _ _ r l).trans ?_
    rw [edges_apply, v14_row0, v14_row0]
    by_cases hk : r.val * 512 + l.val < 800000
    · rw [dif_pos hk, v5_in m c r l hk, v9_in m c r l hk]
      exact refEdge_eq _ _ _ he hw ha _
    · rw [dif_neg hk, v5_out m c r l hk, v9_out m c r l hk, zero_mul, zero_mul, add_zero]

theorem edges_v16 (c : Dev nD) (he : ∀ i, EdgeWeights.IsNumber ((m ((c.tc : Thread nD τ).loc main_arg1) : FVec Ideal S800000x2 .f32) i)) (hw : ∀ i, EdgeWeights.IsNumber ((m ((c.tc : Thread nD τ).loc main_arg7) : FVec Ideal S2x64 .f32) i)) (ha : ∀ i, EdgeWeights.IsNumber ((m ((c.tc : Thread nD τ).loc main_arg8) : FVec Ideal S64 .f32) i)) :
    Cert.ProjectReferenceIdeal.Read.val_main_v16 (F := Ideal) (m ((c.tc : Thread nD τ).loc main_arg1) : FVec Ideal S800000x2 .f32) (m ((c.tc : Thread nD τ).loc main_arg7) : FVec Ideal S2x64 .f32) (m ((c.tc : Thread nD τ).loc main_arg8) : FVec Ideal S64 .f32) = edges (V m c main_v5) (V m c main_v9) (V m c main_v14) 1 :=
  mat_ext fun r l => by
    refine (ref_edges16 _ _ _ r l).trans ?_
    rw [edges_apply, v14_row1, v14_row1]
    by_cases hk : r.val * 512 + l.val < 800000
    · rw [dif_pos hk, v5_in m c r l hk, v9_in m c r l hk]
      exact refEdge_eq _ _ _ he hw ha _
    · rw [dif_neg hk, v5_out m c r l hk, v9_out m c r l hk, zero_mul, zero_mul, add_zero]

end Both

/-- The first dense stage: the kernel's results are the reference's. -/
theorem algebraic : Cert.algebraic_ProjectIdeal_ProjectReferenceIdeal_pre_finite_edges := by
  intro m g m' g' hpre hagree
  refine ⟨fun c => feats (Cert.ProjectIdeal.Gen.V m c Cert.ProjectIdeal.main_v1) (Cert.ProjectIdeal.Gen.V m c Cert.ProjectIdeal.main_v15),
    fun c => terms (Cert.ProjectIdeal.Gen.V m c Cert.ProjectIdeal.main_v1) (Cert.ProjectIdeal.Gen.V m c Cert.ProjectIdeal.main_v15) (Cert.ProjectIdeal.Gen.V m c Cert.ProjectIdeal.main_v16),
    fun c => terms (Cert.ProjectIdeal.Gen.V m c Cert.ProjectIdeal.main_v1) (Cert.ProjectIdeal.Gen.V m c Cert.ProjectIdeal.main_v15) (Cert.ProjectIdeal.Gen.V m c Cert.ProjectIdeal.main_v17),
    fun c => edges (Cert.ProjectIdeal.Gen.V m c Cert.ProjectIdeal.main_v5) (Cert.ProjectIdeal.Gen.V m c Cert.ProjectIdeal.main_v9) (Cert.ProjectIdeal.Gen.V m c Cert.ProjectIdeal.main_v14) 0,
    fun c => edges (Cert.ProjectIdeal.Gen.V m c Cert.ProjectIdeal.main_v5) (Cert.ProjectIdeal.Gen.V m c Cert.ProjectIdeal.main_v9) (Cert.ProjectIdeal.Gen.V m c Cert.ProjectIdeal.main_v14) 1, ?_, ?_⟩
  · exact (θ_run Cert.ProjectIdeal.defs _ _).mono (fun r h c => ⟨((h c).1 7).trans (final7 m c), ((h c).1 8).trans (final8 m c), ((h c).1 9).trans (final9 m c),
      ((h c).1 10).trans (final10 m c), ((h c).1 11).trans (final11 m c), kept0 m r h c, kept1 m r h c, kept2 m r h c, kept3 m r h c, kept4 m r h c, kept5 m r h c, kept6 m r h c, kept7 m r h c, kept8 m r h c⟩) (Cert.ProjectIdeal.Gen.run_main m g)
  · refine (θ_run Cert.ProjectReferenceIdeal.defs _ _).mono (fun r h c => ?_) (Cert.ProjectReferenceIdeal.Value.run m' g')
    obtain ⟨r2, r5, r8, r12, r16, hargs⟩ := h c
    obtain ⟨h0, h1, h2, h3, h4, h5, h6, h7, h8⟩ := hagree c
    obtain ⟨n1, n5, n6, n7, n8⟩ := EdgeWeights.numbers (hpre c)
    refine ⟨r2.trans ?_, r5.trans ?_, r8.trans ?_, r12.trans ?_, r16.trans ?_, hargs⟩
    · rw [h0, h2]
      exact (Cert.ProjectReferenceIdeal.Read.val_main_v2_eq _ _).trans (feats_eq m c)
    · rw [h0, h2, h3]
      exact (Cert.ProjectReferenceIdeal.Read.val_main_v5_eq _ _ _).trans (terms_v5 m c)
    · rw [h0, h2, h4]
      exact (Cert.ProjectReferenceIdeal.Read.val_main_v8_eq _ _ _).trans (terms_v8 m c)
    · rw [h1, h5, h6]
      exact (Cert.ProjectReferenceIdeal.Read.val_main_v12_eq _ _ _).trans (edges_v12 m c n1 n5 n6)
    · rw [h1, h7, h8]
      exact (Cert.ProjectReferenceIdeal.Read.val_main_v16_eq _ _ _).trans (edges_v16 m c n1 n7 n8)

end Cert.Proof.ProjectValue

end
-- ==== Proof.CombineValue.lean ====
/-
  Adding up the thirty-two partial arrays: the kernel's four rows are the reference's.
-/
module

public import proofs.«01_k».proof.Defs
public import proofs.«01_k».proof.Proof.FinishValue
public import proofs.«01_k».proof.Proof.Gen.CombineIdeal.Value
public import proofs.«01_k».proof.Proof.Gen.CombineReferenceIdeal.Run
public import proofs.«01_k».proof.Proof.Gen.CombineReferenceIdeal.Read
public import Idealize.ShloMosaic.Lib.Pointwise
public import Idealize.ShloMosaic.Lib.Claim

@[expose] public section

noncomputable section

namespace Cert.Proof.CombineValue

open Idealize.ShloMosaic Idealize.ShloMosaic.TcCoe Idealize.SL.Sem

set_option maxRecDepth 16384

section Kernel
open Cert.CombineIdeal Cert.CombineIdeal.Gen

theorem pay1_apply (x : FVec Ideal S32x50176 .f32) (n : Fin 50176) : k0_pay1 (F := Ideal) x (ix2 0 n) = ∑ w : Fin 32, x (ix2 w n) := by
  pointwise! [k0_pay1]

theorem pay2_apply (x : FVec Ideal S32x50176 .f32) (n : Fin 50176) : k0_pay2 (F := Ideal) x (ix2 0 n) = ∑ w : Fin 32, x (ix2 w n) := by
  pointwise! [k0_pay2]

theorem pay3_apply (x : FVec Ideal S32x50176 .f32) (n : Fin 50176) : k0_pay3 (F := Ideal) x (ix2 0 n) = ∑ w : Fin 32, x (ix2 w n) := by
  pointwise! [k0_pay3]

theorem pay4_apply (x : FVec Ideal S32x50176 .f32) (n : Fin 50176) : k0_pay4 (F := Ideal) x (ix2 0 n) = ∑ w : Fin 32, x (ix2 w n) := by
  pointwise! [k0_pay4]

end Kernel

section Reference
open Cert.CombineReferenceIdeal Cert.CombineReferenceIdeal.Read

theorem ref1_apply [Cert.CombineReferenceIdeal.Facts] (x : FVec Ideal S32x50176 .f32) (n : Fin 50176) :
    val_main_v1 (F := Ideal) x (ix2 0 n) = ∑ w : Fin 32, x (ix2 w n) := by
  pointwise! [val_main_v1, val_main_v0, val_main_cst]

theorem ref3_apply [Cert.CombineReferenceIdeal.Facts] (x : FVec Ideal S32x50176 .f32) (n : Fin 50176) :
    val_main_v3 (F := Ideal) x (ix2 0 n) = ∑ w : Fin 32, x (ix2 w n) := by
  pointwise! [val_main_v3, val_main_v2, val_main_cst_0]

theorem ref5_apply [Cert.CombineReferenceIdeal.Facts] (x : FVec Ideal S32x50176 .f32) (n : Fin 50176) :
    val_main_v5 (F := Ideal) x (ix2 0 n) = ∑ w : Fin 32, x (ix2 w n) := by
  pointwise! [val_main_v5, val_main_v4, val_main_cst_1]

theorem ref7_apply [Cert.CombineReferenceIdeal.Facts] (x : FVec Ideal S32x50176 .f32) (n : Fin 50176) :
    val_main_v7 (F := Ideal) x (ix2 0 n) = ∑ w : Fin 32, x (ix2 w n) := by
  pointwise! [val_main_v7, val_main_v6, val_main_cst_2]

end Reference

/-- The four sums: the kernel's results are the reference's. -/
theorem algebraic : Cert.algebraic_CombineIdeal_CombineReferenceIdeal := by
  pair_intro
  · run_from Cert.CombineIdeal.Value.run m g
  · refine (θ_run Cert.CombineReferenceIdeal.defs _ _).mono (fun r h c => ?_) (Cert.CombineReferenceIdeal.Value.run m' g')
    obtain ⟨r1, r2, r3, r4, hargs⟩ := h c
    obtain ⟨h0, h1, h2, h3⟩ := hagree c
    rw [h0] at r1
    rw [h1] at r2
    rw [h2] at r3
    rw [h3] at r4
    refine ⟨r1.trans ?_, r2.trans ?_, r3.trans ?_, r4.trans ?_, hargs⟩
    · exact (Cert.CombineReferenceIdeal.Read.val_main_v1_eq _).trans (FinishValue.row_ext fun n => (ref1_apply _ n).trans (pay1_apply _ n).symm)
    · exact (Cert.CombineReferenceIdeal.Read.val_main_v3_eq _).trans (FinishValue.row_ext fun n => (ref3_apply _ n).trans (pay2_apply _ n).symm)
    · exact (Cert.CombineReferenceIdeal.Read.val_main_v5_eq _).trans (FinishValue.row_ext fun n => (ref5_apply _ n).trans (pay3_apply _ n).symm)
    · exact (Cert.CombineReferenceIdeal.Read.val_main_v7_eq _).trans (FinishValue.row_ext fun n => (ref7_apply _ n).trans (pay4_apply _ n).symm)

end Cert.Proof.CombineValue

end
-- ==== Proof.MiddlePoint.lean ====
/-
  The middle dense stage at one node: what the kernel computes there, and what the reference does.
-/
module

public import proofs.«01_k».proof.Proof.Gen.MiddleIdeal.Skeleton
public import proofs.«01_k».proof.Proof.Gen.MiddleReferenceIdeal.Read
public import Idealize.ShloMosaic.Lib.Pointwise

@[expose] public section

noncomputable section

namespace Cert.Proof.MiddlePoint

open Idealize.ShloMosaic Idealize.ShloMosaic.TcCoe Idealize.SL.Sem

set_option maxRecDepth 16384

/-- The leaky activation, slope one hundredth. -/
def act (v : EReal) : EReal := if 0 < v then v else Ideal.ofBits .f32 0x3C23D70A#32 * v

/-- A self-loop's logit. -/
def logit (s d deg total : EReal) : EReal :=
  let v := s + d + (if 0 < deg then Ideal.div total (max deg (Ideal.ofBits .f32 0x3F800000#32)) else 0)
  if 0 < v then v else Ideal.ofBits .f32 0x3E4CCCCD#32 * v

/-- The clamp. -/
def cap : EReal := Ideal.ofBits .f32 0x42700000#32

/-- The softmax average of one feature, with the bias. -/
def gat (num den b : EReal) : EReal := Ideal.div num (den + Ideal.ofBits .f32 0x24E69595#32) + b

/-- The mean of a feature over the nodes. -/
def mean (g : Fin 50000 → EReal) : EReal := Ideal.div (∑ n, g n) (Ideal.ofBits .f32 0x47435000#32)

/-- Its variance. -/
def var (g : Fin 50000 → EReal) (mu : EReal) : EReal := Ideal.div (∑ n, (g n - mu) * (g n - mu)) (Ideal.ofBits .f32 0x47435000#32)

/-- A feature normalised, scaled, shifted and activated. -/
def norm (x mu v γ β : EReal) : EReal := act (Ideal.div (γ * (x - mu)) (Ideal.sqrt (v + Ideal.ofBits .f32 0x3727C5AC#32)) + β)

section Kernel
open Cert.MiddleIdeal Cert.MiddleIdeal.Gen
variable [Cert.MiddleIdeal.Facts]

theorem pay6_apply (deg t s d : FVec Ideal S1x50176 .f32) (n : Fin 50176) :
    k0_pay6 (F := Ideal) deg t s d (ix2 0 n) = Ideal.exp (min (logit (s (ix2 0 n)) (d (ix2 0 n)) (deg (ix2 0 n)) (t (ix2 0 n))) cap) := by
  unfold logit cap
  pointwise! [k0_pay6, k0_pay4]

theorem pay7_apply (deg t den s d : FVec Ideal S1x50176 .f32) (n : Fin 50176) :
    k0_pay7 (F := Ideal) deg t den s d (ix2 0 n) = den (ix2 0 n) + k0_pay6 (F := Ideal) deg t s d (ix2 0 n) := by
  pointwise! [k0_pay7]

theorem pay8_apply (deg t s d : FVec Ideal S1x50176 .f32) (num h : FVec Ideal S64x50176 .f32) (f : Fin 64) (n : Fin 50176) :
    k0_pay8 (F := Ideal) deg t s d num h (ix2 f n) = num (ix2 f n) + k0_pay6 (F := Ideal) deg t s d (ix2 0 n) * h (ix2 f n) := by
  pointwise! [k0_pay8]

theorem pay9_apply (den : FVec Ideal S1x50176 .f32) (num : FVec Ideal S64x50176 .f32) (b γ β : FVec Ideal S64x1 .f32) (W : FVec Ideal S64x64 .f32)
    (f : Fin 64) (n : Fin 50176) :
    k0_pay9 (F := Ideal) den num (Scalar.ofBits .f32 0x24E69595#32) b γ β W (ix2 f n)
      = ∑ k : Fin 64, W (ix2 f k) * norm (gat (num (ix2 k n)) (den (ix2 0 n)) (b (ix2 k 0)))
          (mean fun l => gat (num (ix2 k ⟨l.val, by have := l.isLt; omega⟩)) (den (ix2 0 ⟨l.val, by have := l.isLt; omega⟩)) (b (ix2 k 0)))
          (var (fun l => gat (num (ix2 k ⟨l.val, by have := l.isLt; omega⟩)) (den (ix2 0 ⟨l.val, by have := l.isLt; omega⟩)) (b (ix2 k 0)))
            (mean fun l => gat (num (ix2 k ⟨l.val, by have := l.isLt; omega⟩)) (den (ix2 0 ⟨l.val, by have := l.isLt; omega⟩)) (b (ix2 k 0))))
          (γ (ix2 k 0)) (β (ix2 k 0)) := by
  unfold norm mean var gat act
  pointwise [k0_pay9]

theorem pay1_apply (y : FVec Ideal S64x50176 .f32) (a : FVec Ideal S64x1 .f32) (n : Fin 50176) :
    k0_pay1 (F := Ideal) y a (ix2 0 n) = ∑ f : Fin 64, y (ix2 f n) * a (ix2 f 0) := by
  pointwise! [k0_pay1]

theorem pay2_apply (y : FVec Ideal S64x50176 .f32) (a : FVec Ideal S64x1 .f32) (n : Fin 50176) :
    k0_pay2 (F := Ideal) y a (ix2 0 n) = ∑ f : Fin 64, y (ix2 f n) * a (ix2 f 0) := by
  pointwise! [k0_pay2]

theorem pay3_apply (deg t : FVec Ideal S1x50176 .f32) (y : FVec Ideal S64x50176 .f32) (a b : FVec Ideal S64x1 .f32) (n : Fin 50176) :
    k0_pay3 (F := Ideal) deg t y a b (ix2 0 n)
      = Ideal.exp (min (logit (k0_pay1 (F := Ideal) y a (ix2 0 n)) (k0_pay2 (F := Ideal) y b (ix2 0 n)) (deg (ix2 0 n)) (t (ix2 0 n))) cap) := by
  unfold logit cap
  pointwise! [k0_pay3]

end Kernel

section Reference
open Cert.MiddleReferenceIdeal Cert.MiddleReferenceIdeal.Read
variable [Cert.MiddleReferenceIdeal.Facts]

theorem ref_logit (x0 x1 x4 x5 : FVec Ideal S50176 .f32) (n : Fin 50176) :
    val_main_v12 (F := Ideal) x0 x1 x4 x5 (ix1 n) = logit (x4 (ix1 n)) (x5 (ix1 n)) (x0 (ix1 n)) (x1 (ix1 n)) := by
  unfold logit
  pointwise! [val_main_v0, val_main_cst, val_main_v1, val_main_v2, val_main_cst_0, val_main_v3, val_main_v4, val_main_v5, val_main_cst_1, val_main_call0_v0, val_main_call0_v1, val_main_v6, val_main_v7, val_main_cst_2, val_main_v8, val_main_v9, val_main_cst_3, val_main_v10, val_main_v11, val_main_v12, id]

theorem ref_weight (x0 x1 x4 x5 : FVec Ideal S50176 .f32) (n : Fin 50176) :
    val_main_v13 (F := Ideal) x0 x1 x4 x5 (ix1 n) = Ideal.exp (val_main_v12 (F := Ideal) x0 x1 x4 x5 (ix1 n)) := by
  pointwise! [val_main_v13]

theorem ref_gat (x0 x1 x3 x4 x5 : FVec Ideal S50176 .f32) (x6 x7 : FVec Ideal S50176x64 .f32) (x8 : FVec Ideal S64 .f32) (k : Fin 64) (n : Fin 50176) :
    val_main_v26 (F := Ideal) x0 x1 x3 x4 x5 x6 x7 x8 (ix2 n k) = gat (x6 (ix2 n k) + val_main_v13 (F := Ideal) x0 x1 x4 x5 (ix1 n) * x7 (ix2 n k))
      (x3 (ix1 n) + val_main_v13 (F := Ideal) x0 x1 x4 x5 (ix1 n)) (x8 (ix1 k)) := by
  unfold gat
  pointwise! [val_main_v14, val_main_v15, val_main_v16, val_main_v17, val_main_v18, val_main_cst_4, val_main_v19, val_main_v20, val_main_v21, val_main_v22, val_main_v23, val_main_v24, val_main_v25, val_main_v26]

theorem ref_mean (x0 x1 x3 x4 x5 : FVec Ideal S50176 .f32) (x6 x7 : FVec Ideal S50176x64 .f32) (x8 : FVec Ideal S64 .f32) (k : Fin 64) :
    val_main_v30 (F := Ideal) x0 x1 x3 x4 x5 x6 x7 x8 (ix1 k)
      = mean fun l => val_main_v26 (F := Ideal) x0 x1 x3 x4 x5 x6 x7 x8 (ix2 ⟨l.val, by have := l.isLt; omega⟩ k) := by
  unfold mean
  pointwise! [val_main_v27, val_main_cst_5, val_main_v28, val_main_cst_6, val_main_v29, val_main_v30]

theorem ref_var (x0 x1 x3 x4 x5 : FVec Ideal S50176 .f32) (x6 x7 : FVec Ideal S50176x64 .f32) (x8 : FVec Ideal S64 .f32) (k : Fin 64) :
    val_main_v38 (F := Ideal) x0 x1 x3 x4 x5 x6 x7 x8 (ix1 k)
      = var (fun l => val_main_v26 (F := Ideal) x0 x1 x3 x4 x5 x6 x7 x8 (ix2 ⟨l.val, by have := l.isLt; omega⟩ k)) (val_main_v30 (F := Ideal) x0 x1 x3 x4 x5 x6 x7 x8 (ix1 k)) := by
  unfold var
  pointwise! [val_main_v31, val_main_v32, val_main_v33, val_main_v34, val_main_v35, val_main_cst_7, val_main_v36, val_main_cst_8, val_main_v37, val_main_v38]

theorem ref_norm (x0 x1 x3 x4 x5 : FVec Ideal S50176 .f32) (x6 x7 : FVec Ideal S50176x64 .f32) (x8 : FVec Ideal S64 .f32) (x9 x10 : FVec Ideal S64 .f32) (k : Fin 64) (n : Fin 50176) :
    val_main_v58 (F := Ideal) x0 x1 x3 x4 x5 x6 x7 x8 x9 x10 (ix2 n k)
      = norm (val_main_v26 (F := Ideal) x0 x1 x3 x4 x5 x6 x7 x8 (ix2 n k)) (val_main_v30 (F := Ideal) x0 x1 x3 x4 x5 x6 x7 x8 (ix1 k))
          (val_main_v38 (F := Ideal) x0 x1 x3 x4 x5 x6 x7 x8 (ix1 k)) (x9 (ix1 k)) (x10 (ix1 k)) := by
  unfold norm act
  pointwise! [val_main_v39, val_main_v40, val_main_v41, val_main_v42, val_main_v43, val_main_v44, val_main_cst_9, val_main_v45, val_main_v46, val_main_v47, val_main_v48, val_main_v49, val_main_v50, val_main_v51, val_main_v52, val_main_v53, val_main_cst_10, val_main_v54, val_main_v55, val_main_cst_11, val_main_v56, val_main_v57, val_main_v58]

theorem ref_h (x0 x1 x3 x4 x5 : FVec Ideal S50176 .f32) (x6 x7 : FVec Ideal S50176x64 .f32) (x8 : FVec Ideal S64 .f32) (x9 x10 : FVec Ideal S64 .f32) (x11 : FVec Ideal S64x64 .f32) (f : Fin 64) (n : Fin 50176) :
    val_main_v59 (F := Ideal) x0 x1 x3 x4 x5 x6 x7 x8 x9 x10 x11 (ix2 n f) = ∑ k : Fin 64, val_main_v58 (F := Ideal) x0 x1 x3 x4 x5 x6 x7 x8 x9 x10 (ix2 n k) * x11 (ix2 k f) := by
  pointwise! [val_main_v59]

theorem ref_src (x0 x1 x3 x4 x5 : FVec Ideal S50176 .f32) (x6 x7 : FVec Ideal S50176x64 .f32) (x8 : FVec Ideal S64 .f32) (x9 x10 : FVec Ideal S64 .f32) (x11 : FVec Ideal S64x64 .f32) (x12 : FVec Ideal S64 .f32) (n : Fin 50176) :
    val_main_v60 (F := Ideal) x0 x1 x3 x4 x5 x6 x7 x8 x9 x10 x11 x12 (ix1 n) = ∑ f : Fin 64, val_main_v59 (F := Ideal) x0 x1 x3 x4 x5 x6 x7 x8 x9 x10 x11 (ix2 n f) * x12 (ix1 f) := by
  pointwise! [val_main_v60]

theorem ref_dst (x0 x1 x3 x4 x5 : FVec Ideal S50176 .f32) (x6 x7 : FVec Ideal S50176x64 .f32) (x8 : FVec Ideal S64 .f32) (x9 x10 : FVec Ideal S64 .f32) (x11 : FVec Ideal S64x64 .f32) (x13 : FVec Ideal S64 .f32) (n : Fin 50176) :
    val_main_v61 (F := Ideal) x0 x1 x3 x4 x5 x6 x7 x8 x9 x10 x11 x13 (ix1 n) = ∑ f : Fin 64, val_main_v59 (F := Ideal) x0 x1 x3 x4 x5 x6 x7 x8 x9 x10 x11 (ix2 n f) * x13 (ix1 f) := by
  pointwise! [val_main_v61]

theorem ref_logit2 (x0 x1 x2 x3 x4 x5 : FVec Ideal S50176 .f32) (x6 x7 : FVec Ideal S50176x64 .f32) (x8 x9 x10 : FVec Ideal S64 .f32) (x11 : FVec Ideal S64x64 .f32)
    (x12 x13 : FVec Ideal S64 .f32) (n : Fin 50176) :
    val_main_v74 (F := Ideal) x0 x1 x2 x3 x4 x5 x6 x7 x8 x9 x10 x11 x12 x13 (ix1 n)
      = logit (val_main_v60 (F := Ideal) x0 x1 x3 x4 x5 x6 x7 x8 x9 x10 x11 x12 (ix1 n)) (val_main_v61 (F := Ideal) x0 x1 x3 x4 x5 x6 x7 x8 x9 x10 x11 x13 (ix1 n)) (x0 (ix1 n)) (x2 (ix1 n)) := by
  unfold logit
  pointwise! [val_main_v62, val_main_cst_12, val_main_v63, val_main_v64, val_main_cst_13, val_main_v65, val_main_v66, val_main_v67, val_main_cst_14, val_main_call3_v0, val_main_call3_v1, val_main_v68, val_main_v69, val_main_cst_15, val_main_v70, val_main_v71, val_main_cst_16, val_main_v72, val_main_v73, val_main_v74, id]

theorem ref_out76 (x0 x1 x3 x4 x5 : FVec Ideal S50176 .f32) (x6 x7 : FVec Ideal S50176x64 .f32) (x8 : FVec Ideal S64 .f32) (x9 x10 : FVec Ideal S64 .f32) (x11 : FVec Ideal S64x64 .f32) (f : Fin 64) (n : Fin 50176) :
    val_main_v76 (F := Ideal) x0 x1 x3 x4 x5 x6 x7 x8 x9 x10 x11 (ix2 f n) = val_main_v59 (F := Ideal) x0 x1 x3 x4 x5 x6 x7 x8 x9 x10 x11 (ix2 n f) := by
  pointwise! [val_main_v76]

theorem ref_out77 (x0 x1 x3 x4 x5 : FVec Ideal S50176 .f32) (x6 x7 : FVec Ideal S50176x64 .f32) (x8 : FVec Ideal S64 .f32) (x9 x10 : FVec Ideal S64 .f32) (x11 : FVec Ideal S64x64 .f32) (x12 : FVec Ideal S64 .f32) (n : Fin 50176) :
    val_main_v77 (F := Ideal) x0 x1 x3 x4 x5 x6 x7 x8 x9 x10 x11 x12 (ix2 0 n) = val_main_v60 (F := Ideal) x0 x1 x3 x4 x5 x6 x7 x8 x9 x10 x11 x12 (ix1 n) := by
  pointwise! [val_main_v77]

theorem ref_out78 (x0 x1 x3 x4 x5 : FVec Ideal S50176 .f32) (x6 x7 : FVec Ideal S50176x64 .f32) (x8 : FVec Ideal S64 .f32) (x9 x10 : FVec Ideal S64 .f32) (x11 : FVec Ideal S64x64 .f32) (x13 : FVec Ideal S64 .f32) (n : Fin 50176) :
    val_main_v78 (F := Ideal) x0 x1 x3 x4 x5 x6 x7 x8 x9 x10 x11 x13 (ix2 0 n) = val_main_v61 (F := Ideal) x0 x1 x3 x4 x5 x6 x7 x8 x9 x10 x11 x13 (ix1 n) := by
  pointwise! [val_main_v78]

theorem ref_out79 (x0 x1 x2 x3 x4 x5 : FVec Ideal S50176 .f32) (x6 x7 : FVec Ideal S50176x64 .f32) (x8 x9 x10 : FVec Ideal S64 .f32) (x11 : FVec Ideal S64x64 .f32)
    (x12 x13 : FVec Ideal S64 .f32) (n : Fin 50176) :
    val_main_v79 (F := Ideal) x0 x1 x2 x3 x4 x5 x6 x7 x8 x9 x10 x11 x12 x13 (ix2 0 n)
      = Ideal.exp (val_main_v74 (F := Ideal) x0 x1 x2 x3 x4 x5 x6 x7 x8 x9 x10 x11 x12 x13 (ix1 n)) := by
  pointwise! [val_main_v79, val_main_v75]

end Reference

end Cert.Proof.MiddlePoint

end
-- ==== Proof.MiddleArrays.lean ====
/-
  The middle dense stage's result arrays, and the operand arrays the host prepares for it.
-/
module

public import proofs.«01_k».proof.Proof.MiddlePoint
public import proofs.«01_k».proof.Proof.Gen.MiddleIdeal.Value
public import Idealize.ShloMosaic.Lib.Pipeline.ValueKit
public import Idealize.ShloMosaic.Lib.Claim

@[expose] public section

noncomputable section

namespace Cert.Proof.MiddleArrays

open Idealize.ShloMosaic Idealize.ShloMosaic.TcCoe Idealize.SL.Sem
open Idealize.ShloMosaic.Pipeline (Dat)
open Cert.MiddleIdeal Cert.MiddleIdeal.Gen Cert.MiddleIdeal.Value

set_option maxRecDepth 16384

variable (m : (ℓ : Loc nD τ sig) → Buf (Elt Ideal) ℓ)

/-- Every operand is staged whole. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] :=
  (by decide +kernel : ∀ t : Fin grid0.N, _)

theorem iblk0 (c : Dev nD) : iblk m c 0 t0_0 = V m c main_v0 := by blk_ext! [iblk, idx t0_0]
theorem iblk1 (c : Dev nD) : iblk m c 1 t0_0 = V m c main_v1 := by blk_ext! [iblk, idx t0_0]
theorem iblk2 (c : Dev nD) : iblk m c 2 t0_0 = V m c main_v2 := by blk_ext! [iblk, idx t0_0]
theorem iblk3 (c : Dev nD) : iblk m c 3 t0_0 = V m c main_v3 := by blk_ext! [iblk, idx t0_0]
theorem iblk4 (c : Dev nD) : iblk m c 4 t0_0 = V m c main_v4 := by blk_ext! [iblk, idx t0_0]
theorem iblk5 (c : Dev nD) : iblk m c 5 t0_0 = V m c main_v5 := by blk_ext! [iblk, idx t0_0]
theorem iblk6 (c : Dev nD) : iblk m c 6 t0_0 = V m c main_v6 := by blk_ext! [iblk, idx t0_0]
theorem iblk7 (c : Dev nD) : iblk m c 7 t0_0 = V m c main_v7 := by blk_ext! [iblk, idx t0_0]
theorem iblk8 (c : Dev nD) : iblk m c 8 t0_0 = V m c main_v8 := by blk_ext! [iblk, idx t0_0]
theorem iblk9 (c : Dev nD) : iblk m c 9 t0_0 = V m c main_v9 := by blk_ext! [iblk, idx t0_0]
theorem iblk10 (c : Dev nD) : iblk m c 10 t0_0 = V m c main_v10 := by blk_ext! [iblk, idx t0_0]
theorem iblk11 (c : Dev nD) : iblk m c 11 t0_0 = V m c main_v11 := by blk_ext! [iblk, idx t0_0]
theorem iblk12 (c : Dev nD) : iblk m c 12 t0_0 = V m c main_v12 := by blk_ext! [iblk, idx t0_0]
theorem iblk13 (c : Dev nD) : iblk m c 13 t0_0 = V m c main_v13 := by blk_ext! [iblk, idx t0_0]

theorem pay4_eq (x : FVec Ideal S1x50176 .f32) : k0_pay4 (F := Ideal) x = x := shapeCast_id x _
theorem pay5_eq (x : FVec Ideal S1x50176 .f32) : k0_pay5 (F := Ideal) x = x := shapeCast_id x _

/-- The features' value with its loads read whole. -/
theorem pay10_eq (x0 x1 x2 x3 x4 x5 : Vec Ideal S1x50176 .f32) (x6 x7 : Vec Ideal S64x50176 .f32) (x8 x9 x10 : Vec Ideal S64x1 .f32) (x11 : Vec Ideal S64x64 .f32)
    (x12 x13 : Vec Ideal S64x1 .f32) : k0_pay10 (F := Ideal) x0 x1 x2 x3 x4 x5 x6 x7 x8 x9 x10 x11 x12 x13
      = k0_pay9 (F := Ideal) (k0_pay7 (F := Ideal) x0 x1 x3 x4 x5) (k0_pay8 (F := Ideal) x0 x1 x4 x5 x6 x7) (Scalar.ofBits .f32 0x24E69595#32) x8 x9 x10 x11 := by
  have hz : (![0, 0] : Fin 2 → Nat) = fun _ => 0 := funext fun a => by fin_cases a <;> rfl
  unfold k0_pay10
  rw [View.ld_unit_zero (S := S1x50176) hz _ x0, View.ld_unit_zero (S := S1x50176) hz _ x1, View.ld_unit_zero (S := S1x50176) hz _ x3, View.ld_unit_zero (S := S1x50176) hz _ x4,
    View.ld_unit_zero (S := S1x50176) hz _ x5, View.ld_unit_zero (S := S64x50176) hz _ x6, View.ld_unit_zero (S := S64x50176) hz _ x7, View.ld_unit_zero (S := S64x1) hz _ x8,
    View.ld_unit_zero (S := S64x1) hz _ x9, View.ld_unit_zero (S := S64x1) hz _ x10, View.ld_unit_zero (S := S64x64) hz _ x11]

/-- The second layer's features. -/
def Y (c : Dev nD) : FVec Ideal S64x50176 .f32 :=
  k0_pay9 (F := Ideal) (k0_pay7 (F := Ideal) (V m c main_v0) (V m c main_v1) (V m c main_v3) (V m c main_v4) (V m c main_v5))
    (k0_pay8 (F := Ideal) (V m c main_v0) (V m c main_v1) (V m c main_v4) (V m c main_v5) (V m c main_v6) (V m c main_v7))
    (Scalar.ofBits .f32 0x24E69595#32) (V m c main_v8) (V m c main_v9) (V m c main_v10) (V m c main_v11)

theorem final14 (c : Dev nD) : (dats m 0 c).arrAt 14 cfg0.N = Y m c := by
  unfold Y
  refine (dats m 0 c).arrAt_eq_of_after_last 14 t0_0 (by decide +kernel) _ fun j => ?_
  blk_simp
  rw [after0_14]
  frame_out
  rw [pay10_eq, iblk0, iblk1, iblk3, iblk4, iblk5, iblk6, iblk7, iblk8, iblk9, iblk10, iblk11]

theorem final15 (c : Dev nD) : (dats m 0 c).arrAt 15 cfg0.N = k0_pay1 (F := Ideal) (Y m c) (V m c main_v12) := by
  unfold Y
  refine (dats m 0 c).arrAt_eq_of_after_last 15 t0_0 (by decide +kernel) _ fun j => ?_
  blk_simp
  rw [after0_15]
  frame_out
  rw [pay10_eq, iblk0, iblk1, iblk3, iblk4, iblk5, iblk6, iblk7, iblk8, iblk9, iblk10, iblk11, iblk12]

theorem final16 (c : Dev nD) : (dats m 0 c).arrAt 16 cfg0.N = k0_pay2 (F := Ideal) (Y m c) (V m c main_v13) := by
  unfold Y
  refine (dats m 0 c).arrAt_eq_of_after_last 16 t0_0 (by decide +kernel) _ fun j => ?_
  blk_simp
  rw [after0_16]
  frame_out
  rw [pay10_eq, iblk0, iblk1, iblk3, iblk4, iblk5, iblk6, iblk7, iblk8, iblk9, iblk10, iblk11, iblk13]

theorem final17 (c : Dev nD) : (dats m 0 c).arrAt 17 cfg0.N = k0_pay3 (F := Ideal) (k0_pay4 (F := Ideal) (V m c main_v0)) (k0_pay5 (F := Ideal) (V m c main_v2)) (Y m c) (V m c main_v12) (V m c main_v13) := by
  unfold Y
  refine (dats m 0 c).arrAt_eq_of_after_last 17 t0_0 (by decide +kernel) _ fun j => ?_
  blk_simp
  rw [after0_17]
  frame_out
  rw [pay10_eq, iblk0, iblk1, iblk2, iblk3, iblk4, iblk5, iblk6, iblk7, iblk8, iblk9, iblk10, iblk11, iblk12, iblk13]

/-! ## The operand arrays, read at an index -/

theorem v0_read (c : Dev nD) (n : Fin 50176) : V m c main_v0 (ix2 0 n) = (m ((c.tc : Thread nD τ).loc main_arg0) : FVec Ideal S50176 .f32) (ix1 n) := by
  unfold V
  simp only [hostOps0]
  after_results
  simp only [StableHlo.TRef.toBuf, StableHlo.TRef.ofBuf, cast_eq]
  pointwise

theorem v1_read (c : Dev nD) (n : Fin 50176) : V m c main_v1 (ix2 0 n) = (m ((c.tc : Thread nD τ).loc main_arg1) : FVec Ideal S50176 .f32) (ix1 n) := by
  unfold V
  simp only [hostOps0]
  after_results
  simp only [StableHlo.TRef.toBuf, StableHlo.TRef.ofBuf, cast_eq]
  pointwise

theorem v2_read (c : Dev nD) (n : Fin 50176) : V m c main_v2 (ix2 0 n) = (m ((c.tc : Thread nD τ).loc main_arg2) : FVec Ideal S50176 .f32) (ix1 n) := by
  unfold V
  simp only [hostOps0]
  after_results
  simp only [StableHlo.TRef.toBuf, StableHlo.TRef.ofBuf, cast_eq]
  pointwise

theorem v3_read (c : Dev nD) (n : Fin 50176) : V m c main_v3 (ix2 0 n) = (m ((c.tc : Thread nD τ).loc main_arg3) : FVec Ideal S50176 .f32) (ix1 n) := by
  unfold V
  simp only [hostOps0]
  after_results
  simp only [StableHlo.TRef.toBuf, StableHlo.TRef.ofBuf, cast_eq]
  pointwise

theorem v4_read (c : Dev nD) (n : Fin 50176) : V m c main_v4 (ix2 0 n) = (m ((c.tc : Thread nD τ).loc main_arg4) : FVec Ideal S50176 .f32) (ix1 n) := by
  unfold V
  simp only [hostOps0]
  after_results
  simp only [StableHlo.TRef.toBuf, StableHlo.TRef.ofBuf, cast_eq]
  pointwise

theorem v5_read (c : Dev nD) (n : Fin 50176) : V m c main_v5 (ix2 0 n) = (m ((c.tc : Thread nD τ).loc main_arg5) : FVec Ideal S50176 .f32) (ix1 n) := by
  unfold V
  simp only [hostOps0]
  after_results
  simp only [StableHlo.TRef.toBuf, StableHlo.TRef.ofBuf, cast_eq]
  pointwise

theorem v6_read (c : Dev nD) (f : Fin 64) (n : Fin 50176) : V m c main_v6 (ix2 f n) = (m ((c.tc : Thread nD τ).loc main_arg6) : FVec Ideal S50176x64 .f32) (ix2 n f) := by
  unfold V
  simp only [hostOps0]
  after_results
  pointwise

theorem v7_read (c : Dev nD) (f : Fin 64) (n : Fin 50176) : V m c main_v7 (ix2 f n) = (m ((c.tc : Thread nD τ).loc main_arg7) : FVec Ideal S50176x64 .f32) (ix2 n f) := by
  unfold V
  simp only [hostOps0]
  after_results
  pointwise

theorem v8_read (c : Dev nD) (f : Fin 64) : V m c main_v8 (ix2 f 0) = (m ((c.tc : Thread nD τ).loc main_arg8) : FVec Ideal S64 .f32) (ix1 f) := by
  unfold V
  simp only [hostOps0]
  after_results
  simp only [StableHlo.TRef.toBuf, StableHlo.TRef.ofBuf, cast_eq]
  pointwise

theorem v9_read (c : Dev nD) (f : Fin 64) : V m c main_v9 (ix2 f 0) = (m ((c.tc : Thread nD τ).loc main_arg9) : FVec Ideal S64 .f32) (ix1 f) := by
  unfold V
  simp only [hostOps0]
  after_results
  simp only [StableHlo.TRef.toBuf, StableHlo.TRef.ofBuf, cast_eq]
  pointwise

theorem v10_read (c : Dev nD) (f : Fin 64) : V m c main_v10 (ix2 f 0) = (m ((c.tc : Thread nD τ).loc main_arg10) : FVec Ideal S64 .f32) (ix1 f) := by
  unfold V
  simp only [hostOps0]
  after_results
  simp only [StableHlo.TRef.toBuf, StableHlo.TRef.ofBuf, cast_eq]
  pointwise

theorem v12_read (c : Dev nD) (f : Fin 64) : V m c main_v12 (ix2 f 0) = (m ((c.tc : Thread nD τ).loc main_arg12) : FVec Ideal S64 .f32) (ix1 f) := by
  unfold V
  simp only [hostOps0]
  after_results
  simp only [StableHlo.TRef.toBuf, StableHlo.TRef.ofBuf, cast_eq]
  pointwise

theorem v13_read (c : Dev nD) (f : Fin 64) : V m c main_v13 (ix2 f 0) = (m ((c.tc : Thread nD τ).loc main_arg13) : FVec Ideal S64 .f32) (ix1 f) := by
  unfold V
  simp only [hostOps0]
  after_results
  simp only [StableHlo.TRef.toBuf, StableHlo.TRef.ofBuf, cast_eq]
  pointwise

theorem v11_read (c : Dev nD) (f k : Fin 64) : V m c main_v11 (ix2 f k) = (m ((c.tc : Thread nD τ).loc main_arg11) : FVec Ideal S64x64 .f32) (ix2 k f) := by
  unfold V
  simp only [hostOps0]
  after_results
  pointwise

end Cert.Proof.MiddleArrays

end
-- ==== Proof.MiddleEq.lean ====
/-
  The middle dense stage at every node: with no logit above the clamp, the kernel's values are the reference's.
-/
module

public import proofs.«01_k».proof.Proof.MiddlePoint

@[expose] public section

noncomputable section

namespace Cert.Proof.MiddleEq

open Idealize.ShloMosaic Idealize.ShloMosaic.TcCoe Idealize.SL.Sem
open Cert.Proof.MiddlePoint Cert.MiddleIdeal Cert.MiddleIdeal.Gen Cert.MiddleReferenceIdeal.Read

set_option maxRecDepth 16384

variable [Cert.MiddleIdeal.Facts] [Cert.MiddleReferenceIdeal.Facts]
  {deg t t2 den s d : FVec Ideal S1x50176 .f32} {num h : FVec Ideal S64x50176 .f32} {b γ β a2 d2 : FVec Ideal S64x1 .f32} {W : FVec Ideal S64x64 .f32}
  {x0 x1 x2 x3 x4 x5 : FVec Ideal S50176 .f32} {x6 x7 : FVec Ideal S50176x64 .f32} {x8 x9 x10 x12 x13 : FVec Ideal S64 .f32} {x11 : FVec Ideal S64x64 .f32}

/-- A self-loop's weight. -/
theorem weight (e0 : ∀ n, deg (ix2 0 n) = x0 (ix1 n)) (e1 : ∀ n, t (ix2 0 n) = x1 (ix1 n)) (e4 : ∀ n, s (ix2 0 n) = x4 (ix1 n)) (e5 : ∀ n, d (ix2 0 n) = x5 (ix1 n))
    (hc : ∀ n, (val_main_v12 (F := Ideal) x0 x1 x4 x5 (ix1 n) : EReal) ≤ cap) (n : Fin 50176) :
    k0_pay6 (F := Ideal) deg t s d (ix2 0 n) = val_main_v13 (F := Ideal) x0 x1 x4 x5 (ix1 n) := by
  rw [ref_weight, pay6_apply, e0, e1, e4, e5, ← ref_logit, min_eq_left (hc n)]

/-- A softmax average. -/
theorem average (e0 : ∀ n, deg (ix2 0 n) = x0 (ix1 n)) (e1 : ∀ n, t (ix2 0 n) = x1 (ix1 n)) (e3 : ∀ n, den (ix2 0 n) = x3 (ix1 n)) (e4 : ∀ n, s (ix2 0 n) = x4 (ix1 n))
    (e5 : ∀ n, d (ix2 0 n) = x5 (ix1 n)) (e6 : ∀ f n, num (ix2 f n) = x6 (ix2 n f)) (e7 : ∀ f n, h (ix2 f n) = x7 (ix2 n f)) (e8 : ∀ f, b (ix2 f 0) = x8 (ix1 f))
    (hc : ∀ n, (val_main_v12 (F := Ideal) x0 x1 x4 x5 (ix1 n) : EReal) ≤ cap) (k : Fin 64) (n : Fin 50176) :
    gat (k0_pay8 (F := Ideal) deg t s d num h (ix2 k n)) (k0_pay7 (F := Ideal) deg t den s d (ix2 0 n)) (b (ix2 k 0))
      = val_main_v26 (F := Ideal) x0 x1 x3 x4 x5 x6 x7 x8 (ix2 n k) := by
  rw [ref_gat, pay8_apply, pay7_apply, weight e0 e1 e4 e5 hc, e3, e6, e7, e8]

/-- A feature of the second layer. -/
theorem feature (e0 : ∀ n, deg (ix2 0 n) = x0 (ix1 n)) (e1 : ∀ n, t (ix2 0 n) = x1 (ix1 n)) (e3 : ∀ n, den (ix2 0 n) = x3 (ix1 n)) (e4 : ∀ n, s (ix2 0 n) = x4 (ix1 n))
    (e5 : ∀ n, d (ix2 0 n) = x5 (ix1 n)) (e6 : ∀ f n, num (ix2 f n) = x6 (ix2 n f)) (e7 : ∀ f n, h (ix2 f n) = x7 (ix2 n f)) (e8 : ∀ f, b (ix2 f 0) = x8 (ix1 f))
    (e9 : ∀ f, γ (ix2 f 0) = x9 (ix1 f)) (e10 : ∀ f, β (ix2 f 0) = x10 (ix1 f)) (e11 : ∀ f k, W (ix2 f k) = x11 (ix2 k f))
    (hc : ∀ n, (val_main_v12 (F := Ideal) x0 x1 x4 x5 (ix1 n) : EReal) ≤ cap) (f : Fin 64) (n : Fin 50176) :
    k0_pay9 (F := Ideal) (k0_pay7 (F := Ideal) deg t den s d) (k0_pay8 (F := Ideal) deg t s d num h) (Scalar.ofBits .f32 0x24E69595#32) b γ β W (ix2 f n)
      = val_main_v59 (F := Ideal) x0 x1 x3 x4 x5 x6 x7 x8 x9 x10 x11 (ix2 n f) := by
  rw [ref_h, pay9_apply]
  refine Finset.sum_congr rfl fun k _ => ?_
  rw [ref_norm, ref_var, ref_mean, e9, e10, e11]
  simp only [average e0 e1 e3 e4 e5 e6 e7 e8 hc]
  exact mul_comm _ _

end Cert.Proof.MiddleEq

end
-- ==== Proof.MiddleLoops.lean ====
/-
  What the middle stage's precondition says: no self-loop's logit is above sixty, in either layer.
-/
module

public import proofs.«01_k».proof.Pre_unclamped_loops
public import proofs.«01_k».proof.Proof.MiddlePoint
public import Idealize.ShloMosaic.Lib.ReduceAll

@[expose] public section

noncomputable section

namespace Cert.Proof.MiddleLoops

open Idealize.ShloMosaic Idealize.SL.Sem
open Cert.Proof.MiddlePoint
open Cert.MiddleReferenceIdeal.Read

set_option maxRecDepth 16384

variable [Cert.MiddleReferenceIdeal.Facts] [Cert.Pre_unclamped_loops.Facts]
  {x0 x1 x2 x3 x4 x5 : FVec Ideal ⟨1, ![50176]⟩ .f32} {x6 x7 : FVec Ideal ⟨2, ![50176, 64]⟩ .f32} {x8 x9 x10 : FVec Ideal ⟨1, ![64]⟩ .f32}
  {x11 : FVec Ideal ⟨2, ![64, 64]⟩ .f32} {x12 x13 : FVec Ideal ⟨1, ![64]⟩ .f32}

/-- Its two parts. -/
theorem parts (h : Cert.Pre_unclamped_loops.fn (F := Ideal) x0 x1 x2 x3 x4 x5 x6 x7 x8 x9 x10 x11 x12 x13 = fun _ => 1#1) :
    Host.reduce IntOp.andi (cmpf (F := Ideal) (s := Cert.Pre_unclamped_loops.S50176) (φ := .f32) .ole (val_main_v12 (F := Ideal) x0 x1 x4 x5)
        (broadcastInDim _ ![] Cert.Pre_unclamped_loops.Facts.bcast_S_S50176 (constant Cert.Pre_unclamped_loops.S_ .f32 0x42700000#32))) (constantI Cert.Pre_unclamped_loops.S_ 1 1#1)
        Cert.Pre_unclamped_loops.Facts.reducesTo_S50176_S_d0 Cert.Pre_unclamped_loops.Facts.h_S_ ix0 = 1#1
      ∧ Host.reduce IntOp.andi (cmpf (F := Ideal) (s := Cert.Pre_unclamped_loops.S50176) (φ := .f32) .ole (val_main_v74 (F := Ideal) x0 x1 x2 x3 x4 x5 x6 x7 x8 x9 x10 x11 x12 x13)
        (broadcastInDim _ ![] Cert.Pre_unclamped_loops.Facts.bcast_S_S50176 (constant Cert.Pre_unclamped_loops.S_ .f32 0x42700000#32))) (constantI Cert.Pre_unclamped_loops.S_ 1 1#1)
        Cert.Pre_unclamped_loops.Facts.reducesTo_S50176_S_d0 Cert.Pre_unclamped_loops.Facts.h_S_ ix0 = 1#1 := by
  have hand : ∀ p q : BitVec 1, IntOp.andi p q = 1#1 → p = 1#1 ∧ q = 1#1 := by decide
  have e := congrFun h ix0
  exact hand _ _ e

theorem layer1 (h : Cert.Pre_unclamped_loops.fn (F := Ideal) x0 x1 x2 x3 x4 x5 x6 x7 x8 x9 x10 x11 x12 x13 = fun _ => 1#1) (n : Fin 50176) :
    (val_main_v12 (F := Ideal) x0 x1 x4 x5 (ix1 n) : EReal) ≤ cap := by
  have h1 : Ideal.cmp .ole (val_main_v12 (F := Ideal) x0 x1 x4 x5 (ix1 n)) cap = 1#1 := Host.reduce_andi_all _ _ _ _ _ (parts h).1 (ix1 n)
  have hone : ∀ p : Bool, (BitVec.ofBool p = 1#1) ↔ p = true := by decide
  exact of_decide_eq_true ((hone _).1 h1)

theorem layer2 (h : Cert.Pre_unclamped_loops.fn (F := Ideal) x0 x1 x2 x3 x4 x5 x6 x7 x8 x9 x10 x11 x12 x13 = fun _ => 1#1) (n : Fin 50176) :
    (val_main_v74 (F := Ideal) x0 x1 x2 x3 x4 x5 x6 x7 x8 x9 x10 x11 x12 x13 (ix1 n) : EReal) ≤ cap := by
  have h1 : Ideal.cmp .ole (val_main_v74 (F := Ideal) x0 x1 x2 x3 x4 x5 x6 x7 x8 x9 x10 x11 x12 x13 (ix1 n)) cap = 1#1 :=
    Host.reduce_andi_all _ _ _ _ _ (parts h).2 (ix1 n)
  have hone : ∀ p : Bool, (BitVec.ofBool p = 1#1) ↔ p = true := by decide
  exact of_decide_eq_true ((hone _).1 h1)

end Cert.Proof.MiddleLoops

end
-- ==== Proof.MiddleValue.lean ====
/-
  The middle dense stage agrees with the reference: its four result arrays, put together from the operand arrays, are the reference's.
-/
module

public import proofs.«01_k».proof.Defs
public import proofs.«01_k».proof.Proof.MiddleArrays
public import proofs.«01_k».proof.Proof.MiddleEq
public import proofs.«01_k».proof.Proof.MiddleLoops
public import proofs.«01_k».proof.Proof.ProjectEq
public import proofs.«01_k».proof.Proof.FinishValue
public import proofs.«01_k».proof.Proof.Gen.Pre_unclamped_loops
public import proofs.«01_k».proof.Proof.Gen.MiddleReferenceIdeal.Run

@[expose] public section

noncomputable section

namespace Cert.Proof.MiddleValue

open Idealize.ShloMosaic Idealize.ShloMosaic.TcCoe Idealize.SL.Sem
open Cert.Proof.MiddlePoint Cert.Proof.MiddleArrays
open Cert.MiddleIdeal Cert.MiddleIdeal.Gen Cert.MiddleReferenceIdeal.Read

set_option maxRecDepth 16384

/-! ## The argument arrays -/

section Arguments

variable (m : (ℓ : Loc nD τ sig) → Buf (Elt Ideal) ℓ) (c : Dev nD)

abbrev A0 : FVec Ideal S50176 .f32 := m ((c.tc : Thread nD τ).loc main_arg0)
abbrev A1 : FVec Ideal S50176 .f32 := m ((c.tc : Thread nD τ).loc main_arg1)
abbrev A2 : FVec Ideal S50176 .f32 := m ((c.tc : Thread nD τ).loc main_arg2)
abbrev A3 : FVec Ideal S50176 .f32 := m ((c.tc : Thread nD τ).loc main_arg3)
abbrev A4 : FVec Ideal S50176 .f32 := m ((c.tc : Thread nD τ).loc main_arg4)
abbrev A5 : FVec Ideal S50176 .f32 := m ((c.tc : Thread nD τ).loc main_arg5)
abbrev A6 : FVec Ideal S50176x64 .f32 := m ((c.tc : Thread nD τ).loc main_arg6)
abbrev A7 : FVec Ideal S50176x64 .f32 := m ((c.tc : Thread nD τ).loc main_arg7)
abbrev A8 : FVec Ideal S64 .f32 := m ((c.tc : Thread nD τ).loc main_arg8)
abbrev A9 : FVec Ideal S64 .f32 := m ((c.tc : Thread nD τ).loc main_arg9)
abbrev A10 : FVec Ideal S64 .f32 := m ((c.tc : Thread nD τ).loc main_arg10)
abbrev A11 : FVec Ideal S64x64 .f32 := m ((c.tc : Thread nD τ).loc main_arg11)
abbrev A12 : FVec Ideal S64 .f32 := m ((c.tc : Thread nD τ).loc main_arg12)
abbrev A13 : FVec Ideal S64 .f32 := m ((c.tc : Thread nD τ).loc main_arg13)

/-- No self-loop's logit is above the clamp. -/
def Unclamped : Prop := (∀ n, (val_main_v12 (F := Ideal) (A0 m c) (A1 m c) (A4 m c) (A5 m c) (ix1 n) : EReal) ≤ cap)
  ∧ ∀ n, (val_main_v74 (F := Ideal) (A0 m c) (A1 m c) (A2 m c) (A3 m c) (A4 m c) (A5 m c) (A6 m c) (A7 m c) (A8 m c) (A9 m c) (A10 m c) (A11 m c) (A12 m c) (A13 m c) (ix1 n) : EReal) ≤ cap

variable {m c}

theorem feature (hc : Unclamped m c) (f : Fin 64) (n : Fin 50176) : Y m c (ix2 f n) = val_main_v59 (F := Ideal) (A0 m c) (A1 m c) (A3 m c) (A4 m c) (A5 m c) (A6 m c) (A7 m c) (A8 m c) (A9 m c) (A10 m c) (A11 m c) (ix2 n f) := by
  unfold Y
  exact MiddleEq.feature (v0_read m c) (v1_read m c) (v3_read m c) (v4_read m c) (v5_read m c) (v6_read m c) (v7_read m c) (v8_read m c) (v9_read m c) (v10_read m c)
    (v11_read m c) hc.1 f n

theorem source (hc : Unclamped m c) (n : Fin 50176) :
    k0_pay1 (F := Ideal) (Y m c) (V m c main_v12) (ix2 0 n) = val_main_v60 (F := Ideal) (A0 m c) (A1 m c) (A3 m c) (A4 m c) (A5 m c) (A6 m c) (A7 m c) (A8 m c) (A9 m c) (A10 m c) (A11 m c) (A12 m c) (ix1 n) := by
  rw [ref_src]
  refine (pay1_apply _ _ n).trans (Finset.sum_congr rfl fun f _ => ?_)
  rw [feature hc f n, v12_read]

theorem target (hc : Unclamped m c) (n : Fin 50176) :
    k0_pay2 (F := Ideal) (Y m c) (V m c main_v13) (ix2 0 n) = val_main_v61 (F := Ideal) (A0 m c) (A1 m c) (A3 m c) (A4 m c) (A5 m c) (A6 m c) (A7 m c) (A8 m c) (A9 m c) (A10 m c) (A11 m c) (A13 m c) (ix1 n) := by
  rw [ref_dst]
  refine (pay2_apply _ _ n).trans (Finset.sum_congr rfl fun f _ => ?_)
  rw [feature hc f n, v13_read]

theorem loops (hc : Unclamped m c) (n : Fin 50176) :
    k0_pay3 (F := Ideal) (k0_pay4 (F := Ideal) (V m c main_v0)) (k0_pay5 (F := Ideal) (V m c main_v2)) (Y m c) (V m c main_v12) (V m c main_v13) (ix2 0 n)
      = Ideal.exp (val_main_v74 (F := Ideal) (A0 m c) (A1 m c) (A2 m c) (A3 m c) (A4 m c) (A5 m c) (A6 m c) (A7 m c) (A8 m c) (A9 m c) (A10 m c) (A11 m c) (A12 m c) (A13 m c) (ix1 n)) := by
  refine (pay3_apply _ _ _ _ _ n).trans ?_
  rw [source hc n, target hc n, pay4_eq, pay5_eq, v0_read, v2_read, ← ref_logit2, min_eq_left (hc.2 n)]

/-! ## The four result arrays -/

theorem out14 (hc : Unclamped m c) : val_main_v76 (F := Ideal) (A0 m c) (A1 m c) (A3 m c) (A4 m c) (A5 m c) (A6 m c) (A7 m c) (A8 m c) (A9 m c) (A10 m c) (A11 m c) = (Cert.MiddleIdeal.Gen.dats m 0 c).arrAt 14 cfg0.N := by
  rw [final14]
  exact ProjectValue.mat_ext fun f n => (ref_out76 _ _ _ _ _ _ _ _ _ _ _ f n).trans (feature hc f n).symm

theorem out15 (hc : Unclamped m c) : val_main_v77 (F := Ideal) (A0 m c) (A1 m c) (A3 m c) (A4 m c) (A5 m c) (A6 m c) (A7 m c) (A8 m c) (A9 m c) (A10 m c) (A11 m c) (A12 m c) = (Cert.MiddleIdeal.Gen.dats m 0 c).arrAt 15 cfg0.N := by
  rw [final15]
  exact FinishValue.row_ext fun n => (ref_out77 _ _ _ _ _ _ _ _ _ _ _ _ n).trans (source hc n).symm

theorem out16 (hc : Unclamped m c) : val_main_v78 (F := Ideal) (A0 m c) (A1 m c) (A3 m c) (A4 m c) (A5 m c) (A6 m c) (A7 m c) (A8 m c) (A9 m c) (A10 m c) (A11 m c) (A13 m c) = (Cert.MiddleIdeal.Gen.dats m 0 c).arrAt 16 cfg0.N := by
  rw [final16]
  exact FinishValue.row_ext fun n => (ref_out78 _ _ _ _ _ _ _ _ _ _ _ _ n).trans (target hc n).symm

theorem out17 (hc : Unclamped m c) : val_main_v79 (F := Ideal) (A0 m c) (A1 m c) (A2 m c) (A3 m c) (A4 m c) (A5 m c) (A6 m c) (A7 m c) (A8 m c) (A9 m c) (A10 m c) (A11 m c) (A12 m c) (A13 m c) = (Cert.MiddleIdeal.Gen.dats m 0 c).arrAt 17 cfg0.N := by
  rw [final17]
  exact FinishValue.row_ext fun n => (ref_out79 _ _ _ _ _ _ _ _ _ _ _ _ _ _ n).trans (loops hc n).symm

end Arguments

attribute [local instance] Cert.Pre_unclamped_loops.Gen.facts

/-- The middle dense stage: the kernel's four results are the reference's. -/
theorem algebraic : Cert.algebraic_MiddleIdeal_MiddleReferenceIdeal_pre_unclamped_loops := by
  intro m g m' g' hpre hagree
  refine ⟨fun c => (Cert.MiddleIdeal.Gen.dats m 0 c).arrAt 14 cfg0.N, fun c => (Cert.MiddleIdeal.Gen.dats m 0 c).arrAt 15 cfg0.N,
    fun c => (Cert.MiddleIdeal.Gen.dats m 0 c).arrAt 16 cfg0.N, fun c => (Cert.MiddleIdeal.Gen.dats m 0 c).arrAt 17 cfg0.N, ?_, ?_⟩
  · exact Cert.MiddleIdeal.Value.run_blocks m g
  · refine (θ_run Cert.MiddleReferenceIdeal.defs _ _).mono (fun r h c => ?_) (Cert.MiddleReferenceIdeal.Value.run m' g')
    obtain ⟨r14, r15, r16, r17, hargs⟩ := h c
    obtain ⟨h0, h1, h2, h3, h4, h5, h6, h7, h8, h9, h10, h11, h12, h13⟩ := hagree c
    have e0 : StableHlo.launchContents m' c (Proc.devRef .tc Cert.MiddleReferenceIdeal.main_arg0) = A0 m c := h0
    have e1 : StableHlo.launchContents m' c (Proc.devRef .tc Cert.MiddleReferenceIdeal.main_arg1) = A1 m c := h1
    have e2 : StableHlo.launchContents m' c (Proc.devRef .tc Cert.MiddleReferenceIdeal.main_arg2) = A2 m c := h2
    have e3 : StableHlo.launchContents m' c (Proc.devRef .tc Cert.MiddleReferenceIdeal.main_arg3) = A3 m c := h3
    have e4 : StableHlo.launchContents m' c (Proc.devRef .tc Cert.MiddleReferenceIdeal.main_arg4) = A4 m c := h4
    have e5 : StableHlo.launchContents m' c (Proc.devRef .tc Cert.MiddleReferenceIdeal.main_arg5) = A5 m c := h5
    have e6 : StableHlo.launchContents m' c (Proc.devRef .tc Cert.MiddleReferenceIdeal.main_arg6) = A6 m c := h6
    have e7 : StableHlo.launchContents m' c (Proc.devRef .tc Cert.MiddleReferenceIdeal.main_arg7) = A7 m c := h7
    have e8 : StableHlo.launchContents m' c (Proc.devRef .tc Cert.MiddleReferenceIdeal.main_arg8) = A8 m c := h8
    have e9 : StableHlo.launchContents m' c (Proc.devRef .tc Cert.MiddleReferenceIdeal.main_arg9) = A9 m c := h9
    have e10 : StableHlo.launchContents m' c (Proc.devRef .tc Cert.MiddleReferenceIdeal.main_arg10) = A10 m c := h10
    have e11 : StableHlo.launchContents m' c (Proc.devRef .tc Cert.MiddleReferenceIdeal.main_arg11) = A11 m c := h11
    have e12 : StableHlo.launchContents m' c (Proc.devRef .tc Cert.MiddleReferenceIdeal.main_arg12) = A12 m c := h12
    have e13 : StableHlo.launchContents m' c (Proc.devRef .tc Cert.MiddleReferenceIdeal.main_arg13) = A13 m c := h13
    have hc : Unclamped m c := ⟨fun n => MiddleLoops.layer1 (hpre c) n, fun n => MiddleLoops.layer2 (hpre c) n⟩
    refine ⟨r14.trans ?_, r15.trans ?_, r16.trans ?_, r17.trans ?_, hargs⟩

    · refine (val_main_v76_eq _).trans ?_
      rw [e0, e1, e3, e4, e5, e6, e7, e8, e9, e10, e11]
      exact out14 hc
    · refine (val_main_v77_eq _).trans ?_
      rw [e0, e1, e3, e4, e5, e6, e7, e8, e9, e10, e11, e12]
      exact out15 hc
    · refine (val_main_v78_eq _).trans ?_
      rw [e0, e1, e3, e4, e5, e6, e7, e8, e9, e10, e11, e13]
      exact out16 hc
    · refine (val_main_v79_eq _).trans ?_
      rw [e0, e1, e2, e3, e4, e5, e6, e7, e8, e9, e10, e11, e12, e13]
      exact out17 hc

end Cert.Proof.MiddleValue

end
-- ==== Proof.lean ====
/-
  The proof of `Cert.Claim`: the frames of the three programs and of their references, and over the extended reals the equality of
  each program's results with its reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_nodes
public import proofs.«01_k».proof.Proof.Gen.Pre_unclamped
public import proofs.«01_k».proof.Proof.Run.Value
public import proofs.«01_k».proof.Proof.RefValue
public import proofs.«01_k».proof.Proof.Unclamped
public import proofs.«01_k».proof.Proof.Gen.Project
public import proofs.«01_k».proof.Proof.Gen.ProjectIdeal
public import proofs.«01_k».proof.Proof.Gen.ProjectReferenceIdeal
public import proofs.«01_k».proof.Proof.Gen.Project.Frame
public import proofs.«01_k».proof.Proof.Gen.ProjectIdeal.Frame
public import proofs.«01_k».proof.Proof.Gen.ProjectReferenceIdeal.Run
public import proofs.«01_k».proof.Proof.Gen.ProjectReferenceIdeal.Read
public import proofs.«01_k».proof.Proof.Gen.Finish
public import proofs.«01_k».proof.Proof.Gen.FinishIdeal
public import proofs.«01_k».proof.Proof.Gen.FinishReferenceIdeal
public import proofs.«01_k».proof.Proof.Gen.Finish.Frame
public import proofs.«01_k».proof.Proof.Gen.FinishIdeal.Frame
public import proofs.«01_k».proof.Proof.Gen.FinishIdeal.Value
public import proofs.«01_k».proof.Proof.Gen.FinishReferenceIdeal.Run
public import proofs.«01_k».proof.Proof.Gen.FinishReferenceIdeal.Read
public import proofs.«01_k».proof.Proof.Gen.Combine
public import proofs.«01_k».proof.Proof.Gen.CombineIdeal
public import proofs.«01_k».proof.Proof.Gen.CombineReferenceIdeal
public import proofs.«01_k».proof.Proof.Gen.Combine.Frame
public import proofs.«01_k».proof.Proof.Gen.CombineIdeal.Frame
public import proofs.«01_k».proof.Proof.Gen.CombineIdeal.Value
public import proofs.«01_k».proof.Proof.Gen.CombineReferenceIdeal.Run
public import proofs.«01_k».proof.Proof.Gen.CombineReferenceIdeal.Read
public import proofs.«01_k».proof.Proof.Gen.Middle
public import proofs.«01_k».proof.Proof.Gen.MiddleIdeal
public import proofs.«01_k».proof.Proof.Gen.MiddleReferenceIdeal
public import proofs.«01_k».proof.Proof.Gen.Middle.Frame
public import proofs.«01_k».proof.Proof.Gen.MiddleIdeal.Frame
public import proofs.«01_k».proof.Proof.Gen.MiddleIdeal.Value
public import proofs.«01_k».proof.Proof.Gen.MiddleReferenceIdeal.Run
public import proofs.«01_k».proof.Proof.Gen.MiddleReferenceIdeal.Read
public import proofs.«01_k».proof.Proof.Gen.Pre_unclamped_loops
public import proofs.«01_k».proof.Proof.Gen.Pre_finite_edges
public import proofs.«01_k».proof.Proof.FinishValue
public import proofs.«01_k».proof.Proof.ProjectEq
public import proofs.«01_k».proof.Proof.CombineValue
public import proofs.«01_k».proof.Proof.MiddleValue
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts Cert.Pre_nodes.Gen.facts
  Cert.Pre_unclamped.Gen.facts Cert.Project.Gen.facts Cert.ProjectIdeal.Gen.facts Cert.ProjectReferenceIdeal.Gen.facts
  Cert.Finish.Gen.facts Cert.FinishIdeal.Gen.facts Cert.FinishReferenceIdeal.Gen.facts Cert.Pre_finite_edges.Gen.facts
  Cert.Combine.Gen.facts Cert.CombineIdeal.Gen.facts Cert.CombineReferenceIdeal.Gen.facts Cert.Middle.Gen.facts Cert.MiddleIdeal.Gen.facts
  Cert.MiddleReferenceIdeal.Gen.facts Cert.Pre_unclamped_loops.Gen.facts

/-! The kernel and the idealized kernel are the same text, so a run of the one is a run of the other. -/

variable {F : FTy → Type} [FloatOps F]

set_option maxHeartbeats 4000000 in
theorem defs_eq : @Cert.Kernel.defs F _ _ = @Cert.KernelIdeal.defs F _ _ := rfl
set_option maxHeartbeats 4000000 in
theorem threads_eq : @Cert.Kernel.threads F _ _ = @Cert.KernelIdeal.threads F _ _ := rfl

/-- The kernel runs, leaves its arguments unchanged, and every counter ends at zero. -/
theorem frame_p : Cert.quiescent_Kernel := by
  intro m ρ hpre
  have hA : ∀ d, Run.Ok (F := Bits) m d := fun d => Run.all_ok (F := Bits) (Run.words_lt (F := Bits) (hpre d))
  rw [defs_eq, threads_eq]
  refine (θ_run Cert.KernelIdeal.defs _ _).mono (fun r h => ⟨fun c => ⟨?_, ?_, ?_, ?_, ?_, ?_, ?_, ?_, ?_⟩, h.2⟩) (Run.run_main (F := Bits) m ρ hA)
  · exact (h.1 c (Proc.devRef .tc Cert.KernelIdeal.main_arg0) (by decide)).trans (Run.keep_arg0 m c)
  · exact (h.1 c (Proc.devRef .tc Cert.KernelIdeal.main_arg1) (by decide)).trans (Run.keep_arg1 m c)
  · exact (h.1 c (Proc.devRef .tc Cert.KernelIdeal.main_arg2) (by decide)).trans (Run.keep_arg2 m c)
  · exact (h.1 c (Proc.devRef .tc Cert.KernelIdeal.main_arg3) (by decide)).trans (Run.keep_arg3 m c)
  · exact (h.1 c (Proc.devRef .tc Cert.KernelIdeal.main_arg4) (by decide)).trans (Run.keep_arg4 m c)
  · exact (h.1 c (Proc.devRef .tc Cert.KernelIdeal.main_arg5) (by decide)).trans (Run.keep_arg5 m c)
  · exact (h.1 c (Proc.devRef .tc Cert.KernelIdeal.main_arg6) (by decide)).trans (Run.keep_arg6 m c)
  · exact (h.1 c (Proc.devRef .tc Cert.KernelIdeal.main_arg7) (by decide)).trans (Run.keep_arg7 m c)
  · exact (h.1 c (Proc.devRef .tc Cert.KernelIdeal.main_arg8) (by decide)).trans (Run.keep_arg8 m c)

/-- The same of the idealized kernel, wherever its two edge arrays hold nodes. -/
theorem frame_pi_words (m : (ℓ : Loc Cert.KernelIdeal.nD Cert.KernelIdeal.τ Cert.KernelIdeal.sig) → Buf (Elt Ideal) ℓ) (ρ : Dev Cert.KernelIdeal.nD → PrngReg)
    (hA : ∀ d, Run.Ok m d) :
    θ_run (Cert.KernelIdeal.defs (F := Ideal)) (Cert.KernelIdeal.threads (F := Ideal)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0) := by
  refine (θ_run Cert.KernelIdeal.defs _ _).mono (fun r h => ⟨fun c => ⟨?_, ?_, ?_, ?_, ?_, ?_, ?_, ?_, ?_⟩, h.2⟩) (Run.run_main (F := Ideal) m ρ hA)
  · exact (h.1 c (Proc.devRef .tc Cert.KernelIdeal.main_arg0) (by decide)).trans (Run.keep_arg0 m c)
  · exact (h.1 c (Proc.devRef .tc Cert.KernelIdeal.main_arg1) (by decide)).trans (Run.keep_arg1 m c)
  · exact (h.1 c (Proc.devRef .tc Cert.KernelIdeal.main_arg2) (by decide)).trans (Run.keep_arg2 m c)
  · exact (h.1 c (Proc.devRef .tc Cert.KernelIdeal.main_arg3) (by decide)).trans (Run.keep_arg3 m c)
  · exact (h.1 c (Proc.devRef .tc Cert.KernelIdeal.main_arg4) (by decide)).trans (Run.keep_arg4 m c)
  · exact (h.1 c (Proc.devRef .tc Cert.KernelIdeal.main_arg5) (by decide)).trans (Run.keep_arg5 m c)
  · exact (h.1 c (Proc.devRef .tc Cert.KernelIdeal.main_arg6) (by decide)).trans (Run.keep_arg6 m c)
  · exact (h.1 c (Proc.devRef .tc Cert.KernelIdeal.main_arg7) (by decide)).trans (Run.keep_arg7 m c)
  · exact (h.1 c (Proc.devRef .tc Cert.KernelIdeal.main_arg8) (by decide)).trans (Run.keep_arg8 m c)

theorem frame_pi : Cert.quiescent_KernelIdeal := fun m ρ hpre =>
  frame_pi_words m ρ fun d => Run.all_ok (Run.words_lt (hpre d))

theorem frame_pi_unclamped : Cert.quiescent_KernelIdeal_pre_unclamped := fun m ρ hpre =>
  frame_pi_words m ρ fun d => Run.all_ok (Unclamped.words_lt (hpre d))

/-- The reference runs and leaves its arguments unchanged; it has no counter. -/
theorem frame_ri : Cert.quiescent_ReferenceIdeal := by
  intro m ρ _
  exact (θ_run Cert.ReferenceIdeal.defs _ _).mono (fun r h => ⟨fun c => (h c).2.2.2.2.2.2.2, sem_eq_zero_of_no_sems (by decide) r.2⟩)
    (Cert.ReferenceIdeal.Value.run (F := Ideal) m ρ)

section Results

open Run

variable {m : (ℓ : Loc Cert.KernelIdeal.nD Cert.KernelIdeal.τ Cert.KernelIdeal.sig) → Buf (Elt Ideal) ℓ} {c : Dev Cert.KernelIdeal.nD}
  (hw : ∀ i, (a0 m c i).toNat < 50000)
include hw

/-- The reference's sum over the edges of a quantity is the kernel's partial sums added up. -/
theorem sum_eq (val : FVec Ideal BE .f32) (u : FVec Ideal Cert.ReferenceIdeal.S800000 .f32)
    (hv : ∀ e : Fin 800000, (val (edgeIx e.val) : EReal) = u (ValueIdx.ix1 e)) :
    Ref.sumAt (a0 m c) u = sumN (F := Ideal) (partOf (F := Ideal) (dst m c) val) := by
  funext i
  rw [ValueIdx.eq_ix1 i]
  exact (Ref.sumAt_apply _ hw u _).trans (sumN_apply hw val _ hv _).symm

/-- The reference's weighted messages summed over the edges are the kernel's numerators. -/
theorem rows_eq (ex : FVec Ideal BE .f32) (H : FVec Ideal BH .f32) (A : FVec Ideal Cert.KernelIdeal.S50000x64 .f32) (w : FVec Ideal Cert.ReferenceIdeal.S800000 .f32)
    (hv : ∀ e : Fin 800000, (ex (edgeIx e.val) : EReal) = w (ValueIdx.ix1 e))
    (hH : ∀ (f : Fin 64) (n : Fin 50000) (n' : Fin 50176), n'.val = n.val → H (ValueIdx.ix2 f n') = A (ValueIdx.ix2 n f)) :
    Ref.rowsAt (a0 m c) (Ref.prodOf (a0 m c) w A) = cutH (F := Ideal) (numOf (F := Ideal) (src m c) (dst m c) ex H) := by
  funext i
  rw [ValueIdx.eq_ix2 i]
  refine (Ref.rowsAt_apply _ hw _ _ _).trans (Eq.trans ?_ (cutH_num hw ex H A _ hv hH _ _).symm)
  exact congrArg (fun v => total (a0 m c) v _) (funext fun e => Ref.prodOf_apply (a0 m c) hw w A e _)

/-- The weights of the two layers. -/
theorem w1_eq (hc : ∀ e, logit (a0 m c) hw (a1 m c) (a3 m c) (a4 m c) e ≤ cap) (e : Fin 800000) :
    (ex1 m c (edgeIx e.val) : EReal) = Ref.exOf (a0 m c) (a1 m c) (a3 m c) (a4 m c) (ValueIdx.ix1 e) :=
  (ex1_at hw hc e).trans (Ref.exOf_apply _ hw _ _ _ _).symm
theorem w2_eq (hc : ∀ e, logit (a0 m c) hw (a2 m c) (a6 m c) (a7 m c) e ≤ cap) (e : Fin 800000) :
    (ex2 m c (edgeIx e.val) : EReal) = Ref.exOf (a0 m c) (a2 m c) (a6 m c) (a7 m c) (ValueIdx.ix1 e) :=
  (ex2_at hw hc e).trans (Ref.exOf_apply _ hw _ _ _ _).symm

end Results

/-- Over the extended reals the kernel's results are the reference's. -/
theorem algebraic : Cert.algebraic_KernelIdeal_ReferenceIdeal_pre_unclamped := by
  intro m ρ m' ρ' hpre hag
  have hw : ∀ d i, (Run.a0 m d i).toNat < 50000 := fun d => Unclamped.words_lt (hpre d)
  have hA : ∀ d, Run.Ok m d := fun d => Run.all_ok (hw d)
  refine ⟨fun c => Run.U9 m c (Run.arr Cert.KernelIdeal.main_v22), fun c => Run.U9 m c (Run.arr Cert.KernelIdeal.main_v24), fun c => Run.U9 m c (Run.arr Cert.KernelIdeal.main_v26), fun c => Run.U9 m c (Run.arr Cert.KernelIdeal.main_v28), fun c => Run.U9 m c (Run.arr Cert.KernelIdeal.main_v32), fun c => Run.U9 m c (Run.arr Cert.KernelIdeal.main_v30), fun c => Run.U9 m c (Run.arr Cert.KernelIdeal.main_v34), ?_, ?_⟩
  · refine (θ_run Cert.KernelIdeal.defs _ _).mono (fun r h c => ⟨?_, ?_, ?_, ?_, ?_, ?_, ?_, ?_, ?_, ?_, ?_, ?_, ?_, ?_, ?_, ?_⟩) (Run.run_main (F := Ideal) m ρ hA)
    · exact h.1 c (Proc.devRef .tc Cert.KernelIdeal.main_v22) (by decide)
    · exact h.1 c (Proc.devRef .tc Cert.KernelIdeal.main_v24) (by decide)
    · exact h.1 c (Proc.devRef .tc Cert.KernelIdeal.main_v26) (by decide)
    · exact h.1 c (Proc.devRef .tc Cert.KernelIdeal.main_v28) (by decide)
    · exact h.1 c (Proc.devRef .tc Cert.KernelIdeal.main_v32) (by decide)
    · exact h.1 c (Proc.devRef .tc Cert.KernelIdeal.main_v30) (by decide)
    · exact h.1 c (Proc.devRef .tc Cert.KernelIdeal.main_v34) (by decide)
    · exact (h.1 c (Proc.devRef .tc Cert.KernelIdeal.main_arg0) (by decide)).trans (Run.keep_arg0 m c)
    · exact (h.1 c (Proc.devRef .tc Cert.KernelIdeal.main_arg1) (by decide)).trans (Run.keep_arg1 m c)
    · exact (h.1 c (Proc.devRef .tc Cert.KernelIdeal.main_arg2) (by decide)).trans (Run.keep_arg2 m c)
    · exact (h.1 c (Proc.devRef .tc Cert.KernelIdeal.main_arg3) (by decide)).trans (Run.keep_arg3 m c)
    · exact (h.1 c (Proc.devRef .tc Cert.KernelIdeal.main_arg4) (by decide)).trans (Run.keep_arg4 m c)
    · exact (h.1 c (Proc.devRef .tc Cert.KernelIdeal.main_arg5) (by decide)).trans (Run.keep_arg5 m c)
    · exact (h.1 c (Proc.devRef .tc Cert.KernelIdeal.main_arg6) (by decide)).trans (Run.keep_arg6 m c)
    · exact (h.1 c (Proc.devRef .tc Cert.KernelIdeal.main_arg7) (by decide)).trans (Run.keep_arg7 m c)
    · exact (h.1 c (Proc.devRef .tc Cert.KernelIdeal.main_arg8) (by decide)).trans (Run.keep_arg8 m c)
  · refine (θ_run Cert.ReferenceIdeal.defs _ _).mono (fun r h c => ?_) (Cert.ReferenceIdeal.Value.run (F := Ideal) m' ρ')
    obtain ⟨e0, e1, e2, e3, e4, e5, e6, e7, e8⟩ := hag c
    obtain ⟨r0, r1, r2, r3, r4, r5, r6, hargs⟩ := h c
    have c1 := Unclamped.layer1 (hpre c)
    have c2 := Unclamped.layer2 (hpre c)
    refine ⟨r0.trans ?_, r1.trans ?_, r2.trans ?_, r3.trans ?_, r4.trans ?_, r5.trans ?_, r6.trans ?_, hargs⟩
    · rw [e0]
      exact (sum_eq (hw c) _ Ref.ones (fun e => Run.ones_at e)).trans (Run.res_deg (hA c)).symm
    · rw [e0, e1]
      exact (sum_eq (hw c) _ (Run.a1 m c) (fun e => Run.e1_at e)).trans (Run.res_a1 (hA c)).symm
    · rw [e0, e2]
      exact (sum_eq (hw c) _ (Run.a2 m c) (fun e => Run.e2_at e)).trans (Run.res_a2 (hA c)).symm
    · rw [Ref.den1_eq, e0, e1, e3, e4]
      exact (sum_eq (hw c) _ _ (w1_eq (hw c) c1)).trans (Run.res_den1 (hA c)).symm
    · rw [Ref.num1_eq, e0, e1, e3, e4, e5]
      exact (rows_eq (hw c) _ _ (Run.a5 m c) _ (w1_eq (hw c) c1) (Run.h1_at)).trans (Run.res_num1 (hA c)).symm
    · rw [Ref.den2_eq, e0, e2, e6, e7]
      exact (sum_eq (hw c) _ _ (w2_eq (hw c) c2)).trans (Run.res_den2 (hA c)).symm
    · rw [Ref.num2_eq, e0, e2, e6, e7, e8]
      exact (rows_eq (hw c) _ _ (Run.a8 m c) _ (w2_eq (hw c) c2) (Run.h2_at)).trans (Run.res_num2 (hA c)).symm

/-- The references of the dense stages run and leave their arguments unchanged. -/
theorem frame_project_ri : Cert.quiescent_ProjectReferenceIdeal := by
  intro m ρ _
  exact (θ_run Cert.ProjectReferenceIdeal.defs _ _).mono (fun r h => ⟨fun c => (h c).2.2.2.2.2, sem_eq_zero_of_no_sems (by decide) r.2⟩)
    (Cert.ProjectReferenceIdeal.Value.run (F := Ideal) m ρ)
theorem frame_combine_ri : Cert.quiescent_CombineReferenceIdeal := by
  intro m ρ _
  exact (θ_run Cert.CombineReferenceIdeal.defs _ _).mono (fun r h => ⟨fun c => (h c).2.2.2.2, sem_eq_zero_of_no_sems (by decide) r.2⟩)
    (Cert.CombineReferenceIdeal.Value.run (F := Ideal) m ρ)
theorem frame_middle_ri : Cert.quiescent_MiddleReferenceIdeal := by
  intro m ρ _
  exact (θ_run Cert.MiddleReferenceIdeal.defs _ _).mono (fun r h => ⟨fun c => (h c).2.2.2.2, sem_eq_zero_of_no_sems (by decide) r.2⟩)
    (Cert.MiddleReferenceIdeal.Value.run (F := Ideal) m ρ)
theorem frame_finish_ri : Cert.quiescent_FinishReferenceIdeal := by
  intro m ρ _
  exact (θ_run Cert.FinishReferenceIdeal.defs _ _).mono (fun r h => ⟨fun c => (h c).2, sem_eq_zero_of_no_sems (by decide) r.2⟩)
    (Cert.FinishReferenceIdeal.Value.run (F := Ideal) m ρ)

theorem claim : Cert.Claim :=
  ⟨Cert.Kernel.Gen.facts, Cert.KernelIdeal.Gen.facts, Cert.ReferenceIdeal.Gen.facts, Cert.Project.Gen.facts, Cert.ProjectIdeal.Gen.facts,
    Cert.ProjectReferenceIdeal.Gen.facts, Cert.Combine.Gen.facts, Cert.CombineIdeal.Gen.facts, Cert.CombineReferenceIdeal.Gen.facts,
    Cert.Middle.Gen.facts, Cert.MiddleIdeal.Gen.facts, Cert.MiddleReferenceIdeal.Gen.facts,
    Cert.Finish.Gen.facts, Cert.FinishIdeal.Gen.facts, Cert.FinishReferenceIdeal.Gen.facts,
    Cert.Pre_nodes.Gen.facts, Cert.Pre_unclamped.Gen.facts, Cert.Pre_finite_edges.Gen.facts, Cert.Pre_unclamped_loops.Gen.facts,
    frame_p, frame_pi, frame_pi_unclamped, frame_ri, fun m ρ _ => frame_ri m ρ trivial,
    fun m ρ _ => Cert.Project.Gen.frame m ρ, fun m ρ _ => Cert.ProjectIdeal.Gen.frame m ρ, fun m ρ _ => Cert.ProjectIdeal.Gen.frame m ρ,
    frame_project_ri, fun m ρ _ => frame_project_ri m ρ trivial,
    fun m ρ _ => Cert.Combine.Gen.frame m ρ, fun m ρ _ => Cert.CombineIdeal.Gen.frame m ρ, frame_combine_ri,
    fun m ρ _ => Cert.Middle.Gen.frame m ρ, fun m ρ _ => Cert.MiddleIdeal.Gen.frame m ρ, fun m ρ _ => Cert.MiddleIdeal.Gen.frame m ρ,
    frame_middle_ri, fun m ρ _ => frame_middle_ri m ρ trivial,
    fun m ρ _ => Cert.Finish.Gen.frame m ρ, fun m ρ _ => Cert.FinishIdeal.Gen.frame m ρ, frame_finish_ri,
    trivial, algebraic, trivial, ProjectValue.algebraic, trivial, CombineValue.algebraic, trivial, MiddleValue.algebraic,
    trivial, FinishValue.algebraic⟩

end Cert.Proof

end
